-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)) (v3 : (c : Dev Cert.KernelIdeal.nD) → Buf (Elt Ideal) ((c.tc : Thread Cert.KernelIdeal.nD Cert.KernelIdeal.τ).loc Cert.KernelIdeal.main_v43_3)) (v4 : (c : Dev Cert.KernelIdeal.nD) → Buf (Elt Ideal) ((c.tc : Thread Cert.KernelIdeal.nD Cert.KernelIdeal.τ).loc Cert.KernelIdeal.main_v43_4)) (v5 : (c : Dev Cert.KernelIdeal.nD) → Buf (Elt Ideal) ((c.tc : Thread Cert.KernelIdeal.nD Cert.KernelIdeal.τ).loc Cert.KernelIdeal.main_v43_5)) (v6 : (c : Dev Cert.KernelIdeal.nD) → Buf (Elt Ideal) ((c.tc : Thread Cert.KernelIdeal.nD Cert.KernelIdeal.τ).loc Cert.KernelIdeal.main_v43_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_v43_3) = v3 c
          ∧ r.2.mem ((c.tc : Thread Cert.KernelIdeal.nD Cert.KernelIdeal.τ).loc Cert.KernelIdeal.main_v43_4) = v4 c
          ∧ r.2.mem ((c.tc : Thread Cert.KernelIdeal.nD Cert.KernelIdeal.τ).loc Cert.KernelIdeal.main_v43_5) = v5 c
          ∧ r.2.mem ((c.tc : Thread Cert.KernelIdeal.nD Cert.KernelIdeal.τ).loc Cert.KernelIdeal.main_v43_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v146) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_v141) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v59) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_v35) = v1 c
          ∧ r.2.mem ((c.tc : Thread Cert.Reference7Ideal.nD Cert.Reference7Ideal.τ).loc Cert.Reference7Ideal.main_v37) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_v33) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_v32) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_v19) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v22) = v0 c
          ∧ r.2.mem ((c.tc : Thread Cert.Reference12Ideal.nD Cert.Reference12Ideal.τ).loc Cert.Reference12Ideal.main_v24) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_arguments.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4x2304x1024 : S_.BroadcastsInDim S4x2304x1024 (![] : Fin 0 → Fin S4x2304x1024.rank)
  bcast_S_S4x2x8x1024 : S_.BroadcastsInDim S4x2x8x1024 (![] : Fin 0 → Fin S4x2x8x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024x2816 .f32) (main_arg7 : FVec F S2816x1024 .f32) (main_v2 : IVec S4x2304x1024 1) (main_v5 : IVec S4x2304x1024 1) (main_v8 : IVec S4x2x8x1024 1) (main_v11 : IVec S1x1024 1) (main_v14 : IVec S1x1024 1) (main_v17 : IVec S1024x2816 1) : IVec S4x2304x1024 1 × IVec S4x2304x1024 1 × IVec S4x2x8x1024 1 × IVec S1x1024 1 × IVec S1x1024 1 × IVec S1024x2816 1 × IVec S1024x2816 1 × IVec S2816x1024 1 :=
  let main_v18 : FVec F S1024x2816 .f32 := Host.absf main_arg6
  let main_cst_5 : FVec F S_ .f32 := constant S_ .f32 0x7F800000#32
  let main_v19 : FVec F S1024x2816 .f32 := broadcastInDim S1024x2816 ![] bcast_S_S1024x2816 main_cst_5
  let main_v20 : IVec S1024x2816 1 := cmpf .olt main_v18 main_v19
  let main_v21 : FVec F S2816x1024 .f32 := Host.absf main_arg7
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  (main_v2, main_v5, main_v8, main_v11, main_v14, main_v17, main_v20, main_v23)

def fn {F : FTy → Type} [FloatOps F] (main_arg0 : FVec F S4x2304x1024 .f32) (main_arg1 : FVec F S4x2304x1024 .f32) (main_arg2 : FVec F S4x2x8x1024 .f32) (main_arg3 : FVec F S1x1024 .f32) (main_arg4 : FVec F S1x1024 .f32) (main_arg5 : FVec F S1024x2816 .f32) (main_arg6 : FVec F S1024x2816 .f32) (main_arg7 : FVec F S2816x1024 .f32) : IVec S4x2304x1024 1 × IVec S4x2304x1024 1 × IVec S4x2x8x1024 1 × IVec S1x1024 1 × IVec S1x1024 1 × IVec S1024x2816 1 × IVec S1024x2816 1 × IVec S2816x1024 1 :=
  let main_v0 : FVec F S4x2304x1024 .f32 := Host.absf main_arg0
  let main_cst : FVec F S_ .f32 := constant S_ .f32 0x7F800000#32
  let main_v1 : FVec F S4x2304x1024 .f32 := broadcastInDim S4x2304x1024 ![] bcast_S_S4x2304x1024 main_cst
  let main_v2 : IVec S4x2304x1024 1 := cmpf .olt main_v0 main_v1
  let main_v3 : FVec F S4x2304x1024 .f32 := Host.absf main_arg1
  let main_cst_0 : FVec F S_ .f32 := constant S_ .f32 0x7F800000#32
  let main_v4 : FVec F S4x2304x1024 .f32 := broadcastInDim S4x2304x1024 ![] bcast_S_S4x2304x1024 main_cst_0
  let main_v5 : IVec S4x2304x1024 1 := cmpf .olt main_v3 main_v4
  let main_v6 : FVec F S4x2x8x1024 .f32 := Host.absf main_arg2
  let main_cst_1 : FVec F S_ .f32 := constant S_ .f32 0x7F800000#32
  let main_v7 : FVec F S4x2x8x1024 .f32 := broadcastInDim S4x2x8x1024 ![] bcast_S_S4x2x8x1024 main_cst_1
  let main_v8 : IVec S4x2x8x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x2816 .f32 := Host.absf main_arg5
  let main_cst_4 : FVec F S_ .f32 := constant S_ .f32 0x7F800000#32
  let main_v16 : FVec F S1024x2816 .f32 := broadcastInDim S1024x2816 ![] bcast_S_S1024x2816 main_cst_4
  let main_v17 : IVec S1024x2816 1 := cmpf .olt main_v15 main_v16
  fn_part1 (F := F) main_arg6 main_arg7 main_v2 main_v5 main_v8 main_v11 main_v14 main_v17
-- ==== Kernel.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x2816 : Shape := ⟨2, ![1024, 2816]⟩
abbrev S2816x1024 : Shape := ⟨2, ![2816, 1024]⟩
abbrev S4x1x1x1024 : Shape := ⟨4, ![4, 1, 1, 1024]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩
abbrev S4x2304x2816 : Shape := ⟨3, ![4, 2304, 2816]⟩
abbrev S4x3x8x1024 : Shape := ⟨4, ![4, 3, 8, 1024]⟩
abbrev S1x768x1024 : Shape := ⟨3, ![1, 768, 1024]⟩
abbrev S1x768x256 : Shape := ⟨3, ![1, 768, 256]⟩
abbrev S1x2x8x1024 : Shape := ⟨4, ![1, 2, 8, 1024]⟩
abbrev S256x1024 : Shape := ⟨2, ![256, 1024]⟩
abbrev S1x1x8x1024 : Shape := ⟨4, ![1, 1, 8, 1024]⟩
abbrev S768x1024 : Shape := ⟨2, ![768, 1024]⟩
abbrev S2x768x256 : Shape := ⟨3, ![2, 768, 256]⟩
abbrev S768 : Shape := ⟨1, ![768]⟩
abbrev S768x1 : Shape := ⟨2, ![768, 1]⟩
abbrev S8x1024 : Shape := ⟨2, ![8, 1024]⟩
abbrev S512x1024 : Shape := ⟨2, ![512, 1024]⟩
abbrev S1024 : Shape := ⟨1, ![1024]⟩
abbrev S1x1x1x1024 : Shape := ⟨4, ![1, 1, 1, 1024]⟩
abbrev S768x256 : Shape := ⟨2, ![768, 256]⟩

abbrev nBuf : Space → Nat
  | .hbm => 70
  | .vmem => 38
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S4x2x8x1024, .f32⟩
  | .hbm, ⟨3, _⟩ => ⟨S1x1024, .f32⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S4x1x1x1024, .f32⟩
  | .hbm, ⟨9, _⟩ => ⟨S4x1x1024, .f32⟩
  | .hbm, ⟨10, _⟩ => ⟨S4x256x1024, .f32⟩
  | .hbm, ⟨11, _⟩ => ⟨S4x1x1x1024, .f32⟩
  | .hbm, ⟨12, _⟩ => ⟨S4x1x1024, .f32⟩
  | .hbm, ⟨13, _⟩ => ⟨S4x2048x1024, .f32⟩
  | .hbm, ⟨14, _⟩ => ⟨S4x2304x1024, .f32⟩
  | .hbm, ⟨15, _⟩ => ⟨S4x1x1x1024, .f32⟩
  | .hbm, ⟨16, _⟩ => ⟨S4x1x1024, .f32⟩
  | .hbm, ⟨17, _⟩ => ⟨S4x256x1024, .f32⟩
  | .hbm, ⟨18, _⟩ => ⟨S4x1x1x1024, .f32⟩
  | .hbm, ⟨19, _⟩ => ⟨S4x1x1024, .f32⟩
  | .hbm, ⟨20, _⟩ => ⟨S4x2048x1024, .f32⟩
  | .hbm, ⟨21, _⟩ => ⟨S4x2304x1024, .f32⟩
  | .hbm, ⟨22, _⟩ => ⟨S4x2304x1024, .f32⟩
  | .hbm, ⟨23, _⟩ => ⟨S_, .f32⟩
  | .hbm, ⟨24, _⟩ => ⟨S4x2304, .f32⟩
  | .hbm, ⟨25, _⟩ => ⟨S4x2304x1, .f32⟩
  | .hbm, ⟨26, _⟩ => ⟨S_, .f32⟩
  | .hbm, ⟨27, _⟩ => ⟨S4x2304x1, .f32⟩
  | .hbm, ⟨28, _⟩ => ⟨S4x2304x1, .f32⟩
  | .hbm, ⟨29, _⟩ => ⟨S_, .f32⟩
  | .hbm, ⟨30, _⟩ => ⟨S4x2304x1, .f32⟩
  | .hbm, ⟨31, _⟩ => ⟨S4x2304x1, .f32⟩
  | .hbm, ⟨32, _⟩ => ⟨S4x2304x1, .f32⟩
  | .hbm, ⟨33, _⟩ => ⟨S4x2304x1024, .f32⟩
  | .hbm, ⟨34, _⟩ => ⟨S4x2304x1024, .f32⟩
  | .hbm, ⟨35, _⟩ => ⟨S1x1x1024, .f32⟩
  | .hbm, ⟨36, _⟩ => ⟨S4x2304x1024, .f32⟩
  | .hbm, ⟨37, _⟩ => ⟨S4x2304x1024, .f32⟩
  | .hbm, ⟨38, _⟩ => ⟨S_, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S4x2304x2816, .f32⟩
  | .hbm, ⟨44, _⟩ => ⟨S4x2304x2816, .f32⟩
  | .hbm, ⟨45, _⟩ => ⟨S4x2304x2816, .f32⟩
  | .hbm, ⟨46, _⟩ => ⟨S4x2304x2816, .f32⟩
  | .hbm, ⟨47, _⟩ => ⟨S_, .f32⟩
  | .hbm, ⟨48, _⟩ => ⟨S4x2304x2816, .f32⟩
  | .hbm, ⟨49, _⟩ => ⟨S4x2304x2816, .f32⟩
  | .hbm, ⟨50, _⟩ => ⟨S_, .f32⟩
  | .hbm, ⟨51, _⟩ => ⟨S4x2304x2816, .f32⟩
  | .hbm, ⟨52, _⟩ => ⟨S4x2304x2816, .f32⟩
  | .hbm, ⟨53, _⟩ => ⟨S4x2304x2816, .f32⟩
  | .hbm, ⟨54, _⟩ => ⟨S4x2304x2816, .f32⟩
  | .hbm, ⟨55, _⟩ => ⟨S4x2304x1024, .f32⟩
  | .hbm, ⟨56, _⟩ => ⟨S4x2304x2816, .bf16⟩
  | .hbm, ⟨57, _⟩ => ⟨S4x2304x2816, .bf16⟩
  | .hbm, ⟨58, _⟩ => ⟨S2816x1024, .f32⟩
  | .hbm, ⟨59, _⟩ => ⟨S2816x1024, .bf16⟩
  | .hbm, ⟨60, _⟩ => ⟨S2816x1024, .f32⟩
  | .hbm, ⟨61, _⟩ => ⟨S2816x1024, .bf16⟩
  | .hbm, ⟨62, _⟩ => ⟨S2816x1024, .bf16⟩
  | .hbm, ⟨63, _⟩ => ⟨S4x2304x1024, .f32⟩
  | .hbm, ⟨64, _⟩ => ⟨S4x2304x1024, .bf16⟩
  | .hbm, ⟨65, _⟩ => ⟨S4x2304x1024, .bf16⟩
  | .hbm, ⟨66, _⟩ => ⟨S4x2304x2816, .bf16⟩
  | .hbm, ⟨67, _⟩ => ⟨S4x2304x2816, .bf16⟩
  | .hbm, ⟨68, _⟩ => ⟨S4x2304x2816, .bf16⟩
  | .hbm, ⟨69, _⟩ => ⟨S4x3x8x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x768x1024, .f32⟩
  | .local _ .vmem, ⟨3, _⟩ => ⟨S1x768x1024, .f32⟩
  | .local _ .vmem, ⟨4, _⟩ => ⟨S1x768x1024, .f32⟩
  | .local _ .vmem, ⟨5, _⟩ => ⟨S1x768x1024, .f32⟩
  | .local _ .vmem, ⟨6, _⟩ => ⟨S1x768x256, .bf16⟩
  | .local _ .vmem, ⟨7, _⟩ => ⟨S1x768x256, .bf16⟩
  | .local _ .vmem, ⟨8, _⟩ => ⟨S1x768x256, .bf16⟩
  | .local _ .vmem, ⟨9, _⟩ => ⟨S1x768x256, .bf16⟩
  | .local _ .vmem, ⟨10, _⟩ => ⟨S1x2x8x1024, .f32⟩
  | .local _ .vmem, ⟨11, _⟩ => ⟨S1x2x8x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x768x1024, .f32⟩
  | .local _ .vmem, ⟨21, _⟩ => ⟨S1x768x1024, .f32⟩
  | .local _ .vmem, ⟨22, _⟩ => ⟨S1x768x1024, .bf16⟩
  | .local _ .vmem, ⟨23, _⟩ => ⟨S1x768x1024, .bf16⟩
  | .local _ .vmem, ⟨24, _⟩ => ⟨S1x768x1024, .bf16⟩
  | .local _ .vmem, ⟨25, _⟩ => ⟨S1x768x1024, .bf16⟩
  | .local _ .vmem, ⟨26, _⟩ => ⟨S1x768x256, .bf16⟩
  | .local _ .vmem, ⟨27, _⟩ => ⟨S1x768x256, .bf16⟩
  | .local _ .vmem, ⟨28, _⟩ => ⟨S1x768x256, .bf16⟩
  | .local _ .vmem, ⟨29, _⟩ => ⟨S1x768x256, .bf16⟩
  | .local _ .vmem, ⟨30, _⟩ => ⟨S1x768x256, .bf16⟩
  | .local _ .vmem, ⟨31, _⟩ => ⟨S1x768x256, .bf16⟩
  | .local _ .vmem, ⟨32, _⟩ => ⟨S1x1x8x1024, .f32⟩
  | .local _ .vmem, ⟨33, _⟩ => ⟨S1x1x8x1024, .f32⟩
  | .local _ .vmem, ⟨34, _⟩ => ⟨S768x1024, .bf16⟩
  | .local _ .vmem, ⟨35, _⟩ => ⟨S768x1024, .f32⟩
  | .local _ .vmem, ⟨36, _⟩ => ⟨S2x768x256, .bf16⟩
  | .local _ .vmem, ⟨37, _⟩ => ⟨S2x768x256, .bf16⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43_0 : Ref sig .tc := ⟨.hbm, 63, rfl⟩
abbrev main_v43_1 : Ref sig .tc := ⟨.hbm, 64, rfl⟩
abbrev main_v43_2 : Ref sig .tc := ⟨.hbm, 65, rfl⟩
abbrev main_v43_3 : Ref sig .tc := ⟨.hbm, 66, rfl⟩
abbrev main_v43_4 : Ref sig .tc := ⟨.hbm, 67, rfl⟩
abbrev main_v43_5 : Ref sig .tc := ⟨.hbm, 68, rfl⟩
abbrev main_v43_6 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨3, ![4, 3, 12], ![false, false, false]⟩

def k0_off1 (i : grid0.Coords) : Fin 3 → Nat :=
  let arg2 : BitVec 32 := BitVec.ofNat 32 (i 2).val
  let c1_i32 : BitVec 32 := 1#32
  let v3 : BitVec 32 := Scalar.addi arg2 c1_i32
  let c2_i32 : BitVec 32 := 2#32
  let c0_i32_1 : BitVec 32 := 0#32
  let v4 : BitVec 1 := Scalar.cmpi .eq c2_i32 c0_i32_1
  let c1_i32_2 : BitVec 32 := 1#32
  let v5 : BitVec 32 := Scalar.select v4 c1_i32_2 c2_i32
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v15 : Index := Scalar.indexCast v13
  let c0_7 : Index := 0#32
  let c0_8 : Index := 0#32
  ![v15.toNat, 0, 0]
def k0_off2 (i : grid0.Coords) : Fin 3 → Nat :=
  let arg2 : BitVec 32 := BitVec.ofNat 32 (i 2).val
  let c2_i32_40 : BitVec 32 := 2#32
  let c0_i32_41 : BitVec 32 := 0#32
  let v66 : BitVec 1 := Scalar.cmpi .eq c2_i32_40 c0_i32_41
  let c1_i32_42 : BitVec 32 := 1#32
  let v67 : BitVec 32 := Scalar.select v66 c1_i32_42 c2_i32_40
  let v68 : BitVec 32 := Scalar.remsi arg2 v67
  let c0_i32_44 : BitVec 32 := 0#32
  let v70 : BitVec 1 := Scalar.cmpi .slt v68 c0_i32_44
  let c0_i32_45 : BitVec 32 := 0#32
  let v71 : BitVec 1 := Scalar.cmpi .slt v67 c0_i32_45
  let v72 : BitVec 1 := Scalar.xori v70 v71
  let c0_i32_43 : BitVec 32 := 0#32
  let v69 : BitVec 1 := Scalar.cmpi .ne v68 c0_i32_43
  let v73 : BitVec 1 := Scalar.andi v72 v69
  let v74 : BitVec 32 := Scalar.addi v68 v67
  let v75 : BitVec 32 := Scalar.select v73 v74 v68
  let v76 : Index := Scalar.indexCast v75
  let c0_46 : Index := 0#32
  let c0_47 : Index := 0#32
  ![v76.toNat, 0, 0]
def k0_cond2 (i : grid0.Coords) : BitVec 1 :=
  let arg2 : BitVec 32 := BitVec.ofNat 32 (i 2).val
  let c11_i32 : BitVec 32 := 11#32
  let v94 : BitVec 1 := Scalar.cmpi .eq arg2 c11_i32
  let v95 : BitVec 32 := Scalar.extui v94
  let c0_i32_56 : BitVec 32 := 0#32
  let v96 : BitVec 1 := Scalar.cmpi .ne v95 c0_i32_56
  v96

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  ![arg0.toNat, arg1.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  ![arg0.toNat, arg1.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  ![arg0.toNat, arg1.toNat, v0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  ![arg0.toNat, arg1.toNat, v0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg2 c10_i32
  let c0_i32 : BitVec 32 := 0#32
  ![arg0.toNat, arg1.toNat, v0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1x768x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x768x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x768x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x768x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x768x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x768x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]
-- ==== ReferenceIdeal.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x2816 : Shape := ⟨2, ![1024, 2816]⟩
abbrev S2816x1024 : Shape := ⟨2, ![2816, 1024]⟩
abbrev S4x1x1x1024 : Shape := ⟨4, ![4, 1, 1, 1024]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S1x1x1024 : Shape := ⟨3, ![1, 1, 1024]⟩
abbrev S_ : Shape := ⟨0, ![]⟩
abbrev S4x2304 : Shape := ⟨2, ![4, 2304]⟩
abbrev S4x2304x1 : Shape := ⟨3, ![4, 2304, 1]⟩
abbrev S4x2304x2816 : Shape := ⟨3, ![4, 2304, 2816]⟩
abbrev S4x3x768x1024 : Shape := ⟨4, ![4, 3, 768, 1024]⟩
abbrev S4x3x1024 : Shape := ⟨3, ![4, 3, 1024]⟩
abbrev S4x3x1x1024 : Shape := ⟨4, ![4, 3, 1, 1024]⟩
abbrev S4x3x8x1024 : Shape := ⟨4, ![4, 3, 8, 1024]⟩

abbrev nBuf : Space → Nat
  | .hbm => 213
  | .vmem => 0
  | .smem => 0
  | _ => 0

abbrev hbmTy0_0 (i : Nat) : BufTy := match i % 128 with
  | 0 => ⟨S4x2304x1024, .f32⟩
  | 1 => ⟨S4x2304x1024, .f32⟩
  | 2 => ⟨S4x2x8x1024, .f32⟩
  | 3 => ⟨S1x1024, .f32⟩
  | 4 => ⟨S1x1024, .f32⟩
  | 5 => ⟨S1024x2816, .f32⟩
  | 6 => ⟨S1024x2816, .f32⟩
  | 7 => ⟨S2816x1024, .f32⟩
  | 8 => ⟨S4x1x1x1024, .f32⟩
  | 9 => ⟨S4x1x1024, .f32⟩
  | 10 => ⟨S4x256x1024, .f32⟩
  | 11 => ⟨S4x1x1x1024, .f32⟩
  | 12 => ⟨S4x1x1024, .f32⟩
  | 13 => ⟨S4x2048x1024, .f32⟩
  | 14 => ⟨S4x2304x1024, .f32⟩
  | 15 => ⟨S4x1x1x1024, .f32⟩
  | 16 => ⟨S4x1x1024, .f32⟩
  | 17 => ⟨S4x256x1024, .f32⟩
  | 18 => ⟨S4x1x1x1024, .f32⟩
  | 19 => ⟨S4x1x1024, .f32⟩
  | 20 => ⟨S4x2048x1024, .f32⟩
  | 21 => ⟨S4x2304x1024, .f32⟩
  | 22 => ⟨S1x1x1024, .f32⟩
  | 23 => ⟨S4x2304x1024, .f32⟩
  | 24 => ⟨S4x2304x1024, .f32⟩
  | 25 => ⟨S_, .f32⟩
  | 26 => ⟨S4x2304, .f32⟩
  | 27 => ⟨S4x2304x1, .f32⟩
  | 28 => ⟨S_, .f32⟩
  | 29 => ⟨S4x2304x1, .f32⟩
  | 30 => ⟨S4x2304x1, .f32⟩
  | 31 => ⟨S_, .f32⟩
  | 32 => ⟨S4x2304x1, .f32⟩
  | 33 => ⟨S4x2304x1, .f32⟩
  | 34 => ⟨S4x2304x1, .f32⟩
  | 35 => ⟨S4x2304x1, .f32⟩
  | 36 => ⟨S_, .f32⟩
  | 37 => ⟨S4x2304x1, .f32⟩
  | 38 => ⟨S4x2304x1, .f32⟩
  | 39 => ⟨S4x2304x1024, .f32⟩
  | 40 => ⟨S4x2304x1024, .f32⟩
  | 41 => ⟨S4x2304x1024, .f32⟩
  | 42 => ⟨S_, .f32⟩
  | 43 => ⟨S4x2304x1024, .f32⟩
  | 44 => ⟨S4x2304x1024, .f32⟩
  | 45 => ⟨S4x2304x1024, .f32⟩
  | 46 => ⟨S4x2304x1024, .f32⟩
  | 47 => ⟨S4x2304x2816, .f32⟩
  | 48 => ⟨S4x2304x2816, .f32⟩
  | 49 => ⟨S4x2304x2816, .f32⟩
  | 50 => ⟨S4x2304x2816, .f32⟩
  | 51 => ⟨S_, .f32⟩
  | 52 => ⟨S4x2304x2816, .f32⟩
  | 53 => ⟨S4x2304x2816, .f32⟩
  | 54 => ⟨S_, .f32⟩
  | 55 => ⟨S4x2304x2816, .f32⟩
  | 56 => ⟨S4x2304x2816, .f32⟩
  | 57 => ⟨S_, .f32⟩
  | 58 => ⟨S4x2304x2816, .f32⟩
  | 59 => ⟨S4x2304x2816, .f32⟩
  | 60 => ⟨S4x2304x2816, .f32⟩
  | 61 => ⟨S4x2304x2816, .f32⟩
  | 62 => ⟨S4x2304x2816, .f32⟩
  | 63 => ⟨S4x2304x1024, .f32⟩
  | 64 => ⟨S4x1x1x1024, .f32⟩
  | 65 => ⟨S4x1x1024, .f32⟩
  | 66 => ⟨S4x256x1024, .f32⟩
  | 67 => ⟨S4x1x1x1024, .f32⟩
  | 68 => ⟨S4x1x1024, .f32⟩
  | 69 => ⟨S4x2048x1024, .f32⟩
  | 70 => ⟨S4x2304x1024, .f32⟩
  | 71 => ⟨S1x1x1024, .f32⟩
  | 72 => ⟨S4x2304x1024, .f32⟩
  | 73 => ⟨S4x2304x1024, .f32⟩
  | 74 => ⟨S_, .f32⟩
  | 75 => ⟨S4x2304, .f32⟩
  | 76 => ⟨S4x2304x1, .f32⟩
  | 77 => ⟨S_, .f32⟩
  | 78 => ⟨S4x2304x1, .f32⟩
  | 79 => ⟨S4x2304x1, .f32⟩
  | 80 => ⟨S_, .f32⟩
  | 81 => ⟨S4x2304x1, .f32⟩
  | 82 => ⟨S4x2304x1, .f32⟩
  | 83 => ⟨S4x2304x1, .f32⟩
  | 84 => ⟨S4x2304x1, .f32⟩
  | 85 => ⟨S_, .f32⟩
  | 86 => ⟨S4x2304x1, .f32⟩
  | 87 => ⟨S4x2304x1, .f32⟩
  | 88 => ⟨S4x2304x1024, .f32⟩
  | 89 => ⟨S4x2304x1024, .f32⟩
  | 90 => ⟨S4x2304x1024, .f32⟩
  | 91 => ⟨S4x2304x1024, .f32⟩
  | 92 => ⟨S4x2304x1024, .f32⟩
  | 93 => ⟨S4x2304x1024, .f32⟩
  | 94 => ⟨S4x2304x1024, .f32⟩
  | 95 => ⟨S4x2304x1024, .f32⟩
  | 96 => ⟨S4x2304x1024, .f32⟩
  | 97 => ⟨S4x2304x1024, .f32⟩
  | 98 => ⟨S4x2304x1024, .f32⟩
  | 99 => ⟨S_, .f32⟩
  | 100 => ⟨S4x2304, .f32⟩
  | 101 => ⟨S4x2304x1, .f32⟩
  | 102 => ⟨S4x2304x1024, .f32⟩
  | 103 => ⟨S4x2304x1024, .f32⟩
  | 104 => ⟨S4x2304x1, .f32⟩
  | 105 => ⟨S_, .f32⟩
  | 106 => ⟨S4x2304x1, .f32⟩
  | 107 => ⟨S4x2304x1, .f32⟩
  | 108 => ⟨S_, .f32⟩
  | 109 => ⟨S4x2304, .f32⟩
  | 110 => ⟨S4x2304x1024, .f32⟩
  | 111 => ⟨S4x2304x1024, .f32⟩
  | 112 => ⟨S4x2304x1024, .f32⟩
  | 113 => ⟨S4x2304x1024, .f32⟩
  | 114 => ⟨S4x2304x1024, .f32⟩
  | 115 => ⟨S4x2304x2816, .f32⟩
  | 116 => ⟨S4x2304x2816, .f32⟩
  | 117 => ⟨S4x2304x2816, .f32⟩
  | 118 => ⟨S4x2304x2816, .f32⟩
  | 119 => ⟨S4x2304x2816, .f32⟩
  | 120 => ⟨S4x2304x2816, .f32⟩
  | 121 => ⟨S4x2304x2816, .f32⟩
  | 122 => ⟨S4x2304x1024, .f32⟩
  | 123 => ⟨S4x2304x1024, .f32⟩
  | 124 => ⟨S4x2304x1024, .f32⟩
  | 125 => ⟨S4x2304x1024, .f32⟩
  | 126 => ⟨S4x2304x1024, .f32⟩
  | 127 => ⟨S4x2304x1024, .f32⟩
  | _ => ⟨S4x2304x1024, .f32⟩

abbrev hbmTy0_1 (i : Nat) : BufTy := match i % 128 with
  | 0 => ⟨S4x2304x1024, .f32⟩
  | 1 => ⟨S4x2304x1024, .f32⟩
  | 2 => ⟨S_, .f32⟩
  | 3 => ⟨S4x2304, .f32⟩
  | 4 => ⟨S4x2304x1, .f32⟩
  | 5 => ⟨S4x2304x1024, .f32⟩
  | 6 => ⟨S4x2304x1024, .f32⟩
  | 7 => ⟨S4x2304x1, .f32⟩
  | 8 => ⟨S_, .f32⟩
  | 9 => ⟨S4x2304x1, .f32⟩
  | 10 => ⟨S4x2304x1, .f32⟩
  | 11 => ⟨S_, .f32⟩
  | 12 => ⟨S4x2304, .f32⟩
  | 13 => ⟨S4x2304x1024, .f32⟩
  | 14 => ⟨S4x2304x1024, .f32⟩
  | 15 => ⟨S4x2304x1024, .f32⟩
  | 16 => ⟨S4x2304x1024, .f32⟩
  | 17 => ⟨S4x2304x1024, .f32⟩
  | 18 => ⟨S4x2304x1024, .i32⟩
  | 19 => ⟨S_, .i32⟩
  | 20 => ⟨S4x2304x1024, .i32⟩
  | 21 => ⟨S4x2304x1024, .i1⟩
  | 22 => ⟨S_, .f32⟩
  | 23 => ⟨S_, .f32⟩
  | 24 => ⟨S4x2304x1024, .f32⟩
  | 25 => ⟨S4x2304x1024, .f32⟩
  | 26 => ⟨S4x3x768x1024, .f32⟩
  | 27 => ⟨S_, .f32⟩
  | 28 => ⟨S4x3x1024, .f32⟩
  | 29 => ⟨S_, .f32⟩
  | 30 => ⟨S_, .f32⟩
  | 31 => ⟨S4x2304x1024, .f32⟩
  | 32 => ⟨S4x2304x1024, .f32⟩
  | 33 => ⟨S4x3x768x1024, .f32⟩
  | 34 => ⟨S_, .f32⟩
  | 35 => ⟨S4x3x1024, .f32⟩
  | 36 => ⟨S_, .f32⟩
  | 37 => ⟨S_, .f32⟩
  | 38 => ⟨S4x2304x1024, .f32⟩
  | 39 => ⟨S4x2304x1024, .f32⟩
  | 40 => ⟨S4x3x768x1024, .f32⟩
  | 41 => ⟨S_, .f32⟩
  | 42 => ⟨S4x3x1024, .f32⟩
  | 43 => ⟨S4x3x768x1024, .f32⟩
  | 44 => ⟨S_, .f32⟩
  | 45 => ⟨S4x3x1024, .f32⟩
  | 46 => ⟨S4x3x768x1024, .f32⟩
  | 47 => ⟨S_, .f32⟩
  | 48 => ⟨S4x3x1024, .f32⟩
  | 49 => ⟨S_, .f32⟩
  | 50 => ⟨S_, .f32⟩
  | 51 => ⟨S4x2304x1024, .f32⟩
  | 52 => ⟨S4x2304x1024, .f32⟩
  | 53 => ⟨S4x3x768x1024, .f32⟩
  | 54 => ⟨S_, .f32⟩
  | 55 => ⟨S4x3x1024, .f32⟩
  | 56 => ⟨S_, .f32⟩
  | 57 => ⟨S_, .f32⟩
  | 58 => ⟨S4x2304x1024, .f32⟩
  | 59 => ⟨S4x2304x1024, .f32⟩
  | 60 => ⟨S4x3x768x1024, .f32⟩
  | 61 => ⟨S_, .f32⟩
  | 62 => ⟨S4x3x1024, .f32⟩
  | 63 => ⟨S_, .f32⟩
  | 64 => ⟨S_, .f32⟩
  | 65 => ⟨S4x2304x1024, .f32⟩
  | 66 => ⟨S4x2304x1024, .f32⟩
  | 67 => ⟨S4x3x768x1024, .f32⟩
  | 68 => ⟨S_, .f32⟩
  | 69 => ⟨S4x3x1024, .f32⟩
  | 70 => ⟨S4x3x1x1024, .f32⟩
  | 71 => ⟨S4x3x1x1024, .f32⟩
  | 72 => ⟨S4x3x1x1024, .f32⟩
  | 73 => ⟨S4x3x1x1024, .f32⟩
  | 74 => ⟨S4x3x1x1024, .f32⟩
  | 75 => ⟨S4x3x1x1024, .f32⟩
  | 76 => ⟨S4x3x1x1024, .f32⟩
  | 77 => ⟨S4x3x1x1024, .f32⟩
  | 78 => ⟨S4x3x8x1024, .f32⟩
  | 79 => ⟨S4x2304x1024, .f32⟩
  | 80 => ⟨S4x2304x1024, .bf16⟩
  | 81 => ⟨S4x2304x1024, .bf16⟩
  | 82 => ⟨S4x2304x2816, .bf16⟩
  | 83 => ⟨S4x2304x2816, .bf16⟩
  | 84 => ⟨S4x2304x2816, .bf16⟩
  | _ => ⟨S4x2304x1024, .f32⟩

abbrev hbmTy (i : Nat) : BufTy := match i / 128 with
  | 0 => hbmTy0_0 i
  | 1 => hbmTy0_1 i
  | _ => ⟨S4x2304x1024, .f32⟩

abbrev bufTy : (tb : Table) → Fin (tcTables nBuf tb) → BufTy
  | .hbm, ⟨i, _⟩ => hbmTy i
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v36_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v36_1 : Ref sig .tc := ⟨.hbm, 60, rfl⟩
abbrev main_v36_0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_cst_5 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_9 : Ref sig .tc := ⟨.hbm, 105, rfl⟩
abbrev main_v75 : Ref sig .tc := ⟨.hbm, 106, rfl⟩
abbrev main_v76 : Ref sig .tc := ⟨.hbm, 107, rfl⟩
abbrev main_cst_10 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_11 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_12 : Ref sig .tc := ⟨.hbm, 136, rfl⟩
abbrev main_v100 : Ref sig .tc := ⟨.hbm, 137, rfl⟩
abbrev main_v101 : Ref sig .tc := ⟨.hbm, 138, rfl⟩
abbrev main_cst_13 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_c : Ref sig .tc := ⟨.hbm, 147, rfl⟩
abbrev main_v109 : Ref sig .tc := ⟨.hbm, 148, rfl⟩
abbrev main_v110 : Ref sig .tc := ⟨.hbm, 149, rfl⟩
abbrev main_cst_14 : Ref sig .tc := ⟨.hbm, 150, rfl⟩
abbrev main_call2_v0 : Ref sig .tc := ⟨.hbm, 151, rfl⟩
abbrev main_call2_v1 : Ref sig .tc := ⟨.hbm, 152, rfl⟩
abbrev main_v111 : Ref sig .tc := ⟨.hbm, 153, rfl⟩
abbrev main_v112 : Ref sig .tc := ⟨.hbm, 154, rfl⟩
abbrev main_cst_15 : Ref sig .tc := ⟨.hbm, 155, rfl⟩
abbrev main_v113 : Ref sig .tc := ⟨.hbm, 156, rfl⟩
abbrev main_cst_16 : Ref sig .tc := ⟨.hbm, 157, rfl⟩
abbrev main_call3_v0 : Ref sig .tc := ⟨.hbm, 158, rfl⟩
abbrev main_call3_v1 : Ref sig .tc := ⟨.hbm, 159, rfl⟩
abbrev main_v114 : Ref sig .tc := ⟨.hbm, 160, rfl⟩
abbrev main_v115 : Ref sig .tc := ⟨.hbm, 161, rfl⟩
abbrev main_cst_17 : Ref sig .tc := ⟨.hbm, 162, rfl⟩
abbrev main_v116 : Ref sig .tc := ⟨.hbm, 163, rfl⟩
abbrev main_cst_18 : Ref sig .tc := ⟨.hbm, 164, rfl⟩
abbrev main_call4_v0 : Ref sig .tc := ⟨.hbm, 165, rfl⟩
abbrev main_call4_v1 : Ref sig .tc := ⟨.hbm, 166, rfl⟩
abbrev main_v117 : Ref sig .tc := ⟨.hbm, 167, rfl⟩
abbrev main_v118 : Ref sig .tc := ⟨.hbm, 168, rfl⟩
abbrev main_cst_19 : Ref sig .tc := ⟨.hbm, 169, rfl⟩
abbrev main_v119 : Ref sig .tc := ⟨.hbm, 170, rfl⟩
abbrev main_v120 : Ref sig .tc := ⟨.hbm, 171, rfl⟩
abbrev main_cst_20 : Ref sig .tc := ⟨.hbm, 172, rfl⟩
abbrev main_v121 : Ref sig .tc := ⟨.hbm, 173, rfl⟩
abbrev main_v122 : Ref sig .tc := ⟨.hbm, 174, rfl⟩
abbrev main_cst_21 : Ref sig .tc := ⟨.hbm, 175, rfl⟩
abbrev main_v123 : Ref sig .tc := ⟨.hbm, 176, rfl⟩
abbrev main_cst_22 : Ref sig .tc := ⟨.hbm, 177, rfl⟩
abbrev main_call5_v0 : Ref sig .tc := ⟨.hbm, 178, rfl⟩
abbrev main_call5_v1 : Ref sig .tc := ⟨.hbm, 179, rfl⟩
abbrev main_v124 : Ref sig .tc := ⟨.hbm, 180, rfl⟩
abbrev main_v125 : Ref sig .tc := ⟨.hbm, 181, rfl⟩
abbrev main_cst_23 : Ref sig .tc := ⟨.hbm, 182, rfl⟩
abbrev main_v126 : Ref sig .tc := ⟨.hbm, 183, rfl⟩
abbrev main_cst_24 : Ref sig .tc := ⟨.hbm, 184, rfl⟩
abbrev main_call6_v0 : Ref sig .tc := ⟨.hbm, 185, rfl⟩
abbrev main_call6_v1 : Ref sig .tc := ⟨.hbm, 186, rfl⟩
abbrev main_v127 : Ref sig .tc := ⟨.hbm, 187, rfl⟩
abbrev main_v128 : Ref sig .tc := ⟨.hbm, 188, rfl⟩
abbrev main_cst_25 : Ref sig .tc := ⟨.hbm, 189, rfl⟩
abbrev main_v129 : Ref sig .tc := ⟨.hbm, 190, rfl⟩
abbrev main_cst_26 : Ref sig .tc := ⟨.hbm, 191, rfl⟩
abbrev main_call7_v0 : Ref sig .tc := ⟨.hbm, 192, rfl⟩
abbrev main_call7_v1 : Ref sig .tc := ⟨.hbm, 193, rfl⟩
abbrev main_v130 : Ref sig .tc := ⟨.hbm, 194, rfl⟩
abbrev main_v131 : Ref sig .tc := ⟨.hbm, 195, rfl⟩
abbrev main_cst_27 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩

abbrev nD : Nat := 1
abbrev τ : Topo := Topo.v7x

variable {F : FTy → Type} [FloatOps F]
-- ==== Kernel2.lean ====
abbrev S9216x2816 : Shape := ⟨2, ![9216, 2816]⟩
abbrev S9216x1024 : Shape := ⟨2, ![9216, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x1024, .f32⟩
  | .hbm, ⟨5, _⟩ => ⟨S1024x2816, .f32⟩
  | .hbm, ⟨6, _⟩ => ⟨S9216x2816, .f32⟩
  | .hbm, ⟨7, _⟩ => ⟨S9216x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x2816 : Shape := ⟨2, ![1024, 2816]⟩
abbrev S2816x1024 : Shape := ⟨2, ![2816, 1024]⟩
abbrev S4x2304x2816 : Shape := ⟨3, ![4, 2304, 2816]⟩
abbrev S1x768x1024 : Shape := ⟨3, ![1, 768, 1024]⟩
abbrev S1x2x8x1024 : Shape := ⟨4, ![1, 2, 8, 1024]⟩
abbrev S256x1024 : Shape := ⟨2, ![256, 1024]⟩
abbrev S1x768x256 : Shape := ⟨3, ![1, 768, 256]⟩
abbrev S768x1024 : Shape := ⟨2, ![768, 1024]⟩
abbrev S768 : Shape := ⟨1, ![768]⟩
abbrev S768x1 : Shape := ⟨2, ![768, 1]⟩
abbrev S1x1x1x1024 : Shape := ⟨4, ![1, 1, 1, 1024]⟩
abbrev S512x1024 : Shape := ⟨2, ![512, 1024]⟩
abbrev S768x256 : Shape := ⟨2, ![768, 256]⟩

abbrev nBuf : Space → Nat
  | .hbm => 16
  | .vmem => 22
  | .smem => 0
  | _ => 0

abbrev bufTy : (tb : Table) → Fin (tcTables nBuf tb) → BufTy
  | .hbm, ⟨0, _⟩ => ⟨S4x2304x1024, .f32⟩
  | .hbm, ⟨1, _⟩ => ⟨S4x2x8x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4x2304x1024, .f32⟩
  | .hbm, ⟨13, _⟩ => ⟨S4x2304x1024, .f32⟩
  | .hbm, ⟨14, _⟩ => ⟨S4x2304x2816, .bf16⟩
  | .hbm, ⟨15, _⟩ => ⟨S4x2304x2816, .bf16⟩
  | .local _ .vmem, ⟨0, _⟩ => ⟨S1x768x1024, .f32⟩
  | .local _ .vmem, ⟨1, _⟩ => ⟨S1x768x1024, .f32⟩
  | .local _ .vmem, ⟨2, _⟩ => ⟨S1x2x8x1024, .f32⟩
  | .local _ .vmem, ⟨3, _⟩ => ⟨S1x2x8x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x768x1024, .f32⟩
  | .local _ .vmem, ⟨13, _⟩ => ⟨S1x768x1024, .f32⟩
  | .local _ .vmem, ⟨14, _⟩ => ⟨S1x768x1024, .f32⟩
  | .local _ .vmem, ⟨15, _⟩ => ⟨S1x768x1024, .f32⟩
  | .local _ .vmem, ⟨16, _⟩ => ⟨S1x768x256, .bf16⟩
  | .local _ .vmem, ⟨17, _⟩ => ⟨S1x768x256, .bf16⟩
  | .local _ .vmem, ⟨18, _⟩ => ⟨S1x768x256, .bf16⟩
  | .local _ .vmem, ⟨19, _⟩ => ⟨S1x768x256, .bf16⟩
  | .local _ .vmem, ⟨20, _⟩ => ⟨S768x1024, .bf16⟩
  | .local _ .vmem, ⟨21, _⟩ => ⟨S768x1024, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 3, 11], ![false, false, false]⟩

def k0_cond2 (i : grid0.Coords) : BitVec 1 :=
  let arg2 : BitVec 32 := BitVec.ofNat 32 (i 2).val
  let c10_i32 : BitVec 32 := 10#32
  let v30 : BitVec 1 := Scalar.cmpi .eq arg2 c10_i32
  let v31 : BitVec 32 := Scalar.extui v30
  let c0_i32_20 : BitVec 32 := 0#32
  let v32 : BitVec 1 := Scalar.cmpi .ne v31 c0_i32_20
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x768x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference3Ideal.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x2816 : Shape := ⟨2, ![1024, 2816]⟩
abbrev S2816x1024 : Shape := ⟨2, ![2816, 1024]⟩
abbrev S4x1x1x1024 : Shape := ⟨4, ![4, 1, 1, 1024]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩
abbrev S4x2304x2816 : Shape := ⟨3, ![4, 2304, 2816]⟩

abbrev nBuf : Space → Nat
  | .hbm => 82
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2x8x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4x1x1x1024, .f32⟩
  | .hbm, ⟨8, _⟩ => ⟨S4x1x1024, .f32⟩
  | .hbm, ⟨9, _⟩ => ⟨S4x256x1024, .f32⟩
  | .hbm, ⟨10, _⟩ => ⟨S4x1x1x1024, .f32⟩
  | .hbm, ⟨11, _⟩ => ⟨S4x1x1024, .f32⟩
  | .hbm, ⟨12, _⟩ => ⟨S4x2048x1024, .f32⟩
  | .hbm, ⟨13, _⟩ => ⟨S4x2304x1024, .f32⟩
  | .hbm, ⟨14, _⟩ => ⟨S4x1x1x1024, .f32⟩
  | .hbm, ⟨15, _⟩ => ⟨S4x1x1024, .f32⟩
  | .hbm, ⟨16, _⟩ => ⟨S4x256x1024, .f32⟩
  | .hbm, ⟨17, _⟩ => ⟨S4x1x1x1024, .f32⟩
  | .hbm, ⟨18, _⟩ => ⟨S4x1x1024, .f32⟩
  | .hbm, ⟨19, _⟩ => ⟨S4x2048x1024, .f32⟩
  | .hbm, ⟨20, _⟩ => ⟨S4x2304x1024, .f32⟩
  | .hbm, ⟨21, _⟩ => ⟨S4x2304x1024, .f32⟩
  | .hbm, ⟨22, _⟩ => ⟨S_, .f32⟩
  | .hbm, ⟨23, _⟩ => ⟨S4x2304, .f32⟩
  | .hbm, ⟨24, _⟩ => ⟨S4x2304x1, .f32⟩
  | .hbm, ⟨25, _⟩ => ⟨S_, .f32⟩
  | .hbm, ⟨26, _⟩ => ⟨S4x2304x1, .f32⟩
  | .hbm, ⟨27, _⟩ => ⟨S4x2304x1, .f32⟩
  | .hbm, ⟨28, _⟩ => ⟨S_, .f32⟩
  | .hbm, ⟨29, _⟩ => ⟨S4x2304x1, .f32⟩
  | .hbm, ⟨30, _⟩ => ⟨S4x2304x1, .f32⟩
  | .hbm, ⟨31, _⟩ => ⟨S4x2304x1, .f32⟩
  | .hbm, ⟨32, _⟩ => ⟨S4x2304x1024, .f32⟩
  | .hbm, ⟨33, _⟩ => ⟨S4x2304x1024, .f32⟩
  | .hbm, ⟨34, _⟩ => ⟨S1x1x1024, .f32⟩
  | .hbm, ⟨35, _⟩ => ⟨S4x2304x1024, .f32⟩
  | .hbm, ⟨36, _⟩ => ⟨S4x2304x1024, .f32⟩
  | .hbm, ⟨37, _⟩ => ⟨S_, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x2816, .f32⟩
  | .hbm, ⟨43, _⟩ => ⟨S4x2304x2816, .f32⟩
  | .hbm, ⟨44, _⟩ => ⟨S4x2304x2816, .f32⟩
  | .hbm, ⟨45, _⟩ => ⟨S4x2304x2816, .f32⟩
  | .hbm, ⟨46, _⟩ => ⟨S_, .f32⟩
  | .hbm, ⟨47, _⟩ => ⟨S4x2304x2816, .f32⟩
  | .hbm, ⟨48, _⟩ => ⟨S4x2304x2816, .f32⟩
  | .hbm, ⟨49, _⟩ => ⟨S_, .f32⟩
  | .hbm, ⟨50, _⟩ => ⟨S4x2304x2816, .f32⟩
  | .hbm, ⟨51, _⟩ => ⟨S4x2304x2816, .f32⟩
  | .hbm, ⟨52, _⟩ => ⟨S4x2304x2816, .f32⟩
  | .hbm, ⟨53, _⟩ => ⟨S4x2304x2816, .f32⟩
  | .hbm, ⟨54, _⟩ => ⟨S4x2304x1024, .f32⟩
  | .hbm, ⟨55, _⟩ => ⟨S4x1x1x1024, .f32⟩
  | .hbm, ⟨56, _⟩ => ⟨S4x1x1024, .f32⟩
  | .hbm, ⟨57, _⟩ => ⟨S4x256x1024, .f32⟩
  | .hbm, ⟨58, _⟩ => ⟨S4x1x1x1024, .f32⟩
  | .hbm, ⟨59, _⟩ => ⟨S4x1x1024, .f32⟩
  | .hbm, ⟨60, _⟩ => ⟨S4x2048x1024, .f32⟩
  | .hbm, ⟨61, _⟩ => ⟨S4x2304x1024, .f32⟩
  | .hbm, ⟨62, _⟩ => ⟨S4x2304x1024, .f32⟩
  | .hbm, ⟨63, _⟩ => ⟨S_, .f32⟩
  | .hbm, ⟨64, _⟩ => ⟨S4x2304, .f32⟩
  | .hbm, ⟨65, _⟩ => ⟨S4x2304x1, .f32⟩
  | .hbm, ⟨66, _⟩ => ⟨S_, .f32⟩
  | .hbm, ⟨67, _⟩ => ⟨S4x2304x1, .f32⟩
  | .hbm, ⟨68, _⟩ => ⟨S4x2304x1, .f32⟩
  | .hbm, ⟨69, _⟩ => ⟨S_, .f32⟩
  | .hbm, ⟨70, _⟩ => ⟨S4x2304x1, .f32⟩
  | .hbm, ⟨71, _⟩ => ⟨S4x2304x1, .f32⟩
  | .hbm, ⟨72, _⟩ => ⟨S4x2304x1, .f32⟩
  | .hbm, ⟨73, _⟩ => ⟨S4x2304x1024, .f32⟩
  | .hbm, ⟨74, _⟩ => ⟨S4x2304x1024, .f32⟩
  | .hbm, ⟨75, _⟩ => ⟨S1x1x1024, .f32⟩
  | .hbm, ⟨76, _⟩ => ⟨S4x2304x1024, .f32⟩
  | .hbm, ⟨77, _⟩ => ⟨S4x2304x1024, .f32⟩
  | .hbm, ⟨78, _⟩ => ⟨S4x2304x1024, .f32⟩
  | .hbm, ⟨79, _⟩ => ⟨S4x2304x1024, .f32⟩
  | .hbm, ⟨80, _⟩ => ⟨S4x2304x2816, .bf16⟩
  | .hbm, ⟨81, _⟩ => ⟨S4x2304x2816, .bf16⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel4.lean ====
abbrev S9216x1280 : Shape := ⟨2, ![9216, 1280]⟩
abbrev S9216x1024 : Shape := ⟨2, ![9216, 1024]⟩
abbrev S1280x1024 : Shape := ⟨2, ![1280, 1024]⟩
abbrev S1024x1280 : Shape := ⟨2, ![1024, 1280]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1280, .bf16⟩
  | .hbm, ⟨1, _⟩ => ⟨S9216x1024, .bf16⟩
  | .hbm, ⟨2, _⟩ => ⟨S1280x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .f32⟩
  | _, _ => ⟨S9216x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S9216x1280 : Shape := ⟨2, ![9216, 1280]⟩
abbrev S9216x1024 : Shape := ⟨2, ![9216, 1024]⟩
abbrev S_ : Shape := ⟨0, ![]⟩
abbrev S1280x1024 : Shape := ⟨2, ![1280, 1024]⟩
abbrev S1024x1280 : Shape := ⟨2, ![1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S9216x1280, .bf16⟩
  | .hbm, ⟨1, _⟩ => ⟨S9216x1024, .bf16⟩
  | .hbm, ⟨2, _⟩ => ⟨S_, .f32⟩
  | .hbm, ⟨3, _⟩ => ⟨S1280x1024, .f32⟩
  | .hbm, ⟨4, _⟩ => ⟨S9216x1024, .f32⟩
  | .hbm, ⟨5, _⟩ => ⟨S1024x1280, .f32⟩
  | .hbm, ⟨6, _⟩ => ⟨S9216x1280, .f32⟩
  | .hbm, ⟨7, _⟩ => ⟨S9216x1280, .f32⟩
  | .hbm, ⟨8, _⟩ => ⟨S1280x1024, .f32⟩
  | .hbm, ⟨9, _⟩ => ⟨S1024x1280, .f32⟩
  | .hbm, ⟨10, _⟩ => ⟨S1280x1024, .f32⟩
  | .hbm, ⟨11, _⟩ => ⟨S1280x1024, .bf16⟩
  | _, _ => ⟨S9216x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S9216x512 : Shape := ⟨2, ![9216, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S9216x512, .bf16⟩
  | .hbm, ⟨1, _⟩ => ⟨S9216x512, .bf16⟩
  | .hbm, ⟨2, _⟩ => ⟨S512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S9216x512 : Shape := ⟨2, ![9216, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x512, .bf16⟩
  | .hbm, ⟨2, _⟩ => ⟨S_, .f32⟩
  | .hbm, ⟨3, _⟩ => ⟨S512x512, .f32⟩
  | .hbm, ⟨4, _⟩ => ⟨S9216x512, .f32⟩
  | .hbm, ⟨5, _⟩ => ⟨S9216x512, .f32⟩
  | .hbm, ⟨6, _⟩ => ⟨S9216x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x1280 : Shape := ⟨2, ![1024, 1280]⟩
abbrev S1280x1024 : Shape := ⟨2, ![1280, 1024]⟩
abbrev S4x2304x512 : Shape := ⟨3, ![4, 2304, 512]⟩
abbrev S4x288x4096 : Shape := ⟨3, ![4, 288, 4096]⟩
abbrev S4x2304x256 : Shape := ⟨3, ![4, 2304, 256]⟩
abbrev S1x256x1024 : Shape := ⟨3, ![1, 256, 1024]⟩
abbrev S1x1x8x1024 : Shape := ⟨4, ![1, 1, 8, 1024]⟩
abbrev S1x256x512 : Shape := ⟨3, ![1, 256, 512]⟩
abbrev S1x32x4096 : Shape := ⟨3, ![1, 32, 4096]⟩
abbrev S1x256x256 : Shape := ⟨3, ![1, 256, 256]⟩
abbrev S4x256x128 : Shape := ⟨3, ![4, 256, 128]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S256x1280 : Shape := ⟨2, ![256, 1280]⟩
abbrev S256x512 : Shape := ⟨2, ![256, 512]⟩
abbrev S256x128 : Shape := ⟨2, ![256, 128]⟩
abbrev S1x256x128 : Shape := ⟨3, ![1, 256, 128]⟩
abbrev S32x128 : Shape := ⟨2, ![32, 128]⟩
abbrev S1x32x128 : Shape := ⟨3, ![1, 32, 128]⟩
abbrev S256x256 : Shape := ⟨2, ![256, 256]⟩

abbrev nBuf : Space → Nat
  | .hbm => 9
  | .vmem => 13
  | .smem => 0
  | _ => 0

abbrev bufTy : (tb : Table) → Fin (tcTables nBuf tb) → BufTy
  | .hbm, ⟨0, _⟩ => ⟨S4x2304x1024, .f32⟩
  | .hbm, ⟨1, _⟩ => ⟨S4x2x8x1024, .f32⟩
  | .hbm, ⟨2, _⟩ => ⟨S1x1024, .f32⟩
  | .hbm, ⟨3, _⟩ => ⟨S1024x1280, .f32⟩
  | .hbm, ⟨4, _⟩ => ⟨S1280x1024, .f32⟩
  | .hbm, ⟨5, _⟩ => ⟨S1280x1024, .bf16⟩
  | .hbm, ⟨6, _⟩ => ⟨S4x2304x512, .f32⟩
  | .hbm, ⟨7, _⟩ => ⟨S4x288x4096, .f32⟩
  | .hbm, ⟨8, _⟩ => ⟨S4x2304x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1024, .f32⟩
  | .local _ .vmem, ⟨5, _⟩ => ⟨S1280x1024, .bf16⟩
  | .local _ .vmem, ⟨6, _⟩ => ⟨S1x256x512, .f32⟩
  | .local _ .vmem, ⟨7, _⟩ => ⟨S1x256x512, .f32⟩
  | .local _ .vmem, ⟨8, _⟩ => ⟨S1x32x4096, .f32⟩
  | .local _ .vmem, ⟨9, _⟩ => ⟨S1x32x4096, .f32⟩
  | .local _ .vmem, ⟨10, _⟩ => ⟨S1x256x256, .f32⟩
  | .local _ .vmem, ⟨11, _⟩ => ⟨S1x256x256, .f32⟩
  | .local _ .vmem, ⟨12, _⟩ => ⟨S4x256x128, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S4x2304x1024 : Shape := ⟨3, ![4, 2304, 1024]⟩
abbrev S4x2x8x1024 : Shape := ⟨4, ![4, 2, 8, 1024]⟩
abbrev S1x1024 : Shape := ⟨2, ![1, 1024]⟩
abbrev S1024x1280 : Shape := ⟨2, ![1024, 1280]⟩
abbrev S4x1x1x1024 : Shape := ⟨4, ![4, 1, 1, 1024]⟩
abbrev S4x1x1024 : Shape := ⟨3, ![4, 1, 1024]⟩
abbrev S4x256x1024 : Shape := ⟨3, ![4, 256, 1024]⟩
abbrev S4x2048x1024 : Shape := ⟨3, ![4, 2048, 1024]⟩
abbrev S_ : Shape := ⟨0, ![]⟩
abbrev S4x2304 : Shape := ⟨2, ![4, 2304]⟩
abbrev S4x2304x1 : Shape := ⟨3, ![4, 2304, 1]⟩
abbrev S1x1x1024 : Shape := ⟨3, ![1, 1, 1024]⟩
abbrev S4x2304x1280 : Shape := ⟨3, ![4, 2304, 1280]⟩
abbrev S4x2304x512 : Shape := ⟨3, ![4, 2304, 512]⟩
abbrev S4x288x8x4x128 : Shape := ⟨5, ![4, 288, 8, 4, 128]⟩
abbrev S4x288x4x8x128 : Shape := ⟨5, ![4, 288, 4, 8, 128]⟩
abbrev S4x288x4096 : Shape := ⟨3, ![4, 288, 4096]⟩
abbrev S4x2304x256 : Shape := ⟨3, ![4, 2304, 256]⟩

abbrev nBuf : Space → Nat
  | .hbm => 46
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2x8x1024, .f32⟩
  | .hbm, ⟨2, _⟩ => ⟨S1x1024, .f32⟩
  | .hbm, ⟨3, _⟩ => ⟨S1024x1280, .f32⟩
  | .hbm, ⟨4, _⟩ => ⟨S4x1x1x1024, .f32⟩
  | .hbm, ⟨5, _⟩ => ⟨S4x1x1024, .f32⟩
  | .hbm, ⟨6, _⟩ => ⟨S4x256x1024, .f32⟩
  | .hbm, ⟨7, _⟩ => ⟨S4x1x1x1024, .f32⟩
  | .hbm, ⟨8, _⟩ => ⟨S4x1x1024, .f32⟩
  | .hbm, ⟨9, _⟩ => ⟨S4x2048x1024, .f32⟩
  | .hbm, ⟨10, _⟩ => ⟨S4x2304x1024, .f32⟩
  | .hbm, ⟨11, _⟩ => ⟨S4x1x1x1024, .f32⟩
  | .hbm, ⟨12, _⟩ => ⟨S4x1x1024, .f32⟩
  | .hbm, ⟨13, _⟩ => ⟨S4x256x1024, .f32⟩
  | .hbm, ⟨14, _⟩ => ⟨S4x1x1x1024, .f32⟩
  | .hbm, ⟨15, _⟩ => ⟨S4x1x1024, .f32⟩
  | .hbm, ⟨16, _⟩ => ⟨S4x2048x1024, .f32⟩
  | .hbm, ⟨17, _⟩ => ⟨S4x2304x1024, .f32⟩
  | .hbm, ⟨18, _⟩ => ⟨S4x2304x1024, .f32⟩
  | .hbm, ⟨19, _⟩ => ⟨S_, .f32⟩
  | .hbm, ⟨20, _⟩ => ⟨S4x2304, .f32⟩
  | .hbm, ⟨21, _⟩ => ⟨S4x2304x1, .f32⟩
  | .hbm, ⟨22, _⟩ => ⟨S_, .f32⟩
  | .hbm, ⟨23, _⟩ => ⟨S4x2304x1, .f32⟩
  | .hbm, ⟨24, _⟩ => ⟨S4x2304x1, .f32⟩
  | .hbm, ⟨25, _⟩ => ⟨S_, .f32⟩
  | .hbm, ⟨26, _⟩ => ⟨S4x2304x1, .f32⟩
  | .hbm, ⟨27, _⟩ => ⟨S4x2304x1, .f32⟩
  | .hbm, ⟨28, _⟩ => ⟨S4x2304x1, .f32⟩
  | .hbm, ⟨29, _⟩ => ⟨S4x2304x1024, .f32⟩
  | .hbm, ⟨30, _⟩ => ⟨S4x2304x1024, .f32⟩
  | .hbm, ⟨31, _⟩ => ⟨S1x1x1024, .f32⟩
  | .hbm, ⟨32, _⟩ => ⟨S4x2304x1024, .f32⟩
  | .hbm, ⟨33, _⟩ => ⟨S4x2304x1024, .f32⟩
  | .hbm, ⟨34, _⟩ => ⟨S_, .f32⟩
  | .hbm, ⟨35, _⟩ => ⟨S4x2304x1024, .f32⟩
  | .hbm, ⟨36, _⟩ => ⟨S4x2304x1024, .f32⟩
  | .hbm, ⟨37, _⟩ => ⟨S4x2304x1024, .f32⟩
  | .hbm, ⟨38, _⟩ => ⟨S4x2304x1024, .f32⟩
  | .hbm, ⟨39, _⟩ => ⟨S4x2304x1280, .f32⟩
  | .hbm, ⟨40, _⟩ => ⟨S4x2304x512, .f32⟩
  | .hbm, ⟨41, _⟩ => ⟨S4x288x8x4x128, .f32⟩
  | .hbm, ⟨42, _⟩ => ⟨S4x288x4x8x128, .f32⟩
  | .hbm, ⟨43, _⟩ => ⟨S4x288x4096, .f32⟩
  | .hbm, ⟨44, _⟩ => ⟨S4x2304x512, .f32⟩
  | .hbm, ⟨45, _⟩ => ⟨S4x2304x256, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel8.lean ====
abbrev S48x1024 : Shape := ⟨2, ![48, 1024]⟩
abbrev S2x1024x768 : Shape := ⟨3, ![2, 1024, 768]⟩
abbrev S2x768 : Shape := ⟨2, ![2, 768]⟩
abbrev S2x1x768 : Shape := ⟨3, ![2, 1, 768]⟩
abbrev S2x48x768 : Shape := ⟨3, ![2, 48, 768]⟩
abbrev S1x1024x768 : Shape := ⟨3, ![1, 1024, 768]⟩
abbrev S1x1x768 : Shape := ⟨3, ![1, 1, 768]⟩
abbrev S1x48x768 : Shape := ⟨3, ![1, 48, 768]⟩
abbrev S1024x768 : Shape := ⟨2, ![1024, 768]⟩
abbrev S48x768 : Shape := ⟨2, ![48, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S2x1024x768, .f32⟩
  | .hbm, ⟨2, _⟩ => ⟨S2x768, .f32⟩
  | .hbm, ⟨3, _⟩ => ⟨S2x1x768, .f32⟩
  | .hbm, ⟨4, _⟩ => ⟨S2x48x768, .f32⟩
  | .local _ .vmem, ⟨0, _⟩ => ⟨S48x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x48x768, .f32⟩
  | .local _ .vmem, ⟨6, _⟩ => ⟨S1x48x768, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S48x1024 : Shape := ⟨2, ![48, 1024]⟩
abbrev S2x1024x768 : Shape := ⟨3, ![2, 1024, 768]⟩
abbrev S2x768 : Shape := ⟨2, ![2, 768]⟩
abbrev S1x1024x768 : Shape := ⟨3, ![1, 1024, 768]⟩
abbrev S1024x768 : Shape := ⟨2, ![1024, 768]⟩
abbrev S48x768 : Shape := ⟨2, ![48, 768]⟩
abbrev S1x768 : Shape := ⟨2, ![1, 768]⟩
abbrev S768 : Shape := ⟨1, ![768]⟩
abbrev S1x48x768 : Shape := ⟨3, ![1, 48, 768]⟩
abbrev S2x48x768 : Shape := ⟨3, ![2, 48, 768]⟩

abbrev nBuf : Space → Nat
  | .hbm => 22
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S2x1024x768, .f32⟩
  | .hbm, ⟨2, _⟩ => ⟨S2x768, .f32⟩
  | .hbm, ⟨3, _⟩ => ⟨S1x1024x768, .f32⟩
  | .hbm, ⟨4, _⟩ => ⟨S1024x768, .f32⟩
  | .hbm, ⟨5, _⟩ => ⟨S48x768, .f32⟩
  | .hbm, ⟨6, _⟩ => ⟨S1x768, .f32⟩
  | .hbm, ⟨7, _⟩ => ⟨S768, .f32⟩
  | .hbm, ⟨8, _⟩ => ⟨S1x768, .f32⟩
  | .hbm, ⟨9, _⟩ => ⟨S48x768, .f32⟩
  | .hbm, ⟨10, _⟩ => ⟨S48x768, .f32⟩
  | .hbm, ⟨11, _⟩ => ⟨S1x1024x768, .f32⟩
  | .hbm, ⟨12, _⟩ => ⟨S1024x768, .f32⟩
  | .hbm, ⟨13, _⟩ => ⟨S48x768, .f32⟩
  | .hbm, ⟨14, _⟩ => ⟨S1x768, .f32⟩
  | .hbm, ⟨15, _⟩ => ⟨S768, .f32⟩
  | .hbm, ⟨16, _⟩ => ⟨S1x768, .f32⟩
  | .hbm, ⟨17, _⟩ => ⟨S48x768, .f32⟩
  | .hbm, ⟨18, _⟩ => ⟨S48x768, .f32⟩
  | .hbm, ⟨19, _⟩ => ⟨S1x48x768, .f32⟩
  | .hbm, ⟨20, _⟩ => ⟨S1x48x768, .f32⟩
  | .hbm, ⟨21, _⟩ => ⟨S2x48x768, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel9.lean ====
abbrev S48x1024 : Shape := ⟨2, ![48, 1024]⟩
abbrev S2x48x768 : Shape := ⟨3, ![2, 48, 768]⟩
abbrev S2x8x768 : Shape := ⟨3, ![2, 8, 768]⟩
abbrev S2x1024x768 : Shape := ⟨3, ![2, 1024, 768]⟩
abbrev S2x8x1024 : Shape := ⟨3, ![2, 8, 1024]⟩
abbrev S1x48x768 : Shape := ⟨3, ![1, 48, 768]⟩
abbrev S1x8x768 : Shape := ⟨3, ![1, 8, 768]⟩
abbrev S1x1024x768 : Shape := ⟨3, ![1, 1024, 768]⟩
abbrev S1x8x1024 : Shape := ⟨3, ![1, 8, 1024]⟩
abbrev S48x768 : Shape := ⟨2, ![48, 768]⟩
abbrev S1024x768 : Shape := ⟨2, ![1024, 768]⟩
abbrev S8x768 : Shape := ⟨2, ![8, 768]⟩
abbrev S8x1024 : Shape := ⟨2, ![8, 1024]⟩

abbrev nBuf : Space → Nat
  | .hbm => 6
  | .vmem => 11
  | .smem => 0
  | _ => 0

abbrev bufTy : (tb : Table) → Fin (tcTables nBuf tb) → BufTy
  | .hbm, ⟨0, _⟩ => ⟨S48x1024, .f32⟩
  | .hbm, ⟨1, _⟩ => ⟨S2x48x768, .f32⟩
  | .hbm, ⟨2, _⟩ => ⟨S2x8x768, .f32⟩
  | .hbm, ⟨3, _⟩ => ⟨S2x1024x768, .f32⟩
  | .hbm, ⟨4, _⟩ => ⟨S2x1024x768, .f32⟩
  | .hbm, ⟨5, _⟩ => ⟨S2x8x1024, .f32⟩
  | .local _ .vmem, ⟨0, _⟩ => ⟨S48x1024, .f32⟩
  | .local _ .vmem, ⟨1, _⟩ => ⟨S1x48x768, .f32⟩
  | .local _ .vmem, ⟨2, _⟩ => ⟨S1x48x768, .f32⟩
  | .local _ .vmem, ⟨3, _⟩ => ⟨S1x8x768, .f32⟩
  | .local _ .vmem, ⟨4, _⟩ => ⟨S1x8x768, .f32⟩
  | .local _ .vmem, ⟨5, _⟩ => ⟨S1x1024x768, .f32⟩
  | .local _ .vmem, ⟨6, _⟩ => ⟨S1x1024x768, .f32⟩
  | .local _ .vmem, ⟨7, _⟩ => ⟨S1x1024x768, .f32⟩
  | .local _ .vmem, ⟨8, _⟩ => ⟨S1x1024x768, .f32⟩
  | .local _ .vmem, ⟨9, _⟩ => ⟨S1x8x1024, .f32⟩
  | .local _ .vmem, ⟨10, _⟩ => ⟨S1x8x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x48x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S48x1024 : Shape := ⟨2, ![48, 1024]⟩
abbrev S2x48x768 : Shape := ⟨3, ![2, 48, 768]⟩
abbrev S2x8x768 : Shape := ⟨3, ![2, 8, 768]⟩
abbrev S2x1024x768 : Shape := ⟨3, ![2, 1024, 768]⟩
abbrev S1x1024x768 : Shape := ⟨3, ![1, 1024, 768]⟩
abbrev S1024x768 : Shape := ⟨2, ![1024, 768]⟩
abbrev S48x768 : Shape := ⟨2, ![48, 768]⟩
abbrev S_ : Shape := ⟨0, ![]⟩
abbrev S8x1024 : Shape := ⟨2, ![8, 1024]⟩
abbrev S8x768 : Shape := ⟨2, ![8, 768]⟩
abbrev S1x48x768 : Shape := ⟨3, ![1, 48, 768]⟩
abbrev S768x1024 : Shape := ⟨2, ![768, 1024]⟩
abbrev S1x8x768 : Shape := ⟨3, ![1, 8, 768]⟩
abbrev S1x8x1024 : Shape := ⟨3, ![1, 8, 1024]⟩
abbrev S2x8x1024 : Shape := ⟨3, ![2, 8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S2x48x768, .f32⟩
  | .hbm, ⟨2, _⟩ => ⟨S2x8x768, .f32⟩
  | .hbm, ⟨3, _⟩ => ⟨S2x1024x768, .f32⟩
  | .hbm, ⟨4, _⟩ => ⟨S1x1024x768, .f32⟩
  | .hbm, ⟨5, _⟩ => ⟨S1024x768, .f32⟩
  | .hbm, ⟨6, _⟩ => ⟨S48x768, .f32⟩
  | .hbm, ⟨7, _⟩ => ⟨S_, .f32⟩
  | .hbm, ⟨8, _⟩ => ⟨S8x1024, .f32⟩
  | .hbm, ⟨9, _⟩ => ⟨S1x1024x768, .f32⟩
  | .hbm, ⟨10, _⟩ => ⟨S1024x768, .f32⟩
  | .hbm, ⟨11, _⟩ => ⟨S8x768, .f32⟩
  | .hbm, ⟨12, _⟩ => ⟨S1x48x768, .f32⟩
  | .hbm, ⟨13, _⟩ => ⟨S48x768, .f32⟩
  | .hbm, ⟨14, _⟩ => ⟨S768x1024, .f32⟩
  | .hbm, ⟨15, _⟩ => ⟨S1024x768, .f32⟩
  | .hbm, ⟨16, _⟩ => ⟨S1x8x768, .f32⟩
  | .hbm, ⟨17, _⟩ => ⟨S8x768, .f32⟩
  | .hbm, ⟨18, _⟩ => ⟨S8x1024, .f32⟩
  | .hbm, ⟨19, _⟩ => ⟨S1x1024x768, .f32⟩
  | .hbm, ⟨20, _⟩ => ⟨S1024x768, .f32⟩
  | .hbm, ⟨21, _⟩ => ⟨S48x768, .f32⟩
  | .hbm, ⟨22, _⟩ => ⟨S_, .f32⟩
  | .hbm, ⟨23, _⟩ => ⟨S8x1024, .f32⟩
  | .hbm, ⟨24, _⟩ => ⟨S1x1024x768, .f32⟩
  | .hbm, ⟨25, _⟩ => ⟨S1024x768, .f32⟩
  | .hbm, ⟨26, _⟩ => ⟨S8x768, .f32⟩
  | .hbm, ⟨27, _⟩ => ⟨S1x48x768, .f32⟩
  | .hbm, ⟨28, _⟩ => ⟨S48x768, .f32⟩
  | .hbm, ⟨29, _⟩ => ⟨S768x1024, .f32⟩
  | .hbm, ⟨30, _⟩ => ⟨S1024x768, .f32⟩
  | .hbm, ⟨31, _⟩ => ⟨S1x8x768, .f32⟩
  | .hbm, ⟨32, _⟩ => ⟨S8x768, .f32⟩
  | .hbm, ⟨33, _⟩ => ⟨S8x1024, .f32⟩
  | .hbm, ⟨34, _⟩ => ⟨S1x1024x768, .f32⟩
  | .hbm, ⟨35, _⟩ => ⟨S1x1024x768, .f32⟩
  | .hbm, ⟨36, _⟩ => ⟨S2x1024x768, .f32⟩
  | .hbm, ⟨37, _⟩ => ⟨S1x8x1024, .f32⟩
  | .hbm, ⟨38, _⟩ => ⟨S1x8x1024, .f32⟩
  | .hbm, ⟨39, _⟩ => ⟨S2x8x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel10.lean ====
abbrev S2x1024x768 : Shape := ⟨3, ![2, 1024, 768]⟩
abbrev S1x2x1024x768 : Shape := ⟨4, ![1, 2, 1024, 768]⟩
abbrev S1x512x768 : Shape := ⟨3, ![1, 512, 768]⟩
abbrev S1x1x512x768 : Shape := ⟨4, ![1, 1, 512, 768]⟩
abbrev S512x768 : Shape := ⟨2, ![512, 768]⟩

abbrev nBuf : Space → Nat
  | .hbm => 9
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S1x2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .local _ .vmem, ⟨0, _⟩ => ⟨S1x512x768, .f32⟩
  | .local _ .vmem, ⟨1, _⟩ => ⟨S1x512x768, .f32⟩
  | .local _ .vmem, ⟨2, _⟩ => ⟨S1x1x512x768, .f32⟩
  | .local _ .vmem, ⟨3, _⟩ => ⟨S1x1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference10Ideal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S2x352x1024 : Shape := ⟨3, ![2, 352, 1024]⟩
abbrev S8x1x352x1024 : Shape := ⟨4, ![8, 1, 352, 1024]⟩
abbrev S1x32x1024 : Shape := ⟨3, ![1, 32, 1024]⟩
abbrev S8x1x32x1024 : Shape := ⟨4, ![8, 1, 32, 1024]⟩
abbrev S1x1x32x1024 : Shape := ⟨4, ![1, 1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x352x1024, .f32⟩
  | .hbm, ⟨1, _⟩ => ⟨S8x1x352x1024, .bf16⟩
  | .hbm, ⟨2, _⟩ => ⟨S8x1x352x1024, .bf16⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S1x32x1024, .f32⟩
  | .local _ .vmem, ⟨1, _⟩ => ⟨S1x32x1024, .f32⟩
  | .local _ .vmem, ⟨2, _⟩ => ⟨S8x1x32x1024, .bf16⟩
  | .local _ .vmem, ⟨3, _⟩ => ⟨S8x1x32x1024, .bf16⟩
  | .local _ .vmem, ⟨4, _⟩ => ⟨S8x1x32x1024, .bf16⟩
  | .local _ .vmem, ⟨5, _⟩ => ⟨S8x1x32x1024, .bf16⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S2x352x1024 : Shape := ⟨3, ![2, 352, 1024]⟩
abbrev S8x1x352x1024 : Shape := ⟨4, ![8, 1, 352, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S8x1x352x1024, .bf16⟩
  | .hbm, ⟨2, _⟩ => ⟨S8x1x352x1024, .bf16⟩
  | .hbm, ⟨3, _⟩ => ⟨S2x352x1024, .f32⟩
  | .hbm, ⟨4, _⟩ => ⟨S2x352x1024, .f32⟩
  | .hbm, ⟨5, _⟩ => ⟨S8x352x1024, .bf16⟩
  | .hbm, ⟨6, _⟩ => ⟨S8x352x1024, .f32⟩
  | .hbm, ⟨7, _⟩ => ⟨S_, .f32⟩
  | .hbm, ⟨8, _⟩ => ⟨S352x1024, .f32⟩
  | .hbm, ⟨9, _⟩ => ⟨S8x352x1024, .bf16⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S1x352x1024, .f32⟩
  | .hbm, ⟨14, _⟩ => ⟨S1x352x1024, .f32⟩
  | .hbm, ⟨15, _⟩ => ⟨S2x352x1024, .f32⟩
  | .hbm, ⟨16, _⟩ => ⟨S_, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S2x352x1024, .f32⟩
  | .hbm, ⟨31, _⟩ => ⟨S_, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S2x352x1024, .f32⟩
  | .hbm, ⟨46, _⟩ => ⟨S_, .f32⟩
  | .hbm, ⟨47, _⟩ => ⟨S2x352x1024, .f32⟩
  | .hbm, ⟨48, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel12.lean ====
abbrev S4x2304x1024 : Shape := ⟨3, ![4, 2304, 1024]⟩
abbrev S4x2048x1024 : Shape := ⟨3, ![4, 2048, 1024]⟩
abbrev S4x9x8x128 : Shape := ⟨4, ![4, 9, 8, 128]⟩
abbrev S1x256x1024 : Shape := ⟨3, ![1, 256, 1024]⟩
abbrev S1x1x8x128 : Shape := ⟨4, ![1, 1, 8, 128]⟩
abbrev S256x1024 : Shape := ⟨2, ![256, 1024]⟩
abbrev S8x128 : Shape := ⟨2, ![8, 128]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x1024, .f32⟩
  | .hbm, ⟨1, _⟩ => ⟨S4x2048x1024, .f32⟩
  | .hbm, ⟨2, _⟩ => ⟨S4x2304x1024, .f32⟩
  | .hbm, ⟨3, _⟩ => ⟨S4x9x8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x8x128, .f32⟩
  | .local _ .vmem, ⟨7, _⟩ => ⟨S1x1x8x128, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S4x2304x1024 : Shape := ⟨3, ![4, 2304, 1024]⟩
abbrev S4x2048x1024 : Shape := ⟨3, ![4, 2048, 1024]⟩
abbrev S_ : Shape := ⟨0, ![]⟩
abbrev S4x2048 : Shape := ⟨2, ![4, 2048]⟩
abbrev S4x8x256 : Shape := ⟨3, ![4, 8, 256]⟩
abbrev S4x8 : Shape := ⟨2, ![4, 8]⟩
abbrev S4x9 : Shape := ⟨2, ![4, 9]⟩
abbrev S4x9x1x1 : Shape := ⟨4, ![4, 9, 1, 1]⟩
abbrev S4x9x8x128 : Shape := ⟨4, ![4, 9, 8, 128]⟩

abbrev nBuf : Space → Nat
  | .hbm => 38
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S4x2048x1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x8x256, .f32⟩
  | .hbm, ⟨14, _⟩ => ⟨S_, .f32⟩
  | .hbm, ⟨15, _⟩ => ⟨S4x8, .f32⟩
  | .hbm, ⟨16, _⟩ => ⟨S_, .f32⟩
  | .hbm, ⟨17, _⟩ => ⟨S4x8, .f32⟩
  | .hbm, ⟨18, _⟩ => ⟨S4x8, .f32⟩
  | .hbm, ⟨19, _⟩ => ⟨S_, .i32⟩
  | .hbm, ⟨20, _⟩ => ⟨S_, .f32⟩
  | .hbm, ⟨21, _⟩ => ⟨S4x9, .f32⟩
  | .hbm, ⟨22, _⟩ => ⟨S_, .f32⟩
  | .hbm, ⟨23, _⟩ => ⟨S4x8, .f32⟩
  | .hbm, ⟨24, _⟩ => ⟨S_, .f32⟩
  | .hbm, ⟨25, _⟩ => ⟨S4x8, .f32⟩
  | .hbm, ⟨26, _⟩ => ⟨S4x8, .f32⟩
  | .hbm, ⟨27, _⟩ => ⟨S4x8x256, .f32⟩
  | .hbm, ⟨28, _⟩ => ⟨S4x2048, .f32⟩
  | .hbm, ⟨29, _⟩ => ⟨S_, .f32⟩
  | .hbm, ⟨30, _⟩ => ⟨S4x2048, .f32⟩
  | .hbm, ⟨31, _⟩ => ⟨S4x2048, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2304x1024, .f32⟩
  | .hbm, ⟨36, _⟩ => ⟨S4x9x1x1, .f32⟩
  | .hbm, ⟨37, _⟩ => ⟨S4x9x8x128, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== Proof.FfnVals.lean ====
/- What one run of the feed-forward gradient body leaves in each buffer, as functions of the blocks it reads. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The token tile's number, as the body's index word. -/
abbrev tileWord (i : grid0.Coords) : BitVec 32 := BitVec.ofNat 32 (i 1).val

/-- Whether the tile is the first one, as the body's truth word. -/
abbrev firstTile (i : grid0.Coords) : BitVec 1 := Scalar.cmpi .eq (tileWord i) 0#32

/-- The output gate row of the latent tokens. -/
abbrev latGate (x5 : Vec F S1x2x8x1024 .f32) : Vec F S1x1x1x1024 .f32 :=
  View.ld x5 (Rect.unit (s := S1x2x8x1024) ![0, 1, 5, 0] S1x1x1x1024.size inb_S1x2x8x1024_S1x1x1x1024_0_1_5_0)

/-- The output gate row of the context tokens. -/
abbrev ctxGate (x5 : Vec F S1x2x8x1024 .f32) : Vec F S1x1x1x1024 .f32 :=
  View.ld x5 (Rect.unit (s := S1x2x8x1024) ![0, 0, 5, 0] S1x1x1x1024.size inb_S1x2x8x1024_S1x1x1x1024_0_0_5_0)

/-- The input shift row of the latent tokens. -/
abbrev latShift (x5 : Vec F S1x2x8x1024 .f32) : Vec F S1x1x1x1024 .f32 :=
  View.ld x5 (Rect.unit (s := S1x2x8x1024) ![0, 1, 3, 0] S1x1x1x1024.size inb_S1x2x8x1024_S1x1x1x1024_0_1_3_0)

/-- The input shift row of the context tokens. -/
abbrev ctxShift (x5 : Vec F S1x2x8x1024 .f32) : Vec F S1x1x1x1024 .f32 :=
  View.ld x5 (Rect.unit (s := S1x2x8x1024) ![0, 0, 3, 0] S1x1x1x1024.size inb_S1x2x8x1024_S1x1x1x1024_0_0_3_0)

/-- The input scale row of the latent tokens. -/
abbrev latScale (x5 : Vec F S1x2x8x1024 .f32) : Vec F S1x1x1x1024 .f32 :=
  View.ld x5 (Rect.unit (s := S1x2x8x1024) ![0, 1, 4, 0] S1x1x1x1024.size inb_S1x2x8x1024_S1x1x1x1024_0_1_4_0)

/-- The input scale row of the context tokens. -/
abbrev ctxScale (x5 : Vec F S1x2x8x1024 .f32) : Vec F S1x1x1x1024 .f32 :=
  View.ld x5 (Rect.unit (s := S1x2x8x1024) ![0, 0, 4, 0] S1x1x1x1024.size inb_S1x2x8x1024_S1x1x1x1024_0_0_4_0)

/-- The gradient at the down product's result, unrounded. -/
def dfWide (i : grid0.Coords) (x0 x2 : Vec F S1x768x1024 .f32) (x5 : Vec F S1x2x8x1024 .f32) (x7 : Vec F S1x1024 .f32) : FVec F S768x1024 .f32 :=
  k0_pay16 (tileWord i) (k0_pay5 x0) x7 (k0_pay7 x2) (k0_pay8 x2) (latGate x5) (ctxGate x5)

/-- The same, rounded, as the scratch keeps it. -/
def dfKept (i : grid0.Coords) (x0 x2 : Vec F S1x768x1024 .f32) (x5 : Vec F S1x2x8x1024 .f32) (x7 : Vec F S1x1024 .f32) : Vec F S768x1024 .bf16 :=
  k0_pay18 (dfWide i x0 x2 x5 x7)

/-- The same, rounded, as the result takes it. -/
def dfOut (i : grid0.Coords) (x0 x2 : Vec F S1x768x1024 .f32) (x5 : Vec F S1x2x8x1024 .f32) (x7 : Vec F S1x1024 .f32) : Vec F S1x768x1024 .bf16 :=
  k0_pay19 (dfWide i x0 x2 x5 x7)

/-- The modulated normalised input. -/
def hOut (i : grid0.Coords) (x1 : Vec F S1x768x1024 .f32) (x5 : Vec F S1x2x8x1024 .f32) (x6 : Vec F S1x1024 .f32) : Vec F S1x768x1024 .bf16 :=
  k0_pay24 (k0_pay20 x1) x6 (k0_pay21 (latShift x5)) (k0_pay22 (tileWord i) (latShift x5) (ctxShift x5)) (k0_pay23 (latScale x5)) (firstTile i) (ctxScale x5)

/-- The column sums after the first pass of a tile: zero but for the rows of the output gate and of the second norm's gain. -/
def sumsFirst (i : grid0.Coords) (x0 x2 : Vec F S1x768x1024 .f32) (x5 : Vec F S1x2x8x1024 .f32) (x7 : Vec F S1x1024 .f32) : Vec F S1x1x8x1024 .f32 :=
  VecWindow.put (VecWindow.put (VecWindow.put (k0_pay9 (F := F)) ![0, 0, 2, 0] S1x1x1x1024.size (k0_pay12 (tileWord i) x0 x7 x2))
    ![0, 0, 7, 0] S1x1x1x1024.size (k0_pay13 (k0_pay11 x0 x7 x2) (firstTile i)))
    ![0, 0, 4, 0] S1x1x1x1024.size (k0_pay15 (tileWord i) (k0_pay5 x0) (k0_pay8 x2) (latGate x5) (ctxGate x5))

/-- The column sums after the last pass: the other rows put in. -/
def sumsLast (i : grid0.Coords) (s : Vec F S1x1x8x1024 .f32) (x1 : Vec F S1x768x1024 .f32) (x5 : Vec F S1x2x8x1024 .f32) (x6 : Vec F S1x1024 .f32)
    (a : Vec F S768x1024 .f32) : Vec F S1x1x8x1024 .f32 :=
  VecWindow.put (VecWindow.put (VecWindow.put (VecWindow.put (VecWindow.put s
    ![0, 0, 0, 0] S1x1x1x1024.size (k0_pay35 (tileWord i) (k0_pay33 a) (k0_pay34 a)))
    ![0, 0, 5, 0] S1x1x1x1024.size (k0_pay36 (tileWord i) (k0_pay34 a)))
    ![0, 0, 1, 0] S1x1x1x1024.size (k0_pay39 (tileWord i) a (k0_pay31 x1 x6)))
    ![0, 0, 6, 0] S1x1x1x1024.size (k0_pay40 (tileWord i) a (k0_pay31 x1 x6)))
    ![0, 0, 3, 0] S1x1x1x1024.size (k0_pay3 (k0_pay30 x1) (k0_pay32 (tileWord i) a (latScale x5) (ctxScale x5)))

/-- The gradient at the sublayer's input. -/
def dxOut (i : grid0.Coords) (x0 x1 : Vec F S1x768x1024 .f32) (x5 : Vec F S1x2x8x1024 .f32) (x6 : Vec F S1x1024 .f32)
    (a : Vec F S768x1024 .f32) : Vec F S1x768x1024 .f32 :=
  k0_pay4 (k0_pay29 x1) (k0_pay30 x1) x6 (k0_pay32 (tileWord i) a (latScale x5) (ctxScale x5)) x0

/-- A whole overwrite leaves the written contents. -/
theorem put_whole (x w : Vec F S1x1x8x1024 .f32) : VecWindow.put x ![0, 0, 0, 0] S1x1x8x1024.size w = w := by
  have hz4 : (![0, 0, 0, 0] : Fin 4 → ℕ) = fun _ => 0 := by funext a; fin_cases a <;> rfl
  exact (View.ld_unit_zero (S := S1x1x8x1024) hz4 inb_S1x1x8x1024_S1x1x8x1024_0_0_0_0 (VecWindow.put x ![0, 0, 0, 0] S1x1x8x1024.size w)).symm.trans
    (VecWindow.window_put_same x ![0, 0, 0, 0] S1x1x8x1024.size inb_S1x1x8x1024_S1x1x8x1024_0_0_0_0 w)

/-- The slot of a two-slot scratch that a point reads. -/
abbrev slotRead (i : grid0.Coords) (xs : Vec F S2x768x256 .bf16) : Vec F S1x768x256 .bf16 :=
  VecWindow.window xs (k0_off1 i) S1x768x256.size (k0_off1_inb i)

/-- The slot that a point writes. -/
abbrev slotWritten (i : grid0.Coords) (xs : Vec F S2x768x256 .bf16) : Vec F S1x768x256 .bf16 :=
  VecWindow.window xs (k0_off2 i) S1x768x256.size (k0_off2_inb i)

/-- The scratch with that slot overwritten. -/
abbrev slotPut (i : grid0.Coords) (xs : Vec F S2x768x256 .bf16) (w : Vec F S1x768x256 .bf16) : Vec F S2x768x256 .bf16 :=
  VecWindow.put xs (k0_off2 i) S1x768x256.size w

end Cert.FfnGrad

end
-- ==== Proof.FfnMath.lean ====
/- The feed-forward sublayer's gradient, entry by entry, and the two equalities of calculus that it needs. -/
module

public import Idealize.ShloMosaic.Lib.Pointwise

@[expose] public section

noncomputable section

namespace Cert.FfnGrad

open Idealize.ShloMosaic

/-! ## Extended reals that are real -/

/-- The value is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals is the real sum. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

theorem isReal_one : IsReal 1 := ⟨1, rfl⟩

/-- Below infinity in absolute value is real. -/
theorem isReal_of_abs (x : EReal) (h : max x (-x) < ⊤) : IsReal x := by
  induction x with
  | bot => simp at h
  | top => simp at h
  | coe r => exact ⟨r, rfl⟩

/-- Division of reals by a nonzero real. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul]
  rfl

/-! ## The constants -/

/-- The guard under the root. -/
def eps : EReal := Ideal.ofBits .f32 897988541#32
/-- The width of a token's vector. -/
def width : EReal := Ideal.ofBits .f32 1149239296#32

theorem width_eq : width = ((1024 : ℝ) : EReal) := by
  unfold width Ideal.ofBits Ideal.ieee
  norm_num [show BitVec.extractLsb' 31 1 1149239296#32 = 0#1 by decide, Nat.shiftRight_eq_div_pow]

theorem half_eq : Ideal.ofBits .f32 3204448256#32 = ((-(1 / 2) : ℝ) : EReal) := by
  unfold Ideal.ofBits Ideal.ieee
  norm_num [show BitVec.extractLsb' 31 1 3204448256#32 = 1#1 by decide, Nat.shiftRight_eq_div_pow]

theorem eps_pos : ∃ e : ℝ, 0 < e ∧ eps = e := by
  refine ⟨8796093 * 2 ^ (-43 : ℤ), by positivity, ?_⟩
  unfold eps Ideal.ofBits Ideal.ieee
  norm_num [show BitVec.extractLsb' 31 1 897988541#32 = 0#1 by decide, Nat.shiftRight_eq_div_pow]

/-! ## The root mean square -/

/-- The mean square of a token's vector, guarded. -/
def meanSq (v : Fin 1024 → EReal) : EReal := Ideal.div (∑ d, v d * v d) width + eps
/-- Its inverse root. -/
def invRms (v : Fin 1024 → EReal) : EReal := Ideal.rsqrt (meanSq v)
/-- The gradient of `v ↦ v · invRms v`, given the inverse root, the normalised vector and the gradient at it. -/
def normBack (r : EReal) (vn g : Fin 1024 → EReal) (d : Fin 1024) : EReal :=
  r * (g d - vn d * Ideal.div (∑ j, g j * vn j) width)

/-- The guarded mean square of a real vector is a positive real, and its inverse root the real one. -/
theorem meanSq_real (v : Fin 1024 → ℝ) : ∃ q : ℝ, 0 < q ∧ meanSq (fun d => (v d : EReal)) = (q * q : ℝ) ∧ invRms (fun d => (v d : EReal)) = ((q⁻¹ : ℝ) : EReal) := by
  obtain ⟨e, he, hee⟩ := eps_pos
  have hp : 0 < (∑ d, v d * v d) / 1024 + e := add_pos_of_nonneg_of_pos (div_nonneg (Finset.sum_nonneg fun d _ => mul_self_nonneg _) (by norm_num)) he
  have hm : meanSq (fun d => (v d : EReal)) = (((∑ d, v d * v d) / 1024 + e : ℝ) : EReal) := by
    unfold meanSq
    simp only [← EReal.coe_mul]
    rw [sum_coe, width_eq, div_coe _ _ (by norm_num), hee, ← EReal.coe_add]
  refine ⟨Real.sqrt ((∑ d, v d * v d) / 1024 + e), Real.sqrt_pos.mpr hp, ?_, ?_⟩
  · rw [hm, Real.mul_self_sqrt hp.le]
  · unfold invRms
    rw [hm]
    show (if _ < (0 : ℝ) then _ else _) = _
    rw [if_neg (not_lt.mpr hp.le), if_neg hp.ne']

theorem isReal_invRms (v : Fin 1024 → EReal) (hv : ∀ d, IsReal (v d)) : IsReal (invRms v) := by
  choose a ha using hv
  obtain rfl : v = fun d => (a d : EReal) := funext ha
  obtain ⟨q, -, -, h⟩ := meanSq_real a
  exact ⟨_, h⟩

theorem IsReal.div_width {x : EReal} (hx : IsReal x) : IsReal (Ideal.div x width) := by
  obtain ⟨a, rfl⟩ := hx; rw [width_eq, div_coe _ _ (by norm_num)]; exact ⟨_, rfl⟩

theorem isReal_normBack {r : EReal} {vn g : Fin 1024 → EReal} (hr : IsReal r) (hv : ∀ d, IsReal (vn d)) (hg : ∀ d, IsReal (g d)) (d : Fin 1024) :
    IsReal (normBack r vn g d) :=
  hr.mul ((hg d).sub ((hv d).mul (IsReal.sum _ fun j => (hg j).mul (hv j)).div_width))

/-- The gradient of the normalisation as the product rule spells it: the gradient times the inverse root, plus the
    vector times the gradient through the mean square, once for each of the square's factors. -/
theorem normBack_eq (v g : Fin 1024 → EReal) (hv : ∀ d, IsReal (v d)) (hg : ∀ d, IsReal (g d)) (d : Fin 1024) :
    g d * invRms v
        + v d * Ideal.div ((∑ j, v j * g j) * (Ideal.ofBits .f32 3204448256#32 * Ideal.div (invRms v) (meanSq v))) width
        + Ideal.div ((∑ j, v j * g j) * (Ideal.ofBits .f32 3204448256#32 * Ideal.div (invRms v) (meanSq v))) width * v d
      = normBack (invRms v) (fun d => v d * invRms v) g d := by
  choose a ha using hv
  choose b hb using hg
  obtain rfl : v = fun d => (a d : EReal) := funext ha
  obtain rfl : g = fun d => (b d : EReal) := funext hb
  obtain ⟨q, hq, hm, hr⟩ := meanSq_real a
  unfold normBack
  rw [hm, hr, half_eq, width_eq, div_coe _ _ (by positivity)]
  simp only [← EReal.coe_mul]
  rw [sum_coe, sum_coe]
  simp only [← EReal.coe_mul]
  rw [div_coe _ _ (by norm_num), div_coe _ _ (by norm_num)]
  simp only [← EReal.coe_mul, ← EReal.coe_add, ← EReal.coe_sub]
  congr 1
  have e : ∑ j, b j * (a j * q⁻¹) = (∑ j, a j * b j) * q⁻¹ := by
    rw [Finset.sum_mul]; exact Finset.sum_congr rfl fun j _ => by ring
  rw [e]
  field_simp
  ring

/-! ## The gate -/

theorem logistic_real (g : ℝ) : ∃ s : ℝ, Ideal.logistic (g : EReal) = s := by
  refine ⟨1 / (1 + Real.exp (-g)), ?_⟩
  unfold Ideal.logistic
  rw [← EReal.coe_neg]
  show Ideal.div 1 (1 + ((Real.exp (-g) : ℝ) : EReal)) = _
  rw [← EReal.coe_one, ← EReal.coe_add, div_coe _ _ (by positivity)]

/-- The gate's gradient as the product rule spells it. -/
theorem gateBack_eq (g p : EReal) (hg : IsReal g) (hp : IsReal p) :
    p * Ideal.logistic g + g * p * (Ideal.logistic g * (1 - Ideal.logistic g)) = p * (Ideal.logistic g * (1 + g * (1 - Ideal.logistic g))) := by
  obtain ⟨a, rfl⟩ := hg
  obtain ⟨b, rfl⟩ := hp
  obtain ⟨s, hs⟩ := logistic_real a
  rw [hs, ← EReal.coe_one]
  simp only [← EReal.coe_mul, ← EReal.coe_add, ← EReal.coe_sub]
  congr 1
  ring

theorem IsReal.logistic {g : EReal} (hg : IsReal g) : IsReal (Ideal.logistic g) := by
  obtain ⟨a, rfl⟩ := hg; exact logistic_real a

/-! ## The sublayer -/

/-- The arguments' entries: the gradient at the output, the input, the modulation rows, the norms' gains, the weights. -/
structure Args where
  dx : Fin 4 → Fin 2304 → Fin 1024 → EReal
  x : Fin 4 → Fin 2304 → Fin 1024 → EReal
  mod : Fin 4 → Fin 2 → Fin 8 → Fin 1024 → EReal
  n3 : Fin 1024 → EReal
  n4 : Fin 1024 → EReal
  wg : Fin 1024 → Fin 2816 → EReal
  wu : Fin 1024 → Fin 2816 → EReal
  wd : Fin 2816 → Fin 1024 → EReal

namespace Args

variable (A : Args)

/-- Row `j` of the modulation, of the token's kind: the first 256 tokens are context, the others latent. -/
def row (j : Fin 8) (b : Fin 4) (s : Fin 2304) (d : Fin 1024) : EReal := if s.val < 256 then A.mod b 0 j d else A.mod b 1 j d
/-- The normalised input. -/
def xn (b : Fin 4) (s : Fin 2304) (d : Fin 1024) : EReal := A.x b s d * invRms (A.x b s)
/-- The normalised input with its gain. -/
def xg (b : Fin 4) (s : Fin 2304) (d : Fin 1024) : EReal := A.xn b s d * A.n3 d
/-- The modulated input. -/
def h (b : Fin 4) (s : Fin 2304) (d : Fin 1024) : EReal := A.xg b s d * (1 + A.row 4 b s d) + A.row 3 b s d
/-- The gate's product. -/
def gate (b : Fin 4) (s : Fin 2304) (k : Fin 2816) : EReal := ∑ d, A.h b s d * A.wg d k
/-- The up product. -/
def up (b : Fin 4) (s : Fin 2304) (k : Fin 2816) : EReal := ∑ d, A.h b s d * A.wu d k
/-- The gate through its nonlinearity. -/
def silu (b : Fin 4) (s : Fin 2304) (k : Fin 2816) : EReal := A.gate b s k * Ideal.logistic (A.gate b s k)
/-- The gated product. -/
def act (b : Fin 4) (s : Fin 2304) (k : Fin 2816) : EReal := A.silu b s k * A.up b s k
/-- The down product. -/
def f (b : Fin 4) (s : Fin 2304) (d : Fin 1024) : EReal := ∑ k, A.act b s k * A.wd k d
/-- The down product normalised. -/
def fn (b : Fin 4) (s : Fin 2304) (d : Fin 1024) : EReal := A.f b s d * invRms (A.f b s)
/-- The gradient at the gated output. -/
def dxg (b : Fin 4) (s : Fin 2304) (d : Fin 1024) : EReal := A.dx b s d * A.row 5 b s d
/-- The gradient at the normalised down product. -/
def dfn (b : Fin 4) (s : Fin 2304) (d : Fin 1024) : EReal := A.dxg b s d * A.n4 d
/-- The gradient at the down product. -/
def df (b : Fin 4) (s : Fin 2304) (d : Fin 1024) : EReal := normBack (invRms (A.f b s)) (A.fn b s) (A.dfn b s) d
/-- The gradient at the gated product. -/
def dact (b : Fin 4) (s : Fin 2304) (k : Fin 2816) : EReal := ∑ d, A.df b s d * A.wd k d
/-- The gradient at the gate's product. -/
def dgate (b : Fin 4) (s : Fin 2304) (k : Fin 2816) : EReal :=
  A.dact b s k * A.up b s k * (Ideal.logistic (A.gate b s k) * (1 + A.gate b s k * (1 - Ideal.logistic (A.gate b s k))))
/-- The gradient at the up product. -/
def dup (b : Fin 4) (s : Fin 2304) (k : Fin 2816) : EReal := A.dact b s k * A.silu b s k
/-- The gradient at the modulated input. -/
def dh (b : Fin 4) (s : Fin 2304) (d : Fin 1024) : EReal := ∑ k, A.dgate b s k * A.wg d k + ∑ k, A.dup b s k * A.wu d k
/-- The gradient at the normalised input with its gain. -/
def dyv (b : Fin 4) (s : Fin 2304) (d : Fin 1024) : EReal := A.dh b s d * (1 + A.row 4 b s d)
/-- The gradient at the normalised input. -/
def dxn (b : Fin 4) (s : Fin 2304) (d : Fin 1024) : EReal := A.dyv b s d * A.n3 d
/-- The gradient at the input. -/
def dx1 (b : Fin 4) (s : Fin 2304) (d : Fin 1024) : EReal := A.dx b s d + normBack (invRms (A.x b s)) (A.xn b s) (A.dxn b s) d

/-- Token `r` of tile `j`. -/
def tok (j : Fin 3) (r : Fin 768) : Fin 2304 := ⟨768 * j.val + r.val, by omega⟩
/-- A tile's sum. -/
def tileSum (v : Fin 4 → Fin 2304 → Fin 1024 → EReal) (b : Fin 4) (j : Fin 3) (d : Fin 1024) : EReal := ∑ r, v b (tok j r) d
/-- A quantity at the context tokens alone. -/
def context (v : Fin 4 → Fin 2304 → Fin 1024 → EReal) (b : Fin 4) (s : Fin 2304) (d : Fin 1024) : EReal := if s.val < 256 then v b s d else 0
/-- A quantity at the latent tokens alone. -/
def latent (v : Fin 4 → Fin 2304 → Fin 1024 → EReal) (b : Fin 4) (s : Fin 2304) (d : Fin 1024) : EReal := if s.val < 256 then 0 else v b s d

/-- The gradient at the scale, token by token. -/
def dscale (b : Fin 4) (s : Fin 2304) (d : Fin 1024) : EReal := A.dh b s d * A.xg b s d
/-- The gradient at the output gate. -/
def dg2 (b : Fin 4) (s : Fin 2304) (d : Fin 1024) : EReal := A.dx b s d * (A.fn b s d * A.n4 d)
/-- The gradient at the first norm's gain. -/
def dn3 (b : Fin 4) (s : Fin 2304) (d : Fin 1024) : EReal := A.dyv b s d * A.xn b s d
/-- The gradient at the second norm's gain. -/
def dn4 (b : Fin 4) (s : Fin 2304) (d : Fin 1024) : EReal := A.dxg b s d * A.fn b s d

/-- The tile sums, row by row: shift, scale and output gate at the latent tokens, the two gains, then the first three at
    the context tokens. -/
def st (b : Fin 4) (j : Fin 3) (i : Fin 8) (d : Fin 1024) : EReal :=
  match i with
  | 0 => tileSum (latent A.dh) b j d
  | 1 => tileSum (latent A.dscale) b j d
  | 2 => tileSum (latent A.dg2) b j d
  | 3 => tileSum A.dn3 b j d
  | 4 => tileSum A.dn4 b j d
  | 5 => tileSum (context A.dh) b j d
  | 6 => tileSum (context A.dscale) b j d
  | 7 => tileSum (context A.dg2) b j d

/-- Every argument's entry is real. -/
structure Real : Prop where
  dx : ∀ b s d, IsReal (A.dx b s d)
  x : ∀ b s d, IsReal (A.x b s d)
  mod : ∀ b k j d, IsReal (A.mod b k j d)
  n3 : ∀ d, IsReal (A.n3 d)
  n4 : ∀ d, IsReal (A.n4 d)
  wg : ∀ d k, IsReal (A.wg d k)
  wu : ∀ d k, IsReal (A.wu d k)
  wd : ∀ k d, IsReal (A.wd k d)

namespace Real

variable {A} (H : A.Real)
include H

theorem row (j : Fin 8) (b : Fin 4) (s : Fin 2304) (d : Fin 1024) : IsReal (A.row j b s d) := by
  unfold Args.row; split <;> exact H.mod _ _ _ _
theorem xn (b : Fin 4) (s : Fin 2304) (d : Fin 1024) : IsReal (A.xn b s d) := (H.x b s d).mul (isReal_invRms _ (H.x b s))
theorem h (b : Fin 4) (s : Fin 2304) (d : Fin 1024) : IsReal (A.h b s d) :=
  (((H.xn b s d).mul (H.n3 d)).mul (isReal_one.add (H.row 4 b s d))).add (H.row 3 b s d)
theorem gate (b : Fin 4) (s : Fin 2304) (k : Fin 2816) : IsReal (A.gate b s k) := IsReal.sum _ fun d => (H.h b s d).mul (H.wg d k)
theorem up (b : Fin 4) (s : Fin 2304) (k : Fin 2816) : IsReal (A.up b s k) := IsReal.sum _ fun d => (H.h b s d).mul (H.wu d k)
theorem silu (b : Fin 4) (s : Fin 2304) (k : Fin 2816) : IsReal (A.silu b s k) := (H.gate b s k).mul (H.gate b s k).logistic
theorem f (b : Fin 4) (s : Fin 2304) (d : Fin 1024) : IsReal (A.f b s d) :=
  IsReal.sum _ fun k => ((H.silu b s k).mul (H.up b s k)).mul (H.wd k d)
theorem dfn (b : Fin 4) (s : Fin 2304) (d : Fin 1024) : IsReal (A.dfn b s d) := ((H.dx b s d).mul (H.row 5 b s d)).mul (H.n4 d)
theorem df (b : Fin 4) (s : Fin 2304) (d : Fin 1024) : IsReal (A.df b s d) :=
  isReal_normBack (isReal_invRms _ (H.f b s)) (fun d => (H.f b s d).mul (isReal_invRms _ (H.f b s))) (H.dfn b s) d
theorem dact (b : Fin 4) (s : Fin 2304) (k : Fin 2816) : IsReal (A.dact b s k) := IsReal.sum _ fun d => (H.df b s d).mul (H.wd k d)
theorem dgate (b : Fin 4) (s : Fin 2304) (k : Fin 2816) : IsReal (A.dgate b s k) :=
  ((H.dact b s k).mul (H.up b s k)).mul ((H.gate b s k).logistic.mul (isReal_one.add ((H.gate b s k).mul (isReal_one.sub (H.gate b s k).logistic))))
theorem dh (b : Fin 4) (s : Fin 2304) (d : Fin 1024) : IsReal (A.dh b s d) :=
  (IsReal.sum _ fun k => (H.dgate b s k).mul (H.wg d k)).add (IsReal.sum _ fun k => ((H.dact b s k).mul (H.silu b s k)).mul (H.wu d k))
theorem dxn (b : Fin 4) (s : Fin 2304) (d : Fin 1024) : IsReal (A.dxn b s d) := ((H.dh b s d).mul (isReal_one.add (H.row 4 b s d))).mul (H.n3 d)

end Real

end Args

end Cert.FfnGrad

end
-- ==== Proof.FfnPayA.lean ====
/- The body's layout and norm pieces, entry by entry. -/
module

public import proofs.«01_k».proof.Proof.FfnVals
public import proofs.«01_k».proof.Proof.FfnMath
public import Idealize.ShloMosaic.Lib.Pointwise
public import Idealize.ShloMosaic.Lib.Pipeline.Value
public import Idealize.ShloMosaic.Lib.Tactic

@[expose] public section

set_option maxRecDepth 16384

noncomputable section

namespace Cert.FfnGrad

open Idealize.ShloMosaic Idealize.ShloMosaic.TcCoe Idealize.SL.Sem Cert.KernelIdeal Cert.KernelIdeal.Gen

/-! ## The first tile -/

theorem firstTile_eq (i : grid0.Coords) : firstTile i = if (i 1).val = 0 then 1#1 else 0#1 := by
  have h : (i 1).val < 3 := (i 1).isLt
  unfold firstTile tileWord
  generalize (i 1).val = n at h
  interval_cases n <;> rfl

theorem select_first {α : Type} (i : grid0.Coords) (a b : α) : Scalar.select (firstTile i) a b = if (i 1).val = 0 then a else b := by
  rw [firstTile_eq]
  unfold Scalar.select
  by_cases h : (i 1).val = 0
  · rw [if_pos h, if_pos h]; exact if_pos rfl
  · rw [if_neg h, if_neg h]; exact if_neg (by decide)

theorem select_pos {α : Type} (i : grid0.Coords) (h : (i 1).val = 0) (a b : α) : Scalar.select (firstTile i) a b = a := (select_first i a b).trans (if_pos h)
theorem select_neg {α : Type} (i : grid0.Coords) (h : ¬ (i 1).val = 0) (a b : α) : Scalar.select (firstTile i) a b = b := (select_first i a b).trans (if_neg h)

/-- A token's modulation row inside a tile: context in the first tile's first 256 rows, latent elsewhere. -/
theorem row_tok (A : Args) (p : Fin 8) (b : Fin 4) (j : Fin 3) (r : Fin 768) (d : Fin 1024) :
    A.row p b (Args.tok j r) d = if r.val < 256 then (if j.val = 0 then A.mod b 0 p d else A.mod b 1 p d) else A.mod b 1 p d := by
  unfold Args.row
  show (if 768 * j.val + r.val < 256 then _ else _) = _
  by_cases hr : r.val < 256
  · by_cases hj : j.val = 0
    · rw [if_pos (by omega), if_pos hr, if_pos hj]
    · rw [if_neg (by omega), if_pos hr, if_neg hj]
  · rw [if_neg (by omega), if_neg hr]

/-! ## One modulation row -/

section Rows
variable (x5 : S1x2x8x1024.Idx → EReal) (d : Fin 1024)

theorem latGate_eq : (latGate (F := Ideal) x5 : S1x1x1x1024.Idx → EReal) (ix4 0 0 0 d) = x5 (ix4 0 1 5 d) :=
  congrArg x5 (funext fun a => Fin.ext (by match a with | ⟨0, _⟩ => rfl | ⟨1, _⟩ => rfl | ⟨2, _⟩ => rfl | ⟨3, _⟩ => exact (Nat.zero_add _).trans (Nat.one_mul _)))
theorem ctxGate_eq : (ctxGate (F := Ideal) x5 : S1x1x1x1024.Idx → EReal) (ix4 0 0 0 d) = x5 (ix4 0 0 5 d) :=
  congrArg x5 (funext fun a => Fin.ext (by match a with | ⟨0, _⟩ => rfl | ⟨1, _⟩ => rfl | ⟨2, _⟩ => rfl | ⟨3, _⟩ => exact (Nat.zero_add _).trans (Nat.one_mul _)))
theorem latShift_eq : (latShift (F := Ideal) x5 : S1x1x1x1024.Idx → EReal) (ix4 0 0 0 d) = x5 (ix4 0 1 3 d) :=
  congrArg x5 (funext fun a => Fin.ext (by match a with | ⟨0, _⟩ => rfl | ⟨1, _⟩ => rfl | ⟨2, _⟩ => rfl | ⟨3, _⟩ => exact (Nat.zero_add _).trans (Nat.one_mul _)))
theorem ctxShift_eq : (ctxShift (F := Ideal) x5 : S1x1x1x1024.Idx → EReal) (ix4 0 0 0 d) = x5 (ix4 0 0 3 d) :=
  congrArg x5 (funext fun a => Fin.ext (by match a with | ⟨0, _⟩ => rfl | ⟨1, _⟩ => rfl | ⟨2, _⟩ => rfl | ⟨3, _⟩ => exact (Nat.zero_add _).trans (Nat.one_mul _)))
theorem latScale_eq : (latScale (F := Ideal) x5 : S1x1x1x1024.Idx → EReal) (ix4 0 0 0 d) = x5 (ix4 0 1 4 d) :=
  congrArg x5 (funext fun a => Fin.ext (by match a with | ⟨0, _⟩ => rfl | ⟨1, _⟩ => rfl | ⟨2, _⟩ => rfl | ⟨3, _⟩ => exact (Nat.zero_add _).trans (Nat.one_mul _)))
theorem ctxScale_eq : (ctxScale (F := Ideal) x5 : S1x1x1x1024.Idx → EReal) (ix4 0 0 0 d) = x5 (ix4 0 0 4 d) :=
  congrArg x5 (funext fun a => Fin.ext (by match a with | ⟨0, _⟩ => rfl | ⟨1, _⟩ => rfl | ⟨2, _⟩ => rfl | ⟨3, _⟩ => exact (Nat.zero_add _).trans (Nat.one_mul _)))

end Rows

/-! ## Pieces -/

section Pieces
variable (x : S1x768x1024.Idx → EReal) (r : Fin 768) (d : Fin 1024)

abbrev tokRow (x : S1x768x1024.Idx → EReal) (r : Fin 768) : Fin 1024 → EReal := fun d => x (ix3 0 r d)

theorem pay5_eq : (k0_pay5 (F := Ideal) x : S768x1024.Idx → EReal) (ix2 r d) = x (ix3 0 r d) := by
  unfold k0_pay5; pointwise
theorem pay6_eq : (k0_pay6 (F := Ideal) x : S768x1024.Idx → EReal) (ix2 r d) = x (ix3 0 r d) := by
  unfold k0_pay6; pointwise
theorem pay28_eq : (k0_pay28 (F := Ideal) x : S768x1024.Idx → EReal) (ix2 r d) = x (ix3 0 r d) := by
  unfold k0_pay28; pointwise
theorem pay7_eq : (k0_pay7 (F := Ideal) x : S768x1.Idx → EReal) (ix2 r 0) = invRms (tokRow x r) := by
  unfold k0_pay7; pointwise; simp only [pay6_eq]; rfl
theorem pay29_eq : (k0_pay29 (F := Ideal) x : S768x1.Idx → EReal) (ix2 r 0) = invRms (tokRow x r) := by
  unfold k0_pay29; pointwise; simp only [pay28_eq]; rfl
theorem pay8_eq : (k0_pay8 (F := Ideal) x : S768x1024.Idx → EReal) (ix2 r d) = x (ix3 0 r d) * invRms (tokRow x r) := by
  unfold k0_pay8; pointwise; rw [pay6_eq, pay7_eq]
theorem pay30_eq : (k0_pay30 (F := Ideal) x : S768x1024.Idx → EReal) (ix2 r d) = x (ix3 0 r d) * invRms (tokRow x r) := by
  unfold k0_pay30; pointwise; rw [pay28_eq, pay29_eq]
theorem pay20_eq : (k0_pay20 (F := Ideal) x : S768x1024.Idx → EReal) (ix2 r d) = x (ix3 0 r d) * invRms (tokRow x r) := by
  unfold k0_pay20; pointwise; rfl

end Pieces

section Gates
variable (i : grid0.Coords) (a : S768x1024.Idx → EReal) (x5 : S1x2x8x1024.Idx → EReal) (r : Fin 768) (d : Fin 1024)

/-- Past the first 256 rows, the split's row index is the row. -/
theorem back (r : Fin 768) (hr : ¬ r.val < 256) (h : 256 + (r.val - 256) < 768) : (⟨256 + (r.val - 256), h⟩ : Fin 768) = r :=
  Fin.ext (by show 256 + (r.val - 256) = r.val; omega)

theorem pay14_eq : (k0_pay14 (F := Ideal) (tileWord i) a (latGate (F := Ideal) x5) (ctxGate (F := Ideal) x5) : S768x1024.Idx → EReal) (ix2 r d)
    = a (ix2 r d) * (if r.val < 256 then (if (i 1).val = 0 then x5 (ix4 0 0 5 d) else x5 (ix4 0 1 5 d)) else x5 (ix4 0 1 5 d)) := by
  unfold k0_pay14
  dsimp only
  by_cases hz : (i 1).val = 0 <;> by_cases hr : r.val < 256
  · simp only [select_pos i hz, if_pos hz]; pointwise; rw [dif_pos hr, if_pos hr, ctxGate_eq]
  · simp only [select_pos i hz, if_pos hz]; pointwise; rw [dif_neg hr, if_neg hr, latGate_eq, back r hr]
  · simp only [select_neg i hz, if_neg hz]; pointwise; rw [dif_pos hr, if_pos hr, latGate_eq]
  · simp only [select_neg i hz, if_neg hz]; pointwise; rw [dif_neg hr, if_neg hr, latGate_eq, back r hr]

theorem pay32_eq : (k0_pay32 (F := Ideal) (tileWord i) a (latScale (F := Ideal) x5) (ctxScale (F := Ideal) x5) : S768x1024.Idx → EReal) (ix2 r d)
    = a (ix2 r d) * (1 + (if r.val < 256 then (if (i 1).val = 0 then x5 (ix4 0 0 4 d) else x5 (ix4 0 1 4 d)) else x5 (ix4 0 1 4 d))) := by
  unfold k0_pay32
  dsimp only
  by_cases hz : (i 1).val = 0 <;> by_cases hr : r.val < 256
  · simp only [select_pos i hz, if_pos hz]; pointwise; rw [dif_pos hr, if_pos hr, ctxScale_eq]
  · simp only [select_pos i hz, if_pos hz]; pointwise; rw [dif_neg hr, if_neg hr, latScale_eq, back r hr]
  · simp only [select_neg i hz, if_neg hz]; pointwise; rw [dif_pos hr, if_pos hr, latScale_eq]
  · simp only [select_neg i hz, if_neg hz]; pointwise; rw [dif_neg hr, if_neg hr, latScale_eq, back r hr]

theorem hOut_eq (x1 : S1x768x1024.Idx → EReal) (x6 : S1x1024.Idx → EReal) :
    (hOut (F := Ideal) i x1 x5 x6 : S1x768x1024.Idx → EReal) (ix3 0 r d)
    = x1 (ix3 0 r d) * invRms (tokRow x1 r) * x6 (ix2 0 d) * (1 + (if r.val < 256 then (if (i 1).val = 0 then x5 (ix4 0 0 4 d) else x5 (ix4 0 1 4 d)) else x5 (ix4 0 1 4 d)))
      + (if r.val < 256 then (if (i 1).val = 0 then x5 (ix4 0 0 3 d) else x5 (ix4 0 1 3 d)) else x5 (ix4 0 1 3 d)) := by
  unfold hOut k0_pay24 k0_pay22 k0_pay23 k0_pay21
  dsimp only
  by_cases hz : (i 1).val = 0 <;> by_cases hr : r.val < 256
  · simp only [select_pos i hz, if_pos hz]; pointwise; rw [dif_pos hr, if_pos hr, if_pos hr, ctxScale_eq, ctxShift_eq, pay20_eq]; rw [select_pos i hz]; rw [select_pos i hz]
  · simp only [select_pos i hz, if_pos hz]; pointwise; rw [dif_neg hr, if_neg hr, if_neg hr, latScale_eq, latShift_eq, back r hr, pay20_eq]
  · simp only [select_neg i hz, if_neg hz]; pointwise; rw [dif_pos hr, if_pos hr, if_pos hr, latScale_eq, latShift_eq, pay20_eq]; rw [select_neg i hz]; rw [select_neg i hz]
  · simp only [select_neg i hz, if_neg hz]; pointwise; rw [dif_neg hr, if_neg hr, if_neg hr, latScale_eq, latShift_eq, back r hr, pay20_eq]

theorem dfWide_eq (x0 x2 : S1x768x1024.Idx → EReal) (x7 : S1x1024.Idx → EReal) :
    (dfWide (F := Ideal) i x0 x2 x5 x7 : S768x1024.Idx → EReal) (ix2 r d)
    = normBack (invRms (tokRow x2 r)) (fun d => x2 (ix3 0 r d) * invRms (tokRow x2 r))
        (fun d => x0 (ix3 0 r d) * (if r.val < 256 then (if (i 1).val = 0 then x5 (ix4 0 0 5 d) else x5 (ix4 0 1 5 d)) else x5 (ix4 0 1 5 d)) * x7 (ix2 0 d)) d := by
  unfold dfWide k0_pay16
  pointwise
  simp only [pay14_eq, pay8_eq, pay7_eq, pay5_eq]
  rfl

theorem dfKept_eq (x0 x2 : S1x768x1024.Idx → EReal) (x7 : S1x1024.Idx → EReal) :
    (dfKept (F := Ideal) i x0 x2 x5 x7 : S768x1024.Idx → EReal) (ix2 r d) = (dfWide (F := Ideal) i x0 x2 x5 x7 : S768x1024.Idx → EReal) (ix2 r d) := by
  unfold dfKept k0_pay18 k0_pay17; simp only [shapeCast_self]; pointwise

theorem dfOut_eq (x0 x2 : S1x768x1024.Idx → EReal) (x7 : S1x1024.Idx → EReal) :
    (dfOut (F := Ideal) i x0 x2 x5 x7 : S1x768x1024.Idx → EReal) (ix3 0 r d) = (dfWide (F := Ideal) i x0 x2 x5 x7 : S768x1024.Idx → EReal) (ix2 r d) := by
  unfold dfOut k0_pay19 k0_pay17; pointwise

theorem dxOut_eq (x0 x1 : S1x768x1024.Idx → EReal) (x6 : S1x1024.Idx → EReal) :
    (dxOut (F := Ideal) i x0 x1 x5 x6 a : S1x768x1024.Idx → EReal) (ix3 0 r d)
    = x0 (ix3 0 r d) + normBack (invRms (tokRow x1 r)) (fun d => x1 (ix3 0 r d) * invRms (tokRow x1 r))
        (fun d => a (ix2 r d) * (1 + (if r.val < 256 then (if (i 1).val = 0 then x5 (ix4 0 0 4 d) else x5 (ix4 0 1 4 d)) else x5 (ix4 0 1 4 d))) * x6 (ix2 0 d)) d := by
  unfold dxOut k0_pay4
  pointwise
  simp only [pay32_eq, pay29_eq, pay30_eq]
  rfl

end Gates

end Cert.FfnGrad

end
-- ==== Proof.FfnPayB.lean ====
/- The body's products and column sums, entry by entry. -/
module

public import proofs.«01_k».proof.Proof.FfnPayA

@[expose] public section

set_option maxRecDepth 16384

noncomputable section

namespace Cert.FfnGrad

open Idealize.ShloMosaic Idealize.ShloMosaic.TcCoe Idealize.SL.Sem Cert.KernelIdeal Cert.KernelIdeal.Gen

/-! ## The products -/

section Products
variable (g u : S1x768x256.Idx → EReal) (df : S768x1024.Idx → EReal) (wd : S256x1024.Idx → EReal) (r : Fin 768) (q : Fin 256) (d : Fin 1024)

theorem pay42_eq : (k0_pay42 (F := Ideal) g : S768x256.Idx → EReal) (ix2 r q) = g (ix3 0 r q) := by
  unfold k0_pay42; pointwise
theorem pay43_eq : (k0_pay43 (F := Ideal) u : S768x256.Idx → EReal) (ix2 r q) = u (ix3 0 r q) := by
  unfold k0_pay43; pointwise
theorem pay44_eq : (k0_pay44 (F := Ideal) g : S768x256.Idx → EReal) (ix2 r q) = Ideal.logistic (g (ix3 0 r q)) := by
  unfold k0_pay44; pointwise; exact congrArg Ideal.logistic (pay42_eq g r q)
theorem pay45_eq : (k0_pay45 (F := Ideal) g : S768x256.Idx → EReal) (ix2 r q) = g (ix3 0 r q) * Ideal.logistic (g (ix3 0 r q)) := by
  unfold k0_pay45; pointwise; rw [pay42_eq, pay44_eq]
theorem pay46_eq : (k0_pay46 (F := Ideal) df wd : S768x256.Idx → EReal) (ix2 r q) = ∑ d, df (ix2 r d) * wd (ix2 q d) := by
  unfold k0_pay46; simp only [shapeCast_self]; pointwise

/-- The gated product's entries, -/
theorem pay47_eq : (k0_pay47 (F := Ideal) g u : S1x768x256.Idx → EReal) (ix3 0 r q) = g (ix3 0 r q) * Ideal.logistic (g (ix3 0 r q)) * u (ix3 0 r q) := by
  unfold k0_pay47; pointwise; rw [pay45_eq, pay43_eq]
/-- the gradient at the gate's product, -/
theorem pay48_eq : (k0_pay48 (F := Ideal) g u df wd : S768x256.Idx → EReal) (ix2 r q)
    = (∑ d, df (ix2 r d) * wd (ix2 q d)) * u (ix3 0 r q) * (Ideal.logistic (g (ix3 0 r q)) * (1 + g (ix3 0 r q) * (1 - Ideal.logistic (g (ix3 0 r q))))) := by
  unfold k0_pay48; pointwise; rw [pay46_eq, pay43_eq, pay44_eq, pay42_eq]
/-- and the one at the up product. -/
theorem pay49_eq : (k0_pay49 (F := Ideal) g df wd : S768x256.Idx → EReal) (ix2 r q)
    = (∑ d, df (ix2 r d) * wd (ix2 q d)) * (g (ix3 0 r q) * Ideal.logistic (g (ix3 0 r q))) := by
  unfold k0_pay49; pointwise; rw [pay46_eq, pay45_eq]

theorem pay50_eq : (k0_pay50 (F := Ideal) g u df wd : S1x768x256.Idx → EReal) (ix3 0 r q) = (k0_pay48 (F := Ideal) g u df wd : S768x256.Idx → EReal) (ix2 r q) := by
  unfold k0_pay50; pointwise
theorem pay51_eq : (k0_pay51 (F := Ideal) g df wd : S1x768x256.Idx → EReal) (ix3 0 r q) = (k0_pay49 (F := Ideal) g df wd : S768x256.Idx → EReal) (ix2 r q) := by
  unfold k0_pay51; pointwise
theorem pay1_eq (v : S768x256.Idx → EReal) : (k0_pay1 (F := Ideal) v : S1x768x256.Idx → EReal) (ix3 0 r q) = v (ix2 r q) := by
  unfold k0_pay1; pointwise
theorem pay2_eq (v : S768x256.Idx → EReal) : (k0_pay2 (F := Ideal) v : S1x768x256.Idx → EReal) (ix3 0 r q) = v (ix2 r q) := by
  unfold k0_pay2; pointwise
theorem pay25_eq : (k0_pay25 (F := Ideal) : S768x1024.Idx → EReal) (ix2 r d) = 0 := by
  unfold k0_pay25; simp only [shapeCast_self]; pointwise
theorem pay26_eq : (k0_pay26 (F := Ideal) : S1x768x256.Idx → EReal) (ix3 0 r q) = 0 := by
  unfold k0_pay26; pointwise
theorem pay27_eq : (k0_pay27 (F := Ideal) : S1x768x256.Idx → EReal) (ix3 0 r q) = 0 := by
  unfold k0_pay27; pointwise

/-- One pass's addition. -/
theorem pay41_eq (a : S768x1024.Idx → EReal) (wg wu : S256x1024.Idx → EReal) : (k0_pay41 (F := Ideal) a g wg u wu : S768x1024.Idx → EReal) (ix2 r d)
    = a (ix2 r d) + (∑ q, g (ix3 0 r q) * wg (ix2 q d) + ∑ q, u (ix3 0 r q) * wu (ix2 q d)) := by
  unfold k0_pay41; simp only [shapeCast_self]; pointwise

end Products

/-! ## The column sums -/

/-- A tile's sum, split at the first 256 rows. -/
theorem sum_split (f : Fin 768 → EReal) : ∑ r, f r = ∑ r : Fin 512, f ⟨256 + r.val, by omega⟩ + ∑ r : Fin 256, f ⟨r.val, by omega⟩ := by
  rw [add_comm]
  exact Fin.sum_univ_add (a := 256) (b := 512) f

section Sums
variable (i : grid0.Coords) (a v : S768x1024.Idx → EReal) (x5 : S1x2x8x1024.Idx → EReal) (d : Fin 1024)

/-- The sum over the latent rows of a tile: the first tile's first 256 rows are context. -/
def latSum (i : grid0.Coords) (f : Fin 768 → EReal) : EReal :=
  ∑ r : Fin 512, f ⟨256 + r.val, by omega⟩ + (if (i 1).val = 0 then 0 else ∑ r : Fin 256, f ⟨r.val, by omega⟩)
/-- The sum over its context rows. -/
def ctxSum (i : grid0.Coords) (f : Fin 768 → EReal) : EReal := if (i 1).val = 0 then ∑ r : Fin 256, f ⟨r.val, by omega⟩ else 0

theorem pay34_eq : (k0_pay34 (F := Ideal) a : S1x1024.Idx → EReal) (ix2 0 d) = ∑ r : Fin 256, a (ix2 ⟨r.val, by omega⟩ d) := by
  unfold k0_pay34; pointwise
theorem pay35_eq : (k0_pay35 (F := Ideal) (tileWord i) (k0_pay33 (F := Ideal) a) (k0_pay34 (F := Ideal) a) : S1x1x1x1024.Idx → EReal) (ix4 0 0 0 d) = latSum i (fun r => a (ix2 r d)) := by
  unfold k0_pay35 k0_pay33 latSum
  dsimp only
  by_cases hz : (i 1).val = 0
  · rw [if_pos hz]; pointwise; rw [select_pos i hz, add_zero]
  · rw [if_neg hz]; pointwise; rw [select_neg i hz, pay34_eq]
theorem pay36_eq : (k0_pay36 (F := Ideal) (tileWord i) (k0_pay34 (F := Ideal) a) : S1x1x1x1024.Idx → EReal) (ix4 0 0 0 d) = ctxSum i (fun r => a (ix2 r d)) := by
  unfold k0_pay36 ctxSum
  dsimp only
  by_cases hz : (i 1).val = 0
  · rw [if_pos hz]; pointwise; rw [select_pos i hz, pay34_eq]
  · rw [if_neg hz]; pointwise; rw [select_neg i hz]
theorem pay37_eq (r : Fin 768) : (k0_pay37 (F := Ideal) a v : S768x1024.Idx → EReal) (ix2 r d) = a (ix2 r d) * v (ix2 r d) := by
  unfold k0_pay37; pointwise
theorem pay38_eq : (k0_pay38 (F := Ideal) a v : S1x1024.Idx → EReal) (ix2 0 d) = ∑ r : Fin 256, a (ix2 ⟨r.val, by omega⟩ d) * v (ix2 ⟨r.val, by omega⟩ d) := by
  unfold k0_pay38; pointwise; simp only [pay37_eq]
theorem pay39_eq : (k0_pay39 (F := Ideal) (tileWord i) a v : S1x1x1x1024.Idx → EReal) (ix4 0 0 0 d) = latSum i (fun r => a (ix2 r d) * v (ix2 r d)) := by
  unfold k0_pay39 latSum
  dsimp only
  by_cases hz : (i 1).val = 0
  · rw [if_pos hz]; pointwise; rw [select_pos i hz, add_zero]; simp only [pay37_eq]
  · rw [if_neg hz]; pointwise; rw [select_neg i hz, pay38_eq]; simp only [pay37_eq]
theorem pay40_eq : (k0_pay40 (F := Ideal) (tileWord i) a v : S1x1x1x1024.Idx → EReal) (ix4 0 0 0 d) = ctxSum i (fun r => a (ix2 r d) * v (ix2 r d)) := by
  unfold k0_pay40 ctxSum
  dsimp only
  by_cases hz : (i 1).val = 0
  · rw [if_pos hz]; pointwise; rw [select_pos i hz, pay38_eq]
  · rw [if_neg hz]; pointwise; rw [select_neg i hz]
theorem pay31_eq (x1 : S1x768x1024.Idx → EReal) (x6 : S1x1024.Idx → EReal) (r : Fin 768) :
    (k0_pay31 (F := Ideal) x1 x6 : S768x1024.Idx → EReal) (ix2 r d) = x1 (ix3 0 r d) * invRms (tokRow x1 r) * x6 (ix2 0 d) := by
  unfold k0_pay31; pointwise; rw [pay30_eq]
theorem pay3_eq : (k0_pay3 (F := Ideal) a v : S1x1x1x1024.Idx → EReal) (ix4 0 0 0 d) = ∑ r, v (ix2 r d) * a (ix2 r d) := by
  unfold k0_pay3; pointwise
theorem pay10_eq (x0 x2 : S1x768x1024.Idx → EReal) (x7 : S1x1024.Idx → EReal) (r : Fin 768) :
    (k0_pay10 (F := Ideal) x0 x7 x2 : S768x1024.Idx → EReal) (ix2 r d) = x0 (ix3 0 r d) * (x2 (ix3 0 r d) * invRms (tokRow x2 r) * x7 (ix2 0 d)) := by
  unfold k0_pay10; pointwise; rw [pay5_eq, pay8_eq]
theorem pay11_eq (x0 x2 : S1x768x1024.Idx → EReal) (x7 : S1x1024.Idx → EReal) :
    (k0_pay11 (F := Ideal) x0 x7 x2 : S1x1024.Idx → EReal) (ix2 0 d) = ∑ r : Fin 256, (k0_pay10 (F := Ideal) x0 x7 x2 : S768x1024.Idx → EReal) (ix2 ⟨r.val, by omega⟩ d) := by
  unfold k0_pay11; pointwise
theorem pay12_eq (x0 x2 : S1x768x1024.Idx → EReal) (x7 : S1x1024.Idx → EReal) : (k0_pay12 (F := Ideal) (tileWord i) x0 x7 x2 : S1x1x1x1024.Idx → EReal) (ix4 0 0 0 d)
    = latSum i (fun r => x0 (ix3 0 r d) * (x2 (ix3 0 r d) * invRms (tokRow x2 r) * x7 (ix2 0 d))) := by
  unfold k0_pay12 latSum
  dsimp only
  by_cases hz : (i 1).val = 0
  · rw [if_pos hz]; pointwise; rw [select_pos i hz, add_zero]; simp only [pay10_eq]
  · rw [if_neg hz]; pointwise; rw [select_neg i hz, pay11_eq]; simp only [pay10_eq]
theorem pay13_eq (x0 x2 : S1x768x1024.Idx → EReal) (x7 : S1x1024.Idx → EReal) : (k0_pay13 (F := Ideal) (k0_pay11 (F := Ideal) x0 x7 x2) (firstTile i) : S1x1x1x1024.Idx → EReal) (ix4 0 0 0 d)
    = ctxSum i (fun r => x0 (ix3 0 r d) * (x2 (ix3 0 r d) * invRms (tokRow x2 r) * x7 (ix2 0 d))) := by
  unfold k0_pay13 ctxSum
  dsimp only
  by_cases hz : (i 1).val = 0
  · rw [if_pos hz]; pointwise; rw [select_pos i hz, pay11_eq]; simp only [pay10_eq]
  · rw [if_neg hz]; pointwise; rw [select_neg i hz]
theorem pay15_eq (x0 x2 : S1x768x1024.Idx → EReal) :
    (k0_pay15 (F := Ideal) (tileWord i) (k0_pay5 (F := Ideal) x0) (k0_pay8 (F := Ideal) x2) (latGate (F := Ideal) x5) (ctxGate (F := Ideal) x5) : S1x1x1x1024.Idx → EReal) (ix4 0 0 0 d)
    = ∑ r : Fin 768, x0 (ix3 0 r d) * (if r.val < 256 then (if (i 1).val = 0 then x5 (ix4 0 0 5 d) else x5 (ix4 0 1 5 d)) else x5 (ix4 0 1 5 d)) * (x2 (ix3 0 r d) * invRms (tokRow x2 r)) := by
  have e : (k0_pay15 (F := Ideal) (tileWord i) (k0_pay5 (F := Ideal) x0) (k0_pay8 (F := Ideal) x2) (latGate (F := Ideal) x5) (ctxGate (F := Ideal) x5) : S1x1x1x1024.Idx → EReal) (ix4 0 0 0 d)
      = ∑ r, (k0_pay14 (F := Ideal) (tileWord i) (k0_pay5 (F := Ideal) x0) (latGate (F := Ideal) x5) (ctxGate (F := Ideal) x5) : S768x1024.Idx → EReal) (ix2 r d)
          * (k0_pay8 (F := Ideal) x2 : S768x1024.Idx → EReal) (ix2 r d) := by
    unfold k0_pay15; pointwise
  rw [e]
  simp only [pay14_eq, pay5_eq, pay8_eq]

end Sums

/-! ## One row put into the eight -/

theorem put_row (s : S1x1x8x1024.Idx → EReal) (w : S1x1x1x1024.Idx → EReal) (p : ℕ) (j : Fin 8) (d : Fin 1024) :
    VecWindow.put (s := S1x1x8x1024) s ![0, 0, p, 0] S1x1x1x1024.size w (ix4 0 0 j d) = if j.val = p then w (ix4 0 0 0 d) else s (ix4 0 0 j d) := by
  unfold VecWindow.put
  by_cases h : j.val = p
  · rw [if_pos h]
    refine (dif_pos fun a => ?_).trans (congrArg w (funext fun a => Fin.ext ?_))
    · match a with
      | ⟨0, _⟩ => exact ⟨Nat.le_refl _, Nat.one_pos⟩
      | ⟨1, _⟩ => exact ⟨Nat.le_refl _, Nat.one_pos⟩
      | ⟨2, _⟩ => show p ≤ j.val ∧ j.val < p + 1; omega
      | ⟨3, _⟩ => show 0 ≤ d.val ∧ d.val < 0 + 1024; omega
    · match a with
      | ⟨0, _⟩ => rfl
      | ⟨1, _⟩ => rfl
      | ⟨2, _⟩ => show j.val - p = 0; omega
      | ⟨3, _⟩ => rfl
  · rw [if_neg h]
    refine dif_neg fun hh => h ?_
    have h2 : p ≤ j.val ∧ j.val < p + 1 := hh (2 : Fin 4)
    omega

end Cert.FfnGrad

end
-- ==== Proof.FfnHost.lean ====
/- What the region's arrays hold when it is entered, entry by entry. -/
module

public import proofs.«01_k».proof.Proof.FfnVals
public import proofs.«01_k».proof.Proof.FfnMath
public import Idealize.ShloMosaic.Lib.Pointwise
public import Idealize.ShloMosaic.Lib.Claim
public import Idealize.ShloMosaic.Lib.StableHlo.ReadAt

@[expose] public section

set_option maxRecDepth 16384

noncomputable section

namespace Cert.FfnGrad

open Idealize.ShloMosaic Idealize.SL.Sem Idealize.ShloMosaic.StableHlo Cert.KernelIdeal Cert.KernelIdeal.Gen

variable (m : (ℓ : Loc nD τ sig) → Buf (Elt Ideal) ℓ)

abbrev m0 (c : Dev nD) : S4x2304x1024.Idx → EReal := m (c.tc.loc main_arg0)
abbrev m1 (c : Dev nD) : S4x2304x1024.Idx → EReal := m (c.tc.loc main_arg1)
abbrev m2 (c : Dev nD) : S4x2x8x1024.Idx → EReal := m (c.tc.loc main_arg2)
abbrev m3 (c : Dev nD) : S1x1024.Idx → EReal := m (c.tc.loc main_arg3)
abbrev m4 (c : Dev nD) : S1x1024.Idx → EReal := m (c.tc.loc main_arg4)
abbrev m5 (c : Dev nD) : S1024x2816.Idx → EReal := m (c.tc.loc main_arg5)
abbrev m6 (c : Dev nD) : S1024x2816.Idx → EReal := m (c.tc.loc main_arg6)
abbrev m7 (c : Dev nD) : S2816x1024.Idx → EReal := m (c.tc.loc main_arg7)

/-- The arguments' entries, as the kernel finds them. -/
def args (c : Dev nD) : Args where
  dx b s d := m0 m c (ix3 b s d)
  x b s d := m1 m c (ix3 b s d)
  mod b k j d := m2 m c (ix4 b k j d)
  n3 d := m3 m c (ix2 0 d)
  n4 d := m4 m c (ix2 0 d)
  wg d k := m5 m c (ix2 d k)
  wu d k := m6 m c (ix2 d k)
  wd k d := m7 m c (ix2 k d)

abbrev hostF (c : Dev nD) : S4x2304x1024.Idx → EReal := V m c main_v35
abbrev hostGate (c : Dev nD) : S4x2304x2816.Idx → EReal := V m c main_v36
abbrev hostUp (c : Dev nD) : S4x2304x2816.Idx → EReal := V m c main_v37
abbrev hostWg (c : Dev nD) : S2816x1024.Idx → EReal := V m c main_v39
abbrev hostWu (c : Dev nD) : S2816x1024.Idx → EReal := V m c main_v41
abbrev hostWd (c : Dev nD) : S2816x1024.Idx → EReal := V m c main_v42

theorem hostWg_eq (c : Dev nD) (k : Fin 2816) (d : Fin 1024) : hostWg m c (ix2 k d) = (args m c).wg d k := by
  unfold hostWg V
  simp only [hostOps0, hostOps0_1, hostOps0_2, List.flatten_cons, List.flatten_nil, List.append_nil, List.cons_append, List.nil_append]
  after_results_simp
  pointwise
  rfl

theorem hostWu_eq (c : Dev nD) (k : Fin 2816) (d : Fin 1024) : hostWu m c (ix2 k d) = (args m c).wu d k := by
  unfold hostWu V
  simp only [hostOps0, hostOps0_1, hostOps0_2, List.flatten_cons, List.flatten_nil, List.append_nil, List.cons_append, List.nil_append]
  after_results_simp
  pointwise
  rfl

theorem hostWd_eq (c : Dev nD) (k : Fin 2816) (d : Fin 1024) : hostWd m c (ix2 k d) = (args m c).wd k d := by
  unfold hostWd V
  simp only [hostOps0, hostOps0_1, hostOps0_2, List.flatten_cons, List.flatten_nil, List.append_nil, List.cons_append, List.nil_append]
  after_results_simp
  pointwise
  rfl

theorem hostGate_eq (c : Dev nD) (b : Fin 4) (s : Fin 2304) (k : Fin 2816) : hostGate m c (ix3 b s k) = (args m c).gate b s k := by
  unfold hostGate V
  simp only [hostOps0, hostOps0_1, hostOps0_2, List.flatten_cons, List.flatten_nil, List.append_nil, List.cons_append, List.nil_append]
  after_results_simp
  pointwise
  after_results_simp
  pointwise
  rfl

theorem hostUp_eq (c : Dev nD) (b : Fin 4) (s : Fin 2304) (k : Fin 2816) : hostUp m c (ix3 b s k) = (args m c).up b s k := by
  unfold hostUp V
  simp only [hostOps0, hostOps0_1, hostOps0_2, List.flatten_cons, List.flatten_nil, List.append_nil, List.cons_append, List.nil_append]
  after_results_simp
  pointwise
  after_results_simp
  pointwise
  rfl

/-- What the buffers hold after the projections. -/
def mid (c : Dev nD) : Valuation τ sig (Elt Ideal) := after hostOps0 (fun b => m (c, b))

abbrev midGate (c : Dev nD) : S4x2304x2816.Idx → EReal := mid m c (Proc.devRef .tc main_v31)
abbrev midUp (c : Dev nD) : S4x2304x2816.Idx → EReal := mid m c (Proc.devRef .tc main_v32)
abbrev midWd (c : Dev nD) : S2816x1024.Idx → EReal := mid m c (Proc.devRef .tc main_arg7)

theorem midGate_eq (c : Dev nD) (b : Fin 4) (s : Fin 2304) (k : Fin 2816) : midGate m c (ix3 b s k) = (args m c).gate b s k := by
  unfold midGate mid
  simp only [hostOps0]
  after_results_simp
  pointwise
  after_results_simp
  pointwise
  rfl

theorem midUp_eq (c : Dev nD) (b : Fin 4) (s : Fin 2304) (k : Fin 2816) : midUp m c (ix3 b s k) = (args m c).up b s k := by
  unfold midUp mid
  simp only [hostOps0]
  after_results_simp
  pointwise
  after_results_simp
  pointwise
  rfl

theorem midWd_eq (c : Dev nD) : midWd m c = m7 m c := by
  unfold midWd mid
  simp only [hostOps0]
  after_results_simp

theorem hostF_eq (c : Dev nD) (b : Fin 4) (s : Fin 2304) (d : Fin 1024) : hostF m c (ix3 b s d) = (args m c).f b s d := by
  have e : hostF m c = after (hostOps0_1 ++ hostOps0_2) (mid m c) (Proc.devRef .tc main_v35) := by
    unfold hostF V mid
    rw [← after_append]
    rfl
  rw [e]
  simp only [hostOps0_1, hostOps0_2, List.cons_append, List.nil_append]
  after_results_simp
  simp -implicitDefEqProofs only [TRef.toBuf, TRef.ofBuf, cast_cast, cast_eq]
  pointwise
  refine Finset.sum_congr rfl fun x _ => ?_
  have h1 := midGate_eq m c b s x
  have h2 := midUp_eq m c b s x
  have h3 := congrFun (midWd_eq m c) (ix2 x d)
  refine congrArg₂ (· * ·) (congrArg₂ (· * ·) (congrArg₂ (· * ·) h1 (congrArg Ideal.logistic h1)) h2) h3

end Cert.FfnGrad

end
-- ==== Proof.FfnBlock.lean ====
/- The blocks that a grid point reads, entry by entry. -/
module

public import proofs.«01_k».proof.Proof.FfnHost

@[expose] public section

set_option maxRecDepth 16384

noncomputable section

namespace Cert.FfnGrad

open Idealize.ShloMosaic Idealize.ShloMosaic.TcCoe Idealize.SL.Sem Cert.KernelIdeal Cert.KernelIdeal.Gen

variable (m : (ℓ : Loc nD τ sig) → Buf (Elt Ideal) ℓ)

/-- A point's batch entry, -/
def pb (t : Fin cfg0.N) : Fin 4 := ⟨t.val / 36, by have := lt_of_lt_of_eq t.isLt N_0; omega⟩
/-- its tile, -/
def pj (t : Fin cfg0.N) : Fin 3 := ⟨t.val / 12 % 3, by omega⟩
/-- the columns of the feed-forward width that it works on, -/
def col (t : Fin cfg0.N) (q : Fin 256) : Fin 2816 := ⟨256 * min (t.val % 12) 10 + q.val, by omega⟩
/-- and those that the pass before worked on. -/
def colBefore (t : Fin cfg0.N) (q : Fin 256) : Fin 2816 := ⟨256 * (t.val % 12 - 1) + q.val, by omega⟩

theorem ix_0 : ∀ t : Fin cfg0.N, win0_0.index t (0 : Fin 3) = t.val / 36 ∧ win0_0.index t (1 : Fin 3) = t.val / 12 % 3 ∧ win0_0.index t (2 : Fin 3) = 0 :=
  (by decide +kernel : ∀ t : Fin grid0.N, _)
theorem ix_1 : ∀ t : Fin cfg0.N, win0_1.index t (0 : Fin 3) = t.val / 36 ∧ win0_1.index t (1 : Fin 3) = t.val / 12 % 3 ∧ win0_1.index t (2 : Fin 3) = 0 :=
  (by decide +kernel : ∀ t : Fin grid0.N, _)
theorem ix_2 : ∀ t : Fin cfg0.N, win0_2.index t (0 : Fin 3) = t.val / 36 ∧ win0_2.index t (1 : Fin 3) = t.val / 12 % 3 ∧ win0_2.index t (2 : Fin 3) = 0 :=
  (by decide +kernel : ∀ t : Fin grid0.N, _)
theorem ix_3 : ∀ t : Fin cfg0.N, win0_3.index t (0 : Fin 3) = t.val / 36 ∧ win0_3.index t (1 : Fin 3) = t.val / 12 % 3 ∧ win0_3.index t (2 : Fin 3) = min (t.val % 12) 10 :=
  (by decide +kernel : ∀ t : Fin grid0.N, _)
theorem ix_4 : ∀ t : Fin cfg0.N, win0_4.index t (0 : Fin 3) = t.val / 36 ∧ win0_4.index t (1 : Fin 3) = t.val / 12 % 3 ∧ win0_4.index t (2 : Fin 3) = min (t.val % 12) 10 :=
  (by decide +kernel : ∀ t : Fin grid0.N, _)
theorem ix_5 : ∀ t : Fin cfg0.N, win0_5.index t (0 : Fin 4) = t.val / 36 ∧ win0_5.index t (1 : Fin 4) = 0 ∧ win0_5.index t (2 : Fin 4) = 0 ∧ win0_5.index t (3 : Fin 4) = 0 :=
  (by decide +kernel : ∀ t : Fin grid0.N, _)
theorem ix_8 : ∀ t : Fin cfg0.N, win0_8.index t (0 : Fin 2) = min (t.val % 12) 10 ∧ win0_8.index t (1 : Fin 2) = 0 :=
  (by decide +kernel : ∀ t : Fin grid0.N, _)
theorem ix_9 : ∀ t : Fin cfg0.N, win0_9.index t (0 : Fin 2) = t.val % 12 - 1 ∧ win0_9.index t (1 : Fin 2) = 0 :=
  (by decide +kernel : ∀ t : Fin grid0.N, _)
theorem ix_10 : ∀ t : Fin cfg0.N, win0_10.index t (0 : Fin 2) = t.val % 12 - 1 ∧ win0_10.index t (1 : Fin 2) = 0 :=
  (by decide +kernel : ∀ t : Fin grid0.N, _)

section Blocks
variable (c : Dev nD) (t : Fin cfg0.N) (r : Fin 768) (d : Fin 1024) (q : Fin 256)

theorem blk0 : (iblk m c 0 t : Vec Ideal S1x768x1024 .f32) (ix3 0 r d) = (args m c).dx (pb t) (Args.tok (pj t) r) d := by
  unfold iblk
  rw [View.read_apply]
  show V m c main_arg0 _ = m0 m c _
  rw [V_main_arg0]
  congr 1
  funext x
  apply Fin.ext
  match x with
  | ⟨0, _⟩ => show win0_0.index t 0 * 1 + 1 * (0 : ℕ) = t.val / 36; rw [(ix_0 t).1]; omega
  | ⟨1, _⟩ => show win0_0.index t 1 * 768 + 1 * r.val = 768 * (t.val / 12 % 3) + r.val; rw [(ix_0 t).2.1]; omega
  | ⟨2, _⟩ => show win0_0.index t 2 * 1024 + 1 * d.val = d.val; rw [(ix_0 t).2.2]; omega

theorem blk1 : (iblk m c 1 t : Vec Ideal S1x768x1024 .f32) (ix3 0 r d) = (args m c).x (pb t) (Args.tok (pj t) r) d := by
  unfold iblk
  rw [View.read_apply]
  show V m c main_arg1 _ = m1 m c _
  rw [V_main_arg1]
  congr 1
  funext x
  apply Fin.ext
  match x with
  | ⟨0, _⟩ => show win0_1.index t 0 * 1 + 1 * (0 : ℕ) = t.val / 36; rw [(ix_1 t).1]; omega
  | ⟨1, _⟩ => show win0_1.index t 1 * 768 + 1 * r.val = 768 * (t.val / 12 % 3) + r.val; rw [(ix_1 t).2.1]; omega
  | ⟨2, _⟩ => show win0_1.index t 2 * 1024 + 1 * d.val = d.val; rw [(ix_1 t).2.2]; omega

theorem blk2 : (iblk m c 2 t : Vec Ideal S1x768x1024 .f32) (ix3 0 r d) = (args m c).f (pb t) (Args.tok (pj t) r) d := by
  rw [← hostF_eq]
  unfold iblk
  rw [View.read_apply]
  show V m c main_v35 _ = hostF m c _
  unfold hostF
  congr 1
  funext x
  apply Fin.ext
  match x with
  | ⟨0, _⟩ => show win0_2.index t 0 * 1 + 1 * (0 : ℕ) = t.val / 36; rw [(ix_2 t).1]; omega
  | ⟨1, _⟩ => show win0_2.index t 1 * 768 + 1 * r.val = 768 * (t.val / 12 % 3) + r.val; rw [(ix_2 t).2.1]; omega
  | ⟨2, _⟩ => show win0_2.index t 2 * 1024 + 1 * d.val = d.val; rw [(ix_2 t).2.2]; omega

theorem blk3 : (iblk m c 3 t : Vec Ideal S1x768x256 .bf16) (ix3 0 r q) = (args m c).gate (pb t) (Args.tok (pj t) r) (col t q) := by
  rw [← hostGate_eq]
  unfold iblk
  rw [View.read_apply]
  show V m c main_v36 _ = hostGate m c _
  unfold hostGate
  congr 1
  funext x
  apply Fin.ext
  match x with
  | ⟨0, _⟩ => show win0_3.index t 0 * 1 + 1 * (0 : ℕ) = t.val / 36; rw [(ix_3 t).1]; omega
  | ⟨1, _⟩ => show win0_3.index t 1 * 768 + 1 * r.val = 768 * (t.val / 12 % 3) + r.val; rw [(ix_3 t).2.1]; omega
  | ⟨2, _⟩ => show win0_3.index t 2 * 256 + 1 * q.val = 256 * min (t.val % 12) 10 + q.val; rw [(ix_3 t).2.2]; omega

theorem blk4 : (iblk m c 4 t : Vec Ideal S1x768x256 .bf16) (ix3 0 r q) = (args m c).up (pb t) (Args.tok (pj t) r) (col t q) := by
  rw [← hostUp_eq]
  unfold iblk
  rw [View.read_apply]
  show V m c main_v37 _ = hostUp m c _
  unfold hostUp
  congr 1
  funext x
  apply Fin.ext
  match x with
  | ⟨0, _⟩ => show win0_4.index t 0 * 1 + 1 * (0 : ℕ) = t.val / 36; rw [(ix_4 t).1]; omega
  | ⟨1, _⟩ => show win0_4.index t 1 * 768 + 1 * r.val = 768 * (t.val / 12 % 3) + r.val; rw [(ix_4 t).2.1]; omega
  | ⟨2, _⟩ => show win0_4.index t 2 * 256 + 1 * q.val = 256 * min (t.val % 12) 10 + q.val; rw [(ix_4 t).2.2]; omega

theorem blk5 (k : Fin 2) (j : Fin 8) : (iblk m c 5 t : Vec Ideal S1x2x8x1024 .f32) (ix4 0 k j d) = (args m c).mod (pb t) k j d := by
  unfold iblk
  rw [View.read_apply]
  show V m c main_arg2 _ = m2 m c _
  rw [V_main_arg2]
  congr 1
  funext x
  apply Fin.ext
  match x with
  | ⟨0, _⟩ => show win0_5.index t 0 * 1 + 1 * (0 : ℕ) = t.val / 36; rw [(ix_5 t).1]; omega
  | ⟨1, _⟩ => show win0_5.index t 1 * 2 + 1 * k.val = k.val; rw [(ix_5 t).2.1]; omega
  | ⟨2, _⟩ => show win0_5.index t 2 * 8 + 1 * j.val = j.val; rw [(ix_5 t).2.2.1]; omega
  | ⟨3, _⟩ => show win0_5.index t 3 * 1024 + 1 * d.val = d.val; rw [(ix_5 t).2.2.2]; omega

theorem blk6 : (iblk m c 6 t : Vec Ideal S1x1024 .f32) (ix2 0 d) = (args m c).n3 d := by
  unfold iblk
  rw [View.read_apply]
  show V m c main_arg3 _ = m3 m c _
  rw [V_main_arg3]
  congr 1
  funext x
  apply Fin.ext
  match x with
  | ⟨0, _⟩ => rfl
  | ⟨1, _⟩ => show 0 * 1024 + 1 * d.val = d.val; omega

theorem blk7 : (iblk m c 7 t : Vec Ideal S1x1024 .f32) (ix2 0 d) = (args m c).n4 d := by
  unfold iblk
  rw [View.read_apply]
  show V m c main_arg4 _ = m4 m c _
  rw [V_main_arg4]
  congr 1
  funext x
  apply Fin.ext
  match x with
  | ⟨0, _⟩ => rfl
  | ⟨1, _⟩ => show 0 * 1024 + 1 * d.val = d.val; omega

theorem blk8 : (iblk m c 8 t : Vec Ideal S256x1024 .bf16) (ix2 q d) = (args m c).wd (col t q) d := by
  rw [← hostWd_eq]
  unfold iblk
  rw [View.read_apply]
  show V m c main_v42 _ = hostWd m c _
  unfold hostWd
  congr 1
  funext x
  apply Fin.ext
  match x with
  | ⟨0, _⟩ => show win0_8.index t 0 * 256 + 1 * q.val = 256 * min (t.val % 12) 10 + q.val; rw [(ix_8 t).1]; omega
  | ⟨1, _⟩ => show win0_8.index t 1 * 1024 + 1 * d.val = d.val; rw [(ix_8 t).2]; omega

theorem blk9 : (iblk m c 9 t : Vec Ideal S256x1024 .bf16) (ix2 q d) = (args m c).wg d (colBefore t q) := by
  rw [← hostWg_eq]
  unfold iblk
  rw [View.read_apply]
  show V m c main_v39 _ = hostWg m c _
  unfold hostWg
  congr 1
  funext x
  apply Fin.ext
  match x with
  | ⟨0, _⟩ => show win0_9.index t 0 * 256 + 1 * q.val = 256 * (t.val % 12 - 1) + q.val; rw [(ix_9 t).1]; omega
  | ⟨1, _⟩ => show win0_9.index t 1 * 1024 + 1 * d.val = d.val; rw [(ix_9 t).2]; omega

theorem blk10 : (iblk m c 10 t : Vec Ideal S256x1024 .bf16) (ix2 q d) = (args m c).wu d (colBefore t q) := by
  rw [← hostWu_eq]
  unfold iblk
  rw [View.read_apply]
  show V m c main_v41 _ = hostWu m c _
  unfold hostWu
  congr 1
  funext x
  apply Fin.ext
  match x with
  | ⟨0, _⟩ => show win0_10.index t 0 * 256 + 1 * q.val = 256 * (t.val % 12 - 1) + q.val; rw [(ix_10 t).1]; omega
  | ⟨1, _⟩ => show win0_10.index t 1 * 1024 + 1 * d.val = d.val; rw [(ix_10 t).2]; omega

end Blocks

end Cert.FfnGrad

end
-- ==== Proof.FfnFrame.lean ====
/- The frame of the feed-forward gradient: what the body leaves at every grid point, the invariant the scratch buffers keep, and the launch. -/
module

public import proofs.«01_k».proof.Proof.FfnVals
public import Idealize.ShloMosaic.Lib.Pipeline.TableIdle

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid: twelve passes a tile -/

/-- A tile's first pass is the point whose number is a multiple of twelve. -/
theorem first_iff (t : Fin cfg0.N) : k0_cond1 (grid0.coords t) = 1#1 ↔ t.val % 12 = 0 := by
  have ht : t.val < 144 := Nat.lt_of_lt_of_eq t.isLt N_0
  have e2 : (grid0.coords t 2).val = t.val / 1 % 12 := Pipeline.Grid.coords_val t 2 (by decide) rfl
  simp only [k0_cond1, e2]
  word_cmp

/-- A tile's last pass is the point whose number is eleven modulo twelve. -/
theorem last_iff (t : Fin cfg0.N) : k0_cond2 (grid0.coords t) = 1#1 ↔ t.val % 12 = 11 := by
  have ht : t.val < 144 := Nat.lt_of_lt_of_eq t.isLt N_0
  have e2 : (grid0.coords t 2).val = t.val / 1 % 12 := Pipeline.Grid.coords_val t 2 (by decide) rfl
  simp only [k0_cond2, e2]
  word_cmp

/-- At a first pass the slot read is the second one. -/
theorem off_first : ∀ t : Fin cfg0.N, t.val % 12 = 0 → k0_off1 (grid0.coords t) = ![1, 0, 0] :=
  (by decide +kernel : ∀ t : Fin grid0.N, t.val % 12 = 0 → k0_off1 (grid0.coords t) = ![1, 0, 0])

/-- At any other pass the slot read is the one the pass before wrote. -/
theorem off_next : ∀ t : Fin cfg0.N, t.val % 12 ≠ 0 →
    k0_off1 (grid0.coords t) = k0_off2 (grid0.coords ⟨t.val - 1, Nat.lt_of_le_of_lt (Nat.sub_le _ _) t.isLt⟩) :=
  (by decide +kernel : ∀ t : Fin grid0.N, t.val % 12 ≠ 0 →
    k0_off1 (grid0.coords t) = k0_off2 (grid0.coords ⟨t.val - 1, Nat.lt_of_le_of_lt (Nat.sub_le _ _) t.isLt⟩))

/-- Windows at equal offsets are equal. -/
theorem window_congr {s : Shape} {α : Type} (x : s.Idx → α) {off off' size : Fin s.rank → ℕ} (h : off = off')
    (inb : ∀ a, off a + size a ≤ s.size a) (inb' : ∀ a, off' a + size a ≤ s.size a) :
    VecWindow.window x off size inb = VecWindow.window x off' size inb' := by
  subst h; rfl

/-! ## What each point leaves -/

/-- The point before. -/
abbrev prev (t : Fin cfg0.N) : Fin cfg0.N := ⟨t.val - 1, Nat.lt_of_le_of_lt (Nat.sub_le _ _) t.isLt⟩

/-- The first pass of a point's tile. -/
def base (t : Fin cfg0.N) : Fin cfg0.N := ⟨t.val - t.val % 12, Nat.lt_of_le_of_lt (Nat.sub_le _ _) t.isLt⟩

/-- A first pass is its own tile's first. -/
theorem base_first (t : Fin cfg0.N) (h : t.val % 12 = 0) : base t = t := Fin.ext (by unfold base; dsimp only; omega)

/-- A later pass has the tile of the point before. -/
theorem base_prev (t : Fin cfg0.N) (h : t.val % 12 ≠ 0) : base (prev t) = base t := Fin.ext (by unfold base; dsimp only; omega)

/-- The rounded gradient the scratch keeps through a point's tile. -/
def keptAt (c : Dev nD) (t : Fin cfg0.N) : Vec F S768x1024 .bf16 :=
  dfKept (grid0.coords (base t)) (iblk m c 0 (base t)) (iblk m c 2 (base t)) (iblk m c 5 (base t)) (iblk m c 7 (base t))

/-- The column block of the gate's gradient that a point puts into its slot. -/
def gateSlot (c : Dev nD) (t : Fin cfg0.N) : Vec F S1x768x256 .bf16 :=
  k0_pay1 (k0_pay48 (iblk m c 3 t) (iblk m c 4 t) (keptAt m c t) (iblk m c 8 t))

/-- The column block of the up product's gradient that a point puts into its slot. -/
def upSlot (c : Dev nD) (t : Fin cfg0.N) : Vec F S1x768x256 .bf16 :=
  k0_pay2 (k0_pay49 (iblk m c 3 t) (keptAt m c t) (iblk m c 8 t))

/-- The accumulator after a point. -/
def accAt (c : Dev nD) : (n : ℕ) → n < cfg0.N → Vec F S768x1024 .f32
  | 0, h => k0_pay41 (k0_pay25 (F := F)) (k0_pay26 (F := F)) (iblk m c 9 ⟨0, h⟩) (k0_pay27 (F := F)) (iblk m c 10 ⟨0, h⟩)
  | n + 1, h =>
    if (n + 1) % 12 = 0 then
      k0_pay41 (k0_pay25 (F := F)) (k0_pay26 (F := F)) (iblk m c 9 ⟨n + 1, h⟩) (k0_pay27 (F := F)) (iblk m c 10 ⟨n + 1, h⟩)
    else
      k0_pay41 (accAt c n (Nat.lt_of_succ_lt h)) (gateSlot m c ⟨n, Nat.lt_of_succ_lt h⟩) (iblk m c 9 ⟨n + 1, h⟩)
        (upSlot m c ⟨n, Nat.lt_of_succ_lt h⟩) (iblk m c 10 ⟨n + 1, h⟩)

/-- The accumulator at a tile's first pass: the products of the cleared slots over zero. -/
theorem accAt_first (c : Dev nD) (t : Fin cfg0.N) (h : t.val % 12 = 0) :
    accAt m c t.val t.isLt = k0_pay41 (k0_pay25 (F := F)) (k0_pay26 (F := F)) (iblk m c 9 t) (k0_pay27 (F := F)) (iblk m c 10 t) := by
  obtain ⟨n, hn⟩ := t
  cases n with
  | zero => rfl
  | succ n => exact if_pos h

/-- The accumulator at a later pass: the products of the slots the pass before wrote, over what that pass left. -/
theorem accAt_next (c : Dev nD) (t : Fin cfg0.N) (h : t.val % 12 ≠ 0) :
    accAt m c t.val t.isLt = k0_pay41 (accAt m c (prev t).val (prev t).isLt) (gateSlot m c (prev t)) (iblk m c 9 t) (upSlot m c (prev t)) (iblk m c 10 t) := by
  obtain ⟨n, hn⟩ := t
  cases n with
  | zero => exact absurd (Nat.zero_mod _) h
  | succ n => exact if_neg h

/-- The column sums a tile's first pass leaves. -/
def sums0At (c : Dev nD) (t : Fin cfg0.N) : Vec F S1x1x8x1024 .f32 :=
  sumsFirst (grid0.coords (base t)) (iblk m c 0 (base t)) (iblk m c 2 (base t)) (iblk m c 5 (base t)) (iblk m c 7 (base t))

/-- The column sums after a point. -/
def sumsAt (c : Dev nD) (t : Fin cfg0.N) : Vec F S1x1x8x1024 .f32 :=
  if t.val % 12 = 11 then sumsLast (grid0.coords t) (sums0At m c t) (iblk m c 1 t) (iblk m c 5 t) (iblk m c 6 t) (accAt m c t.val t.isLt)
  else sums0At m c t

/-- The scratch operands. -/
abbrev scM0_0 : Memref sig .tc .vmem S768x1024 .bf16 := Memref.whole cc0_scratch0
abbrev scM0_1 : Memref sig .tc .vmem S768x1024 .f32 := Memref.whole cc0_scratch1
abbrev scM0_2 : Memref sig .tc .vmem S2x768x256 .bf16 := Memref.whole cc0_scratch2
abbrev scM0_3 : Memref sig .tc .vmem S2x768x256 .bf16 := Memref.whole cc0_scratch3

/-- The launch's invariant, the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the scratch buffers hold after point `t`: the kept gradient, the accumulator, and in the slot just written the two column blocks. -/
def held (c : Dev nD) (t : Fin cfg0.N) : sProp 𝕄 :=
  iprop(iprop(owns (c : Thread nD τ) scM0_0 fullShare (keptAt m c t) ∗ owns (c : Thread nD τ) scM0_1 fullShare (accAt m c t.val t.isLt)
      ∗ (∃ xs, ⌜slotWritten (grid0.coords t) xs = gateSlot m c t⌝ ∗ owns (c : Thread nD τ) scM0_2 fullShare xs)
      ∗ (∃ xs, ⌜slotWritten (grid0.coords t) xs = upSlot m c t⌝ ∗ owns (c : Thread nD τ) scM0_3 fullShare xs)) ∗ (∃ r, prngReg c r))

/-- The invariant before position `n`: the launch's before the first point, then what the point before left. -/
def PhiS (c : Dev nD) : (n : ℕ) → n ≤ cfg0.N → sProp 𝕄
  | 0, _ => Pipeline.ΦA spec0 c
  | n + 1, hn => held m c ⟨n, hn⟩

/-- Before a point that is not the first: what the point before left. -/
theorem PhiS_pos (c : Dev nD) (t : Fin cfg0.N) (hz : t.val ≠ 0) : PhiS m c t.val (Nat.le_of_lt t.isLt) = held m c (prev t) := by
  obtain ⟨n, hn⟩ := t
  cases n with
  | zero => exact absurd rfl hz
  | succ n => rfl

/-- What a point left, forgotten, is the launch's invariant. -/
theorem held_out (c : Dev nD) (t : Fin cfg0.N) : held m c t ⊢ Pipeline.ΦA spec0 c := by
  rw [PhiA0_eq]; unfold held
  iintro ⟨⟨HS0, HS1, ⟨%xs2, %h2, HS2⟩, ⟨%xs3, %h3, HS3⟩⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The invariant at any position, forgotten, is the launch's. -/
theorem PhiS_out (c : Dev nD) (n : ℕ) (h : n ≤ cfg0.N) : PhiS m c n h ⊢ Pipeline.ΦA spec0 c := by
  cases n with
  | zero => exact Idealize.SL.BI.Entails.refl _
  | succ n => exact held_out m c ⟨n, h⟩

/-! ## The pipeline's proof data -/

/-- The proof data: the arrays as the region finds them; after the body each input's buffer at its block and the results' at what the point leaves; the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dxOut (grid0.coords t) (iblk m c 0 t) (iblk m c 1 t) (iblk m c 5 t) (iblk m c 6 t) (accAt m c t.val t.isLt)
    | ⟨12, _⟩ => hOut (grid0.coords (base t)) (iblk m c 1 (base t)) (iblk m c 5 (base t)) (iblk m c 6 (base t))
    | ⟨13, _⟩ => dfOut (grid0.coords (base t)) (iblk m c 0 (base t)) (iblk m c 2 (base t)) (iblk m c 5 (base t)) (iblk m c 7 (base t))
    | ⟨14, _⟩ => k0_pay47 (iblk m c 3 t) (iblk m c 4 t)
    | ⟨15, _⟩ => k0_pay50 (iblk m c 3 t) (iblk m c 4 t) (keptAt m c t) (iblk m c 8 t)
    | ⟨16, _⟩ => k0_pay51 (iblk m c 3 t) (keptAt m c t) (iblk m c 8 t)
    | ⟨17, _⟩ => sumsAt m c t
    | ⟨_ + 18, h⟩ => absurd h (Nat.not_lt.2 (Nat.le_add_left 18 _))
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = dxOut (grid0.coords t) (iblk m c 0 t) (iblk m c 1 t) (iblk m c 5 t) (iblk m c 6 t) (accAt m c t.val t.isLt) := by dsimp only [dats]
theorem after0_12 (c : Dev nD) (t : Fin cfg0.N) : (dats m 0 c).after 12 t = hOut (grid0.coords (base t)) (iblk m c 1 (base t)) (iblk m c 5 (base t)) (iblk m c 6 (base t)) := by dsimp only [dats]
theorem after0_13 (c : Dev nD) (t : Fin cfg0.N) : (dats m 0 c).after 13 t = dfOut (grid0.coords (base t)) (iblk m c 0 (base t)) (iblk m c 2 (base t)) (iblk m c 5 (base t)) (iblk m c 7 (base t)) := by dsimp only [dats]
theorem after0_14 (c : Dev nD) (t : Fin cfg0.N) : (dats m 0 c).after 14 t = k0_pay47 (iblk m c 3 t) (iblk m c 4 t) := by dsimp only [dats]
theorem after0_15 (c : Dev nD) (t : Fin cfg0.N) : (dats m 0 c).after 15 t = k0_pay50 (iblk m c 3 t) (iblk m c 4 t) (keptAt m c t) (iblk m c 8 t) := by dsimp only [dats]
theorem after0_16 (c : Dev nD) (t : Fin cfg0.N) : (dats m 0 c).after 16 t = k0_pay51 (iblk m c 3 t) (keptAt m c t) (iblk m c 8 t) := by dsimp only [dats]
theorem after0_17 (c : Dev nD) (t : Fin cfg0.N) : (dats m 0 c).after 17 t = sumsAt m c t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The schedule of the results not stored at every pass -/

/-- The sublayer gradient is stored at a tile's last pass alone. -/
theorem idle_11 : ∀ t : Fin cfg0.N, t.val % 12 ≠ 11 → cfg0.idle 11 (grid0.coords t) = true := fun t h => by
  show (!(k0_cond2 (grid0.coords t) == 1#1)) = true
  rw [Bool.not_eq_true', beq_eq_false_iff_ne]; exact fun h2 => h ((last_iff t).mp h2)
theorem live_11 : ∀ t : Fin cfg0.N, t.val % 12 = 11 → cfg0.idle 11 (grid0.coords t) = false := fun t h => by
  show (!(k0_cond2 (grid0.coords t) == 1#1)) = false
  rw [Bool.not_eq_false', beq_iff_eq]; exact (last_iff t).mpr h
/-- The modulated input is stored at a tile's first pass alone. -/
theorem idle_12 : ∀ t : Fin cfg0.N, t.val % 12 ≠ 0 → cfg0.idle 12 (grid0.coords t) = true := fun t h => by
  show (!(k0_cond1 (grid0.coords t) == 1#1)) = true
  rw [Bool.not_eq_true', beq_eq_false_iff_ne]; exact fun h2 => h ((first_iff t).mp h2)
theorem live_12 : ∀ t : Fin cfg0.N, t.val % 12 = 0 → cfg0.idle 12 (grid0.coords t) = false := fun t h => by
  show (!(k0_cond1 (grid0.coords t) == 1#1)) = false
  rw [Bool.not_eq_false', beq_iff_eq]; exact (first_iff t).mpr h
/-- The gradient at the down product is stored at a tile's first pass alone. -/
theorem idle_13 : ∀ t : Fin cfg0.N, t.val % 12 ≠ 0 → cfg0.idle 13 (grid0.coords t) = true := fun t h => by
  show (!(k0_cond1 (grid0.coords t) == 1#1)) = true
  rw [Bool.not_eq_true', beq_eq_false_iff_ne]; exact fun h2 => h ((first_iff t).mp h2)
theorem live_13 : ∀ t : Fin cfg0.N, t.val % 12 = 0 → cfg0.idle 13 (grid0.coords t) = false := fun t h => by
  show (!(k0_cond1 (grid0.coords t) == 1#1)) = false
  rw [Bool.not_eq_false', beq_iff_eq]; exact (first_iff t).mpr h
/-- The column sums are stored at a tile's first and last passes. -/
theorem idle_17 : ∀ t : Fin cfg0.N, t.val % 12 ≠ 0 → t.val % 12 ≠ 11 → cfg0.idle 17 (grid0.coords t) = true := fun t h h' => by
  show (!(k0_cond1 (grid0.coords t) == 1#1) && !(k0_cond2 (grid0.coords t) == 1#1)) = true
  rw [Bool.and_eq_true, Bool.not_eq_true', beq_eq_false_iff_ne, Bool.not_eq_true', beq_eq_false_iff_ne]
  exact ⟨fun h2 => h ((first_iff t).mp h2), fun h2 => h' ((last_iff t).mp h2)⟩
theorem live_17_first : ∀ t : Fin cfg0.N, t.val % 12 = 0 → cfg0.idle 17 (grid0.coords t) = false := fun t h => by
  show (!(k0_cond1 (grid0.coords t) == 1#1) && !(k0_cond2 (grid0.coords t) == 1#1)) = false
  rw [(first_iff t).mpr h]; rfl
theorem live_17_last : ∀ t : Fin cfg0.N, t.val % 12 = 11 → cfg0.idle 17 (grid0.coords t) = false := fun t h => by
  show (!(k0_cond1 (grid0.coords t) == 1#1) && !(k0_cond2 (grid0.coords t) == 1#1)) = false
  rw [(last_iff t).mpr h, Bool.and_eq_false_iff]; exact Or.inr rfl

/-- A result written back at a tile's last pass alone is not written back elsewhere. -/
theorem noFlush_11 (t : Fin cfg0.N) (h : t.val % 12 ≠ 11) : (cfg0.win 11).flush t = false := by
  rw [← Bool.not_eq_true, flush0_11 t]; exact h
theorem noFlush_12 (t : Fin cfg0.N) (h : t.val % 12 ≠ 11) : (cfg0.win 12).flush t = false := by
  rw [← Bool.not_eq_true, flush0_12 t]; exact h
theorem noFlush_13 (t : Fin cfg0.N) (h : t.val % 12 ≠ 11) : (cfg0.win 13).flush t = false := by
  rw [← Bool.not_eq_true, flush0_13 t]; exact h
theorem noFlush_17 (t : Fin cfg0.N) (h : t.val % 12 ≠ 11) : (cfg0.win 17).flush t = false := by
  rw [← Bool.not_eq_true, flush0_17 t]; exact h

/-- A first pass, and it alone, finds nothing of its own in the results kept through a tile. -/
theorem fresh_12 : ∀ t : Fin cfg0.N, t.val % 12 ≠ 0 → cfg0.fresh 12 t.val = false :=
  (by decide +kernel : ∀ t : Fin grid0.N, t.val % 12 ≠ 0 → cfg0.fresh 12 t.val = false)
theorem fresh_13 : ∀ t : Fin cfg0.N, t.val % 12 ≠ 0 → cfg0.fresh 13 t.val = false :=
  (by decide +kernel : ∀ t : Fin grid0.N, t.val % 12 ≠ 0 → cfg0.fresh 13 t.val = false)
theorem fresh_17 : ∀ t : Fin cfg0.N, t.val % 12 ≠ 0 → cfg0.fresh 17 t.val = false :=
  (by decide +kernel : ∀ t : Fin grid0.N, t.val % 12 ≠ 0 → cfg0.fresh 17 t.val = false)

/-- What the results kept through a tile hold when a later pass begins. -/
theorem before0_12 (c : Dev nD) (t : Fin cfg0.N) (h : t.val % 12 ≠ 0) (d) : (dats m 0 c).before 12 t d = hOut (grid0.coords (base t)) (iblk m c 1 (base t)) (iblk m c 5 (base t)) (iblk m c 6 (base t)) := by
  rw [(dats m 0 c).before_out_traj 12 rfl (fun _ _ => rfl) (fun t hz hi hf => by
    have hn : t.val % 12 ≠ 0 := fun h0 => by rw [live_12 t h0] at hi; exact Bool.false_ne_true hi
    rw [after0_12, after0_12, base_prev t hn]) t.val t rfl d, fresh_12 t h, if_neg Bool.false_ne_true, after0_12, base_prev t h]
theorem before0_13 (c : Dev nD) (t : Fin cfg0.N) (h : t.val % 12 ≠ 0) (d) : (dats m 0 c).before 13 t d = dfOut (grid0.coords (base t)) (iblk m c 0 (base t)) (iblk m c 2 (base t)) (iblk m c 5 (base t)) (iblk m c 7 (base t)) := by
  rw [(dats m 0 c).before_out_traj 13 rfl (fun _ _ => rfl) (fun t hz hi hf => by
    have hn : t.val % 12 ≠ 0 := fun h0 => by rw [live_13 t h0] at hi; exact Bool.false_ne_true hi
    rw [after0_13, after0_13, base_prev t hn]) t.val t rfl d, fresh_13 t h, if_neg Bool.false_ne_true, after0_13, base_prev t h]
theorem sums0At_prev (c : Dev nD) (t : Fin cfg0.N) (h : t.val % 12 ≠ 0) : sums0At m c (prev t) = sums0At m c t := by
  unfold sums0At; rw [base_prev t h]
theorem sumsAt_mid (c : Dev nD) (t : Fin cfg0.N) (h : t.val % 12 ≠ 11) : sumsAt m c t = sums0At m c t := if_neg h
theorem sumsAt_last (c : Dev nD) (t : Fin cfg0.N) (h : t.val % 12 = 11) :
    sumsAt m c t = sumsLast (grid0.coords t) (sums0At m c t) (iblk m c 1 t) (iblk m c 5 t) (iblk m c 6 t) (accAt m c t.val t.isLt) := if_pos h
theorem sumsAt_prev (c : Dev nD) (t : Fin cfg0.N) (h : t.val % 12 ≠ 0) : sumsAt m c (prev t) = sums0At m c t :=
  (sumsAt_mid m c (prev t) (by show (t.val - 1) % 12 ≠ 11; omega)).trans (sums0At_prev m c t h)
theorem before0_17 (c : Dev nD) (t : Fin cfg0.N) (h : t.val % 12 ≠ 0) (d) : (dats m 0 c).before 17 t d = sums0At m c t := by
  rw [(dats m 0 c).before_out_traj 17 rfl (fun _ _ => rfl) (fun t hz hi hf => by
    have hn : t.val % 12 ≠ 0 := fun h0 => by rw [live_17_first t h0] at hi; exact Bool.false_ne_true hi
    have hl : t.val % 12 ≠ 11 := fun h0 => by rw [live_17_last t h0] at hi; exact Bool.false_ne_true hi
    rw [after0_17, after0_17, sumsAt_mid m c t hl]; exact (sumsAt_prev m c t hn).symm) t.val t rfl d, fresh_17 t h, if_neg Bool.false_ne_true, after0_17]
  exact sumsAt_prev m c t h

/-- Each window's current staging memref at a point, and its wholeness. -/
abbrev ms0_0 (t : Fin cfg0.N) : Memref sig .tc .vmem S1x768x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x768x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x768x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x768x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x768x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x768x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x768x256 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x768x256 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x768x256 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1x8x1024 .f32 := win0_17.stage (cfg0.slots t 17)
abbrev hs0_17 (t : Fin cfg0.N) : (ms0_17 t).IsWhole := hstage0_17 ((cfg0.slots t 17).cast nbuf0_17)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- Where a window is live, or written back, the body leaves its contents. -/
theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]
theorem leaves_flush (c : Dev nD) (t : Fin cfg0.N) (w : Fin cfg0.W) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (grid0.coords t) <;> rfl

/-- Reading the slot just written gives what was put there. -/
theorem slot_put (i : grid0.Coords) (xs : Vec F S2x768x256 .bf16) (w : Vec F S1x768x256 .bf16) : slotWritten i (slotPut i xs w) = w :=
  VecWindow.window_put_same (s := S2x768x256) xs (k0_off2 i) S1x768x256.size (k0_off2_inb i) w

/-- A later pass reads the slot the pass before wrote. -/
theorem slot_next (t : Fin cfg0.N) (h : t.val % 12 ≠ 0) (xs : Vec F S2x768x256 .bf16) :
    slotRead (grid0.coords t) xs = slotWritten (grid0.coords (prev t)) xs :=
  window_congr (s := S2x768x256) xs (off_next t h) _ _

end Cert.FfnGrad

end
-- ==== Proof.SumBlocks.lean ====
/- A sum over consecutive blocks of indices is the sum over all of them. -/
module

public import Mathlib.Algebra.BigOperators.Fin
public import Mathlib.Algebra.BigOperators.Intervals

@[expose] public section

namespace Cert.Sums

/-- Adding up, block by block, `n` consecutive blocks of `b` terms each is adding up the `n * b` terms. -/
theorem sum_blocks {M : Type*} [AddCommMonoid M] (f : ℕ → M) (b n : ℕ) :
    ∑ s ∈ Finset.range n, ∑ k ∈ Finset.range b, f (b * s + k) = ∑ r ∈ Finset.range (n * b), f r := by
  induction n with
  | zero => simp
  | succ n ih => rw [Finset.sum_range_succ, ih, Nat.succ_mul, Finset.sum_range_add, Nat.mul_comm b n]

/-- The same with the inner index and the whole index bounded: block `s` holds the terms `b * s + k`, `k < b`. -/
theorem sum_blocks_fin {M : Type*} [AddCommMonoid M] (N b n : ℕ) (hN : N = n * b) (f : ℕ → M) :
    ∑ s ∈ Finset.range n, ∑ k : Fin b, f (b * s + k.val) = ∑ r : Fin N, f r.val := by
  subst hN
  rw [Fin.sum_univ_eq_sum_range f, ← sum_blocks]
  exact Finset.sum_congr rfl fun s _ => Fin.sum_univ_eq_sum_range (fun k => f (b * s + k)) b

end Cert.Sums

end
-- ==== Proof.FfnPoint.lean ====
/- What each grid point leaves, entry by entry, in terms of the arguments. -/
module

public import proofs.«01_k».proof.Proof.FfnPayB
public import proofs.«01_k».proof.Proof.FfnBlock
public import proofs.«01_k».proof.Proof.FfnFrame
public import proofs.«01_k».proof.Proof.SumBlocks

@[expose] public section

set_option maxRecDepth 16384

noncomputable section

namespace Cert.FfnGrad

open Idealize.ShloMosaic Idealize.ShloMosaic.TcCoe Idealize.SL.Sem Cert.KernelIdeal Cert.KernelIdeal.Gen

variable (m : (ℓ : Loc nD τ sig) → Buf (Elt Ideal) ℓ) (c : Dev nD)

theorem coord_tile : ∀ t : Fin cfg0.N, (grid0.coords t 1).val = t.val / 12 % 3 :=
  (by decide +kernel : ∀ t : Fin grid0.N, _)

theorem pb_base (t : Fin cfg0.N) : pb (base t) = pb t :=
  Fin.ext (by show (t.val - t.val % 12) / 36 = t.val / 36; omega)
theorem pj_base (t : Fin cfg0.N) : pj (base t) = pj t :=
  Fin.ext (by show (t.val - t.val % 12) / 12 % 3 = t.val / 12 % 3; omega)
theorem pb_prev (t : Fin cfg0.N) (h : t.val % 12 ≠ 0) : pb (prev t) = pb t :=
  Fin.ext (by show (t.val - 1) / 36 = t.val / 36; omega)
theorem pj_prev (t : Fin cfg0.N) (h : t.val % 12 ≠ 0) : pj (prev t) = pj t :=
  Fin.ext (by show (t.val - 1) / 12 % 3 = t.val / 12 % 3; omega)
theorem colBefore_prev (t : Fin cfg0.N) (h : t.val % 12 ≠ 0) (q : Fin 256) : colBefore t q = col (prev t) q :=
  Fin.ext (by show 256 * (t.val % 12 - 1) + q.val = 256 * min ((t.val - 1) % 12) 10 + q.val; omega)

/-- A token of a point's tile. -/
abbrev tk (t : Fin cfg0.N) (r : Fin 768) : Fin 2304 := Args.tok (pj t) r

section Entries
variable (t : Fin cfg0.N) (r : Fin 768) (d : Fin 1024) (q : Fin 256)

/-- The modulation row that a point's token takes. -/
theorem row_blk (p : Fin 8) : (if r.val < 256 then (if (grid0.coords t 1).val = 0 then (iblk m c 5 t : Vec Ideal S1x2x8x1024 .f32) (ix4 0 0 p d) else (iblk m c 5 t : Vec Ideal S1x2x8x1024 .f32) (ix4 0 1 p d))
      else (iblk m c 5 t : Vec Ideal S1x2x8x1024 .f32) (ix4 0 1 p d) : EReal) = (args m c).row p (pb t) (tk t r) d := by
  rw [row_tok, blk5, blk5, coord_tile]
  rfl

theorem tokRow_x : tokRow (iblk m c 1 t) r = (args m c).x (pb t) (tk t r) := funext fun d => blk1 m c t r d
theorem tokRow_f : tokRow (iblk m c 2 t) r = (args m c).f (pb t) (tk t r) := funext fun d => blk2 m c t r d

theorem h_at : (hOut (F := Ideal) (grid0.coords t) (iblk m c 1 t) (iblk m c 5 t) (iblk m c 6 t) : S1x768x1024.Idx → EReal) (ix3 0 r d) = (args m c).h (pb t) (tk t r) d := by
  rw [hOut_eq, row_blk, row_blk, tokRow_x, blk1, blk6]
  rfl

theorem dfWide_at : (dfWide (F := Ideal) (grid0.coords t) (iblk m c 0 t) (iblk m c 2 t) (iblk m c 5 t) (iblk m c 7 t) : S768x1024.Idx → EReal) (ix2 r d) = (args m c).df (pb t) (tk t r) d := by
  rw [dfWide_eq, tokRow_f]
  unfold Args.df
  congr 1
  · funext d; rw [blk2]; rfl
  · funext d; rw [blk0, row_blk, blk7]; rfl

theorem kept_at : (keptAt m c t : S768x1024.Idx → EReal) (ix2 r d) = (args m c).df (pb t) (tk t r) d := by
  unfold keptAt
  rw [dfKept_eq, dfWide_at]
  unfold tk
  rw [pb_base, pj_base]

theorem dact_at : (∑ d, (keptAt m c t : S768x1024.Idx → EReal) (ix2 r d) * (iblk m c 8 t : Vec Ideal S256x1024 .bf16) (ix2 q d) : EReal) = (args m c).dact (pb t) (tk t r) (col t q) :=
  Finset.sum_congr rfl fun d _ => by rw [kept_at, blk8]

theorem act_at : (k0_pay47 (F := Ideal) (iblk m c 3 t) (iblk m c 4 t) : S1x768x256.Idx → EReal) (ix3 0 r q) = (args m c).act (pb t) (tk t r) (col t q) := by
  rw [pay47_eq, blk3, blk4]; rfl

theorem dgate_at : (k0_pay48 (F := Ideal) (iblk m c 3 t) (iblk m c 4 t) (keptAt m c t) (iblk m c 8 t) : S768x256.Idx → EReal) (ix2 r q) = (args m c).dgate (pb t) (tk t r) (col t q) := by
  rw [pay48_eq, dact_at, blk3, blk4]; rfl

theorem dup_at : (k0_pay49 (F := Ideal) (iblk m c 3 t) (keptAt m c t) (iblk m c 8 t) : S768x256.Idx → EReal) (ix2 r q) = (args m c).dup (pb t) (tk t r) (col t q) := by
  rw [pay49_eq, dact_at, blk3]; rfl

end Entries

/-! ## The accumulator -/

/-- The gate's share of column `k` (zero past the width), -/
def gateTerm (A : Args) (b : Fin 4) (s : Fin 2304) (d : Fin 1024) (k : ℕ) : EReal := if h : k < 2816 then A.dgate b s ⟨k, h⟩ * A.wg d ⟨k, h⟩ else 0
/-- the up product's, -/
def upTerm (A : Args) (b : Fin 4) (s : Fin 2304) (d : Fin 1024) (k : ℕ) : EReal := if h : k < 2816 then A.dup b s ⟨k, h⟩ * A.wu d ⟨k, h⟩ else 0
/-- and what chunk `n` of 256 columns adds. -/
def chunk (A : Args) (b : Fin 4) (s : Fin 2304) (d : Fin 1024) (n : ℕ) : EReal :=
  ∑ q : Fin 256, gateTerm A b s d (256 * n + q.val) + ∑ q : Fin 256, upTerm A b s d (256 * n + q.val)

/-- The eleven chunks are the whole width. -/
theorem chunks (A : Args) (b : Fin 4) (s : Fin 2304) (d : Fin 1024) : ∑ n ∈ Finset.range 11, chunk A b s d n = A.dh b s d := by
  unfold chunk Args.dh
  rw [Finset.sum_add_distrib, Sums.sum_blocks_fin 2816 256 11 (by norm_num) (gateTerm A b s d), Sums.sum_blocks_fin 2816 256 11 (by norm_num) (upTerm A b s d)]
  exact congrArg₂ (· + ·) (Finset.sum_congr rfl fun k _ => dif_pos k.isLt) (Finset.sum_congr rfl fun k _ => dif_pos k.isLt)

/-- After a pass the accumulator holds the chunks of the passes before it. -/
theorem acc_at (r : Fin 768) (d : Fin 1024) : ∀ (n : ℕ) (h : n < cfg0.N),
    (accAt m c n h : S768x1024.Idx → EReal) (ix2 r d) = ∑ s ∈ Finset.range (n % 12), chunk (args m c) (pb ⟨n, h⟩) (tk ⟨n, h⟩ r) d s := by
  intro n
  induction n with
  | zero =>
    intro h
    refine (congrFun (accAt_first m c ⟨0, h⟩ rfl) (ix2 r d)).trans ?_
    rw [pay41_eq]
    simp only [pay25_eq, pay26_eq, pay27_eq, zero_mul, Finset.sum_const_zero, add_zero]
    rfl
  | succ n ih =>
    intro h
    by_cases h0 : (n + 1) % 12 = 0
    · refine (congrFun (accAt_first m c ⟨n + 1, h⟩ h0) (ix2 r d)).trans ?_
      rw [pay41_eq]
      simp only [pay25_eq, pay26_eq, pay27_eq, zero_mul, Finset.sum_const_zero, add_zero]
      rw [h0]; rfl
    · refine (congrFun (accAt_next m c ⟨n + 1, h⟩ h0) (ix2 r d)).trans ?_
      rw [pay41_eq]
      have e : (n + 1) % 12 = n % 12 + 1 := by omega
      rw [e, Finset.sum_range_succ]
      have hb := pb_prev ⟨n + 1, h⟩ h0
      have hj := pj_prev ⟨n + 1, h⟩ h0
      have hp : prev ⟨n + 1, h⟩ = ⟨n, Nat.lt_of_succ_lt h⟩ := rfl
      refine congrArg₂ (· + ·) ((ih (Nat.lt_of_succ_lt h)).trans ?_) (congrArg₂ (· + ·) (Finset.sum_congr rfl fun q _ => ?_) (Finset.sum_congr rfl fun q _ => ?_))
      · unfold tk; rw [← hb, ← hj, hp]
      · unfold gateSlot gateTerm
        rw [pay1_eq, dgate_at, blk9, colBefore_prev _ h0]
        unfold tk
        rw [hb, hj, dif_pos (by omega)]
        have : col (prev ⟨n + 1, h⟩) q = ⟨256 * (n % 12) + q.val, by omega⟩ := Fin.ext (by show 256 * min (n % 12) 10 + q.val = 256 * (n % 12) + q.val; omega)
        rw [this]
      · unfold upSlot upTerm
        rw [pay2_eq, dup_at, blk10, colBefore_prev _ h0]
        unfold tk
        rw [hb, hj, dif_pos (by omega)]
        have : col (prev ⟨n + 1, h⟩) q = ⟨256 * (n % 12) + q.val, by omega⟩ := Fin.ext (by show 256 * min (n % 12) 10 + q.val = 256 * (n % 12) + q.val; omega)
        rw [this]

section Last
variable (t : Fin cfg0.N) (ht : t.val % 12 = 11) (r : Fin 768) (d : Fin 1024)
include ht

/-- At a tile's last pass the accumulator holds the gradient at the modulated input. -/
theorem acc_last : (accAt m c t.val t.isLt : S768x1024.Idx → EReal) (ix2 r d) = (args m c).dh (pb t) (tk t r) d := by
  rw [acc_at, ht]; exact chunks _ _ _ _

/-- The gradient at the input. -/
theorem dx_at : (dxOut (F := Ideal) (grid0.coords t) (iblk m c 0 t) (iblk m c 1 t) (iblk m c 5 t) (iblk m c 6 t) (accAt m c t.val t.isLt) : S1x768x1024.Idx → EReal) (ix3 0 r d)
    = (args m c).dx1 (pb t) (tk t r) d := by
  rw [dxOut_eq, tokRow_x, blk0]
  unfold Args.dx1
  congr 2
  · funext d; rw [blk1]; rfl
  · funext d; rw [acc_last m c t ht, row_blk, blk6]; rfl

end Last

/-! ## The tile sums -/

theorem latSum_eq (t : Fin cfg0.N) (v : Fin 4 → Fin 2304 → Fin 1024 → EReal) (b : Fin 4) (d : Fin 1024) :
    latSum (grid0.coords t) (fun r => v b (tk t r) d) = Args.tileSum (Args.latent v) b (pj t) d := by
  unfold latSum Args.tileSum
  rw [sum_split]
  refine congrArg₂ (· + ·) (Finset.sum_congr rfl fun r _ => ?_) ?_
  · exact (if_neg (show ¬ 768 * (t.val / 12 % 3) + (256 + r.val) < 256 by omega)).symm
  · rw [coord_tile]
    by_cases h : t.val / 12 % 3 = 0
    · rw [if_pos h]
      exact (Finset.sum_eq_zero fun r _ => if_pos (show 768 * (t.val / 12 % 3) + r.val < 256 by omega)).symm
    · rw [if_neg h]
      exact Finset.sum_congr rfl fun r _ => (if_neg (show ¬ 768 * (t.val / 12 % 3) + r.val < 256 by omega)).symm

theorem ctxSum_eq (t : Fin cfg0.N) (v : Fin 4 → Fin 2304 → Fin 1024 → EReal) (b : Fin 4) (d : Fin 1024) :
    ctxSum (grid0.coords t) (fun r => v b (tk t r) d) = Args.tileSum (Args.context v) b (pj t) d := by
  unfold ctxSum Args.tileSum
  have e : ∑ r : Fin 512, Args.context v b (Args.tok (pj t) ⟨256 + r.val, by omega⟩) d = 0 :=
    Finset.sum_eq_zero fun r _ => if_neg (show ¬ 768 * (t.val / 12 % 3) + (256 + r.val) < 256 by omega)
  rw [sum_split, e, zero_add, coord_tile]
  by_cases h : t.val / 12 % 3 = 0
  · rw [if_pos h]
    exact Finset.sum_congr rfl fun r _ => (if_pos (show 768 * (t.val / 12 % 3) + r.val < 256 by omega)).symm
  · rw [if_neg h]
    exact (Finset.sum_eq_zero fun r _ => if_neg (show ¬ 768 * (t.val / 12 % 3) + r.val < 256 by omega)).symm

section Rows
variable (t : Fin cfg0.N) (ht : t.val % 12 = 11) (p : Fin 8) (d : Fin 1024)

/-- The gradient's block, the down product's and the second norm's gain, as a point reads them. -/
abbrev inDx : S1x768x1024.Idx → EReal := iblk m c 0 t
abbrev inF : S1x768x1024.Idx → EReal := iblk m c 2 t
abbrev inN4 : S1x1024.Idx → EReal := iblk m c 7 t

/-- A token's share of the output gate's gradient. -/
theorem dg2_at (r : Fin 768) : inDx m c t (ix3 0 r d) * (inF m c t (ix3 0 r d) * invRms (tokRow (inF m c t) r) * inN4 m c t (ix2 0 d)) = (args m c).dg2 (pb t) (tk t r) d := by
  rw [show tokRow (inF m c t) r = _ from tokRow_f m c t r, show inDx m c t (ix3 0 r d) = _ from blk0 m c t r d, show inF m c t (ix3 0 r d) = _ from blk2 m c t r d,
    show inN4 m c t (ix2 0 d) = _ from blk7 m c t d]
  rfl

/-- What a tile's first pass puts into the rows that the last pass leaves alone. -/
theorem sums0_at (s : Fin cfg0.N) : (sumsFirst (F := Ideal) (grid0.coords s) (iblk m c 0 s) (iblk m c 2 s) (iblk m c 5 s) (iblk m c 7 s) : S1x1x8x1024.Idx → EReal) (ix4 0 0 2 d) = (args m c).st (pb s) (pj s) 2 d
    ∧ (sumsFirst (F := Ideal) (grid0.coords s) (iblk m c 0 s) (iblk m c 2 s) (iblk m c 5 s) (iblk m c 7 s) : S1x1x8x1024.Idx → EReal) (ix4 0 0 4 d) = (args m c).st (pb s) (pj s) 4 d
    ∧ (sumsFirst (F := Ideal) (grid0.coords s) (iblk m c 0 s) (iblk m c 2 s) (iblk m c 5 s) (iblk m c 7 s) : S1x1x8x1024.Idx → EReal) (ix4 0 0 7 d) = (args m c).st (pb s) (pj s) 7 d := by
  unfold sumsFirst
  refine ⟨?_, ?_, ?_⟩
  · refine (put_row _ _ 4 2 d).trans ((if_neg (by decide)).trans ((put_row _ _ 7 2 d).trans ((if_neg (by decide)).trans ((put_row _ _ 2 2 d).trans ((if_pos rfl).trans ?_)))))
    rw [pay12_eq]
    exact (congrArg (latSum (grid0.coords s)) (funext fun r => dg2_at m c s d r)).trans (latSum_eq s (args m c).dg2 (pb s) d)
  · refine (put_row _ _ 4 4 d).trans ((if_pos rfl).trans ?_)
    rw [pay15_eq]
    show _ = ∑ r, (args m c).dn4 (pb s) (tk s r) d
    refine Finset.sum_congr rfl fun r _ => ?_
    rw [row_blk, tokRow_f, blk0, blk2]; rfl
  · refine (put_row _ _ 4 7 d).trans ((if_neg (by decide)).trans ((put_row _ _ 7 7 d).trans ((if_pos rfl).trans ?_)))
    rw [pay13_eq]
    exact (congrArg (ctxSum (grid0.coords s)) (funext fun r => dg2_at m c s d r)).trans (ctxSum_eq s (args m c).dg2 (pb s) d)

include ht in
/-- What a tile's last pass puts into the row `p` of the sums, or finds there. -/
theorem sums_at : (sumsAt m c t : S1x1x8x1024.Idx → EReal) (ix4 0 0 p d) = (args m c).st (pb t) (pj t) p d := by
  obtain ⟨e2, e4, e7⟩ := sums0_at m c d (base t)
  rw [pb_base, pj_base] at e2 e4 e7
  have ed : ∀ r : Fin 768, (accAt m c t.val t.isLt : S768x1024.Idx → EReal) (ix2 r d) = (args m c).dh (pb t) (tk t r) d := fun r => acc_last m c t ht r d
  have es : ∀ r : Fin 768, (accAt m c t.val t.isLt : S768x1024.Idx → EReal) (ix2 r d) * (k0_pay31 (F := Ideal) (iblk m c 1 t) (iblk m c 6 t) : S768x1024.Idx → EReal) (ix2 r d)
      = (args m c).dscale (pb t) (tk t r) d := fun r => by
    rw [ed, pay31_eq, tokRow_x, blk1, blk6]; rfl
  rw [sumsAt_last m c t ht]
  unfold sumsLast sums0At
  fin_cases p
  · refine (put_row _ _ 3 0 d).trans ((if_neg (by decide)).trans ((put_row _ _ 6 0 d).trans ((if_neg (by decide)).trans ((put_row _ _ 1 0 d).trans ((if_neg (by decide)).trans
      ((put_row _ _ 5 0 d).trans ((if_neg (by decide)).trans ((put_row _ _ 0 0 d).trans ((if_pos rfl).trans ?_)))))))))
    rw [pay35_eq]
    simp only [ed]
    exact latSum_eq t (args m c).dh (pb t) d
  · refine (put_row _ _ 3 1 d).trans ((if_neg (by decide)).trans ((put_row _ _ 6 1 d).trans ((if_neg (by decide)).trans ((put_row _ _ 1 1 d).trans ((if_pos rfl).trans ?_)))))
    rw [pay39_eq]
    simp only [es]
    exact latSum_eq t (args m c).dscale (pb t) d
  · refine (put_row _ _ 3 2 d).trans ((if_neg (by decide)).trans ((put_row _ _ 6 2 d).trans ((if_neg (by decide)).trans ((put_row _ _ 1 2 d).trans ((if_neg (by decide)).trans
      ((put_row _ _ 5 2 d).trans ((if_neg (by decide)).trans ((put_row _ _ 0 2 d).trans ((if_neg (by decide)).trans e2)))))))))
  · refine (put_row _ _ 3 3 d).trans ((if_pos rfl).trans ?_)
    rw [pay3_eq]
    show _ = ∑ r, (args m c).dn3 (pb t) (tk t r) d
    refine Finset.sum_congr rfl fun r _ => ?_
    rw [pay32_eq, ed, row_blk, pay30_eq, tokRow_x, blk1]; rfl
  · refine (put_row _ _ 3 4 d).trans ((if_neg (by decide)).trans ((put_row _ _ 6 4 d).trans ((if_neg (by decide)).trans ((put_row _ _ 1 4 d).trans ((if_neg (by decide)).trans
      ((put_row _ _ 5 4 d).trans ((if_neg (by decide)).trans ((put_row _ _ 0 4 d).trans ((if_neg (by decide)).trans e4)))))))))
  · refine (put_row _ _ 3 5 d).trans ((if_neg (by decide)).trans ((put_row _ _ 6 5 d).trans ((if_neg (by decide)).trans ((put_row _ _ 1 5 d).trans ((if_neg (by decide)).trans
      ((put_row _ _ 5 5 d).trans ((if_pos rfl).trans ?_)))))))
    rw [pay36_eq]
    simp only [ed]
    exact ctxSum_eq t (args m c).dh (pb t) d
  · refine (put_row _ _ 3 6 d).trans ((if_neg (by decide)).trans ((put_row _ _ 6 6 d).trans ((if_pos rfl).trans ?_)))
    rw [pay40_eq]
    simp only [es]
    exact ctxSum_eq t (args m c).dscale (pb t) d
  · refine (put_row _ _ 3 7 d).trans ((if_neg (by decide)).trans ((put_row _ _ 6 7 d).trans ((if_neg (by decide)).trans ((put_row _ _ 1 7 d).trans ((if_neg (by decide)).trans
      ((put_row _ _ 5 7 d).trans ((if_neg (by decide)).trans ((put_row _ _ 0 7 d).trans ((if_neg (by decide)).trans e7)))))))))

end Rows

end Cert.FfnGrad

end
-- ==== Proof.FfnRunA.lean ====
/- The body at a tile's first pass: what it leaves, from any contents. -/
module

public import proofs.«01_k».proof.Proof.FfnVals

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a tile's first pass: every buffer's contents afterwards. -/
theorem runA (c : Dev nD) (i : grid0.Coords) (arg3 : Memref sig .tc .vmem S1x768x1024 .f32) (harg3 : arg3.IsWhole) (arg4 : Memref sig .tc .vmem S1x768x1024 .f32) (harg4 : arg4.IsWhole) (arg5 : Memref sig .tc .vmem S1x768x1024 .f32) (harg5 : arg5.IsWhole) (arg6 : Memref sig .tc .vmem S1x768x256 .bf16) (harg6 : arg6.IsWhole) (arg7 : Memref sig .tc .vmem S1x768x256 .bf16) (harg7 : arg7.IsWhole) (arg8 : Memref sig .tc .vmem S1x2x8x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x768x1024 .f32) (harg14 : arg14.IsWhole) (arg15 : Memref sig .tc .vmem S1x768x1024 .bf16) (harg15 : arg15.IsWhole) (arg16 : Memref sig .tc .vmem S1x768x1024 .bf16) (harg16 : arg16.IsWhole) (arg17 : Memref sig .tc .vmem S1x768x256 .bf16) (harg17 : arg17.IsWhole) (arg18 : Memref sig .tc .vmem S1x768x256 .bf16) (harg18 : arg18.IsWhole) (arg19 : Memref sig .tc .vmem S1x768x256 .bf16) (harg19 : arg19.IsWhole) (arg20 : Memref sig .tc .vmem S1x1x8x1024 .f32) (harg20 : arg20.IsWhole) (arg21 : Memref sig .tc .vmem S768x1024 .bf16) (harg21 : arg21.IsWhole) (arg22 : Memref sig .tc .vmem S768x1024 .f32) (harg22 : arg22.IsWhole) (arg23 : Memref sig .tc .vmem S2x768x256 .bf16) (harg23 : arg23.IsWhole) (arg24 : Memref sig .tc .vmem S2x768x256 .bf16) (harg24 : arg24.IsWhole)
    (hc1 : k0_cond1 i = 1#1) (hc2 : ¬k0_cond2 i = 1#1) (hoff : k0_off1 i = ![1, 0, 0])
    (x0 : Vec F S1x768x1024 .f32) (x1 : Vec F S1x768x1024 .f32) (x2 : Vec F S1x768x1024 .f32) (x3 : Vec F S1x768x256 .bf16) (x4 : Vec F S1x768x256 .bf16) (x5 : Vec F S1x2x8x1024 .f32) (x6 : Vec F S1x1024 .f32) (x7 : Vec F S1x1024 .f32) (x8 : Vec F S256x1024 .bf16) (x9 : Vec F S256x1024 .bf16) (x10 : Vec F S256x1024 .bf16) (y11 : Vec F S1x768x1024 .f32) (y12 : Vec F S1x768x1024 .bf16) (y13 : Vec F S1x768x1024 .bf16) (y14 : Vec F S1x768x256 .bf16) (y15 : Vec F S1x768x256 .bf16) (y16 : Vec F S1x768x256 .bf16) (y17 : Vec F S1x1x8x1024 .f32) (y18 : Vec F S768x1024 .bf16) (y19 : Vec F S768x1024 .f32) (y20 : Vec F S2x768x256 .bf16) (y21 : Vec F S2x768x256 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y11 ∗ owns (c : Thread nD τ) arg15 fullShare y12 ∗ owns (c : Thread nD τ) arg16 fullShare y13 ∗ owns (c : Thread nD τ) arg17 fullShare y14 ∗ owns (c : Thread nD τ) arg18 fullShare y15 ∗ owns (c : Thread nD τ) arg19 fullShare y16 ∗ owns (c : Thread nD τ) arg20 fullShare y17 ∗ owns (c : Thread nD τ) arg21 fullShare y18 ∗ owns (c : Thread nD τ) arg22 fullShare y19 ∗ owns (c : Thread nD τ) arg23 fullShare y20 ∗ owns (c : Thread nD τ) arg24 fullShare y21
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y11 ∗ owns (c : Thread nD τ) arg15 fullShare (hOut i x1 x5 x6) ∗ owns (c : Thread nD τ) arg16 fullShare (dfOut i x0 x2 x5 x7) ∗ owns (c : Thread nD τ) arg17 fullShare (k0_pay47 x3 x4) ∗ owns (c : Thread nD τ) arg18 fullShare (k0_pay50 x3 x4 (dfKept i x0 x2 x5 x7) x8) ∗ owns (c : Thread nD τ) arg19 fullShare (k0_pay51 x3 (dfKept i x0 x2 x5 x7) x8) ∗ owns (c : Thread nD τ) arg20 fullShare (sumsFirst i x0 x2 x5 x7) ∗ owns (c : Thread nD τ) arg21 fullShare (dfKept i x0 x2 x5 x7) ∗ owns (c : Thread nD τ) arg22 fullShare (k0_pay41 (k0_pay25 (F := F)) (k0_pay26 (F := F)) x9 (k0_pay27 (F := F)) x10) ∗ owns (c : Thread nD τ) arg23 fullShare (slotPut i (VecWindow.put y20 ![1, 0, 0] S1x768x256.size (k0_pay26 (F := F))) (k0_pay1 (k0_pay48 x3 x4 (dfKept i x0 x2 x5 x7) x8))) ∗ owns (c : Thread nD τ) arg24 fullShare (slotPut i (VecWindow.put y21 ![1, 0, 0] S1x768x256.size (k0_pay27 (F := F))) (k0_pay2 (k0_pay49 x3 (dfKept i x0 x2 x5 x7) x8)))) -∗ K ⟨⟩))
      ⊢ wp frame (wpE (defs₀ (F := F)) Variants.none c none) E (cc0_ffn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz2 : (![0, 0] : Fin 2 → ℕ) = fun _ => 0 := by funext a; fin_cases a <;> rfl
  have hz3 : (![0, 0, 0] : Fin 3 → ℕ) = fun _ => 0 := by funext a; fin_cases a <;> rfl
  have hz4 : (![0, 0, 0, 0] : Fin 4 → ℕ) = fun _ => 0 := by funext a; fin_cases a <;> rfl
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  simp only [cc0_ffn_bwd_eq_skeleton]; unfold cc0_ffn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  letI : ClosedOff (k0_off1 i) := ⟨![1, 0, 0], hoff⟩
  have e0 : arg3.view.readAt (Elt F) (Rect.unit ![0, 0, 0] S1x768x1024.size inb_S1x768x1024_S1x768x1024_0_0_0).toLoadRect f0 = x0 := (View.readAt_full (s := S1x768x1024) _ _ _).trans hf0
  have e1 : arg4.view.readAt (Elt F) (Rect.unit ![0, 0, 0] S1x768x1024.size inb_S1x768x1024_S1x768x1024_0_0_0).toLoadRect f1 = x1 := (View.readAt_full (s := S1x768x1024) _ _ _).trans hf1
  have e2 : arg5.view.readAt (Elt F) (Rect.unit ![0, 0, 0] S1x768x1024.size inb_S1x768x1024_S1x768x1024_0_0_0).toLoadRect f2 = x2 := (View.readAt_full (s := S1x768x1024) _ _ _).trans hf2
  have e3 : arg6.view.readAt (Elt F) (Rect.unit ![0, 0, 0] S1x768x256.size inb_S1x768x256_S1x768x256_0_0_0).toLoadRect f3 = x3 := (View.readAt_full (s := S1x768x256) _ _ _).trans hf3
  have e4 : arg7.view.readAt (Elt F) (Rect.unit ![0, 0, 0] S1x768x256.size inb_S1x768x256_S1x768x256_0_0_0).toLoadRect f4 = x4 := (View.readAt_full (s := S1x768x256) _ _ _).trans hf4
  have e6 : arg9.view.readAt (Elt F) (Rect.unit ![0, 0] S1x1024.size inb_S1x1024_S1x1024_0_0).toLoadRect f6 = x6 := (View.readAt_full (s := S1x1024) _ _ _).trans hf6
  have e7 : arg10.view.readAt (Elt F) (Rect.unit ![0, 0] S1x1024.size inb_S1x1024_S1x1024_0_0).toLoadRect f7 = x7 := (View.readAt_full (s := S1x1024) _ _ _).trans hf7
  have e8 : arg11.view.readAt (Elt F) (Rect.unit ![0, 0] S256x1024.size inb_S256x1024_S256x1024_0_0).toLoadRect f8 = x8 := (View.readAt_full (s := S256x1024) _ _ _).trans hf8
  have e9 : arg12.view.readAt (Elt F) (Rect.unit ![0, 0] S256x1024.size inb_S256x1024_S256x1024_0_0).toLoadRect f9 = x9 := (View.readAt_full (s := S256x1024) _ _ _).trans hf9
  have e10 : arg13.view.readAt (Elt F) (Rect.unit ![0, 0] S256x1024.size inb_S256x1024_S256x1024_0_0).toLoadRect f10 = x10 := (View.readAt_full (s := S256x1024) _ _ _).trans hf10
  have e18 : arg21.view.readAt (Elt F) (Rect.unit ![0, 0] S768x1024.size inb_S768x1024_S768x1024_0_0).toLoadRect f18 = y18 := (View.readAt_full (s := S768x1024) _ _ _).trans hf18
  have e19 : arg22.view.readAt (Elt F) (Rect.unit ![0, 0] S768x1024.size inb_S768x1024_S768x1024_0_0).toLoadRect f19 = y19 := (View.readAt_full (s := S768x1024) _ _ _).trans hf19
  have e5 : ∀ r : Rect S1x2x8x1024, arg8.view.readAt (Elt F) r.toLoadRect f5 = View.ld x5 r := fun r => by rw [View.readAt_eq_ld, hf5]
  have eC : ∀ w : Vec F S768x1024 .f32, arg22.view.readCov [⟨(Rect.unit ![0, 0] S768x1024.size inb_S768x1024_S768x1024_0_0), w⟩] (Rect.unit ![0, 0] S768x1024.size inb_S768x1024_S768x1024_0_0).toLoadRect = w := fun w => View.readCov_full (s := S768x1024) _ _ _ w []
  have eD : ∀ w : Vec F S768x1024 .bf16, arg21.view.readCov [⟨(Rect.unit ![0, 0] S768x1024.size inb_S768x1024_S768x1024_0_0), w⟩] (Rect.unit ![0, 0] S768x1024.size inb_S768x1024_S768x1024_0_0).toLoadRect = w := fun w => View.readCov_full (s := S768x1024) _ _ _ w []
  have e20 : arg23.view.readCov (Val := Elt F) [⟨Rect.unit (s := S2x768x256) ![1, 0, 0] S1x768x256.size inb_S2x768x256_S1x768x256_1_0_0, k0_pay26 (F := F)⟩] (Rect.unit (s := S2x768x256) (k0_off1 i) S1x768x256.size (k0_off1_inb i)).toLoadRect = k0_pay26 (F := F) := by
    refine (View.readAt_unit (s := S2x768x256) _ _ _ hoff inb_S2x768x256_S1x768x256_1_0_0).trans ?_
    rw [View.read_writes_cons_put _ _ _ _ _ rfl, VecWindow.window_put_same]
  have e21 : arg24.view.readCov (Val := Elt F) [⟨Rect.unit (s := S2x768x256) ![1, 0, 0] S1x768x256.size inb_S2x768x256_S1x768x256_1_0_0, k0_pay27 (F := F)⟩] (Rect.unit (s := S2x768x256) (k0_off1 i) S1x768x256.size (k0_off1_inb i)).toLoadRect = k0_pay27 (F := F) := by
    refine (View.readAt_unit (s := S2x768x256) _ _ _ hoff inb_S2x768x256_S1x768x256_1_0_0).trans ?_
    rw [View.read_writes_cons_put _ _ _ _ _ rfl, VecWindow.window_put_same]
  have eA : k0_pay41 (arg22.view.readCov [⟨Rect.unit ![0, 0] S768x1024.size inb_S768x1024_S768x1024_0_0, k0_pay25 (F := F)⟩] (Rect.unit ![0, 0] S768x1024.size inb_S768x1024_S768x1024_0_0).toLoadRect) (arg23.view.readCov (Val := Elt F) [⟨Rect.unit (s := S2x768x256) ![1, 0, 0] S1x768x256.size inb_S2x768x256_S1x768x256_1_0_0, k0_pay26 (F := F)⟩] (Rect.unit (s := S2x768x256) (k0_off1 i) S1x768x256.size (k0_off1_inb i)).toLoadRect) x9 (arg24.view.readCov (Val := Elt F) [⟨Rect.unit (s := S2x768x256) ![1, 0, 0] S1x768x256.size inb_S2x768x256_S1x768x256_1_0_0, k0_pay27 (F := F)⟩] (Rect.unit (s := S2x768x256) (k0_off1 i) S1x768x256.size (k0_off1_inb i)).toLoadRect) x10 = (k0_pay41 (k0_pay25 (F := F)) (k0_pay26 (F := F)) x9 (k0_pay27 (F := F)) x10) := by
    rw [e20, e21, View.readCov_full (s := S768x1024)]
  sl_exec (disch := first | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr
    swap; · iexact H12
    ipureintro
    refine (View.read_writes_full (s := S1x768x1024) _ _ _ _ _).trans ?_
    all_goals sl_unfold_words
    all_goals try simp only [e0, e1, e2, e3, e4, e5, e6, e7, e8, e9, e10, e18, e19, eC, eD]
    all_goals first | done | rfl
  isplitl [H13]
  · iexists _; isplitr
    swap; · iexact H13
    ipureintro
    refine (View.read_writes_full (s := S1x768x1024) _ _ _ _ _).trans ?_
    all_goals sl_unfold_words
    all_goals try simp only [e0, e1, e2, e3, e4, e5, e6, e7, e8, e9, e10, e18, e19, eC, eD]
    all_goals first | done | rfl
  isplitl [H14]
  · iexists _; isplitr
    swap; · iexact H14
    ipureintro
    refine (View.read_writes_full (s := S1x768x256) _ _ _ _ _).trans ?_
    all_goals sl_unfold_words
    all_goals try simp only [e0, e1, e2, e3, e4, e5, e6, e7, e8, e9, e10, e18, e19, eC, eD]
    all_goals first | done | rfl
  isplitl [H15]
  · iexists _; isplitr
    swap; · iexact H15
    ipureintro
    refine (View.read_writes_full (s := S1x768x256) _ _ _ _ _).trans ?_
    all_goals sl_unfold_words
    all_goals try simp only [e0, e1, e2, e3, e4, e5, e6, e7, e8, e9, e10, e18, e19, eC, eD]
    all_goals first | done | rfl
  isplitl [H16]
  · iexists _; isplitr
    swap; · iexact H16
    ipureintro
    refine (View.read_writes_full (s := S1x768x256) _ _ _ _ _).trans ?_
    all_goals sl_unfold_words
    all_goals try simp only [e0, e1, e2, e3, e4, e5, e6, e7, e8, e9, e10, e18, e19, eC, eD]
    all_goals first | done | rfl
  isplitl [H17]
  · iexists _; isplitr
    swap; · iexact H17
    ipureintro
    repeat rw [View.read_writes_cons_put _ _ _ _ _ rfl]
    sl_unfold_words
    repeat rw [View.read_writes_cons_put _ _ _ _ _ rfl]
    rw [View.writes_nil, hf17]
    all_goals sl_unfold_words
    all_goals try simp only [e0, e1, e2, e3, e4, e5, e6, e7, e8, e9, e10, e18, e19, eC, eD]
    all_goals first | done | (rw [put_whole _ _]; rfl)
  isplitl [H18]
  · iexists _; isplitr
    swap; · iexact H18
    ipureintro
    refine (View.read_writes_full (s := S768x1024) _ _ _ _ _).trans ?_
    all_goals sl_unfold_words
    all_goals try simp only [e0, e1, e2, e3, e4, e5, e6, e7, e8, e9, e10, e18, e19, eC, eD]
    all_goals first | done | rfl
  isplitl [H19]
  · iexists _; isplitr
    swap; · iexact H19
    ipureintro
    refine (View.read_writes_full (s := S768x1024) _ _ _ _ _).trans ?_
    all_goals sl_unfold_words
    all_goals try simp only [e0, e1, e2, e3, e4, e5, e6, e7, e8, e9, e10, e18, e19, eC, eD]
    all_goals first | done | exact eA
  isplitl [H20]
  · iexists _; isplitr
    swap; · iexact H20
    ipureintro
    repeat rw [View.read_writes_cons_put _ _ _ _ _ rfl]
    sl_unfold_words
    repeat rw [View.read_writes_cons_put _ _ _ _ _ rfl]
    rw [View.writes_nil, hf20]
    all_goals sl_unfold_words
    all_goals try simp only [e0, e1, e2, e3, e4, e5, e6, e7, e8, e9, e10, e18, e19, eC, eD]
    all_goals first | done | rfl
  · iexists _; isplitr
    swap; · iexact H21
    ipureintro
    repeat rw [View.read_writes_cons_put _ _ _ _ _ rfl]
    sl_unfold_words
    repeat rw [View.read_writes_cons_put _ _ _ _ _ rfl]
    rw [View.writes_nil, hf21]
    all_goals sl_unfold_words
    all_goals try simp only [e0, e1, e2, e3, e4, e5, e6, e7, e8, e9, e10, e18, e19, eC, eD]
    all_goals first | done | rfl

end Cert.FfnGrad

end
-- ==== Proof.FfnSoundA.lean ====
/- The body obligation at a tile's first pass. -/
module

public import proofs.«01_k».proof.Proof.FfnFrame
public import proofs.«01_k».proof.Proof.FfnRunA

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a tile's first pass. -/
theorem sound_A (c : Dev nD) (t : Fin cfg0.N) (h0 : t.val % 12 = 0) :
    bodyPre m c t ⊢ wp frame (wpE (defs₀ (F := F)) Variants.none c none) Set.univ (bodyAt0 t) (fun _ => bodyPost m c t) := by
  have h1 : t.val % 12 ≠ 11 := by omega
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = held m c t from rfl, Phi_castSucc]
  rw [leaves_live m c t 0 rfl, after0_0]
  rw [leaves_live m c t 1 rfl, after0_1]
  rw [leaves_live m c t 2 rfl, after0_2]
  rw [leaves_live m c t 3 rfl, after0_3]
  rw [leaves_live m c t 4 rfl, after0_4]
  rw [leaves_live m c t 5 rfl, after0_5]
  rw [leaves_live m c t 6 rfl, after0_6]
  rw [leaves_live m c t 7 rfl, after0_7]
  rw [leaves_live m c t 8 rfl, after0_8]
  rw [leaves_live m c t 9 rfl, after0_9]
  rw [leaves_live m c t 10 rfl, after0_10]
  rw [Dat.leavesExact_idle (dats m 0 c) 11 t (idle_11 t h1) (noFlush_11 t h1)]
  rw [leaves_live m c t 12 (live_12 t h0), after0_12]
  rw [leaves_live m c t 13 (live_13 t h0), after0_13]
  rw [leaves_live m c t 14 rfl, after0_14]
  rw [leaves_live m c t 15 rfl, after0_15]
  rw [leaves_live m c t 16 rfl, after0_16]
  rw [leaves_live m c t 17 (live_17_first t h0), after0_17]
  refine (sep_mono_left (PhiS_out m c t.val (Nat.le_of_lt t.isLt))).trans ?_
  rw [PhiA0_eq]
  rw [sumsAt_mid m c t h1]; unfold held keptAt sums0At; rw [base_first t h0, accAt_first m c t h0]; unfold gateSlot upSlot keptAt; rw [base_first t h0]
  iintro ⟨⟨⟨⟨%y18, HS0⟩, ⟨%y19, HS1⟩, ⟨%y20, HS2⟩, ⟨%y21, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) ((first_iff t).mpr h0) (fun h => h1 ((last_iff t).mp h)) (off_first t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap; · iexact HS2
        ipureintro; exact slot_put _ _ _
      iexists _; isplitr
      swap; · iexact HS3
      ipureintro; exact slot_put _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [H15]; · iexact H15
  isplitl [H16]; · iexact H16
  iexact H17

end Cert.FfnGrad

end
-- ==== Proof.FfnRunB.lean ====
/- The body at a middle pass: what it leaves, from any contents. -/
module

public import proofs.«01_k».proof.Proof.FfnVals

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle pass: every buffer's contents afterwards. -/
theorem runB (c : Dev nD) (i : grid0.Coords) (arg3 : Memref sig .tc .vmem S1x768x1024 .f32) (harg3 : arg3.IsWhole) (arg4 : Memref sig .tc .vmem S1x768x1024 .f32) (harg4 : arg4.IsWhole) (arg5 : Memref sig .tc .vmem S1x768x1024 .f32) (harg5 : arg5.IsWhole) (arg6 : Memref sig .tc .vmem S1x768x256 .bf16) (harg6 : arg6.IsWhole) (arg7 : Memref sig .tc .vmem S1x768x256 .bf16) (harg7 : arg7.IsWhole) (arg8 : Memref sig .tc .vmem S1x2x8x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x768x1024 .f32) (harg14 : arg14.IsWhole) (arg15 : Memref sig .tc .vmem S1x768x1024 .bf16) (harg15 : arg15.IsWhole) (arg16 : Memref sig .tc .vmem S1x768x1024 .bf16) (harg16 : arg16.IsWhole) (arg17 : Memref sig .tc .vmem S1x768x256 .bf16) (harg17 : arg17.IsWhole) (arg18 : Memref sig .tc .vmem S1x768x256 .bf16) (harg18 : arg18.IsWhole) (arg19 : Memref sig .tc .vmem S1x768x256 .bf16) (harg19 : arg19.IsWhole) (arg20 : Memref sig .tc .vmem S1x1x8x1024 .f32) (harg20 : arg20.IsWhole) (arg21 : Memref sig .tc .vmem S768x1024 .bf16) (harg21 : arg21.IsWhole) (arg22 : Memref sig .tc .vmem S768x1024 .f32) (harg22 : arg22.IsWhole) (arg23 : Memref sig .tc .vmem S2x768x256 .bf16) (harg23 : arg23.IsWhole) (arg24 : Memref sig .tc .vmem S2x768x256 .bf16) (harg24 : arg24.IsWhole)
    (hc1 : ¬k0_cond1 i = 1#1) (hc2 : ¬k0_cond2 i = 1#1)
    (x0 : Vec F S1x768x1024 .f32) (x1 : Vec F S1x768x1024 .f32) (x2 : Vec F S1x768x1024 .f32) (x3 : Vec F S1x768x256 .bf16) (x4 : Vec F S1x768x256 .bf16) (x5 : Vec F S1x2x8x1024 .f32) (x6 : Vec F S1x1024 .f32) (x7 : Vec F S1x1024 .f32) (x8 : Vec F S256x1024 .bf16) (x9 : Vec F S256x1024 .bf16) (x10 : Vec F S256x1024 .bf16) (y11 : Vec F S1x768x1024 .f32) (y12 : Vec F S1x768x1024 .bf16) (y13 : Vec F S1x768x1024 .bf16) (y14 : Vec F S1x768x256 .bf16) (y15 : Vec F S1x768x256 .bf16) (y16 : Vec F S1x768x256 .bf16) (y17 : Vec F S1x1x8x1024 .f32) (y18 : Vec F S768x1024 .bf16) (y19 : Vec F S768x1024 .f32) (y20 : Vec F S2x768x256 .bf16) (y21 : Vec F S2x768x256 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y11 ∗ owns (c : Thread nD τ) arg15 fullShare y12 ∗ owns (c : Thread nD τ) arg16 fullShare y13 ∗ owns (c : Thread nD τ) arg17 fullShare y14 ∗ owns (c : Thread nD τ) arg18 fullShare y15 ∗ owns (c : Thread nD τ) arg19 fullShare y16 ∗ owns (c : Thread nD τ) arg20 fullShare y17 ∗ owns (c : Thread nD τ) arg21 fullShare y18 ∗ owns (c : Thread nD τ) arg22 fullShare y19 ∗ owns (c : Thread nD τ) arg23 fullShare y20 ∗ owns (c : Thread nD τ) arg24 fullShare y21
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y11 ∗ owns (c : Thread nD τ) arg15 fullShare y12 ∗ owns (c : Thread nD τ) arg16 fullShare y13 ∗ owns (c : Thread nD τ) arg17 fullShare (k0_pay47 x3 x4) ∗ owns (c : Thread nD τ) arg18 fullShare (k0_pay50 x3 x4 y18 x8) ∗ owns (c : Thread nD τ) arg19 fullShare (k0_pay51 x3 y18 x8) ∗ owns (c : Thread nD τ) arg20 fullShare y17 ∗ owns (c : Thread nD τ) arg21 fullShare y18 ∗ owns (c : Thread nD τ) arg22 fullShare (k0_pay41 y19 (slotRead i y20) x9 (slotRead i y21) x10) ∗ owns (c : Thread nD τ) arg23 fullShare (slotPut i y20 (k0_pay1 (k0_pay48 x3 x4 y18 x8))) ∗ owns (c : Thread nD τ) arg24 fullShare (slotPut i y21 (k0_pay2 (k0_pay49 x3 y18 x8)))) -∗ K ⟨⟩))
      ⊢ wp frame (wpE (defs₀ (F := F)) Variants.none c none) E (cc0_ffn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz2 : (![0, 0] : Fin 2 → ℕ) = fun _ => 0 := by funext a; fin_cases a <;> rfl
  have hz3 : (![0, 0, 0] : Fin 3 → ℕ) = fun _ => 0 := by funext a; fin_cases a <;> rfl
  have hz4 : (![0, 0, 0, 0] : Fin 4 → ℕ) = fun _ => 0 := by funext a; fin_cases a <;> rfl
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  simp only [cc0_ffn_bwd_eq_skeleton]; unfold cc0_ffn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  have e0 : arg3.view.readAt (Elt F) (Rect.unit ![0, 0, 0] S1x768x1024.size inb_S1x768x1024_S1x768x1024_0_0_0).toLoadRect f0 = x0 := (View.readAt_full (s := S1x768x1024) _ _ _).trans hf0
  have e1 : arg4.view.readAt (Elt F) (Rect.unit ![0, 0, 0] S1x768x1024.size inb_S1x768x1024_S1x768x1024_0_0_0).toLoadRect f1 = x1 := (View.readAt_full (s := S1x768x1024) _ _ _).trans hf1
  have e2 : arg5.view.readAt (Elt F) (Rect.unit ![0, 0, 0] S1x768x1024.size inb_S1x768x1024_S1x768x1024_0_0_0).toLoadRect f2 = x2 := (View.readAt_full (s := S1x768x1024) _ _ _).trans hf2
  have e3 : arg6.view.readAt (Elt F) (Rect.unit ![0, 0, 0] S1x768x256.size inb_S1x768x256_S1x768x256_0_0_0).toLoadRect f3 = x3 := (View.readAt_full (s := S1x768x256) _ _ _).trans hf3
  have e4 : arg7.view.readAt (Elt F) (Rect.unit ![0, 0, 0] S1x768x256.size inb_S1x768x256_S1x768x256_0_0_0).toLoadRect f4 = x4 := (View.readAt_full (s := S1x768x256) _ _ _).trans hf4
  have e6 : arg9.view.readAt (Elt F) (Rect.unit ![0, 0] S1x1024.size inb_S1x1024_S1x1024_0_0).toLoadRect f6 = x6 := (View.readAt_full (s := S1x1024) _ _ _).trans hf6
  have e7 : arg10.view.readAt (Elt F) (Rect.unit ![0, 0] S1x1024.size inb_S1x1024_S1x1024_0_0).toLoadRect f7 = x7 := (View.readAt_full (s := S1x1024) _ _ _).trans hf7
  have e8 : arg11.view.readAt (Elt F) (Rect.unit ![0, 0] S256x1024.size inb_S256x1024_S256x1024_0_0).toLoadRect f8 = x8 := (View.readAt_full (s := S256x1024) _ _ _).trans hf8
  have e9 : arg12.view.readAt (Elt F) (Rect.unit ![0, 0] S256x1024.size inb_S256x1024_S256x1024_0_0).toLoadRect f9 = x9 := (View.readAt_full (s := S256x1024) _ _ _).trans hf9
  have e10 : arg13.view.readAt (Elt F) (Rect.unit ![0, 0] S256x1024.size inb_S256x1024_S256x1024_0_0).toLoadRect f10 = x10 := (View.readAt_full (s := S256x1024) _ _ _).trans hf10
  have e18 : arg21.view.readAt (Elt F) (Rect.unit ![0, 0] S768x1024.size inb_S768x1024_S768x1024_0_0).toLoadRect f18 = y18 := (View.readAt_full (s := S768x1024) _ _ _).trans hf18
  have e19 : arg22.view.readAt (Elt F) (Rect.unit ![0, 0] S768x1024.size inb_S768x1024_S768x1024_0_0).toLoadRect f19 = y19 := (View.readAt_full (s := S768x1024) _ _ _).trans hf19
  have e5 : ∀ r : Rect S1x2x8x1024, arg8.view.readAt (Elt F) r.toLoadRect f5 = View.ld x5 r := fun r => by rw [View.readAt_eq_ld, hf5]
  have eC : ∀ w : Vec F S768x1024 .f32, arg22.view.readCov [⟨(Rect.unit ![0, 0] S768x1024.size inb_S768x1024_S768x1024_0_0), w⟩] (Rect.unit ![0, 0] S768x1024.size inb_S768x1024_S768x1024_0_0).toLoadRect = w := fun w => View.readCov_full (s := S768x1024) _ _ _ w []
  have eD : ∀ w : Vec F S768x1024 .bf16, arg21.view.readCov [⟨(Rect.unit ![0, 0] S768x1024.size inb_S768x1024_S768x1024_0_0), w⟩] (Rect.unit ![0, 0] S768x1024.size inb_S768x1024_S768x1024_0_0).toLoadRect = w := fun w => View.readCov_full (s := S768x1024) _ _ _ w []
  have e20 : ∀ r : Rect S2x768x256, arg23.view.readAt (Elt F) r.toLoadRect f20 = View.ld y20 r := fun r => by rw [View.readAt_eq_ld, hf20]
  have e21 : ∀ r : Rect S2x768x256, arg24.view.readAt (Elt F) r.toLoadRect f21 = View.ld y21 r := fun r => by rw [View.readAt_eq_ld, hf21]
  sl_exec (disch := first | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr
    swap; · iexact H14
    ipureintro
    refine (View.read_writes_full (s := S1x768x256) _ _ _ _ _).trans ?_
    all_goals sl_unfold_words
    all_goals try simp only [e0, e1, e2, e3, e4, e5, e6, e7, e8, e9, e10, e18, e19, eC, eD, e20, e21]
    all_goals first | done | rfl
  isplitl [H15]
  · iexists _; isplitr
    swap; · iexact H15
    ipureintro
    refine (View.read_writes_full (s := S1x768x256) _ _ _ _ _).trans ?_
    all_goals sl_unfold_words
    all_goals try simp only [e0, e1, e2, e3, e4, e5, e6, e7, e8, e9, e10, e18, e19, eC, eD, e20, e21]
    all_goals first | done | rfl
  isplitl [H16]
  · iexists _; isplitr
    swap; · iexact H16
    ipureintro
    refine (View.read_writes_full (s := S1x768x256) _ _ _ _ _).trans ?_
    all_goals sl_unfold_words
    all_goals try simp only [e0, e1, e2, e3, e4, e5, e6, e7, e8, e9, e10, e18, e19, eC, eD, e20, e21]
    all_goals first | done | rfl
  isplitl [H17]
  · iexists _; isplitr; · ipureintro; exact hf17
    iexact H17
  isplitl [H18]
  · iexists _; isplitr; · ipureintro; exact hf18
    iexact H18
  isplitl [H19]
  · iexists _; isplitr
    swap; · iexact H19
    ipureintro
    refine (View.read_writes_full (s := S768x1024) _ _ _ _ _).trans ?_
    all_goals sl_unfold_words
    all_goals try simp only [e0, e1, e2, e3, e4, e5, e6, e7, e8, e9, e10, e18, e19, eC, eD, e20, e21]
    all_goals first | done | rfl
  isplitl [H20]
  · iexists _; isplitr
    swap; · iexact H20
    ipureintro
    repeat rw [View.read_writes_cons_put _ _ _ _ _ rfl]
    rw [View.writes_nil, hf20]
    all_goals sl_unfold_words
    all_goals try simp only [e0, e1, e2, e3, e4, e5, e6, e7, e8, e9, e10, e18, e19, eC, eD, e20, e21]
    all_goals first | done | rfl
  · iexists _; isplitr
    swap; · iexact H21
    ipureintro
    repeat rw [View.read_writes_cons_put _ _ _ _ _ rfl]
    rw [View.writes_nil, hf21]
    all_goals sl_unfold_words
    all_goals try simp only [e0, e1, e2, e3, e4, e5, e6, e7, e8, e9, e10, e18, e19, eC, eD, e20, e21]
    all_goals first | done | rfl

end Cert.FfnGrad

end
-- ==== Proof.FfnSoundB.lean ====
/- The body obligation at a middle pass. -/
module

public import proofs.«01_k».proof.Proof.FfnFrame
public import proofs.«01_k».proof.Proof.FfnRunB

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a middle pass. -/
theorem sound_B (c : Dev nD) (t : Fin cfg0.N) (h0 : t.val % 12 ≠ 0) (h1 : t.val % 12 ≠ 11) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = held m c t from rfl, Phi_castSucc]
  rw [leaves_live m c t 0 rfl, after0_0]
  rw [leaves_live m c t 1 rfl, after0_1]
  rw [leaves_live m c t 2 rfl, after0_2]
  rw [leaves_live m c t 3 rfl, after0_3]
  rw [leaves_live m c t 4 rfl, after0_4]
  rw [leaves_live m c t 5 rfl, after0_5]
  rw [leaves_live m c t 6 rfl, after0_6]
  rw [leaves_live m c t 7 rfl, after0_7]
  rw [leaves_live m c t 8 rfl, after0_8]
  rw [leaves_live m c t 9 rfl, after0_9]
  rw [leaves_live m c t 10 rfl, after0_10]
  rw [Dat.leavesExact_idle (dats m 0 c) 11 t (idle_11 t h1) (noFlush_11 t h1)]
  rw [Dat.leavesExact_idle (dats m 0 c) 12 t (idle_12 t h0) (noFlush_12 t h1)]
  rw [Dat.leavesExact_idle (dats m 0 c) 13 t (idle_13 t h0) (noFlush_13 t h1)]
  rw [leaves_live m c t 14 rfl, after0_14]
  rw [leaves_live m c t 15 rfl, after0_15]
  rw [leaves_live m c t 16 rfl, after0_16]
  rw [Dat.leavesExact_idle (dats m 0 c) 17 t (idle_17 t h0 h1) (noFlush_17 t h1)]
  rw [PhiS_pos m c t hz]
  have ek : keptAt m c (prev t) = keptAt m c t := by unfold keptAt; rw [base_prev t h0]
  unfold held; rw [ek, accAt_next m c t h0]
  iintro ⟨⟨⟨HS0, HS1, ⟨%y20, %e20, HS2⟩, ⟨%y21, %e21, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  rw [← e20, ← e21, ← slot_next t h0, ← slot_next t h0]
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap; · iexact HS2
        ipureintro; exact slot_put _ _ _
      iexists _; isplitr
      swap; · iexact HS3
      ipureintro; exact slot_put _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexact H14
  isplitl [H15]; · iexact H15
  isplitl [H16]; · iexact H16
  iexists _; iexact H17

end Cert.FfnGrad

end
-- ==== Proof.FfnRunC.lean ====
/- The body at a tile's last pass: what it leaves, from any contents. -/
module

public import proofs.«01_k».proof.Proof.FfnVals

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a tile's last pass: every buffer's contents afterwards. -/
theorem runC (c : Dev nD) (i : grid0.Coords) (arg3 : Memref sig .tc .vmem S1x768x1024 .f32) (harg3 : arg3.IsWhole) (arg4 : Memref sig .tc .vmem S1x768x1024 .f32) (harg4 : arg4.IsWhole) (arg5 : Memref sig .tc .vmem S1x768x1024 .f32) (harg5 : arg5.IsWhole) (arg6 : Memref sig .tc .vmem S1x768x256 .bf16) (harg6 : arg6.IsWhole) (arg7 : Memref sig .tc .vmem S1x768x256 .bf16) (harg7 : arg7.IsWhole) (arg8 : Memref sig .tc .vmem S1x2x8x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S1x768x1024 .f32) (harg14 : arg14.IsWhole) (arg15 : Memref sig .tc .vmem S1x768x1024 .bf16) (harg15 : arg15.IsWhole) (arg16 : Memref sig .tc .vmem S1x768x1024 .bf16) (harg16 : arg16.IsWhole) (arg17 : Memref sig .tc .vmem S1x768x256 .bf16) (harg17 : arg17.IsWhole) (arg18 : Memref sig .tc .vmem S1x768x256 .bf16) (harg18 : arg18.IsWhole) (arg19 : Memref sig .tc .vmem S1x768x256 .bf16) (harg19 : arg19.IsWhole) (arg20 : Memref sig .tc .vmem S1x1x8x1024 .f32) (harg20 : arg20.IsWhole) (arg21 : Memref sig .tc .vmem S768x1024 .bf16) (harg21 : arg21.IsWhole) (arg22 : Memref sig .tc .vmem S768x1024 .f32) (harg22 : arg22.IsWhole) (arg23 : Memref sig .tc .vmem S2x768x256 .bf16) (harg23 : arg23.IsWhole) (arg24 : Memref sig .tc .vmem S2x768x256 .bf16) (harg24 : arg24.IsWhole)
    (hc1 : ¬k0_cond1 i = 1#1) (hc2 : k0_cond2 i = 1#1)
    (x0 : Vec F S1x768x1024 .f32) (x1 : Vec F S1x768x1024 .f32) (x2 : Vec F S1x768x1024 .f32) (x3 : Vec F S1x768x256 .bf16) (x4 : Vec F S1x768x256 .bf16) (x5 : Vec F S1x2x8x1024 .f32) (x6 : Vec F S1x1024 .f32) (x7 : Vec F S1x1024 .f32) (x8 : Vec F S256x1024 .bf16) (x9 : Vec F S256x1024 .bf16) (x10 : Vec F S256x1024 .bf16) (y11 : Vec F S1x768x1024 .f32) (y12 : Vec F S1x768x1024 .bf16) (y13 : Vec F S1x768x1024 .bf16) (y14 : Vec F S1x768x256 .bf16) (y15 : Vec F S1x768x256 .bf16) (y16 : Vec F S1x768x256 .bf16) (y17 : Vec F S1x1x8x1024 .f32) (y18 : Vec F S768x1024 .bf16) (y19 : Vec F S768x1024 .f32) (y20 : Vec F S2x768x256 .bf16) (y21 : Vec F S2x768x256 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare y11 ∗ owns (c : Thread nD τ) arg15 fullShare y12 ∗ owns (c : Thread nD τ) arg16 fullShare y13 ∗ owns (c : Thread nD τ) arg17 fullShare y14 ∗ owns (c : Thread nD τ) arg18 fullShare y15 ∗ owns (c : Thread nD τ) arg19 fullShare y16 ∗ owns (c : Thread nD τ) arg20 fullShare y17 ∗ owns (c : Thread nD τ) arg21 fullShare y18 ∗ owns (c : Thread nD τ) arg22 fullShare y19 ∗ owns (c : Thread nD τ) arg23 fullShare y20 ∗ owns (c : Thread nD τ) arg24 fullShare y21
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (dxOut i x0 x1 x5 x6 (k0_pay41 y19 (slotRead i y20) x9 (slotRead i y21) x10)) ∗ owns (c : Thread nD τ) arg15 fullShare y12 ∗ owns (c : Thread nD τ) arg16 fullShare y13 ∗ owns (c : Thread nD τ) arg17 fullShare (k0_pay47 x3 x4) ∗ owns (c : Thread nD τ) arg18 fullShare (k0_pay50 x3 x4 y18 x8) ∗ owns (c : Thread nD τ) arg19 fullShare (k0_pay51 x3 y18 x8) ∗ owns (c : Thread nD τ) arg20 fullShare (sumsLast i y17 x1 x5 x6 (k0_pay41 y19 (slotRead i y20) x9 (slotRead i y21) x10)) ∗ owns (c : Thread nD τ) arg21 fullShare y18 ∗ owns (c : Thread nD τ) arg22 fullShare (k0_pay41 y19 (slotRead i y20) x9 (slotRead i y21) x10) ∗ owns (c : Thread nD τ) arg23 fullShare (slotPut i y20 (k0_pay1 (k0_pay48 x3 x4 y18 x8))) ∗ owns (c : Thread nD τ) arg24 fullShare (slotPut i y21 (k0_pay2 (k0_pay49 x3 y18 x8)))) -∗ K ⟨⟩))
      ⊢ wp frame (wpE (defs₀ (F := F)) Variants.none c none) E (cc0_ffn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hz2 : (![0, 0] : Fin 2 → ℕ) = fun _ => 0 := by funext a; fin_cases a <;> rfl
  have hz3 : (![0, 0, 0] : Fin 3 → ℕ) = fun _ => 0 := by funext a; fin_cases a <;> rfl
  have hz4 : (![0, 0, 0, 0] : Fin 4 → ℕ) = fun _ => 0 := by funext a; fin_cases a <;> rfl
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  simp only [cc0_ffn_bwd_eq_skeleton]; unfold cc0_ffn_bwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  have e0 : arg3.view.readAt (Elt F) (Rect.unit ![0, 0, 0] S1x768x1024.size inb_S1x768x1024_S1x768x1024_0_0_0).toLoadRect f0 = x0 := (View.readAt_full (s := S1x768x1024) _ _ _).trans hf0
  have e1 : arg4.view.readAt (Elt F) (Rect.unit ![0, 0, 0] S1x768x1024.size inb_S1x768x1024_S1x768x1024_0_0_0).toLoadRect f1 = x1 := (View.readAt_full (s := S1x768x1024) _ _ _).trans hf1
  have e2 : arg5.view.readAt (Elt F) (Rect.unit ![0, 0, 0] S1x768x1024.size inb_S1x768x1024_S1x768x1024_0_0_0).toLoadRect f2 = x2 := (View.readAt_full (s := S1x768x1024) _ _ _).trans hf2
  have e3 : arg6.view.readAt (Elt F) (Rect.unit ![0, 0, 0] S1x768x256.size inb_S1x768x256_S1x768x256_0_0_0).toLoadRect f3 = x3 := (View.readAt_full (s := S1x768x256) _ _ _).trans hf3
  have e4 : arg7.view.readAt (Elt F) (Rect.unit ![0, 0, 0] S1x768x256.size inb_S1x768x256_S1x768x256_0_0_0).toLoadRect f4 = x4 := (View.readAt_full (s := S1x768x256) _ _ _).trans hf4
  have e6 : arg9.view.readAt (Elt F) (Rect.unit ![0, 0] S1x1024.size inb_S1x1024_S1x1024_0_0).toLoadRect f6 = x6 := (View.readAt_full (s := S1x1024) _ _ _).trans hf6
  have e7 : arg10.view.readAt (Elt F) (Rect.unit ![0, 0] S1x1024.size inb_S1x1024_S1x1024_0_0).toLoadRect f7 = x7 := (View.readAt_full (s := S1x1024) _ _ _).trans hf7
  have e8 : arg11.view.readAt (Elt F) (Rect.unit ![0, 0] S256x1024.size inb_S256x1024_S256x1024_0_0).toLoadRect f8 = x8 := (View.readAt_full (s := S256x1024) _ _ _).trans hf8
  have e9 : arg12.view.readAt (Elt F) (Rect.unit ![0, 0] S256x1024.size inb_S256x1024_S256x1024_0_0).toLoadRect f9 = x9 := (View.readAt_full (s := S256x1024) _ _ _).trans hf9
  have e10 : arg13.view.readAt (Elt F) (Rect.unit ![0, 0] S256x1024.size inb_S256x1024_S256x1024_0_0).toLoadRect f10 = x10 := (View.readAt_full (s := S256x1024) _ _ _).trans hf10
  have e18 : arg21.view.readAt (Elt F) (Rect.unit ![0, 0] S768x1024.size inb_S768x1024_S768x1024_0_0).toLoadRect f18 = y18 := (View.readAt_full (s := S768x1024) _ _ _).trans hf18
  have e19 : arg22.view.readAt (Elt F) (Rect.unit ![0, 0] S768x1024.size inb_S768x1024_S768x1024_0_0).toLoadRect f19 = y19 := (View.readAt_full (s := S768x1024) _ _ _).trans hf19
  have e5 : ∀ r : Rect S1x2x8x1024, arg8.view.readAt (Elt F) r.toLoadRect f5 = View.ld x5 r := fun r => by rw [View.readAt_eq_ld, hf5]
  have eC : ∀ w : Vec F S768x1024 .f32, arg22.view.readCov [⟨(Rect.unit ![0, 0] S768x1024.size inb_S768x1024_S768x1024_0_0), w⟩] (Rect.unit ![0, 0] S768x1024.size inb_S768x1024_S768x1024_0_0).toLoadRect = w := fun w => View.readCov_full (s := S768x1024) _ _ _ w []
  have eD : ∀ w : Vec F S768x1024 .bf16, arg21.view.readCov [⟨(Rect.unit ![0, 0] S768x1024.size inb_S768x1024_S768x1024_0_0), w⟩] (Rect.unit ![0, 0] S768x1024.size inb_S768x1024_S768x1024_0_0).toLoadRect = w := fun w => View.readCov_full (s := S768x1024) _ _ _ w []
  have e20 : ∀ r : Rect S2x768x256, arg23.view.readAt (Elt F) r.toLoadRect f20 = View.ld y20 r := fun r => by rw [View.readAt_eq_ld, hf20]
  have e21 : ∀ r : Rect S2x768x256, arg24.view.readAt (Elt F) r.toLoadRect f21 = View.ld y21 r := fun r => by rw [View.readAt_eq_ld, hf21]
  sl_exec (disch := first | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr
    swap; · iexact H11
    ipureintro
    refine (View.read_writes_full (s := S1x768x1024) _ _ _ _ _).trans ?_
    all_goals sl_unfold_words
    all_goals try simp only [e0, e1, e2, e3, e4, e5, e6, e7, e8, e9, e10, e18, e19, eC, eD, e20, e21]
    all_goals first | done | rfl
  isplitl [H12]
  · iexists _; isplitr; · ipureintro; exact hf12
    iexact H12
  isplitl [H13]
  · iexists _; isplitr; · ipureintro; exact hf13
    iexact H13
  isplitl [H14]
  · iexists _; isplitr
    swap; · iexact H14
    ipureintro
    refine (View.read_writes_full (s := S1x768x256) _ _ _ _ _).trans ?_
    all_goals sl_unfold_words
    all_goals try simp only [e0, e1, e2, e3, e4, e5, e6, e7, e8, e9, e10, e18, e19, eC, eD, e20, e21]
    all_goals first | done | rfl
  isplitl [H15]
  · iexists _; isplitr
    swap; · iexact H15
    ipureintro
    refine (View.read_writes_full (s := S1x768x256) _ _ _ _ _).trans ?_
    all_goals sl_unfold_words
    all_goals try simp only [e0, e1, e2, e3, e4, e5, e6, e7, e8, e9, e10, e18, e19, eC, eD, e20, e21]
    all_goals first | done | rfl
  isplitl [H16]
  · iexists _; isplitr
    swap; · iexact H16
    ipureintro
    refine (View.read_writes_full (s := S1x768x256) _ _ _ _ _).trans ?_
    all_goals sl_unfold_words
    all_goals try simp only [e0, e1, e2, e3, e4, e5, e6, e7, e8, e9, e10, e18, e19, eC, eD, e20, e21]
    all_goals first | done | rfl
  isplitl [H17]
  · iexists _; isplitr
    swap; · iexact H17
    ipureintro
    repeat rw [View.read_writes_cons_put _ _ _ _ _ rfl]
    rw [View.writes_nil, hf17]
    all_goals sl_unfold_words
    all_goals try simp only [e0, e1, e2, e3, e4, e5, e6, e7, e8, e9, e10, e18, e19, eC, eD, e20, e21]
    all_goals first | done | rfl
  isplitl [H18]
  · iexists _; isplitr; · ipureintro; exact hf18
    iexact H18
  isplitl [H19]
  · iexists _; isplitr
    swap; · iexact H19
    ipureintro
    refine (View.read_writes_full (s := S768x1024) _ _ _ _ _).trans ?_
    all_goals sl_unfold_words
    all_goals try simp only [e0, e1, e2, e3, e4, e5, e6, e7, e8, e9, e10, e18, e19, eC, eD, e20, e21]
    all_goals first | done | rfl
  isplitl [H20]
  · iexists _; isplitr
    swap; · iexact H20
    ipureintro
    repeat rw [View.read_writes_cons_put _ _ _ _ _ rfl]
    rw [View.writes_nil, hf20]
    all_goals sl_unfold_words
    all_goals try simp only [e0, e1, e2, e3, e4, e5, e6, e7, e8, e9, e10, e18, e19, eC, eD, e20, e21]
    all_goals first | done | rfl
  · iexists _; isplitr
    swap; · iexact H21
    ipureintro
    repeat rw [View.read_writes_cons_put _ _ _ _ _ rfl]
    rw [View.writes_nil, hf21]
    all_goals sl_unfold_words
    all_goals try simp only [e0, e1, e2, e3, e4, e5, e6, e7, e8, e9, e10, e18, e19, eC, eD, e20, e21]
    all_goals first | done | rfl

end Cert.FfnGrad

end
-- ==== Proof.FfnSoundC.lean ====
/- The body obligation at a tile's last pass. -/
module

public import proofs.«01_k».proof.Proof.FfnFrame
public import proofs.«01_k».proof.Proof.FfnRunC

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a tile's last pass. -/
theorem sound_C (c : Dev nD) (t : Fin cfg0.N) (h1 : t.val % 12 = 11) :
    bodyPre m c t ⊢ wp frame (wpE (defs₀ (F := F)) Variants.none c none) Set.univ (bodyAt0 t) (fun _ => bodyPost m c t) := by
  have h0 : t.val % 12 ≠ 0 := by omega
  have hz : t.val ≠ 0 := fun e => h0 (by rw [e])
  unfold bodyPre bodyPost bodyAt0
  simp only [before0_0, before0_1, before0_2, before0_3, before0_4, before0_5, before0_6, before0_7, before0_8, before0_9, before0_10]
  simp only [before0_12 m c t h0, before0_13 m c t h0]
  simp only [before0_17 m c t h0]
  rw [show (dats m 0 c).owesAt () t.succ = (dats m 0 c).owesAt () t.castSucc from rfl]
  rw [show (dats m 0 c).Φ t.succ = held m c t from rfl, Phi_castSucc]
  rw [leaves_live m c t 0 rfl, after0_0]
  rw [leaves_live m c t 1 rfl, after0_1]
  rw [leaves_live m c t 2 rfl, after0_2]
  rw [leaves_live m c t 3 rfl, after0_3]
  rw [leaves_live m c t 4 rfl, after0_4]
  rw [leaves_live m c t 5 rfl, after0_5]
  rw [leaves_live m c t 6 rfl, after0_6]
  rw [leaves_live m c t 7 rfl, after0_7]
  rw [leaves_live m c t 8 rfl, after0_8]
  rw [leaves_live m c t 9 rfl, after0_9]
  rw [leaves_live m c t 10 rfl, after0_10]
  rw [leaves_live m c t 11 (live_11 t h1), after0_11]
  rw [leaves_flush m c t 12 ((flush0_12 t).mpr h1), after0_12]
  rw [leaves_flush m c t 13 ((flush0_13 t).mpr h1), after0_13]
  rw [leaves_live m c t 14 rfl, after0_14]
  rw [leaves_live m c t 15 rfl, after0_15]
  rw [leaves_live m c t 16 rfl, after0_16]
  rw [leaves_live m c t 17 (live_17_last t h1), after0_17]
  rw [PhiS_pos m c t hz]
  have ek : keptAt m c (prev t) = keptAt m c t := by unfold keptAt; rw [base_prev t h0]
  simp only [sumsAt_last m c t h1]
  unfold held; rw [ek, accAt_next m c t h0]
  iintro ⟨⟨⟨HS0, HS1, ⟨%y20, %e20, HS2⟩, ⟨%y21, %e21, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  rw [← e20, ← e21, ← slot_next t h0, ← slot_next t h0]
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) (fun h => h0 ((first_iff t).mp h)) ((last_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, HS0, HS1, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap; · iexact HS2
        ipureintro; exact slot_put _ _ _
      iexists _; isplitr
      swap; · iexact HS3
      ipureintro; exact slot_put _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

end Cert.FfnGrad

end
-- ==== Proof.FfnLaunch.lean ====
/- The launch of the feed-forward gradient and its frame. -/
module

public import proofs.«01_k».proof.Proof.FfnSoundA
public import proofs.«01_k».proof.Proof.FfnSoundB
public import proofs.«01_k».proof.Proof.FfnSoundC
public import Idealize.ShloMosaic.Lib.Claim

@[expose] public section

set_option maxRecDepth 16384

noncomputable section

namespace Cert.FfnGrad

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 12 = 0
  · exact sound_A m c t h0
  · by_cases h1 : t.val % 12 = 11
    · exact sound_C m c t h1
    · exact sound_B m c t h0 h1

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point, -/
theorem hin (c : Dev nD) : Pipeline.ΦA spec0 c ⊢ (dats m 0 c).Φ 0 := by
  rw [show (dats m 0 c).Φ 0 = Pipeline.ΦA spec0 c from rfl]

/-- and takes back the one after the last. -/
theorem hout (c : Dev nD) : (dats m 0 c).Φ (Fin.last cfg0.N) ⊢ Pipeline.ΦA spec0 c :=
  PhiS_out m c cfg0.N (Nat.le_refl _)

set_option backward.isDefEq.respectTransparency.types false in
/-- The launch: every execution ends with the arrays at what the proof data say and the semaphores at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_arrays : θ_run defs (onTc (τ := τ) (main (F := F))) (s₀ m ρ) (Pipeline.FramePost cfgs (dats m) 0 (V m)) :=
  (θ_run defs _ _).mono (fun _ h => h.1) (run_quiescent m ρ)

/-- The frame: every execution ends, the arguments unchanged and the semaphores at zero. -/
theorem frame_held : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_arrays m ρ)) ((θ_run defs _ _).mono (fun _ h => h.2) (run_quiescent m ρ))

end Cert.FfnGrad

end
-- ==== Proof.FfnArrays.lean ====
/- The result arrays after the run, entry by entry. -/
module

public import proofs.«01_k».proof.Proof.FfnPoint
public import proofs.«01_k».proof.Proof.FfnLaunch
public import Idealize.ShloMosaic.Lib.Pipeline.ValueKit

@[expose] public section

set_option maxRecDepth 16384

noncomputable section

namespace Cert.FfnGrad

open Idealize.ShloMosaic Idealize.ShloMosaic.TcCoe Idealize.SL.Sem Cert.KernelIdeal Cert.KernelIdeal.Gen

variable (m : (ℓ : Loc nD τ sig) → Buf (Elt Ideal) ℓ) (c : Dev nD)

/-- The gradient at the input, -/
def G11 : S4x2304x1024.Idx → EReal := fun i => (args m c).dx1 (i 0) (i 1) (i 2)
/-- the modulated input, -/
def G12 : S4x2304x1024.Idx → EReal := fun i => (args m c).h (i 0) (i 1) (i 2)
/-- the gradient at the down product, -/
def G13 : S4x2304x1024.Idx → EReal := fun i => (args m c).df (i 0) (i 1) (i 2)
/-- the gated product, -/
def G14 : S4x2304x2816.Idx → EReal := fun i => (args m c).act (i 0) (i 1) (i 2)
/-- the gradient at the gate's product, -/
def G15 : S4x2304x2816.Idx → EReal := fun i => (args m c).dgate (i 0) (i 1) (i 2)
/-- the gradient at the up product, -/
def G16 : S4x2304x2816.Idx → EReal := fun i => (args m c).dup (i 0) (i 1) (i 2)
/-- and the tile sums. -/
def G17 : S4x3x8x1024.Idx → EReal := fun i => (args m c).st (i 0) (i 1) (i 2) (i 3)

theorem ix_11 : ∀ t : Fin cfg0.N, win0_11.index t (0 : Fin 3) = t.val / 36 ∧ win0_11.index t (1 : Fin 3) = t.val / 12 % 3 ∧ win0_11.index t (2 : Fin 3) = 0 :=
  (by decide +kernel : ∀ t : Fin grid0.N, _)

/-- The gradient at the input after the run. -/
theorem arr11 : (dats m 0 c).arrAt 11 cfg0.N = G11 m c := by
  refine (dats m 0 c).arrAt_eq_of_covers 11 _ (by decide +kernel) fun t hf y => ?_
  rw [after0_11]
  have y0 : (y 0).val = 0 := Nat.lt_one_iff.mp (y 0).isLt
  have ey : (cfg0.win 11).xinj (grid0.coords t) y = ix3 0 (y 1) (y 2) := funext fun a => Fin.ext (by
    match a with
    | ⟨0, _⟩ => exact y0
    | ⟨1, _⟩ => rfl
    | ⟨2, _⟩ => rfl)
  have ez : ((cfg0.win 11).blk t).view.emb y = ix3 (pb t) (tk t (y 1)) (y 2) := funext fun a => Fin.ext (by
    match a with
    | ⟨0, _⟩ => show win0_11.index t 0 * 1 + 1 * (y 0).val = t.val / 36; rw [(ix_11 t).1, y0]; omega
    | ⟨1, _⟩ => show win0_11.index t 1 * 768 + 1 * (y 1).val = 768 * (t.val / 12 % 3) + (y 1).val; rw [(ix_11 t).2.1]; omega
    | ⟨2, _⟩ => show win0_11.index t 2 * 1024 + 1 * (y 2).val = (y 2).val; rw [(ix_11 t).2.2]; omega)
  rw [ey, ez]
  exact dx_at m c t ((flush0_11 t).mp hf) (y 1) (y 2)

theorem ix_12 : ∀ t : Fin cfg0.N, win0_12.index t (0 : Fin 3) = t.val / 36 ∧ win0_12.index t (1 : Fin 3) = t.val / 12 % 3 ∧ win0_12.index t (2 : Fin 3) = 0 :=
  (by decide +kernel : ∀ t : Fin grid0.N, _)

/-- The modulated input after the run. -/
theorem arr12 : (dats m 0 c).arrAt 12 cfg0.N = G12 m c := by
  refine (dats m 0 c).arrAt_eq_of_covers 12 _ (by decide +kernel) fun t hf y => ?_
  rw [after0_12]
  have y0 : (y 0).val = 0 := Nat.lt_one_iff.mp (y 0).isLt
  have ey : (cfg0.win 12).xinj (grid0.coords t) y = ix3 0 (y 1) (y 2) := funext fun a => Fin.ext (by
    match a with
    | ⟨0, _⟩ => exact y0
    | ⟨1, _⟩ => rfl
    | ⟨2, _⟩ => rfl)
  have ez : ((cfg0.win 12).blk t).view.emb y = ix3 (pb t) (tk t (y 1)) (y 2) := funext fun a => Fin.ext (by
    match a with
    | ⟨0, _⟩ => show win0_12.index t 0 * 1 + 1 * (y 0).val = t.val / 36; rw [(ix_12 t).1, y0]; omega
    | ⟨1, _⟩ => show win0_12.index t 1 * 768 + 1 * (y 1).val = 768 * (t.val / 12 % 3) + (y 1).val; rw [(ix_12 t).2.1]; omega
    | ⟨2, _⟩ => show win0_12.index t 2 * 1024 + 1 * (y 2).val = (y 2).val; rw [(ix_12 t).2.2]; omega)
  rw [ey, ez]
  exact (h_at m c (base t) (y 1) (y 2)).trans (by unfold tk; rw [pb_base, pj_base]; rfl)

theorem ix_13 : ∀ t : Fin cfg0.N, win0_13.index t (0 : Fin 3) = t.val / 36 ∧ win0_13.index t (1 : Fin 3) = t.val / 12 % 3 ∧ win0_13.index t (2 : Fin 3) = 0 :=
  (by decide +kernel : ∀ t : Fin grid0.N, _)

/-- The gradient at the down product after the run. -/
theorem arr13 : (dats m 0 c).arrAt 13 cfg0.N = G13 m c := by
  refine (dats m 0 c).arrAt_eq_of_covers 13 _ (by decide +kernel) fun t hf y => ?_
  rw [after0_13]
  have y0 : (y 0).val = 0 := Nat.lt_one_iff.mp (y 0).isLt
  have ey : (cfg0.win 13).xinj (grid0.coords t) y = ix3 0 (y 1) (y 2) := funext fun a => Fin.ext (by
    match a with
    | ⟨0, _⟩ => exact y0
    | ⟨1, _⟩ => rfl
    | ⟨2, _⟩ => rfl)
  have ez : ((cfg0.win 13).blk t).view.emb y = ix3 (pb t) (tk t (y 1)) (y 2) := funext fun a => Fin.ext (by
    match a with
    | ⟨0, _⟩ => show win0_13.index t 0 * 1 + 1 * (y 0).val = t.val / 36; rw [(ix_13 t).1, y0]; omega
    | ⟨1, _⟩ => show win0_13.index t 1 * 768 + 1 * (y 1).val = 768 * (t.val / 12 % 3) + (y 1).val; rw [(ix_13 t).2.1]; omega
    | ⟨2, _⟩ => show win0_13.index t 2 * 1024 + 1 * (y 2).val = (y 2).val; rw [(ix_13 t).2.2]; omega)
  rw [ey, ez]
  exact (dfOut_eq _ _ _ _ _ _ _).trans ((dfWide_at m c (base t) (y 1) (y 2)).trans (by unfold tk; rw [pb_base, pj_base]; rfl))

theorem ix_14 : ∀ t : Fin cfg0.N, win0_14.index t (0 : Fin 3) = t.val / 36 ∧ win0_14.index t (1 : Fin 3) = t.val / 12 % 3 ∧ win0_14.index t (2 : Fin 3) = min (t.val % 12) 10 :=
  (by decide +kernel : ∀ t : Fin grid0.N, _)

/-- The gated product after the run. -/
theorem arr14 : (dats m 0 c).arrAt 14 cfg0.N = G14 m c := by
  refine (dats m 0 c).arrAt_eq_of_covers 14 _ (by decide +kernel) fun t hf y => ?_
  rw [after0_14]
  have y0 : (y 0).val = 0 := Nat.lt_one_iff.mp (y 0).isLt
  have ey : (cfg0.win 14).xinj (grid0.coords t) y = ix3 0 (y 1) (y 2) := funext fun a => Fin.ext (by
    match a with
    | ⟨0, _⟩ => exact y0
    | ⟨1, _⟩ => rfl
    | ⟨2, _⟩ => rfl)
  have ez : ((cfg0.win 14).blk t).view.emb y = ix3 (pb t) (tk t (y 1)) (col t (y 2)) := funext fun a => Fin.ext (by
    match a with
    | ⟨0, _⟩ => show win0_14.index t 0 * 1 + 1 * (y 0).val = t.val / 36; rw [(ix_14 t).1, y0]; omega
    | ⟨1, _⟩ => show win0_14.index t 1 * 768 + 1 * (y 1).val = 768 * (t.val / 12 % 3) + (y 1).val; rw [(ix_14 t).2.1]; omega
    | ⟨2, _⟩ => show win0_14.index t 2 * 256 + 1 * (y 2).val = 256 * min (t.val % 12) 10 + (y 2).val; rw [(ix_14 t).2.2]; omega)
  rw [ey, ez]
  exact act_at m c t (y 1) (y 2)

theorem ix_15 : ∀ t : Fin cfg0.N, win0_15.index t (0 : Fin 3) = t.val / 36 ∧ win0_15.index t (1 : Fin 3) = t.val / 12 % 3 ∧ win0_15.index t (2 : Fin 3) = min (t.val % 12) 10 :=
  (by decide +kernel : ∀ t : Fin grid0.N, _)

/-- The gradient at the gate's product after the run. -/
theorem arr15 : (dats m 0 c).arrAt 15 cfg0.N = G15 m c := by
  refine (dats m 0 c).arrAt_eq_of_covers 15 _ (by decide +kernel) fun t hf y => ?_
  rw [after0_15]
  have y0 : (y 0).val = 0 := Nat.lt_one_iff.mp (y 0).isLt
  have ey : (cfg0.win 15).xinj (grid0.coords t) y = ix3 0 (y 1) (y 2) := funext fun a => Fin.ext (by
    match a with
    | ⟨0, _⟩ => exact y0
    | ⟨1, _⟩ => rfl
    | ⟨2, _⟩ => rfl)
  have ez : ((cfg0.win 15).blk t).view.emb y = ix3 (pb t) (tk t (y 1)) (col t (y 2)) := funext fun a => Fin.ext (by
    match a with
    | ⟨0, _⟩ => show win0_15.index t 0 * 1 + 1 * (y 0).val = t.val / 36; rw [(ix_15 t).1, y0]; omega
    | ⟨1, _⟩ => show win0_15.index t 1 * 768 + 1 * (y 1).val = 768 * (t.val / 12 % 3) + (y 1).val; rw [(ix_15 t).2.1]; omega
    | ⟨2, _⟩ => show win0_15.index t 2 * 256 + 1 * (y 2).val = 256 * min (t.val % 12) 10 + (y 2).val; rw [(ix_15 t).2.2]; omega)
  rw [ey, ez]
  exact (pay50_eq _ _ _ _ _ _).trans (dgate_at m c t (y 1) (y 2))

theorem ix_16 : ∀ t : Fin cfg0.N, win0_16.index t (0 : Fin 3) = t.val / 36 ∧ win0_16.index t (1 : Fin 3) = t.val / 12 % 3 ∧ win0_16.index t (2 : Fin 3) = min (t.val % 12) 10 :=
  (by decide +kernel : ∀ t : Fin grid0.N, _)

/-- The gradient at the up product after the run. -/
theorem arr16 : (dats m 0 c).arrAt 16 cfg0.N = G16 m c := by
  refine (dats m 0 c).arrAt_eq_of_covers 16 _ (by decide +kernel) fun t hf y => ?_
  rw [after0_16]
  have y0 : (y 0).val = 0 := Nat.lt_one_iff.mp (y 0).isLt
  have ey : (cfg0.win 16).xinj (grid0.coords t) y = ix3 0 (y 1) (y 2) := funext fun a => Fin.ext (by
    match a with
    | ⟨0, _⟩ => exact y0
    | ⟨1, _⟩ => rfl
    | ⟨2, _⟩ => rfl)
  have ez : ((cfg0.win 16).blk t).view.emb y = ix3 (pb t) (tk t (y 1)) (col t (y 2)) := funext fun a => Fin.ext (by
    match a with
    | ⟨0, _⟩ => show win0_16.index t 0 * 1 + 1 * (y 0).val = t.val / 36; rw [(ix_16 t).1, y0]; omega
    | ⟨1, _⟩ => show win0_16.index t 1 * 768 + 1 * (y 1).val = 768 * (t.val / 12 % 3) + (y 1).val; rw [(ix_16 t).2.1]; omega
    | ⟨2, _⟩ => show win0_16.index t 2 * 256 + 1 * (y 2).val = 256 * min (t.val % 12) 10 + (y 2).val; rw [(ix_16 t).2.2]; omega)
  rw [ey, ez]
  exact (pay51_eq _ _ _ _ _).trans (dup_at m c t (y 1) (y 2))

theorem ix_17 : ∀ t : Fin cfg0.N, win0_17.index t (0 : Fin 4) = t.val / 36 ∧ win0_17.index t (1 : Fin 4) = t.val / 12 % 3 ∧ win0_17.index t (2 : Fin 4) = 0 ∧ win0_17.index t (3 : Fin 4) = 0 :=
  (by decide +kernel : ∀ t : Fin grid0.N, _)

/-- The tile sums after the run. -/
theorem arr17 : (dats m 0 c).arrAt 17 cfg0.N = G17 m c := by
  refine (dats m 0 c).arrAt_eq_of_covers 17 _ (by decide +kernel) fun t hf y => ?_
  rw [after0_17]
  have y0 : (y 0).val = 0 := Nat.lt_one_iff.mp (y 0).isLt
  have y1 : (y 1).val = 0 := Nat.lt_one_iff.mp (y 1).isLt
  have ey : (cfg0.win 17).xinj (grid0.coords t) y = ix4 0 0 (y 2) (y 3) := funext fun a => Fin.ext (by
    match a with
    | ⟨0, _⟩ => exact y0
    | ⟨1, _⟩ => exact y1
    | ⟨2, _⟩ => rfl
    | ⟨3, _⟩ => rfl)
  have ez : ((cfg0.win 17).blk t).view.emb y = ix4 (pb t) (pj t) (y 2) (y 3) := funext fun a => Fin.ext (by
    match a with
    | ⟨0, _⟩ => show win0_17.index t 0 * 1 + 1 * (y 0).val = t.val / 36; rw [(ix_17 t).1, y0]; omega
    | ⟨1, _⟩ => show win0_17.index t 1 * 1 + 1 * (y 1).val = t.val / 12 % 3; rw [(ix_17 t).2.1, y1]; omega
    | ⟨2, _⟩ => show win0_17.index t 2 * 8 + 1 * (y 2).val = (y 2).val; rw [(ix_17 t).2.2.1]; omega
    | ⟨3, _⟩ => show win0_17.index t 3 * 1024 + 1 * (y 3).val = (y 3).val; rw [(ix_17 t).2.2.2]; omega)
  rw [ey, ez]
  exact sums_at m c t ((flush0_17 t).mp hf) (y 2) (y 3)

end Cert.FfnGrad

end
-- ==== Proof.FfnPre.lean ====
/- The precondition: every argument's entry is real. -/
module

public import proofs.«01_k».proof.Defs
public import proofs.«01_k».proof.Proof.FfnHost
public import proofs.«01_k».proof.Proof.Gen.ReferenceIdeal

@[expose] public section

noncomputable section

namespace Cert.FfnGrad

open Idealize.ShloMosaic Idealize.SL.Sem

/-- The precondition's side conditions. -/
instance preFacts : Cert.Pre_finite_arguments.Facts where
  bcast_S_S4x2304x1024 := by decide
  bcast_S_S4x2x8x1024 := by decide
  bcast_S_S1x1024 := by decide
  bcast_S_S1024x2816 := by decide
  bcast_S_S2816x1024 := by decide

theorem top_eq : Ideal.ofBits .f32 0x7F800000#32 = ⊤ := by
  unfold Ideal.ofBits Ideal.ieee
  norm_num [show BitVec.extractLsb' 31 1 0x7F800000#32 = 0#1 by decide, Nat.shiftRight_eq_div_pow]

/-- An entry whose absolute value compares below infinity is real. -/
theorem real_of_cmp (x : EReal) (h : BitVec.ofBool (decide (max x (-x) < Ideal.ofBits .f32 0x7F800000#32)) = 1#1) : IsReal x := by
  refine isReal_of_abs x ?_
  rw [top_eq] at h
  by_contra hn
  rw [decide_eq_false hn] at h
  exact absurd h (by decide)

open Cert.KernelIdeal Cert.KernelIdeal.Gen in
/-- So the precondition makes every entry real. -/
theorem args_real (m : (ℓ : Loc nD τ sig) → Buf (Elt Ideal) ℓ) (h : Pre_KernelIdeal_finite_arguments m) (c : Dev nD) : (args m c).Real := by
  obtain ⟨h0, h1, h2, h3, h4, h5, h6, h7⟩ := h c
  exact
    { dx := fun b s d => real_of_cmp _ (congrFun h0 (ix3 b s d))
      x := fun b s d => real_of_cmp _ (congrFun h1 (ix3 b s d))
      mod := fun b k j d => real_of_cmp _ (congrFun h2 (ix4 b k j d))
      n3 := fun d => real_of_cmp _ (congrFun h3 (ix2 0 d))
      n4 := fun d => real_of_cmp _ (congrFun h4 (ix2 0 d))
      wg := fun d k => real_of_cmp _ (congrFun h5 (ix2 d k))
      wu := fun d k => real_of_cmp _ (congrFun h6 (ix2 d k))
      wd := fun k d => real_of_cmp _ (congrFun h7 (ix2 k d)) }

end Cert.FfnGrad

end
-- ==== Proof.FfnRef.lean ====
/- The reference's values, entry by entry. -/
module

public import proofs.«01_k».proof.Proof.Gen.ReferenceIdeal.Run
public import proofs.«01_k».proof.Proof.FfnMath
public import Idealize.ShloMosaic.Lib.Pointwise
public import Idealize.ShloMosaic.Lib.Pipeline.Value
public import Idealize.ShloMosaic.Lib.Tactic
public import Idealize.ShloMosaic.Lib.WordCmp

@[expose] public section

noncomputable section

namespace Cert.FfnGrad.Plain

open Idealize.ShloMosaic Idealize.SL.Sem Cert.ReferenceIdeal Cert.ReferenceIdeal.Gen Cert.ReferenceIdeal.Value

/-- What a device's buffers hold. -/
abbrev Held := Valuation τ sig (Elt Ideal)

/-- The arguments' entries. -/
def args (V : Held) : Args where
  dx b s d := (V (Proc.devRef .tc main_arg0) : S4x2304x1024.Idx → EReal) (ix3 b s d)
  x b s d := (V (Proc.devRef .tc main_arg1) : S4x2304x1024.Idx → EReal) (ix3 b s d)
  mod b k j d := (V (Proc.devRef .tc main_arg2) : S4x2x8x1024.Idx → EReal) (ix4 b k j d)
  n3 d := (V (Proc.devRef .tc main_arg3) : S1x1024.Idx → EReal) (ix2 0 d)
  n4 d := (V (Proc.devRef .tc main_arg4) : S1x1024.Idx → EReal) (ix2 0 d)
  wg d k := (V (Proc.devRef .tc main_arg5) : S1024x2816.Idx → EReal) (ix2 d k)
  wu d k := (V (Proc.devRef .tc main_arg6) : S1024x2816.Idx → EReal) (ix2 d k)
  wd k d := (V (Proc.devRef .tc main_arg7) : S2816x1024.Idx → EReal) (ix2 k d)

abbrev c15 (V : Held) : S4x2304x1024.Idx → EReal := res_main_v15 V
abbrev c22 (V : Held) : S4x2304x1.Idx → EReal := res_main_v22 V
abbrev c23 (V : Held) : S4x2304x1.Idx → EReal := res_main_v23 V
abbrev c28 (V : Held) : S4x2304x1024.Idx → EReal := res_main_v28 V
abbrev c29 (V : Held) : S4x2304x1024.Idx → EReal := res_main_v29 V
abbrev c31 (V : Held) : S4x2304x1024.Idx → EReal := res_main_v31 V
abbrev c33 (V : Held) : S4x2304x1024.Idx → EReal := res_main_v33 V
abbrev c34 (V : Held) : S4x2304x2816.Idx → EReal := res_main_v34 V
abbrev c35 (V : Held) : S4x2304x2816.Idx → EReal := res_main_v35 V
abbrev c36 (V : Held) : S4x2304x2816.Idx → EReal := res_main_v36_0 V
abbrev c362 (V : Held) : S4x2304x2816.Idx → EReal := res_main_v36_2 V
abbrev c37 (V : Held) : S4x2304x2816.Idx → EReal := res_main_v37 V
abbrev c38 (V : Held) : S4x2304x1024.Idx → EReal := res_main_v38 V
abbrev c45 (V : Held) : S4x2304x1024.Idx → EReal := res_main_v45 V
abbrev c47 (V : Held) : S4x2304x1024.Idx → EReal := res_main_v47 V
abbrev c54 (V : Held) : S4x2304x1.Idx → EReal := res_main_v54 V
abbrev c55 (V : Held) : S4x2304x1.Idx → EReal := res_main_v55 V
abbrev c60 (V : Held) : S4x2304x1024.Idx → EReal := res_main_v60 V
abbrev c61 (V : Held) : S4x2304x1024.Idx → EReal := res_main_v61 V
abbrev c64 (V : Held) : S4x2304x1024.Idx → EReal := res_main_v64 V
abbrev c65 (V : Held) : S4x2304x1024.Idx → EReal := res_main_v65 V
abbrev c66 (V : Held) : S4x2304x1024.Idx → EReal := res_main_v66 V
abbrev c68 (V : Held) : S4x2304x1024.Idx → EReal := res_main_v68 V
abbrev c78 (V : Held) : S4x2304x1024.Idx → EReal := res_main_v78 V
abbrev c82 (V : Held) : S4x2304x1024.Idx → EReal := res_main_v82 V
abbrev c83 (V : Held) : S4x2304x2816.Idx → EReal := res_main_v83 V
abbrev c84 (V : Held) : S4x2304x2816.Idx → EReal := res_main_v84 V
abbrev c85 (V : Held) : S4x2304x2816.Idx → EReal := res_main_v85 V
abbrev c86 (V : Held) : S4x2304x2816.Idx → EReal := res_main_v86 V
abbrev c89 (V : Held) : S4x2304x1024.Idx → EReal := res_main_v89 V
abbrev c90 (V : Held) : S4x2304x1024.Idx → EReal := res_main_v90 V
abbrev c91 (V : Held) : S4x2304x1024.Idx → EReal := res_main_v91 V
abbrev c93 (V : Held) : S4x2304x1024.Idx → EReal := res_main_v93 V
abbrev c103 (V : Held) : S4x2304x1024.Idx → EReal := res_main_v103 V

section Values
variable (V : Held) (b : Fin 4) (s : Fin 2304) (d : Fin 1024) (k : Fin 2816)

theorem v15 : c15 V (ix3 b s d) = (args V).n3 d := by
  unfold c15 res_main_v15; pointwise; rfl
theorem v22 : c22 V (ix3 b s 0) = meanSq ((args V).x b s) := by
  unfold c22 res_main_v22; pointwise; rfl
theorem v23 : c23 V (ix3 b s 0) = invRms ((args V).x b s) := by
  unfold c23 res_main_v23; pointwise; exact congrArg Ideal.rsqrt (v22 V b s)
theorem v28 : c28 V (ix3 b s d) = (args V).xn b s d := by
  unfold c28 res_main_v28; pointwise; exact congrArg ((args V).x b s d * ·) (v23 V b s)
theorem v29 : c29 V (ix3 b s d) = (args V).xg b s d := by
  unfold c29 res_main_v29; pointwise; exact congrArg₂ (· * ·) (v28 V b s d) (v15 V b s d)
theorem v31 : c31 V (ix3 b s d) = 1 + (args V).row 4 b s d := by
  unfold c31 res_main_v31; pointwise; rfl
theorem v33 : c33 V (ix3 b s d) = (args V).h b s d := by
  unfold c33 res_main_v33; pointwise; exact congrArg₂ (· + ·) (congrArg₂ (· * ·) (v29 V b s d) (v31 V b s d)) rfl
theorem v34 : c34 V (ix3 b s k) = (args V).gate b s k := by
  unfold c34 res_main_v34; pointwise; exact Finset.sum_congr rfl fun x _ => congrArg (· * _) (v33 V b s x)
theorem v35 : c35 V (ix3 b s k) = (args V).up b s k := by
  unfold c35 res_main_v35; pointwise; exact Finset.sum_congr rfl fun x _ => congrArg (· * _) (v33 V b s x)
theorem v362 : c362 V (ix3 b s k) = Ideal.logistic ((args V).gate b s k) := by
  unfold c362 res_main_v36_2; pointwise; exact congrArg Ideal.logistic (v34 V b s k)
theorem v36 : c36 V (ix3 b s k) = (args V).silu b s k := by
  unfold c36 res_main_v36_0; pointwise; exact congrArg₂ (· * ·) (v34 V b s k) (v362 V b s k)
theorem v37 : c37 V (ix3 b s k) = (args V).act b s k := by
  unfold c37 res_main_v37; pointwise; exact congrArg₂ (· * ·) (v36 V b s k) (v35 V b s k)
theorem v38 : c38 V (ix3 b s d) = (args V).f b s d := by
  unfold c38 res_main_v38; pointwise; exact Finset.sum_congr rfl fun x _ => congrArg (· * _) (v37 V b s x)
theorem v38' : (fun d => c38 V (ix3 b s d)) = (args V).f b s := funext fun d => v38 V b s d
theorem v45 : c45 V (ix3 b s d) = (args V).row 5 b s d := by
  unfold c45 res_main_v45; pointwise; rfl
theorem v47 : c47 V (ix3 b s d) = (args V).n4 d := by
  unfold c47 res_main_v47; pointwise; rfl
theorem v54 : c54 V (ix3 b s 0) = meanSq ((args V).f b s) := by
  rw [← v38']; unfold c54 res_main_v54; pointwise; rfl
theorem v55 : c55 V (ix3 b s 0) = invRms ((args V).f b s) := by
  unfold c55 res_main_v55; pointwise; exact congrArg Ideal.rsqrt (v54 V b s)
theorem v60 : c60 V (ix3 b s d) = (args V).fn b s d := by
  unfold c60 res_main_v60; pointwise; exact congrArg₂ (· * ·) (v38 V b s d) (v55 V b s)
theorem v61 : c61 V (ix3 b s d) = (args V).fn b s d * (args V).n4 d := by
  unfold c61 res_main_v61; pointwise; exact congrArg₂ (· * ·) (v60 V b s d) (v47 V b s d)
theorem v64 : c64 V (ix3 b s d) = (args V).dx b s d := by
  unfold c64 res_main_v64; exact congrFun (shapeCast_self _ _) (ix3 b s d)
theorem v65 : c65 V (ix3 b s d) = (args V).dxg b s d := by
  unfold c65 res_main_v65; pointwise
  exact (congrArg₂ (· * ·) (v45 V b s d) (v64 V b s d)).trans (mul_comm _ _)
theorem v66 : c66 V (ix3 b s d) = (args V).dg2 b s d := by
  unfold c66 res_main_v66; pointwise; exact congrArg₂ (· * ·) (v64 V b s d) (v61 V b s d)
theorem v68 : c68 V (ix3 b s d) = (args V).dfn b s d := by
  unfold c68 res_main_v68; pointwise; exact congrArg₂ (· * ·) (v65 V b s d) (v47 V b s d)

/-- The rows of a normalised vector's gradient through its mean square. -/
theorem v78 : c78 V (ix3 b s d) = Ideal.div ((∑ j, (args V).f b s j * (args V).dfn b s j)
    * (Ideal.ofBits .f32 3204448256#32 * Ideal.div (invRms ((args V).f b s)) (meanSq ((args V).f b s)))) width := by
  rw [← v54 V b s, ← v55 V b s, ← Finset.sum_congr rfl fun j _ => congrArg₂ (· * ·) (v38 V b s j) (v68 V b s j)]
  unfold c78 res_main_v78; pointwise; exact Fin.sum_univ_one _
theorem v82 (H : (args V).Real) : c82 V (ix3 b s d) = (args V).df b s d := by
  refine Eq.trans ?_ (normBack_eq ((args V).f b s) ((args V).dfn b s) (H.f b s) (H.dfn b s) d)
  unfold c82 res_main_v82; pointwise
  exact congrArg₂ (· + ·) (congrArg₂ (· + ·) (congrArg₂ (· * ·) (v68 V b s d) (v55 V b s)) (congrArg₂ (· * ·) (v38 V b s d) (v78 V b s d)))
    (congrArg₂ (· * ·) (v78 V b s d) (v38 V b s d))
theorem v83 (H : (args V).Real) : c83 V (ix3 b s k) = (args V).dact b s k := by
  unfold c83 res_main_v83; pointwise; exact Finset.sum_congr rfl fun x _ => congrArg (· * _) (v82 V b s x H)
theorem v84 (H : (args V).Real) : c84 V (ix3 b s k) = (args V).dup b s k := by
  unfold c84 res_main_v84; pointwise; exact (congrArg₂ (· * ·) (v36 V b s k) (v83 V b s k H)).trans (mul_comm _ _)
theorem v85 (H : (args V).Real) : c85 V (ix3 b s k) = (args V).dact b s k * (args V).up b s k := by
  unfold c85 res_main_v85; pointwise; exact congrArg₂ (· * ·) (v83 V b s k H) (v35 V b s k)
theorem v86 (H : (args V).Real) : c86 V (ix3 b s k) = (args V).dgate b s k := by
  refine Eq.trans ?_ (gateBack_eq _ _ (H.gate b s k) ((H.dact b s k).mul (H.up b s k)))
  unfold c86 res_main_v86; pointwise
  exact congrArg₂ (· + ·) (congrArg₂ (· * ·) (v85 V b s k H) (v362 V b s k))
    (congrArg₂ (· * ·) (congrArg₂ (· * ·) (v34 V b s k) (v85 V b s k H)) (congrArg₂ (· * ·) (v362 V b s k) (congrArg (1 - ·) (v362 V b s k))))
theorem v89 (H : (args V).Real) : c89 V (ix3 b s d) = (args V).dh b s d := by
  unfold c89 res_main_v89; pointwise
  exact (congrArg₂ (· + ·) (Finset.sum_congr rfl fun x _ => congrArg (· * _) (v84 V b s x H))
    (Finset.sum_congr rfl fun x _ => congrArg (· * _) (v86 V b s x H))).trans (add_comm _ _)
theorem v90 (H : (args V).Real) : c90 V (ix3 b s d) = (args V).dscale b s d := by
  unfold c90 res_main_v90; pointwise; exact (congrArg₂ (· * ·) (v29 V b s d) (v89 V b s d H)).trans (mul_comm _ _)
theorem v91 (H : (args V).Real) : c91 V (ix3 b s d) = (args V).dyv b s d := by
  unfold c91 res_main_v91; pointwise; exact congrArg₂ (· * ·) (v89 V b s d H) (v31 V b s d)
theorem v93 (H : (args V).Real) : c93 V (ix3 b s d) = (args V).dxn b s d := by
  unfold c93 res_main_v93; pointwise; exact congrArg₂ (· * ·) (v91 V b s d H) (v15 V b s d)
theorem v103 (H : (args V).Real) : c103 V (ix3 b s d) = Ideal.div ((∑ j, (args V).x b s j * (args V).dxn b s j)
    * (Ideal.ofBits .f32 3204448256#32 * Ideal.div (invRms ((args V).x b s)) (meanSq ((args V).x b s)))) width := by
  rw [← v22 V b s, ← v23 V b s, ← Finset.sum_congr rfl fun j _ => congrArg ((args V).x b s j * ·) (v93 V b s j H)]
  unfold c103 res_main_v103; pointwise; exact Fin.sum_univ_one _

end Values

/-! ## The results -/

section Results
variable (V : Held)

abbrev outDx : FVec Ideal S4x2304x1024 .f32 := addf (V (Proc.devRef .tc main_arg0)) (addf (addf (mulf (res_main_v93 V) (broadcastInDim S4x2304x1024 ![0, 1, 2] bcast_S4x2304x1_S4x2304x1024_0_1_2 (res_main_v23 V))) (mulf (V (Proc.devRef .tc main_arg1)) (res_main_v103 V))) (mulf (res_main_v103 V) (V (Proc.devRef .tc main_arg1))))

theorem outDx_eq (H : (args V).Real) (b : Fin 4) (s : Fin 2304) (d : Fin 1024) : outDx V (ix3 b s d) = (args V).dx1 b s d := by
  refine Eq.trans ?_ (congrArg ((args V).dx b s d + ·) (normBack_eq ((args V).x b s) ((args V).dxn b s) (H.x b s) (H.dxn b s) d))
  unfold outDx; pointwise
  exact congrArg ((args V).dx b s d + ·) (congrArg₂ (· + ·) (congrArg₂ (· + ·) (congrArg₂ (· * ·) (v93 V b s d H) (v23 V b s))
    (congrArg ((args V).x b s d * ·) (v103 V b s d H))) (congrArg (· * (args V).x b s d) (v103 V b s d H)))

/-- A tile's sum, as the reference spells it. -/
def tiled (v : S4x2304x1024.Idx → EReal) : S4x3x1x1024.Idx → EReal :=
  broadcastInDim S4x3x1x1024 ![0, 1, 3] bcast_S4x3x1024_S4x3x1x1024_0_1_3 (Host.reduceAdd (F := Ideal) (φ := .f32) (shapeCast _ v shapeCasts_S4x2304x1024_S4x3x768x1024) (constant (F := Ideal) S_ .f32 0x00000000#32) reducesTo_S4x3x768x1024_S4x3x1024_d2 h_S_)

theorem tiled_eq (v : S4x2304x1024.Idx → EReal) (w : Fin 4 → Fin 2304 → Fin 1024 → EReal) (h : ∀ b s d, v (ix3 b s d) = w b s d)
    (b : Fin 4) (j : Fin 3) (d : Fin 1024) : tiled v (ix4 b j 0 d) = Args.tileSum w b j d := by
  unfold tiled Args.tileSum
  pointwise
  refine Finset.sum_congr rfl fun r _ => ?_
  rw [h]
  exact congrArg (w b · d) (Fin.ext (by show j.val * 768 + r.val = 768 * j.val + r.val; rw [Nat.mul_comm]))

attribute [local irreducible] tiled

/-- Zero everywhere. -/
abbrev none : S4x2304x1024.Idx → EReal := broadcastInDim S4x2304x1024 ![] bcast_S_S4x2304x1024 (id (constant (F := Ideal) S_ .f32 0x00000000#32))

/-- The latent tokens' part, and the context tokens'. -/
abbrev lat (v : S4x2304x1024.Idx → EReal) : S4x2304x1024.Idx → EReal := select (res_main_v110 V) none v
abbrev ctx (v : S4x2304x1024.Idx → EReal) : S4x2304x1024.Idx → EReal := select (res_main_v110 V) v none

theorem v110 (b : Fin 4) (s : Fin 2304) (d : Fin 1024) : ((res_main_v110 V : S4x2304x1024.Idx → BitVec 1) (ix3 b s d) = 1#1) ↔ s.val < 256 := by
  unfold res_main_v110; pointwise
  have h : s.val < 2304 := s.isLt
  word_cmp
  by_cases hs : s.val < 256
  · simp [hs]
  · simp only [hs, decide_false, iff_false]; exact (by decide : ¬ (BitVec.ofBool false = 1#1))

theorem lat_eq (v : S4x2304x1024.Idx → EReal) (w : Fin 4 → Fin 2304 → Fin 1024 → EReal) (h : ∀ b s d, v (ix3 b s d) = w b s d)
    (b : Fin 4) (s : Fin 2304) (d : Fin 1024) : lat V v (ix3 b s d) = Args.latent w b s d := by
  unfold lat Args.latent
  by_cases hs : s.val < 256
  · rw [if_pos hs]
    show (if _ = 1#1 then _ else _) = _
    rw [if_pos ((v110 V b s d).mpr hs)]; simp only [none, id_eq]; pointwise
  · rw [if_neg hs]
    show (if _ = 1#1 then _ else _) = _
    rw [if_neg (fun h => hs ((v110 V b s d).mp h))]; exact h b s d

theorem ctx_eq (v : S4x2304x1024.Idx → EReal) (w : Fin 4 → Fin 2304 → Fin 1024 → EReal) (h : ∀ b s d, v (ix3 b s d) = w b s d)
    (b : Fin 4) (s : Fin 2304) (d : Fin 1024) : ctx V v (ix3 b s d) = Args.context w b s d := by
  unfold ctx Args.context
  by_cases hs : s.val < 256
  · rw [if_pos hs]
    show (if _ = 1#1 then _ else _) = _
    rw [if_pos ((v110 V b s d).mpr hs)]; exact h b s d
  · rw [if_neg hs]
    show (if _ = 1#1 then _ else _) = _
    rw [if_neg (fun h => hs ((v110 V b s d).mp h))]; simp only [none, id_eq]; pointwise

theorem n3_eq (H : (args V).Real) (b : Fin 4) (s : Fin 2304) (d : Fin 1024) :
    mulf (F := Ideal) (φ := .f32) (res_main_v28 V) (res_main_v91 V) (ix3 b s d) = (args V).dn3 b s d := by
  pointwise; exact (congrArg₂ (· * ·) (v28 V b s d) (v91 V b s d H)).trans (mul_comm _ _)
theorem n4_eq (b : Fin 4) (s : Fin 2304) (d : Fin 1024) :
    mulf (F := Ideal) (φ := .f32) (res_main_v60 V) (res_main_v65 V) (ix3 b s d) = (args V).dn4 b s d := by
  pointwise; exact (congrArg₂ (· * ·) (v60 V b s d) (v65 V b s d)).trans (mul_comm _ _)

/-- The tile sums, as the reference joins them. -/
abbrev outSt : S4x3x8x1024.Idx → EReal :=
  concatenate S4x3x8x1024 2 [⟨S4x3x1x1024, tiled (lat V (res_main_v89 V))⟩, ⟨S4x3x1x1024, tiled (lat V (res_main_v90 V))⟩, ⟨S4x3x1x1024, tiled (lat V (res_main_v66 V))⟩,
    ⟨S4x3x1x1024, tiled (mulf (F := Ideal) (φ := .f32) (res_main_v28 V) (res_main_v91 V))⟩, ⟨S4x3x1x1024, tiled (mulf (F := Ideal) (φ := .f32) (res_main_v60 V) (res_main_v65 V))⟩,
    ⟨S4x3x1x1024, tiled (ctx V (res_main_v89 V))⟩, ⟨S4x3x1x1024, tiled (ctx V (res_main_v90 V))⟩, ⟨S4x3x1x1024, tiled (ctx V (res_main_v66 V))⟩]
    concatenates_S4x3x1x1024_S4x3x1x1024_S4x3x1x1024_S4x3x1x1024_S4x3x1x1024_S4x3x1x1024_S4x3x1x1024_S4x3x1x1024_S4x3x8x1024_d2

theorem outSt_eq (H : (args V).Real) (b : Fin 4) (j : Fin 3) (i : Fin 8) (d : Fin 1024) : outSt V (ix4 b j i d) = (args V).st b j i d := by
  have h0 := tiled_eq _ _ (lat_eq V (res_main_v89 V) _ fun b s d => v89 V b s d H) b j d
  have h1 := tiled_eq _ _ (lat_eq V (res_main_v90 V) _ fun b s d => v90 V b s d H) b j d
  have h2 := tiled_eq _ _ (lat_eq V (res_main_v66 V) _ fun b s d => v66 V b s d) b j d
  have h3 := tiled_eq _ _ (n3_eq V H) b j d
  have h4 := tiled_eq _ _ (n4_eq V) b j d
  have h5 := tiled_eq _ _ (ctx_eq V (res_main_v89 V) _ fun b s d => v89 V b s d H) b j d
  have h6 := tiled_eq _ _ (ctx_eq V (res_main_v90 V) _ fun b s d => v90 V b s d H) b j d
  have h7 := tiled_eq _ _ (ctx_eq V (res_main_v66 V) _ fun b s d => v66 V b s d) b j d
  unfold outSt
  pointwise
  match i with
  | 0 => exact h0
  | 1 => exact h1
  | 2 => exact h2
  | 3 => exact h3
  | 4 => exact h4
  | 5 => exact h5
  | 6 => exact h6
  | 7 => exact h7

end Results

end Cert.FfnGrad.Plain

end
-- ==== Proof.FfnAlgebraic.lean ====
/- The feed-forward gradient: kernel and reference end with the same seven arrays. -/
module

public import proofs.«01_k».proof.Proof.FfnArrays
public import proofs.«01_k».proof.Proof.FfnPre
public import proofs.«01_k».proof.Proof.FfnRef
public import Idealize.ShloMosaic.Lib.Claim
public import Idealize.ShloMosaic.Lib.Quiescent

@[expose] public section

set_option maxRecDepth 16384

noncomputable section

namespace Cert.FfnGrad

open Idealize.ShloMosaic Idealize.ShloMosaic.TcCoe Idealize.SL.Sem

section Kernel
open Cert.KernelIdeal Cert.KernelIdeal.Gen

/-- A run that ends with the arrays at what some proof data say ends with the seven results there. -/
theorem results_of (m : (ℓ : Loc nD τ sig) → Buf (Elt Ideal) ℓ) (ρ : Dev nD → PrngReg)
    (dats : (p : Fin 1) → (c : Dev nD) → Pipeline.Dat τ (Elt Ideal) Unit ℕ (UR sig nD τ) ℕ (cfgs p) c)
    (h : θ_run defs (onTc (τ := τ) (main (F := Ideal))) (s₀ m ρ) (Pipeline.FramePost cfgs dats 0 (V m))) :
    θ_run defs (onTc (τ := τ) (main (F := Ideal))) ⟨m, fun _ => 0, ρ⟩ (fun r => ∀ c : Dev nD,
      r.2.mem ((c.tc : Thread nD τ).loc main_v43_0) = (dats 0 c).arrAt 11 cfg0.N
      ∧ r.2.mem ((c.tc : Thread nD τ).loc main_v43_1) = (dats 0 c).arrAt 12 cfg0.N
      ∧ r.2.mem ((c.tc : Thread nD τ).loc main_v43_2) = (dats 0 c).arrAt 13 cfg0.N
      ∧ r.2.mem ((c.tc : Thread nD τ).loc main_v43_3) = (dats 0 c).arrAt 14 cfg0.N
      ∧ r.2.mem ((c.tc : Thread nD τ).loc main_v43_4) = (dats 0 c).arrAt 15 cfg0.N
      ∧ r.2.mem ((c.tc : Thread nD τ).loc main_v43_5) = (dats 0 c).arrAt 16 cfg0.N
      ∧ r.2.mem ((c.tc : Thread nD τ).loc main_v43_6) = (dats 0 c).arrAt 17 cfg0.N) :=
  (θ_run defs _ _).mono (fun _ h c => ⟨(h c).1 11, (h c).1 12, (h c).1 13, (h c).1 14, (h c).1 15, (h c).1 16, (h c).1 17⟩) h

/-- The kernel ends with the seven arrays of the mathematics. -/
theorem kernel_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43_0) = G11 m c
      ∧ r.2.mem ((c.tc : Thread nD τ).loc main_v43_1) = G12 m c
      ∧ r.2.mem ((c.tc : Thread nD τ).loc main_v43_2) = G13 m c
      ∧ r.2.mem ((c.tc : Thread nD τ).loc main_v43_3) = G14 m c
      ∧ r.2.mem ((c.tc : Thread nD τ).loc main_v43_4) = G15 m c
      ∧ r.2.mem ((c.tc : Thread nD τ).loc main_v43_5) = G16 m c
      ∧ r.2.mem ((c.tc : Thread nD τ).loc main_v43_6) = G17 m c) := by
  refine (θ_run defs _ _).mono (fun r h c => ?_) (results_of m ρ (dats m) (run_arrays m ρ))
  have hc := h c
  rw [arr11 m c, arr12 m c, arr13 m c, arr14 m c, arr15 m c, arr16 m c, arr17 m c] at hc
  exact hc

end Kernel

section Reference
open Cert.ReferenceIdeal Cert.ReferenceIdeal.Gen Cert.ReferenceIdeal.Value Plain Idealize.ShloMosaic.StableHlo

/-- The reference's results, by name. -/
theorem reference_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v142) = outDx (launchContents m c)
      ∧ r.2.mem ((c.tc : Thread nD τ).loc main_v143) = truncf .bf16 (res_main_v33 (launchContents m c)) bitsLt_bf16_f32
      ∧ r.2.mem ((c.tc : Thread nD τ).loc main_v144) = truncf .bf16 (res_main_v82 (launchContents m c)) bitsLt_bf16_f32
      ∧ r.2.mem ((c.tc : Thread nD τ).loc main_v145) = truncf .bf16 (res_main_v37 (launchContents m c)) bitsLt_bf16_f32
      ∧ r.2.mem ((c.tc : Thread nD τ).loc main_v146) = truncf .bf16 (res_main_v86 (launchContents m c)) bitsLt_bf16_f32
      ∧ r.2.mem ((c.tc : Thread nD τ).loc main_v147) = truncf .bf16 (res_main_v84 (launchContents m c)) bitsLt_bf16_f32
      ∧ r.2.mem ((c.tc : Thread nD τ).loc main_v141) = outSt (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => h c) (Cert.ReferenceIdeal.Value.run (F := Ideal) m ρ)

/-- The reference's frame. -/
theorem frame_reference : quiescent_ReferenceIdeal := fun m ρ _ =>
  (θ_run defs _ _).mono
    (fun r h => ⟨fun c => (h c).2.2.2.2.2.2.2, Idealize.ShloMosaic.sem_eq_zero_of_no_sems (by decide) r.2⟩)
    (Cert.ReferenceIdeal.Value.run (F := Ideal) m ρ)

end Reference

section Entries
open Cert.ReferenceIdeal Cert.ReferenceIdeal.Gen Cert.ReferenceIdeal.Value Plain
variable (m : (ℓ : Loc Cert.KernelIdeal.nD Cert.KernelIdeal.τ Cert.KernelIdeal.sig) → Buf (Elt Ideal) ℓ)
  (c : Dev Cert.KernelIdeal.nD) (V : Held) (hA : Plain.args V = Cert.FfnGrad.args m c) (H : (Plain.args V).Real)
include hA

include H in
/-- The gradient at the input, -/
theorem same_dx : outDx V = G11 m c := by
  funext i; idx_vars i
  exact (outDx_eq V H i0 i1 i2).trans (congrArg (fun A => A.dx1 i0 i1 i2) hA)

/-- the modulated input, -/
theorem same_h : truncf (F := Ideal) .bf16 (res_main_v33 V) bitsLt_bf16_f32 = G12 m c := by
  funext i; idx_vars i
  exact (v33 V i0 i1 i2).trans (congrArg (fun A => A.h i0 i1 i2) hA)

include H in
/-- the gradient at the down product, -/
theorem same_df : truncf (F := Ideal) .bf16 (res_main_v82 V) bitsLt_bf16_f32 = G13 m c := by
  funext i; idx_vars i
  exact (v82 V i0 i1 i2 H).trans (congrArg (fun A => A.df i0 i1 i2) hA)

/-- the gated product, -/
theorem same_act : truncf (F := Ideal) .bf16 (res_main_v37 V) bitsLt_bf16_f32 = G14 m c := by
  funext i; idx_vars i
  exact (v37 V i0 i1 i2).trans (congrArg (fun A => A.act i0 i1 i2) hA)

include H in
/-- the gradient at the gate's product, -/
theorem same_dgate : truncf (F := Ideal) .bf16 (res_main_v86 V) bitsLt_bf16_f32 = G15 m c := by
  funext i; idx_vars i
  exact (v86 V i0 i1 i2 H).trans (congrArg (fun A => A.dgate i0 i1 i2) hA)

include H in
/-- the gradient at the up product, -/
theorem same_dup : truncf (F := Ideal) .bf16 (res_main_v84 V) bitsLt_bf16_f32 = G16 m c := by
  funext i; idx_vars i
  exact (v84 V i0 i1 i2 H).trans (congrArg (fun A => A.dup i0 i1 i2) hA)

include H in
/-- and the tile sums are the kernel's. -/
theorem same_st : outSt V = G17 m c := by
  funext i; idx_vars i
  exact (outSt_eq V H i0 i1 i2 i3).trans (congrArg (fun A => A.st i0 i1 i2 i3) hA)

end Entries

/-- Equal argument buffers give equal argument entries. -/
theorem args_agree (m : (ℓ : Loc Cert.KernelIdeal.nD Cert.KernelIdeal.τ Cert.KernelIdeal.sig) → Buf (Elt Ideal) ℓ)
    (V : Plain.Held) (c : Dev Cert.KernelIdeal.nD)
    (h0 : V (Proc.devRef .tc Cert.ReferenceIdeal.main_arg0) = m0 m c) (h1 : V (Proc.devRef .tc Cert.ReferenceIdeal.main_arg1) = m1 m c)
    (h2 : V (Proc.devRef .tc Cert.ReferenceIdeal.main_arg2) = m2 m c) (h3 : V (Proc.devRef .tc Cert.ReferenceIdeal.main_arg3) = m3 m c)
    (h4 : V (Proc.devRef .tc Cert.ReferenceIdeal.main_arg4) = m4 m c) (h5 : V (Proc.devRef .tc Cert.ReferenceIdeal.main_arg5) = m5 m c)
    (h6 : V (Proc.devRef .tc Cert.ReferenceIdeal.main_arg6) = m6 m c) (h7 : V (Proc.devRef .tc Cert.ReferenceIdeal.main_arg7) = m7 m c) :
    Plain.args V = args m c := by
  unfold Plain.args args
  rw [h0, h1, h2, h3, h4, h5, h6, h7]

/-- On finite arguments kernel and reference end with the same seven arrays. -/
theorem algebraic : algebraic_KernelIdeal_ReferenceIdeal_pre_finite_arguments := by
  intro m g m' g' hpre hagree
  refine ⟨fun c => G11 m c, fun c => G12 m c, fun c => G13 m c, fun c => G14 m c, fun c => G15 m c, fun c => G16 m c, fun c => G17 m c, ?_, ?_⟩
  · refine (θ_run _ _ _).mono (fun r h c => ?_) (θ_run_and (kernel_arrays m g) (frame_held (F := Ideal) m g))
    obtain ⟨k0, k1, k2, k3, k4, k5, k6⟩ := h.1 c
    exact ⟨k0, k1, k2, k3, k4, k5, k6, h.2.1 c⟩
  · refine (θ_run _ _ _).mono (fun r h c => ?_) (reference_arrays m' g')
    obtain ⟨a0, a1, a2, a3, a4, a5, a6, a7⟩ := hagree c
    have hA := args_agree m (StableHlo.launchContents m' c) c a0 a1 a2 a3 a4 a5 a6 a7
    have H : (Plain.args (StableHlo.launchContents m' c)).Real := by rw [hA]; exact args_real m hpre c
    obtain ⟨k0, k1, k2, k3, k4, k5, k6, hk⟩ := h c
    exact ⟨k0.trans (same_dx m c _ hA H), k1.trans (same_h m c _ hA), k2.trans (same_df m c _ hA H),
      k3.trans (same_act m c _ hA), k4.trans (same_dgate m c _ hA H), k5.trans (same_dup m c _ hA H),
      k6.trans (same_st m c _ hA H), hk⟩

end Cert.FfnGrad

end
-- ==== Proof.WeightGrad.lean ====
/- The weight-gradient product: the kernel adds up nine products of 1024 rows each in a scratch accumulator; its result is
   the one product over all 9216 rows. -/
module

public import proofs.«01_k».proof.Defs
public import proofs.«01_k».proof.Proof.SumBlocks
public import proofs.«01_k».proof.Proof.Gen.Kernel2Ideal.Value
public import proofs.«01_k».proof.Proof.Gen.Reference2Ideal.Run
public import Idealize.ShloMosaic.Lib.Pointwise
public import Idealize.ShloMosaic.Lib.Tactic

@[expose] public section

set_option maxRecDepth 16384

noncomputable section

namespace Cert.WeightGrad

open Idealize.ShloMosaic Idealize.ShloMosaic.TcCoe Idealize.SL.Sem
open Cert.Kernel2Ideal Cert.Kernel2Ideal.Gen Cert.Kernel2Ideal.Value

theorem hz : (![0, 0] : Fin 2 → Nat) = fun _ => 0 := funext fun a => by fin_cases a <;> rfl

section Cases
variable {F : FTy → Type} [FloatOps F]

/-- The first point leaves, in the accumulator, the zero block plus the point's product. -/
theorem acc_A (c : Dev nD) (i : grid0.Coords) (a2 : Memref sig .tc .vmem S1024x2816 .bf16) (h2 : a2.IsWhole) (a3 : Memref sig .tc .vmem S1024x1024 .bf16) (h3 : a3.IsWhole)
    (a4 : Memref sig .tc .vmem S2816x1024 .bf16) (h4 : a4.IsWhole) (a5 : Memref sig .tc .vmem S2816x1024 .f32) (h5 : a5.IsWhole)
    (hc0 : cond0_0 i) (hc1 : ¬cond0_1 i) (x0 : Vec F S1024x2816 .bf16) (x1 : Vec F S1024x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2816x1024) hz, View.readCov_unit_zero (S := S2816x1024) _ hz]
  simp only [View.readAt_eq_ld, h2.read_unread, h3.read_unread, View.ld_unit_zero (S := S1024x2816) hz, View.ld_unit_zero (S := S1024x1024) hz]

/-- A middle point adds its product to the accumulator. -/
theorem acc_B (c : Dev nD) (i : grid0.Coords) (a2 : Memref sig .tc .vmem S1024x2816 .bf16) (h2 : a2.IsWhole) (a3 : Memref sig .tc .vmem S1024x1024 .bf16) (h3 : a3.IsWhole)
    (a4 : Memref sig .tc .vmem S2816x1024 .bf16) (h4 : a4.IsWhole) (a5 : Memref sig .tc .vmem S2816x1024 .f32) (h5 : a5.IsWhole)
    (hc0 : ¬cond0_0 i) (hc1 : ¬cond0_1 i) (x0 : Vec F S1024x2816 .bf16) (x1 : Vec F S1024x1024 .bf16) (s : Vec F S2816x1024 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1024x2816) hz, View.ld_unit_zero (S := S1024x1024) hz, View.ld_unit_zero (S := S2816x1024) hz]

/-- The last point stores, as the result's block, the accumulator with its product added, rounded. -/
theorem out_C (c : Dev nD) (i : grid0.Coords) (a2 : Memref sig .tc .vmem S1024x2816 .bf16) (h2 : a2.IsWhole) (a3 : Memref sig .tc .vmem S1024x1024 .bf16) (h3 : a3.IsWhole)
    (a4 : Memref sig .tc .vmem S2816x1024 .bf16) (h4 : a4.IsWhole) (a5 : Memref sig .tc .vmem S2816x1024 .f32) (h5 : a5.IsWhole)
    (hc0 : ¬cond0_0 i) (hc1 : cond0_1 i) (x0 : Vec F S1024x2816 .bf16) (x1 : Vec F S1024x1024 .bf16) (s : Vec F S2816x1024 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S2816x1024) _ hz]
  simp only [View.readAt_eq_ld, h2.read_unread, h3.read_unread, h5.read_unread, View.ld_unit_zero (S := S1024x2816) hz, View.ld_unit_zero (S := S1024x1024) hz, View.ld_unit_zero (S := S2816x1024) hz]

end Cases

variable (m : (ℓ : Loc nD τ sig) → Buf (Elt Ideal) ℓ)

/-- The left array, its entries as extended reals. -/
abbrev argA (c : Dev nD) : S9216x2816.Idx → EReal := m ((c : Thread nD τ).loc main_arg0)
/-- The right array, its entries as extended reals. -/
abbrev argB (c : Dev nD) : S9216x1024.Idx → EReal := m ((c : Thread nD τ).loc main_arg1)

/-- The left array's entry at row `r` (zero past its end). -/
def lhs (c : Dev nD) (r : ℕ) (a : Fin 2816) : EReal :=
  if h : r < 9216 then argA m c (ix2 ⟨r, h⟩ a) else 0

/-- The right array's entry at row `r` (zero past its end). -/
def rhs (c : Dev nD) (r : ℕ) (b : Fin 1024) : EReal :=
  if h : r < 9216 then argB m c (ix2 ⟨r, h⟩ b) else 0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

/-- Row `k` of the left block at point `t` is row `1024 t + k` of the array. -/
theorem blk0 (c : Dev nD) (t : Fin cfg0.N) (k : Fin 1024) (a : Fin 2816) :
    (iblk m c 0 t : Vec Ideal S1024x2816 .bf16) (ix2 k a) = lhs m c (1024 * t.val + k.val) a := by
  have hN := lt_of_lt_of_eq t.isLt (show cfg0.N = 9 from N_0)
  unfold lhs iblk
  rw [dif_pos (by omega), View.read_apply]
  show V m c main_arg0 _ = m (c.tc.loc main_arg0) _
  unfold V
  congr 1
  funext x
  apply Fin.ext
  match x with
  | ⟨0, _⟩ => show win0_0.index t 0 * 1024 + 1 * k.val = 1024 * t.val + k.val; rw [(idx0 t).1]; omega
  | ⟨1, _⟩ => show win0_0.index t 1 * 2816 + 1 * a.val = a.val; rw [(idx0 t).2]; omega

/-- Row `k` of the right block at point `t` is row `1024 t + k` of the array. -/
theorem blk1 (c : Dev nD) (t : Fin cfg0.N) (k : Fin 1024) (b : Fin 1024) :
    (iblk m c 1 t : Vec Ideal S1024x1024 .bf16) (ix2 k b) = rhs m c (1024 * t.val + k.val) b := by
  have hN := lt_of_lt_of_eq t.isLt (show cfg0.N = 9 from N_0)
  unfold rhs iblk
  rw [dif_pos (by omega), View.read_apply]
  show V m c main_arg1 _ = m (c.tc.loc main_arg1) _
  unfold V
  congr 1
  funext x
  apply Fin.ext
  match x with
  | ⟨0, _⟩ => show win0_1.index t 0 * 1024 + 1 * k.val = 1024 * t.val + k.val; rw [(idx1 t).1]; omega
  | ⟨1, _⟩ => show win0_1.index t 1 * 1024 + 1 * b.val = b.val; rw [(idx1 t).2]; omega

/-- The accumulating payload at an index: what was there plus the block's contraction. -/
theorem pay2_apply (s : Vec Ideal S2816x1024 .f32) (x0 : Vec Ideal S1024x2816 .bf16) (x1 : Vec Ideal S1024x1024 .bf16) (a : Fin 2816) (b : Fin 1024) :
    k0_pay2 s x0 x1 (ix2 a b)
      = s (ix2 a b) + ∑ k : Fin 1024, x0 (ix2 k a) * x1 (ix2 k b) := by
  unfold k0_pay2
  simp only [shapeCast_self]
  pointwise

/-- The block's contribution at point `n`. -/
def term (c : Dev nD) (n : ℕ) (a : Fin 2816) (b : Fin 1024) : EReal :=
  ∑ k : Fin 1024, lhs m c (1024 * n + k.val) a * rhs m c (1024 * n + k.val) b

theorem pay2_blk (c : Dev nD) (t : Fin cfg0.N) (s : Vec Ideal S2816x1024 .f32) (a : Fin 2816) (b : Fin 1024) :
    k0_pay2 s (iblk m c 0 t) (iblk m c 1 t) (ix2 a b)
      = s (ix2 a b) + term m c t.val a b := by
  rw [pay2_apply]
  unfold term
  exact congrArg _ (Finset.sum_congr rfl fun k _ => by rw [blk0, blk1])

/-- After point `n` (not the last) the accumulator holds the sum of the first `n + 1` contributions. -/
theorem acc_eq (c : Dev nD) (a : Fin 2816) (b : Fin 1024) : ∀ (n : ℕ) (h : n < cfg0.N), n < 8 →
    (outsAt0 m c n h).2 (ix2 a b) = ∑ s ∈ Finset.range (n + 1), term m c s a b
  | 0, h, _ => by
    rw [outsAt0_A m c ⟨0, h⟩ rfl (fun h => absurd h (show ¬(0 % 9 = 8) by decide))]
    dsimp only
    rw [acc_A, pay2_blk]
    simp only [zero_add, Finset.sum_range_one]
    unfold k0_pay1
    simp only [shapeCast_self]
    pointwise
  | n + 1, h, h8 => by
    have e := outsAt0_B m c ⟨n + 1, h⟩ (by dsimp only; omega) (by dsimp only; omega)
    dsimp only at e
    rw [e]
    dsimp only
    rw [acc_B, pay2_blk, Finset.sum_range_succ]
    congr 1
    exact acc_eq c a b n _ (by omega)

/-- The nine contributions together are the contraction over all rows. -/
theorem sum_terms (c : Dev nD) (a : Fin 2816) (b : Fin 1024) :
    ∑ s ∈ Finset.range 9, term m c s a b = ∑ r : Fin 9216, argA m c (ix2 r a) * argB m c (ix2 r b) := by
  have e := Sums.sum_blocks_fin 9216 1024 9 (by norm_num) (fun r => lhs m c r a * rhs m c r b)
  unfold term
  rw [e]
  refine Finset.sum_congr rfl fun r _ => ?_
  unfold lhs rhs
  rw [dif_pos r.isLt, dif_pos r.isLt]

/-- What the last point stores, at an index: the accumulator and the last product. -/
theorem last_apply (c : Dev nD) (a : Fin 2816) (b : Fin 1024) (t : Fin cfg0.N) (h8 : t.val = 8) :
    (outsAt0 m c t.val t.isLt).1 (ix2 a b) = ∑ s ∈ Finset.range 9, term m c s a b := by
  rw [outsAt0_C m c t (by omega) (by omega)]
  dsimp only
  rw [out_C]
  have e3 : ∀ v : Vec Ideal S2816x1024 .f32, k0_pay3 v (ix2 a b) = v (ix2 a b) := fun v => by
    unfold k0_pay3; pointwise
  rw [e3, pay2_blk, acc_eq m c a b (t.val - 1) _ (by omega), show t.val - 1 + 1 = 8 by omega, h8,
    ← Finset.sum_range_succ (fun s => term m c s a b)]

/-- The kernel's result, at an index: the contraction over all rows. -/
theorem result_apply (c : Dev nD) (a : Fin 2816) (b : Fin 1024) :
    (G2 m c : S2816x1024.Idx → EReal) (ix2 a b) = ∑ r : Fin 9216, argA m c (ix2 r a) * argB m c (ix2 r b) := by
  have h8 : 8 < cfg0.N := lt_of_lt_of_eq (by decide) N_0.symm
  rw [G2_last, ← outsAt0_sweep m c 8 h8]
  exact (last_apply m c a b ⟨8, h8⟩ rfl).trans (sum_terms m c a b)

/-- The reference's result, at an index: the same contraction. -/
theorem ref_apply (x : FVec Ideal S9216x2816 .bf16) (y : FVec Ideal S9216x1024 .bf16) (a : Fin 2816) (b : Fin 1024) :
    (truncf .bf16 (transpose S2816x1024 [1, 0] (transpose Cert.Reference2Ideal.S1024x2816 [1, 0] (Host.dotGeneral
      Cert.Reference2Ideal.dot_S9216x2816_S9216x1024_S2816x1024_0_0_1_1_n_n none (extf .f32 x Cert.Reference2Ideal.Gen.bitsLt_bf16_f32)
      (extf .f32 y Cert.Reference2Ideal.Gen.bitsLt_bf16_f32)) Cert.Reference2Ideal.Gen.transposes_S2816x1024_S1024x2816_1_0)
      Cert.Reference2Ideal.Gen.transposes_S1024x2816_S2816x1024_1_0) Cert.Reference2Ideal.Gen.bitsLt_bf16_f32 : FVec Ideal S2816x1024 .bf16) (ix2 a b)
      = ∑ r : Fin 9216, x (ix2 r a) * y (ix2 r b) := by
  pointwise

set_option maxHeartbeats 1000000 in
/-- Both programs end with the same array: at every entry the contraction over all rows. -/
theorem algebraic : algebraic_Kernel2Ideal_Reference2Ideal := by
  intro m g m' g' _ hagree
  refine ⟨fun c => G2 m c, ?_, ?_⟩
  · exact Cert.Kernel2Ideal.Value.run m g
  · refine (θ_run _ _ _).mono (fun r h c => ⟨(h c).1.trans ?_, (h c).2⟩) (Cert.Reference2Ideal.Value.run m' g')
    rw [(hagree c).1, (hagree c).2]
    funext i
    idx_vars i
    exact (ref_apply _ _ i0 i1).trans (result_apply m c i0 i1).symm

end Cert.WeightGrad

end
-- ==== Proof.InGrad.lean ====
/- The weight-gradient product at the shapes of the input projection of the mixing sublayer: nine products of 1024 rows each, added up in a scratch
   accumulator, are the one product over all 9216 rows. -/
module

public import proofs.«01_k».proof.Defs
public import proofs.«01_k».proof.Proof.SumBlocks
public import proofs.«01_k».proof.Proof.Gen.Kernel4Ideal.Value
public import proofs.«01_k».proof.Proof.Gen.Reference4Ideal.Run
public import Idealize.ShloMosaic.Lib.Pointwise
public import Idealize.ShloMosaic.Lib.Tactic

@[expose] public section

set_option maxRecDepth 16384

noncomputable section

namespace Cert.InGrad

open Idealize.ShloMosaic Idealize.ShloMosaic.TcCoe Idealize.SL.Sem
open Cert.Kernel4Ideal Cert.Kernel4Ideal.Gen Cert.Kernel4Ideal.Value

theorem hz : (![0, 0] : Fin 2 → Nat) = fun _ => 0 := funext fun a => by fin_cases a <;> rfl

section Cases
variable {F : FTy → Type} [FloatOps F]

/-- The first point leaves, in the accumulator, the zero block plus the point's product. -/
theorem acc_A (c : Dev nD) (i : grid0.Coords) (a2 : Memref sig .tc .vmem S1024x1280 .bf16) (h2 : a2.IsWhole) (a3 : Memref sig .tc .vmem S1024x1024 .bf16) (h3 : a3.IsWhole)
    (a4 : Memref sig .tc .vmem S1280x1024 .bf16) (h4 : a4.IsWhole) (a5 : Memref sig .tc .vmem S1280x1024 .f32) (h5 : a5.IsWhole)
    (hc0 : cond0_0 i) (hc1 : ¬cond0_1 i) (x0 : Vec F S1024x1280 .bf16) (x1 : Vec F S1024x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1280x1024) hz, View.readCov_unit_zero (S := S1280x1024) _ hz]
  simp only [View.readAt_eq_ld, h2.read_unread, h3.read_unread, View.ld_unit_zero (S := S1024x1280) hz, View.ld_unit_zero (S := S1024x1024) hz]

/-- A middle point adds its product to the accumulator. -/
theorem acc_B (c : Dev nD) (i : grid0.Coords) (a2 : Memref sig .tc .vmem S1024x1280 .bf16) (h2 : a2.IsWhole) (a3 : Memref sig .tc .vmem S1024x1024 .bf16) (h3 : a3.IsWhole)
    (a4 : Memref sig .tc .vmem S1280x1024 .bf16) (h4 : a4.IsWhole) (a5 : Memref sig .tc .vmem S1280x1024 .f32) (h5 : a5.IsWhole)
    (hc0 : ¬cond0_0 i) (hc1 : ¬cond0_1 i) (x0 : Vec F S1024x1280 .bf16) (x1 : Vec F S1024x1024 .bf16) (s : Vec F S1280x1024 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1024x1280) hz, View.ld_unit_zero (S := S1024x1024) hz, View.ld_unit_zero (S := S1280x1024) hz]

/-- The last point stores, as the result's block, the accumulator with its product added, rounded. -/
theorem out_C (c : Dev nD) (i : grid0.Coords) (a2 : Memref sig .tc .vmem S1024x1280 .bf16) (h2 : a2.IsWhole) (a3 : Memref sig .tc .vmem S1024x1024 .bf16) (h3 : a3.IsWhole)
    (a4 : Memref sig .tc .vmem S1280x1024 .bf16) (h4 : a4.IsWhole) (a5 : Memref sig .tc .vmem S1280x1024 .f32) (h5 : a5.IsWhole)
    (hc0 : ¬cond0_0 i) (hc1 : cond0_1 i) (x0 : Vec F S1024x1280 .bf16) (x1 : Vec F S1024x1024 .bf16) (s : Vec F S1280x1024 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S1280x1024) _ hz]
  simp only [View.readAt_eq_ld, h2.read_unread, h3.read_unread, h5.read_unread, View.ld_unit_zero (S := S1024x1280) hz, View.ld_unit_zero (S := S1024x1024) hz, View.ld_unit_zero (S := S1280x1024) hz]

end Cases

variable (m : (ℓ : Loc nD τ sig) → Buf (Elt Ideal) ℓ)

/-- The left array, its entries as extended reals. -/
abbrev argA (c : Dev nD) : S9216x1280.Idx → EReal := m ((c : Thread nD τ).loc main_arg0)
/-- The right array, its entries as extended reals. -/
abbrev argB (c : Dev nD) : S9216x1024.Idx → EReal := m ((c : Thread nD τ).loc main_arg1)

/-- The left array's entry at row `r` (zero past its end). -/
def lhs (c : Dev nD) (r : ℕ) (a : Fin 1280) : EReal :=
  if h : r < 9216 then argA m c (ix2 ⟨r, h⟩ a) else 0

/-- The right array's entry at row `r` (zero past its end). -/
def rhs (c : Dev nD) (r : ℕ) (b : Fin 1024) : EReal :=
  if h : r < 9216 then argB m c (ix2 ⟨r, h⟩ b) else 0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

/-- Row `k` of the left block at point `t` is row `1024 t + k` of the array. -/
theorem blk0 (c : Dev nD) (t : Fin cfg0.N) (k : Fin 1024) (a : Fin 1280) :
    (iblk m c 0 t : Vec Ideal S1024x1280 .bf16) (ix2 k a) = lhs m c (1024 * t.val + k.val) a := by
  have hN := lt_of_lt_of_eq t.isLt (show cfg0.N = 9 from N_0)
  unfold lhs iblk
  rw [dif_pos (by omega), View.read_apply]
  show V m c main_arg0 _ = m (c.tc.loc main_arg0) _
  unfold V
  congr 1
  funext x
  apply Fin.ext
  match x with
  | ⟨0, _⟩ => show win0_0.index t 0 * 1024 + 1 * k.val = 1024 * t.val + k.val; rw [(idx0 t).1]; omega
  | ⟨1, _⟩ => show win0_0.index t 1 * 1280 + 1 * a.val = a.val; rw [(idx0 t).2]; omega

/-- Row `k` of the right block at point `t` is row `1024 t + k` of the array. -/
theorem blk1 (c : Dev nD) (t : Fin cfg0.N) (k : Fin 1024) (b : Fin 1024) :
    (iblk m c 1 t : Vec Ideal S1024x1024 .bf16) (ix2 k b) = rhs m c (1024 * t.val + k.val) b := by
  have hN := lt_of_lt_of_eq t.isLt (show cfg0.N = 9 from N_0)
  unfold rhs iblk
  rw [dif_pos (by omega), View.read_apply]
  show V m c main_arg1 _ = m (c.tc.loc main_arg1) _
  unfold V
  congr 1
  funext x
  apply Fin.ext
  match x with
  | ⟨0, _⟩ => show win0_1.index t 0 * 1024 + 1 * k.val = 1024 * t.val + k.val; rw [(idx1 t).1]; omega
  | ⟨1, _⟩ => show win0_1.index t 1 * 1024 + 1 * b.val = b.val; rw [(idx1 t).2]; omega

/-- The accumulating payload at an index: what was there plus the block's contraction. -/
theorem pay2_apply (s : Vec Ideal S1280x1024 .f32) (x0 : Vec Ideal S1024x1280 .bf16) (x1 : Vec Ideal S1024x1024 .bf16) (a : Fin 1280) (b : Fin 1024) :
    k0_pay2 s x0 x1 (ix2 a b)
      = s (ix2 a b) + ∑ k : Fin 1024, x0 (ix2 k a) * x1 (ix2 k b) := by
  unfold k0_pay2
  simp only [shapeCast_self]
  pointwise

/-- The block's contribution at point `n`. -/
def term (c : Dev nD) (n : ℕ) (a : Fin 1280) (b : Fin 1024) : EReal :=
  ∑ k : Fin 1024, lhs m c (1024 * n + k.val) a * rhs m c (1024 * n + k.val) b

theorem pay2_blk (c : Dev nD) (t : Fin cfg0.N) (s : Vec Ideal S1280x1024 .f32) (a : Fin 1280) (b : Fin 1024) :
    k0_pay2 s (iblk m c 0 t) (iblk m c 1 t) (ix2 a b)
      = s (ix2 a b) + term m c t.val a b := by
  rw [pay2_apply]
  unfold term
  exact congrArg _ (Finset.sum_congr rfl fun k _ => by rw [blk0, blk1])

/-- After point `n` (not the last) the accumulator holds the sum of the first `n + 1` contributions. -/
theorem acc_eq (c : Dev nD) (a : Fin 1280) (b : Fin 1024) : ∀ (n : ℕ) (h : n < cfg0.N), n < 8 →
    (outsAt0 m c n h).2 (ix2 a b) = ∑ s ∈ Finset.range (n + 1), term m c s a b
  | 0, h, _ => by
    rw [outsAt0_A m c ⟨0, h⟩ rfl (fun h => absurd h (show ¬(0 % 9 = 8) by decide))]
    dsimp only
    rw [acc_A, pay2_blk]
    simp only [zero_add, Finset.sum_range_one]
    unfold k0_pay1
    simp only [shapeCast_self]
    pointwise
  | n + 1, h, h8 => by
    have e := outsAt0_B m c ⟨n + 1, h⟩ (by dsimp only; omega) (by dsimp only; omega)
    dsimp only at e
    rw [e]
    dsimp only
    rw [acc_B, pay2_blk, Finset.sum_range_succ]
    congr 1
    exact acc_eq c a b n _ (by omega)

/-- The nine contributions together are the contraction over all rows. -/
theorem sum_terms (c : Dev nD) (a : Fin 1280) (b : Fin 1024) :
    ∑ s ∈ Finset.range 9, term m c s a b = ∑ r : Fin 9216, argA m c (ix2 r a) * argB m c (ix2 r b) := by
  have e := Sums.sum_blocks_fin 9216 1024 9 (by norm_num) (fun r => lhs m c r a * rhs m c r b)
  unfold term
  rw [e]
  refine Finset.sum_congr rfl fun r _ => ?_
  unfold lhs rhs
  rw [dif_pos r.isLt, dif_pos r.isLt]

/-- What the last point stores, at an index: the accumulator and the last product. -/
theorem last_apply (c : Dev nD) (a : Fin 1280) (b : Fin 1024) (t : Fin cfg0.N) (h8 : t.val = 8) :
    (outsAt0 m c t.val t.isLt).1 (ix2 a b) = ∑ s ∈ Finset.range 9, term m c s a b := by
  rw [outsAt0_C m c t (by omega) (by omega)]
  dsimp only
  rw [out_C]
  have e3 : ∀ v : Vec Ideal S1280x1024 .f32, k0_pay3 v (ix2 a b) = v (ix2 a b) := fun v => by
    unfold k0_pay3; pointwise
  rw [e3, pay2_blk, acc_eq m c a b (t.val - 1) _ (by omega), show t.val - 1 + 1 = 8 by omega, h8,
    ← Finset.sum_range_succ (fun s => term m c s a b)]

/-- The kernel's result, at an index: the contraction over all rows. -/
theorem result_apply (c : Dev nD) (a : Fin 1280) (b : Fin 1024) :
    (G2 m c : S1280x1024.Idx → EReal) (ix2 a b) = ∑ r : Fin 9216, argA m c (ix2 r a) * argB m c (ix2 r b) := by
  have h8 : 8 < cfg0.N := lt_of_lt_of_eq (by decide) N_0.symm
  rw [G2_last, ← outsAt0_sweep m c 8 h8]
  exact (last_apply m c a b ⟨8, h8⟩ rfl).trans (sum_terms m c a b)

/-- The reference's result, at an index: the same contraction. -/
theorem ref_apply (x : FVec Ideal S9216x1280 .bf16) (y : FVec Ideal S9216x1024 .bf16) (a : Fin 1280) (b : Fin 1024) :
    (truncf .bf16 (transpose S1280x1024 [1, 0] (transpose Cert.Reference4Ideal.S1024x1280 [1, 0] (Host.dotGeneral
      Cert.Reference4Ideal.dot_S9216x1280_S9216x1024_S1280x1024_0_0_1_1_n_n none (extf .f32 x Cert.Reference4Ideal.Gen.bitsLt_bf16_f32)
      (extf .f32 y Cert.Reference4Ideal.Gen.bitsLt_bf16_f32)) Cert.Reference4Ideal.Gen.transposes_S1280x1024_S1024x1280_1_0)
      Cert.Reference4Ideal.Gen.transposes_S1024x1280_S1280x1024_1_0) Cert.Reference4Ideal.Gen.bitsLt_bf16_f32 : FVec Ideal S1280x1024 .bf16) (ix2 a b)
      = ∑ r : Fin 9216, x (ix2 r a) * y (ix2 r b) := by
  pointwise

set_option maxHeartbeats 1000000 in
/-- Both programs end with the same array: at every entry the contraction over all rows. -/
theorem algebraic : algebraic_Kernel4Ideal_Reference4Ideal := by
  intro m g m' g' _ hagree
  refine ⟨fun c => G2 m c, ?_, ?_⟩
  · exact Cert.Kernel4Ideal.Value.run m g
  · refine (θ_run _ _ _).mono (fun r h c => ⟨(h c).1.trans ?_, (h c).2⟩) (Cert.Reference4Ideal.Value.run m' g')
    rw [(hagree c).1, (hagree c).2]
    funext i
    idx_vars i
    exact (ref_apply _ _ i0 i1).trans (result_apply m c i0 i1).symm

end Cert.InGrad

end
-- ==== Proof.OutGrad.lean ====
/- The weight-gradient product at the shapes of the output projection of the mixing sublayer: nine products of 1024 rows each, added up in a scratch
   accumulator, are the one product over all 9216 rows. -/
module

public import proofs.«01_k».proof.Defs
public import proofs.«01_k».proof.Proof.SumBlocks
public import proofs.«01_k».proof.Proof.Gen.Kernel5Ideal.Value
public import proofs.«01_k».proof.Proof.Gen.Reference5Ideal.Run
public import Idealize.ShloMosaic.Lib.Pointwise
public import Idealize.ShloMosaic.Lib.Tactic

@[expose] public section

set_option maxRecDepth 16384

noncomputable section

namespace Cert.OutGrad

open Idealize.ShloMosaic Idealize.ShloMosaic.TcCoe Idealize.SL.Sem
open Cert.Kernel5Ideal Cert.Kernel5Ideal.Gen Cert.Kernel5Ideal.Value

theorem hz : (![0, 0] : Fin 2 → Nat) = fun _ => 0 := funext fun a => by fin_cases a <;> rfl

section Cases
variable {F : FTy → Type} [FloatOps F]

/-- The first point leaves, in the accumulator, the zero block plus the point's product. -/
theorem acc_A (c : Dev nD) (i : grid0.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 : Vec F S1024x1024 .bf16) (x1 : Vec F S1024x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S1024x1024) hz, View.ld_unit_zero (S := S1024x1024) hz]

/-- A middle point adds its product to the accumulator. -/
theorem acc_B (c : Dev nD) (i : grid0.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : ¬cond0_1 i) (x0 : Vec F S1024x1024 .bf16) (x1 : Vec F S1024x1024 .bf16) (s : Vec F S1024x1024 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1024x1024) hz, View.ld_unit_zero (S := S1024x1024) hz, View.ld_unit_zero (S := S1024x1024) hz]

/-- The last point stores, as the result's block, the accumulator with its product added, rounded. -/
theorem out_C (c : Dev nD) (i : grid0.Coords) (a2 : Memref sig .tc .vmem S1024x1024 .bf16) (h2 : a2.IsWhole) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 : Vec F S1024x1024 .bf16) (x1 : Vec F S1024x1024 .bf16) (s : Vec F S1024x1024 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S1024x1024) _ hz]
  simp only [View.readAt_eq_ld, h2.read_unread, h3.read_unread, h5.read_unread, View.ld_unit_zero (S := S1024x1024) hz, View.ld_unit_zero (S := S1024x1024) hz, View.ld_unit_zero (S := S1024x1024) hz]

end Cases

variable (m : (ℓ : Loc nD τ sig) → Buf (Elt Ideal) ℓ)

/-- The left array, its entries as extended reals. -/
abbrev argA (c : Dev nD) : S9216x1024.Idx → EReal := m ((c : Thread nD τ).loc main_arg0)
/-- The right array, its entries as extended reals. -/
abbrev argB (c : Dev nD) : S9216x1024.Idx → EReal := m ((c : Thread nD τ).loc main_arg1)

/-- The left array's entry at row `r` (zero past its end). -/
def lhs (c : Dev nD) (r : ℕ) (a : Fin 1024) : EReal :=
  if h : r < 9216 then argA m c (ix2 ⟨r, h⟩ a) else 0

/-- The right array's entry at row `r` (zero past its end). -/
def rhs (c : Dev nD) (r : ℕ) (b : Fin 1024) : EReal :=
  if h : r < 9216 then argB m c (ix2 ⟨r, h⟩ b) else 0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

/-- Row `k` of the left block at point `t` is row `1024 t + k` of the array. -/
theorem blk0 (c : Dev nD) (t : Fin cfg0.N) (k : Fin 1024) (a : Fin 1024) :
    (iblk m c 0 t : Vec Ideal S1024x1024 .bf16) (ix2 k a) = lhs m c (1024 * t.val + k.val) a := by
  have hN := lt_of_lt_of_eq t.isLt (show cfg0.N = 9 from N_0)
  unfold lhs iblk
  rw [dif_pos (by omega), View.read_apply]
  show V m c main_arg0 _ = m (c.tc.loc main_arg0) _
  unfold V
  congr 1
  funext x
  apply Fin.ext
  match x with
  | ⟨0, _⟩ => show win0_0.index t 0 * 1024 + 1 * k.val = 1024 * t.val + k.val; rw [(idx0 t).1]; omega
  | ⟨1, _⟩ => show win0_0.index t 1 * 1024 + 1 * a.val = a.val; rw [(idx0 t).2]; omega

/-- Row `k` of the right block at point `t` is row `1024 t + k` of the array. -/
theorem blk1 (c : Dev nD) (t : Fin cfg0.N) (k : Fin 1024) (b : Fin 1024) :
    (iblk m c 1 t : Vec Ideal S1024x1024 .bf16) (ix2 k b) = rhs m c (1024 * t.val + k.val) b := by
  have hN := lt_of_lt_of_eq t.isLt (show cfg0.N = 9 from N_0)
  unfold rhs iblk
  rw [dif_pos (by omega), View.read_apply]
  show V m c main_arg1 _ = m (c.tc.loc main_arg1) _
  unfold V
  congr 1
  funext x
  apply Fin.ext
  match x with
  | ⟨0, _⟩ => show win0_1.index t 0 * 1024 + 1 * k.val = 1024 * t.val + k.val; rw [(idx1 t).1]; omega
  | ⟨1, _⟩ => show win0_1.index t 1 * 1024 + 1 * b.val = b.val; rw [(idx1 t).2]; omega

/-- The accumulating payload at an index: what was there plus the block's contraction. -/
theorem pay2_apply (s : Vec Ideal S1024x1024 .f32) (x0 : Vec Ideal S1024x1024 .bf16) (x1 : Vec Ideal S1024x1024 .bf16) (a : Fin 1024) (b : Fin 1024) :
    k0_pay2 s x0 x1 (ix2 a b)
      = s (ix2 a b) + ∑ k : Fin 1024, x0 (ix2 k a) * x1 (ix2 k b) := by
  unfold k0_pay2
  simp only [shapeCast_self]
  pointwise

/-- The block's contribution at point `n`. -/
def term (c : Dev nD) (n : ℕ) (a : Fin 1024) (b : Fin 1024) : EReal :=
  ∑ k : Fin 1024, lhs m c (1024 * n + k.val) a * rhs m c (1024 * n + k.val) b

theorem pay2_blk (c : Dev nD) (t : Fin cfg0.N) (s : Vec Ideal S1024x1024 .f32) (a : Fin 1024) (b : Fin 1024) :
    k0_pay2 s (iblk m c 0 t) (iblk m c 1 t) (ix2 a b)
      = s (ix2 a b) + term m c t.val a b := by
  rw [pay2_apply]
  unfold term
  exact congrArg _ (Finset.sum_congr rfl fun k _ => by rw [blk0, blk1])

/-- After point `n` (not the last) the accumulator holds the sum of the first `n + 1` contributions. -/
theorem acc_eq (c : Dev nD) (a : Fin 1024) (b : Fin 1024) : ∀ (n : ℕ) (h : n < cfg0.N), n < 8 →
    (outsAt0 m c n h).2 (ix2 a b) = ∑ s ∈ Finset.range (n + 1), term m c s a b
  | 0, h, _ => by
    rw [outsAt0_A m c ⟨0, h⟩ rfl (fun h => absurd h (show ¬(0 % 9 = 8) by decide))]
    dsimp only
    rw [acc_A, pay2_blk]
    simp only [zero_add, Finset.sum_range_one]
    unfold k0_pay1
    simp only [shapeCast_self]
    pointwise
  | n + 1, h, h8 => by
    have e := outsAt0_B m c ⟨n + 1, h⟩ (by dsimp only; omega) (by dsimp only; omega)
    dsimp only at e
    rw [e]
    dsimp only
    rw [acc_B, pay2_blk, Finset.sum_range_succ]
    congr 1
    exact acc_eq c a b n _ (by omega)

/-- The nine contributions together are the contraction over all rows. -/
theorem sum_terms (c : Dev nD) (a : Fin 1024) (b : Fin 1024) :
    ∑ s ∈ Finset.range 9, term m c s a b = ∑ r : Fin 9216, argA m c (ix2 r a) * argB m c (ix2 r b) := by
  have e := Sums.sum_blocks_fin 9216 1024 9 (by norm_num) (fun r => lhs m c r a * rhs m c r b)
  unfold term
  rw [e]
  refine Finset.sum_congr rfl fun r _ => ?_
  unfold lhs rhs
  rw [dif_pos r.isLt, dif_pos r.isLt]

/-- What the last point stores, at an index: the accumulator and the last product. -/
theorem last_apply (c : Dev nD) (a : Fin 1024) (b : Fin 1024) (t : Fin cfg0.N) (h8 : t.val = 8) :
    (outsAt0 m c t.val t.isLt).1 (ix2 a b) = ∑ s ∈ Finset.range 9, term m c s a b := by
  rw [outsAt0_C m c t (by omega) (by omega)]
  dsimp only
  rw [out_C]
  have e3 : ∀ v : Vec Ideal S1024x1024 .f32, k0_pay3 v (ix2 a b) = v (ix2 a b) := fun v => by
    unfold k0_pay3; pointwise
  rw [e3, pay2_blk, acc_eq m c a b (t.val - 1) _ (by omega), show t.val - 1 + 1 = 8 by omega, h8,
    ← Finset.sum_range_succ (fun s => term m c s a b)]

/-- The kernel's result, at an index: the contraction over all rows. -/
theorem result_apply (c : Dev nD) (a : Fin 1024) (b : Fin 1024) :
    (G2 m c : S1024x1024.Idx → EReal) (ix2 a b) = ∑ r : Fin 9216, argA m c (ix2 r a) * argB m c (ix2 r b) := by
  have h8 : 8 < cfg0.N := lt_of_lt_of_eq (by decide) N_0.symm
  rw [G2_last, ← outsAt0_sweep m c 8 h8]
  exact (last_apply m c a b ⟨8, h8⟩ rfl).trans (sum_terms m c a b)

/-- The reference's result, at an index: the same contraction. -/
theorem ref_apply (x : FVec Ideal S9216x1024 .bf16) (y : FVec Ideal S9216x1024 .bf16) (a : Fin 1024) (b : Fin 1024) :
    (truncf .bf16 (transpose S1024x1024 [1, 0] (Host.dotGeneral
      Cert.Reference5Ideal.dot_S9216x1024_S9216x1024_S1024x1024_0_0_1_1_n_n none (extf .f32 y Cert.Reference5Ideal.Gen.bitsLt_bf16_f32)
      (extf .f32 x Cert.Reference5Ideal.Gen.bitsLt_bf16_f32)) Cert.Reference5Ideal.Gen.transposes_S1024x1024_S1024x1024_1_0)
      Cert.Reference5Ideal.Gen.bitsLt_bf16_f32 : FVec Ideal S1024x1024 .bf16) (ix2 a b)
      = ∑ r : Fin 9216, x (ix2 r a) * y (ix2 r b) := by
  pointwise
  exact Finset.sum_congr rfl fun r _ => mul_comm _ _

set_option maxHeartbeats 1000000 in
/-- Both programs end with the same array: at every entry the contraction over all rows. -/
theorem algebraic : algebraic_Kernel5Ideal_Reference5Ideal := by
  intro m g m' g' _ hagree
  refine ⟨fun c => G2 m c, ?_, ?_⟩
  · exact Cert.Kernel5Ideal.Value.run m g
  · refine (θ_run _ _ _).mono (fun r h c => ⟨(h c).1.trans ?_, (h c).2⟩) (Cert.Reference5Ideal.Value.run m' g')
    rw [(hagree c).1, (hagree c).2]
    funext i
    idx_vars i
    exact (ref_apply _ _ i0 i1).trans (result_apply m c i0 i1).symm

end Cert.OutGrad

end
-- ==== Proof.GluGrad.lean ====
/- The weight-gradient product at the shapes of the state-space mixer's output gate: nine products of 1024 rows each, added up in a scratch
   accumulator, are the one product over all 9216 rows. -/
module

public import proofs.«01_k».proof.Defs
public import proofs.«01_k».proof.Proof.SumBlocks
public import proofs.«01_k».proof.Proof.Gen.Kernel6Ideal.Value
public import proofs.«01_k».proof.Proof.Gen.Reference6Ideal.Run
public import Idealize.ShloMosaic.Lib.Pointwise
public import Idealize.ShloMosaic.Lib.Tactic

@[expose] public section

set_option maxRecDepth 16384

noncomputable section

namespace Cert.GluGrad

open Idealize.ShloMosaic Idealize.ShloMosaic.TcCoe Idealize.SL.Sem
open Cert.Kernel6Ideal Cert.Kernel6Ideal.Gen Cert.Kernel6Ideal.Value

theorem hz : (![0, 0] : Fin 2 → Nat) = fun _ => 0 := funext fun a => by fin_cases a <;> rfl

section Cases
variable {F : FTy → Type} [FloatOps F]

/-- The first point leaves, in the accumulator, the zero block plus the point's product. -/
theorem acc_A (c : Dev nD) (i : grid0.Coords) (a2 : Memref sig .tc .vmem S1024x512 .bf16) (h2 : a2.IsWhole) (a3 : Memref sig .tc .vmem S1024x512 .bf16) (h3 : a3.IsWhole)
    (a4 : Memref sig .tc .vmem S512x512 .bf16) (h4 : a4.IsWhole) (a5 : Memref sig .tc .vmem S512x512 .f32) (h5 : a5.IsWhole)
    (hc0 : cond0_0 i) (hc1 : ¬cond0_1 i) (x0 : Vec F S1024x512 .bf16) (x1 : Vec F S1024x512 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x512) hz, View.readCov_unit_zero (S := S512x512) _ hz]
  simp only [View.readAt_eq_ld, h2.read_unread, h3.read_unread, View.ld_unit_zero (S := S1024x512) hz, View.ld_unit_zero (S := S1024x512) hz]

/-- A middle point adds its product to the accumulator. -/
theorem acc_B (c : Dev nD) (i : grid0.Coords) (a2 : Memref sig .tc .vmem S1024x512 .bf16) (h2 : a2.IsWhole) (a3 : Memref sig .tc .vmem S1024x512 .bf16) (h3 : a3.IsWhole)
    (a4 : Memref sig .tc .vmem S512x512 .bf16) (h4 : a4.IsWhole) (a5 : Memref sig .tc .vmem S512x512 .f32) (h5 : a5.IsWhole)
    (hc0 : ¬cond0_0 i) (hc1 : ¬cond0_1 i) (x0 : Vec F S1024x512 .bf16) (x1 : Vec F S1024x512 .bf16) (s : Vec F S512x512 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1024x512) hz, View.ld_unit_zero (S := S1024x512) hz, View.ld_unit_zero (S := S512x512) hz]

/-- The last point stores, as the result's block, the accumulator with its product added, rounded. -/
theorem out_C (c : Dev nD) (i : grid0.Coords) (a2 : Memref sig .tc .vmem S1024x512 .bf16) (h2 : a2.IsWhole) (a3 : Memref sig .tc .vmem S1024x512 .bf16) (h3 : a3.IsWhole)
    (a4 : Memref sig .tc .vmem S512x512 .bf16) (h4 : a4.IsWhole) (a5 : Memref sig .tc .vmem S512x512 .f32) (h5 : a5.IsWhole)
    (hc0 : ¬cond0_0 i) (hc1 : cond0_1 i) (x0 : Vec F S1024x512 .bf16) (x1 : Vec F S1024x512 .bf16) (s : Vec F S512x512 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S512x512) _ hz]
  simp only [View.readAt_eq_ld, h2.read_unread, h3.read_unread, h5.read_unread, View.ld_unit_zero (S := S1024x512) hz, View.ld_unit_zero (S := S1024x512) hz, View.ld_unit_zero (S := S512x512) hz]

end Cases

variable (m : (ℓ : Loc nD τ sig) → Buf (Elt Ideal) ℓ)

/-- The left array, its entries as extended reals. -/
abbrev argA (c : Dev nD) : S9216x512.Idx → EReal := m ((c : Thread nD τ).loc main_arg0)
/-- The right array, its entries as extended reals. -/
abbrev argB (c : Dev nD) : S9216x512.Idx → EReal := m ((c : Thread nD τ).loc main_arg1)

/-- The left array's entry at row `r` (zero past its end). -/
def lhs (c : Dev nD) (r : ℕ) (a : Fin 512) : EReal :=
  if h : r < 9216 then argA m c (ix2 ⟨r, h⟩ a) else 0

/-- The right array's entry at row `r` (zero past its end). -/
def rhs (c : Dev nD) (r : ℕ) (b : Fin 512) : EReal :=
  if h : r < 9216 then argB m c (ix2 ⟨r, h⟩ b) else 0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

/-- Row `k` of the left block at point `t` is row `1024 t + k` of the array. -/
theorem blk0 (c : Dev nD) (t : Fin cfg0.N) (k : Fin 1024) (a : Fin 512) :
    (iblk m c 0 t : Vec Ideal S1024x512 .bf16) (ix2 k a) = lhs m c (1024 * t.val + k.val) a := by
  have hN := lt_of_lt_of_eq t.isLt (show cfg0.N = 9 from N_0)
  unfold lhs iblk
  rw [dif_pos (by omega), View.read_apply]
  show V m c main_arg0 _ = m (c.tc.loc main_arg0) _
  unfold V
  congr 1
  funext x
  apply Fin.ext
  match x with
  | ⟨0, _⟩ => show win0_0.index t 0 * 1024 + 1 * k.val = 1024 * t.val + k.val; rw [(idx0 t).1]; omega
  | ⟨1, _⟩ => show win0_0.index t 1 * 512 + 1 * a.val = a.val; rw [(idx0 t).2]; omega

/-- Row `k` of the right block at point `t` is row `1024 t + k` of the array. -/
theorem blk1 (c : Dev nD) (t : Fin cfg0.N) (k : Fin 1024) (b : Fin 512) :
    (iblk m c 1 t : Vec Ideal S1024x512 .bf16) (ix2 k b) = rhs m c (1024 * t.val + k.val) b := by
  have hN := lt_of_lt_of_eq t.isLt (show cfg0.N = 9 from N_0)
  unfold rhs iblk
  rw [dif_pos (by omega), View.read_apply]
  show V m c main_arg1 _ = m (c.tc.loc main_arg1) _
  unfold V
  congr 1
  funext x
  apply Fin.ext
  match x with
  | ⟨0, _⟩ => show win0_1.index t 0 * 1024 + 1 * k.val = 1024 * t.val + k.val; rw [(idx1 t).1]; omega
  | ⟨1, _⟩ => show win0_1.index t 1 * 512 + 1 * b.val = b.val; rw [(idx1 t).2]; omega

/-- The accumulating payload at an index: what was there plus the block's contraction. -/
theorem pay2_apply (s : Vec Ideal S512x512 .f32) (x0 : Vec Ideal S1024x512 .bf16) (x1 : Vec Ideal S1024x512 .bf16) (a : Fin 512) (b : Fin 512) :
    k0_pay2 s x0 x1 (ix2 a b)
      = s (ix2 a b) + ∑ k : Fin 1024, x0 (ix2 k a) * x1 (ix2 k b) := by
  unfold k0_pay2
  simp only [shapeCast_self]
  pointwise

/-- The block's contribution at point `n`. -/
def term (c : Dev nD) (n : ℕ) (a : Fin 512) (b : Fin 512) : EReal :=
  ∑ k : Fin 1024, lhs m c (1024 * n + k.val) a * rhs m c (1024 * n + k.val) b

theorem pay2_blk (c : Dev nD) (t : Fin cfg0.N) (s : Vec Ideal S512x512 .f32) (a : Fin 512) (b : Fin 512) :
    k0_pay2 s (iblk m c 0 t) (iblk m c 1 t) (ix2 a b)
      = s (ix2 a b) + term m c t.val a b := by
  rw [pay2_apply]
  unfold term
  exact congrArg _ (Finset.sum_congr rfl fun k _ => by rw [blk0, blk1])

/-- After point `n` (not the last) the accumulator holds the sum of the first `n + 1` contributions. -/
theorem acc_eq (c : Dev nD) (a : Fin 512) (b : Fin 512) : ∀ (n : ℕ) (h : n < cfg0.N), n < 8 →
    (outsAt0 m c n h).2 (ix2 a b) = ∑ s ∈ Finset.range (n + 1), term m c s a b
  | 0, h, _ => by
    rw [outsAt0_A m c ⟨0, h⟩ rfl (fun h => absurd h (show ¬(0 % 9 = 8) by decide))]
    dsimp only
    rw [acc_A, pay2_blk]
    simp only [zero_add, Finset.sum_range_one]
    unfold k0_pay1
    simp only [shapeCast_self]
    pointwise
  | n + 1, h, h8 => by
    have e := outsAt0_B m c ⟨n + 1, h⟩ (by dsimp only; omega) (by dsimp only; omega)
    dsimp only at e
    rw [e]
    dsimp only
    rw [acc_B, pay2_blk, Finset.sum_range_succ]
    congr 1
    exact acc_eq c a b n _ (by omega)

/-- The nine contributions together are the contraction over all rows. -/
theorem sum_terms (c : Dev nD) (a : Fin 512) (b : Fin 512) :
    ∑ s ∈ Finset.range 9, term m c s a b = ∑ r : Fin 9216, argA m c (ix2 r a) * argB m c (ix2 r b) := by
  have e := Sums.sum_blocks_fin 9216 1024 9 (by norm_num) (fun r => lhs m c r a * rhs m c r b)
  unfold term
  rw [e]
  refine Finset.sum_congr rfl fun r _ => ?_
  unfold lhs rhs
  rw [dif_pos r.isLt, dif_pos r.isLt]

/-- What the last point stores, at an index: the accumulator and the last product. -/
theorem last_apply (c : Dev nD) (a : Fin 512) (b : Fin 512) (t : Fin cfg0.N) (h8 : t.val = 8) :
    (outsAt0 m c t.val t.isLt).1 (ix2 a b) = ∑ s ∈ Finset.range 9, term m c s a b := by
  rw [outsAt0_C m c t (by omega) (by omega)]
  dsimp only
  rw [out_C]
  have e3 : ∀ v : Vec Ideal S512x512 .f32, k0_pay3 v (ix2 a b) = v (ix2 a b) := fun v => by
    unfold k0_pay3; pointwise
  rw [e3, pay2_blk, acc_eq m c a b (t.val - 1) _ (by omega), show t.val - 1 + 1 = 8 by omega, h8,
    ← Finset.sum_range_succ (fun s => term m c s a b)]

/-- The kernel's result, at an index: the contraction over all rows. -/
theorem result_apply (c : Dev nD) (a : Fin 512) (b : Fin 512) :
    (G2 m c : S512x512.Idx → EReal) (ix2 a b) = ∑ r : Fin 9216, argA m c (ix2 r a) * argB m c (ix2 r b) := by
  have h8 : 8 < cfg0.N := lt_of_lt_of_eq (by decide) N_0.symm
  rw [G2_last, ← outsAt0_sweep m c 8 h8]
  exact (last_apply m c a b ⟨8, h8⟩ rfl).trans (sum_terms m c a b)

/-- The reference's result, at an index: the same contraction. -/
theorem ref_apply (x : FVec Ideal S9216x512 .bf16) (y : FVec Ideal S9216x512 .bf16) (a : Fin 512) (b : Fin 512) :
    (truncf .bf16 (transpose S512x512 [1, 0] (Host.dotGeneral
      Cert.Reference6Ideal.dot_S9216x512_S9216x512_S512x512_0_0_1_1_n_n none (extf .f32 y Cert.Reference6Ideal.Gen.bitsLt_bf16_f32)
      (extf .f32 x Cert.Reference6Ideal.Gen.bitsLt_bf16_f32)) Cert.Reference6Ideal.Gen.transposes_S512x512_S512x512_1_0)
      Cert.Reference6Ideal.Gen.bitsLt_bf16_f32 : FVec Ideal S512x512 .bf16) (ix2 a b)
      = ∑ r : Fin 9216, x (ix2 r a) * y (ix2 r b) := by
  pointwise
  exact Finset.sum_congr rfl fun r _ => mul_comm _ _

set_option maxHeartbeats 1000000 in
/-- Both programs end with the same array: at every entry the contraction over all rows. -/
theorem algebraic : algebraic_Kernel6Ideal_Reference6Ideal := by
  intro m g m' g' _ hagree
  refine ⟨fun c => G2 m c, ?_, ?_⟩
  · exact Cert.Kernel6Ideal.Value.run m g
  · refine (θ_run _ _ _).mono (fun r h c => ⟨(h c).1.trans ?_, (h c).2⟩) (Cert.Reference6Ideal.Value.run m' g')
    rw [(hagree c).1, (hagree c).2]
    funext i
    idx_vars i
    exact (ref_apply _ _ i0 i1).trans (result_apply m c i0 i1).symm

end Cert.GluGrad

end
-- ==== Proof.FwdCases.lean ====
/- What the body leaves at a grid point, case by case, as the body's own values. -/
module

public import proofs.«01_k».proof.Proof.Gen.Kernel3Ideal.Frame
public import Idealize.ShloMosaic.Lib.Pipeline.Value
public import Idealize.ShloMosaic.Lib.Tactic

@[expose] public section

set_option maxRecDepth 16384

noncomputable section

namespace Cert.FfnForward

open Idealize.ShloMosaic Idealize.ShloMosaic.TcCoe Idealize.SL.Sem Cert.Kernel3Ideal Cert.Kernel3Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The token tile's number, as the body's index word. -/
abbrev tileWord (i : grid0.Coords) : BitVec 32 := BitVec.ofNat 32 (i 1).val

/-- Whether the tile is the first one, as the body's truth word. -/
abbrev firstTile (i : grid0.Coords) : BitVec 1 := Scalar.cmpi .eq (tileWord i) 0#32

/-- The input shift row of the latent tokens. -/
abbrev latShift (x1 : Vec F S1x2x8x1024 .f32) : Vec F S1x1x1x1024 .f32 :=
  View.ld x1 (Rect.unit (s := S1x2x8x1024) ![0, 1, 3, 0] S1x1x1x1024.size inb_S1x2x8x1024_S1x1x1x1024_0_1_3_0)

/-- The input shift row of the context tokens. -/
abbrev ctxShift (x1 : Vec F S1x2x8x1024 .f32) : Vec F S1x1x1x1024 .f32 :=
  View.ld x1 (Rect.unit (s := S1x2x8x1024) ![0, 0, 3, 0] S1x1x1x1024.size inb_S1x2x8x1024_S1x1x1x1024_0_0_3_0)

/-- The input scale row of the latent tokens. -/
abbrev latScale (x1 : Vec F S1x2x8x1024 .f32) : Vec F S1x1x1x1024 .f32 :=
  View.ld x1 (Rect.unit (s := S1x2x8x1024) ![0, 1, 4, 0] S1x1x1x1024.size inb_S1x2x8x1024_S1x1x1x1024_0_1_4_0)

/-- The input scale row of the context tokens. -/
abbrev ctxScale (x1 : Vec F S1x2x8x1024 .f32) : Vec F S1x1x1x1024 .f32 :=
  View.ld x1 (Rect.unit (s := S1x2x8x1024) ![0, 0, 4, 0] S1x1x1x1024.size inb_S1x2x8x1024_S1x1x1x1024_0_0_4_0)

/-- The output gate row of the latent tokens. -/
abbrev latGate (x1 : Vec F S1x2x8x1024 .f32) : Vec F S1x1x1x1024 .f32 :=
  View.ld x1 (Rect.unit (s := S1x2x8x1024) ![0, 1, 5, 0] S1x1x1x1024.size inb_S1x2x8x1024_S1x1x1x1024_0_1_5_0)

/-- The output gate row of the context tokens. -/
abbrev ctxGate (x1 : Vec F S1x2x8x1024 .f32) : Vec F S1x1x1x1024 .f32 :=
  View.ld x1 (Rect.unit (s := S1x2x8x1024) ![0, 0, 5, 0] S1x1x1x1024.size inb_S1x2x8x1024_S1x1x1x1024_0_0_5_0)

/-- The modulated normalised input, rounded, as the scratch keeps it. -/
def hKept (i : grid0.Coords) (x0 : Vec F S1x768x1024 .f32) (x1 : Vec F S1x2x8x1024 .f32) (x2 : Vec F S1x1024 .f32) : Vec F S768x1024 .bf16 :=
  k0_pay13 (k0_pay2 x0) x2 (k0_pay3 (latShift x1)) (k0_pay4 (latScale x1)) (k0_pay5 (tileWord i) x0 x2 (latScale x1) (ctxScale x1)) (k0_pay6 (tileWord i) (latShift x1) (ctxShift x1))

/-- The block's output, from the accumulated down product. -/
def x2Out (i : grid0.Coords) (a : Vec F S768x1024 .f32) (x0 : Vec F S1x768x1024 .f32) (x1 : Vec F S1x2x8x1024 .f32) (x3 : Vec F S1x1024 .f32) : Vec F S1x768x1024 .f32 :=
  k0_pay1 (k0_pay11 (tileWord i) a x3 x0 (latGate x1) (ctxGate x1)) (k0_pay12 a x3 x0 (latGate x1))

section Cases

/-- The first pass keeps the modulated input, -/
theorem h_A (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) :
    sout0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = hKept i x0 x1 x2 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- starts the accumulator with its chunk's product, -/
theorem acc_A (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) :
    sout0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay19 (hKept i x0 x1 x2) x4 x5 k0_pay14 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_cons_unit_zero (S := S768x1024) hz2]
  simp only [View.readCov_unit_zero (S := S768x1024) _ hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- and stores its chunk of the gate's product -/
theorem gate_A (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) :
    out0_A_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay17 (hKept i x0 x1 x2) x4 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero hz3]
  simp only [View.readCov_unit_zero (S := S768x1024) _ hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- and of the up product. -/
theorem up_A (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) :
    out0_A_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 = k0_pay18 (hKept i x0 x1 x2) x5 := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6)]
  unfold kernelRun0_A
  dsimp only
  sl_unfold_words
  rw [View.canon_unit_zero hz3]
  simp only [View.readCov_unit_zero (S := S768x1024) _ hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- A middle pass adds its chunk's product, -/
theorem acc_B (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    sout0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay19 xs0 x4 x5 xs1 x6 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- stores its chunk of the gate's product -/
theorem gate_B (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    out0_B_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay17 xs0 x4 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- and of the up product. -/
theorem up_B (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : ¬cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    out0_B_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay18 xs0 x5 := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- The last pass adds its chunk's product, -/
theorem acc_C (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    sout0_C_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay19 xs0 x4 x5 xs1 x6 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- stores its chunk of the gate's product -/
theorem gate_C (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    out0_C_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay17 xs0 x4 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- and of the up product. -/
theorem up_C (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    out0_C_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay18 xs0 x5 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- The last pass stores the block's output -/
theorem x2_C (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    out0_C_7 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = x2Out i (k0_pay19 xs0 x4 x5 xs1 x6) x0 x1 x3 := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_C
  dsimp only
  sl_unfold_words
  rw [View.canon_unit_zero hz3]
  simp only [View.readCov_unit_zero (S := S768x1024) _ hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

/-- and the down product. -/
theorem f_C (c : Dev nD) (i : grid0.Coords) (arg3 : Memref sig .tc .vmem S1x768x1024 .f32) (harg3 : arg3.IsWhole) (arg4 : Memref sig .tc .vmem S1x2x8x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S1x768x1024 .f32) (harg10 : arg10.IsWhole) (arg11 : Memref sig .tc .vmem S1x768x1024 .f32) (harg11 : arg11.IsWhole) (arg12 : Memref sig .tc .vmem S1x768x256 .bf16) (harg12 : arg12.IsWhole) (arg13 : Memref sig .tc .vmem S1x768x256 .bf16) (harg13 : arg13.IsWhole) (arg14 : Memref sig .tc .vmem S768x1024 .bf16) (harg14 : arg14.IsWhole) (arg15 : Memref sig .tc .vmem S768x1024 .f32) (harg15 : arg15.IsWhole) (hc0 : ¬cond0_0 i) (hc1 : cond0_1 i) (x0 : Vec F S1x768x1024 .f32) (x1 : Vec F S1x2x8x1024 .f32) (x2 : Vec F S1x1024 .f32) (x3 : Vec F S1x1024 .f32) (x4 : Vec F S256x1024 .bf16) (x5 : Vec F S256x1024 .bf16) (x6 : Vec F S256x1024 .bf16) (xs0 : Vec F S768x1024 .bf16) (xs1 : Vec F S768x1024 .f32) :
    out0_C_8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1 = k0_pay7 (k0_pay19 xs0 x4 x5 xs1 x6) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xs0 xs1)]
  unfold kernelRun0_C
  dsimp only
  sl_unfold_words
  rw [View.canon_unit_zero hz3]
  simp only [View.readCov_unit_zero (S := S768x1024) _ hz2]
  simp only [View.readAt_eq_ld, harg3.read_unread, harg4.read_unread, harg5.read_unread, harg6.read_unread, harg7.read_unread, harg8.read_unread, harg9.read_unread, harg14.read_unread, harg15.read_unread,
    View.ld_unit_zero (S := S1x768x1024) hz3, View.ld_unit_zero (S := S1x1024) hz2, View.ld_unit_zero (S := S256x1024) hz2, View.ld_unit_zero (S := S768x1024) hz2]
  try rfl

end Cases

end Cert.FfnForward

end
-- ==== Proof.FwdBlock.lean ====
/- The arguments' entries, what the region's arrays hold when it is entered, and the blocks that a grid point reads. -/
module

public import proofs.«01_k».proof.Proof.FwdCases
public import proofs.«01_k».proof.Proof.FfnMath
public import Idealize.ShloMosaic.Lib.Pointwise
public import Idealize.ShloMosaic.Lib.StableHlo.ReadAt

@[expose] public section

set_option maxRecDepth 16384

noncomputable section

namespace Cert.FfnForward

open Idealize.ShloMosaic Idealize.ShloMosaic.TcCoe Idealize.SL.Sem Idealize.ShloMosaic.StableHlo Cert.Kernel3Ideal Cert.Kernel3Ideal.Gen
open Cert.FfnGrad (Args invRms meanSq)

variable (m : (ℓ : Loc nD τ sig) → Buf (Elt Ideal) ℓ)

abbrev m0 (c : Dev nD) : S4x2304x1024.Idx → EReal := m (c.tc.loc main_arg0)
abbrev m1 (c : Dev nD) : S4x2x8x1024.Idx → EReal := m (c.tc.loc main_arg1)
abbrev m2 (c : Dev nD) : S1x1024.Idx → EReal := m (c.tc.loc main_arg2)
abbrev m3 (c : Dev nD) : S1x1024.Idx → EReal := m (c.tc.loc main_arg3)
abbrev m4 (c : Dev nD) : S1024x2816.Idx → EReal := m (c.tc.loc main_arg4)
abbrev m5 (c : Dev nD) : S1024x2816.Idx → EReal := m (c.tc.loc main_arg5)
abbrev m6 (c : Dev nD) : S2816x1024.Idx → EReal := m (c.tc.loc main_arg6)

/-- The arguments' entries, as the kernel finds them. The forward pass has no gradient among them. -/
def args (c : Dev nD) : Args where
  dx _ _ _ := 0
  x b s d := m0 m c (ix3 b s d)
  mod b k j d := m1 m c (ix4 b k j d)
  n3 d := m2 m c (ix2 0 d)
  n4 d := m3 m c (ix2 0 d)
  wg d k := m4 m c (ix2 d k)
  wu d k := m5 m c (ix2 d k)
  wd k d := m6 m c (ix2 k d)

/-! ## Before the region -/

theorem V_arg0 (c : Dev nD) : V m c main_arg0 = m0 m c := by
  unfold V
  simp only [hostOps0]
  after_results_simp

theorem V_arg1 (c : Dev nD) : V m c main_arg1 = m1 m c := by
  unfold V
  simp only [hostOps0]
  after_results_simp

theorem V_arg2 (c : Dev nD) : V m c main_arg2 = m2 m c := by
  unfold V
  simp only [hostOps0]
  after_results_simp

theorem V_arg3 (c : Dev nD) : V m c main_arg3 = m3 m c := by
  unfold V
  simp only [hostOps0]
  after_results_simp

abbrev hostWg (c : Dev nD) : S2816x1024.Idx → EReal := V m c main_v1

theorem hostWg_eq (c : Dev nD) (k : Fin 2816) (d : Fin 1024) : hostWg m c (ix2 k d) = (args m c).wg d k := by
  unfold hostWg V
  simp only [hostOps0]
  after_results_simp
  pointwise
  rfl

abbrev hostWu (c : Dev nD) : S2816x1024.Idx → EReal := V m c main_v3

theorem hostWu_eq (c : Dev nD) (k : Fin 2816) (d : Fin 1024) : hostWu m c (ix2 k d) = (args m c).wu d k := by
  unfold hostWu V
  simp only [hostOps0]
  after_results_simp
  pointwise
  rfl

abbrev hostWd (c : Dev nD) : S2816x1024.Idx → EReal := V m c main_v4

theorem hostWd_eq (c : Dev nD) (k : Fin 2816) (d : Fin 1024) : hostWd m c (ix2 k d) = (args m c).wd k d := by
  unfold hostWd V
  simp only [hostOps0]
  after_results_simp
  pointwise
  rfl

/-! ## A point's blocks -/

/-- A point's batch entry, -/
def pb (t : Fin cfg0.N) : Fin 4 := ⟨t.val / 33, by have := lt_of_lt_of_eq t.isLt N_0; omega⟩
/-- its tile, -/
def pj (t : Fin cfg0.N) : Fin 3 := ⟨t.val / 11 % 3, by omega⟩
/-- and the columns of the feed-forward width that it works on. -/
def col (t : Fin cfg0.N) (q : Fin 256) : Fin 2816 := ⟨256 * (t.val % 11) + q.val, by omega⟩
/-- A token of a point's tile. -/
abbrev tk (t : Fin cfg0.N) (r : Fin 768) : Fin 2304 := Args.tok (pj t) r

/-- Where each array's block lies at a point. -/
theorem ix_0 : ∀ t : Fin cfg0.N, win0_0.index t (0 : Fin 3) = t.val / 33 ∧ win0_0.index t (1 : Fin 3) = t.val / 11 % 3 ∧ win0_0.index t (2 : Fin 3) = 0 :=
  (by decide +kernel : ∀ t : Fin grid0.N, _)
theorem ix_1 : ∀ t : Fin cfg0.N, win0_1.index t (0 : Fin 4) = t.val / 33 ∧ win0_1.index t (1 : Fin 4) = 0 ∧ win0_1.index t (2 : Fin 4) = 0 ∧ win0_1.index t (3 : Fin 4) = 0 :=
  (by decide +kernel : ∀ t : Fin grid0.N, _)
theorem ix_4 : ∀ t : Fin cfg0.N, win0_4.index t (0 : Fin 2) = t.val % 11 ∧ win0_4.index t (1 : Fin 2) = 0 :=
  (by decide +kernel : ∀ t : Fin grid0.N, _)
theorem ix_5 : ∀ t : Fin cfg0.N, win0_5.index t (0 : Fin 2) = t.val % 11 ∧ win0_5.index t (1 : Fin 2) = 0 :=
  (by decide +kernel : ∀ t : Fin grid0.N, _)
theorem ix_6 : ∀ t : Fin cfg0.N, win0_6.index t (0 : Fin 2) = t.val % 11 ∧ win0_6.index t (1 : Fin 2) = 0 :=
  (by decide +kernel : ∀ t : Fin grid0.N, _)

section Blocks
variable (c : Dev nD) (t : Fin cfg0.N) (r : Fin 768) (d : Fin 1024) (q : Fin 256)

/-- The input's block, -/
theorem blk0 : (iblk m c 0 t : Vec Ideal S1x768x1024 .f32) (ix3 0 r d) = (args m c).x (pb t) (tk t r) d := by
  unfold iblk
  rw [View.read_apply]
  show V m c main_arg0 _ = m0 m c _
  rw [V_arg0]
  congr 1
  funext x
  apply Fin.ext
  match x with
  | ⟨0, _⟩ => show win0_0.index t 0 * 1 + 1 * (0 : ℕ) = t.val / 33; rw [(ix_0 t).1]; omega
  | ⟨1, _⟩ => show win0_0.index t 1 * 768 + 1 * r.val = 768 * (t.val / 11 % 3) + r.val; rw [(ix_0 t).2.1]; omega
  | ⟨2, _⟩ => show win0_0.index t 2 * 1024 + 1 * d.val = d.val; rw [(ix_0 t).2.2]; omega

/-- the modulation's, -/
theorem blk1 (k : Fin 2) (j : Fin 8) : (iblk m c 1 t : Vec Ideal S1x2x8x1024 .f32) (ix4 0 k j d) = (args m c).mod (pb t) k j d := by
  unfold iblk
  rw [View.read_apply]
  show V m c main_arg1 _ = m1 m c _
  rw [V_arg1]
  congr 1
  funext x
  apply Fin.ext
  match x with
  | ⟨0, _⟩ => show win0_1.index t 0 * 1 + 1 * (0 : ℕ) = t.val / 33; rw [(ix_1 t).1]; omega
  | ⟨1, _⟩ => show win0_1.index t 1 * 2 + 1 * k.val = k.val; rw [(ix_1 t).2.1]; omega
  | ⟨2, _⟩ => show win0_1.index t 2 * 8 + 1 * j.val = j.val; rw [(ix_1 t).2.2.1]; omega
  | ⟨3, _⟩ => show win0_1.index t 3 * 1024 + 1 * d.val = d.val; rw [(ix_1 t).2.2.2]; omega

/-- the first norm's gain, -/
theorem blk2 : (iblk m c 2 t : Vec Ideal S1x1024 .f32) (ix2 0 d) = (args m c).n3 d := by
  unfold iblk
  rw [View.read_apply]
  show V m c main_arg2 _ = m2 m c _
  rw [V_arg2]
  congr 1
  funext x
  apply Fin.ext
  match x with
  | ⟨0, _⟩ => rfl
  | ⟨1, _⟩ => show 0 * 1024 + 1 * d.val = d.val; omega

/-- the second norm's, -/
theorem blk3 : (iblk m c 3 t : Vec Ideal S1x1024 .f32) (ix2 0 d) = (args m c).n4 d := by
  unfold iblk
  rw [View.read_apply]
  show V m c main_arg3 _ = m3 m c _
  rw [V_arg3]
  congr 1
  funext x
  apply Fin.ext
  match x with
  | ⟨0, _⟩ => rfl
  | ⟨1, _⟩ => show 0 * 1024 + 1 * d.val = d.val; omega

/-- the gate weight's, -/
theorem blk4 : (iblk m c 4 t : Vec Ideal S256x1024 .bf16) (ix2 q d) = (args m c).wg d (col t q) := by
  rw [← hostWg_eq]
  unfold iblk
  rw [View.read_apply]
  show V m c main_v1 _ = hostWg m c _
  unfold hostWg
  congr 1
  funext x
  apply Fin.ext
  match x with
  | ⟨0, _⟩ => show win0_4.index t 0 * 256 + 1 * q.val = 256 * (t.val % 11) + q.val; rw [(ix_4 t).1]; omega
  | ⟨1, _⟩ => show win0_4.index t 1 * 1024 + 1 * d.val = d.val; rw [(ix_4 t).2]; omega

/-- the up weight's, -/
theorem blk5 : (iblk m c 5 t : Vec Ideal S256x1024 .bf16) (ix2 q d) = (args m c).wu d (col t q) := by
  rw [← hostWu_eq]
  unfold iblk
  rw [View.read_apply]
  show V m c main_v3 _ = hostWu m c _
  unfold hostWu
  congr 1
  funext x
  apply Fin.ext
  match x with
  | ⟨0, _⟩ => show win0_5.index t 0 * 256 + 1 * q.val = 256 * (t.val % 11) + q.val; rw [(ix_5 t).1]; omega
  | ⟨1, _⟩ => show win0_5.index t 1 * 1024 + 1 * d.val = d.val; rw [(ix_5 t).2]; omega

/-- and the down weight's. -/
theorem blk6 : (iblk m c 6 t : Vec Ideal S256x1024 .bf16) (ix2 q d) = (args m c).wd (col t q) d := by
  rw [← hostWd_eq]
  unfold iblk
  rw [View.read_apply]
  show V m c main_v4 _ = hostWd m c _
  unfold hostWd
  congr 1
  funext x
  apply Fin.ext
  match x with
  | ⟨0, _⟩ => show win0_6.index t 0 * 256 + 1 * q.val = 256 * (t.val % 11) + q.val; rw [(ix_6 t).1]; omega
  | ⟨1, _⟩ => show win0_6.index t 1 * 1024 + 1 * d.val = d.val; rw [(ix_6 t).2]; omega

end Blocks

end Cert.FfnForward

end
-- ==== Proof.FwdPay.lean ====
/- The body's values, entry by entry. -/
module

public import proofs.«01_k».proof.Proof.FwdBlock

@[expose] public section

set_option maxRecDepth 16384

noncomputable section

namespace Cert.FfnForward

open Idealize.ShloMosaic Idealize.ShloMosaic.TcCoe Idealize.SL.Sem Cert.Kernel3Ideal Cert.Kernel3Ideal.Gen
open Cert.FfnGrad (Args invRms meanSq)

/-! ## The first tile -/

theorem firstTile_eq (i : grid0.Coords) : firstTile i = if (i 1).val = 0 then 1#1 else 0#1 := by
  have h : (i 1).val < 3 := (i 1).isLt
  unfold firstTile tileWord
  generalize (i 1).val = n at h
  interval_cases n <;> rfl

/-- A choice by the first tile's truth word, -/
theorem select_first {α : Type} (i : grid0.Coords) (a b : α) : Scalar.select (firstTile i) a b = if (i 1).val = 0 then a else b := by
  rw [firstTile_eq]
  unfold Scalar.select
  by_cases h : (i 1).val = 0
  · rw [if_pos h, if_pos h]; exact if_pos rfl
  · rw [if_neg h, if_neg h]; exact if_neg (by decide)

/-- in the first tile, -/
theorem select_pos {α : Type} (i : grid0.Coords) (h : (i 1).val = 0) (a b : α) : Scalar.select (firstTile i) a b = a := (select_first i a b).trans (if_pos h)
/-- and in the others. -/
theorem select_neg {α : Type} (i : grid0.Coords) (h : ¬ (i 1).val = 0) (a b : α) : Scalar.select (firstTile i) a b = b := (select_first i a b).trans (if_neg h)

/-- A token's modulation row inside a tile: context in the first tile's first 256 rows, latent elsewhere. -/
theorem row_tok (A : Args) (p : Fin 8) (b : Fin 4) (j : Fin 3) (r : Fin 768) (d : Fin 1024) :
    A.row p b (Args.tok j r) d = if r.val < 256 then (if j.val = 0 then A.mod b 0 p d else A.mod b 1 p d) else A.mod b 1 p d := by
  unfold Args.row
  show (if 768 * j.val + r.val < 256 then _ else _) = _
  by_cases hr : r.val < 256
  · by_cases hj : j.val = 0
    · rw [if_pos (by omega), if_pos hr, if_pos hj]
    · rw [if_neg (by omega), if_pos hr, if_neg hj]
  · rw [if_neg (by omega), if_neg hr]

/-- Past the first 256 rows, the split's row index is the row. -/
theorem back (r : Fin 768) (hr : ¬ r.val < 256) (h : 256 + (r.val - 256) < 768) : (⟨256 + (r.val - 256), h⟩ : Fin 768) = r :=
  Fin.ext (by show 256 + (r.val - 256) = r.val; omega)

/-! ## One modulation row -/

section Rows
variable (x1 : S1x2x8x1024.Idx → EReal) (d : Fin 1024)

theorem latGate_eq : (latGate (F := Ideal) x1 : S1x1x1x1024.Idx → EReal) (ix4 0 0 0 d) = x1 (ix4 0 1 5 d) :=
  congrArg x1 (funext fun a => Fin.ext (by match a with | ⟨0, _⟩ => rfl | ⟨1, _⟩ => rfl | ⟨2, _⟩ => rfl | ⟨3, _⟩ => exact (Nat.zero_add _).trans (Nat.one_mul _)))
theorem ctxGate_eq : (ctxGate (F := Ideal) x1 : S1x1x1x1024.Idx → EReal) (ix4 0 0 0 d) = x1 (ix4 0 0 5 d) :=
  congrArg x1 (funext fun a => Fin.ext (by match a with | ⟨0, _⟩ => rfl | ⟨1, _⟩ => rfl | ⟨2, _⟩ => rfl | ⟨3, _⟩ => exact (Nat.zero_add _).trans (Nat.one_mul _)))
theorem latShift_eq : (latShift (F := Ideal) x1 : S1x1x1x1024.Idx → EReal) (ix4 0 0 0 d) = x1 (ix4 0 1 3 d) :=
  congrArg x1 (funext fun a => Fin.ext (by match a with | ⟨0, _⟩ => rfl | ⟨1, _⟩ => rfl | ⟨2, _⟩ => rfl | ⟨3, _⟩ => exact (Nat.zero_add _).trans (Nat.one_mul _)))
theorem ctxShift_eq : (ctxShift (F := Ideal) x1 : S1x1x1x1024.Idx → EReal) (ix4 0 0 0 d) = x1 (ix4 0 0 3 d) :=
  congrArg x1 (funext fun a => Fin.ext (by match a with | ⟨0, _⟩ => rfl | ⟨1, _⟩ => rfl | ⟨2, _⟩ => rfl | ⟨3, _⟩ => exact (Nat.zero_add _).trans (Nat.one_mul _)))
theorem latScale_eq : (latScale (F := Ideal) x1 : S1x1x1x1024.Idx → EReal) (ix4 0 0 0 d) = x1 (ix4 0 1 4 d) :=
  congrArg x1 (funext fun a => Fin.ext (by match a with | ⟨0, _⟩ => rfl | ⟨1, _⟩ => rfl | ⟨2, _⟩ => rfl | ⟨3, _⟩ => exact (Nat.zero_add _).trans (Nat.one_mul _)))
theorem ctxScale_eq : (ctxScale (F := Ideal) x1 : S1x1x1x1024.Idx → EReal) (ix4 0 0 0 d) = x1 (ix4 0 0 4 d) :=
  congrArg x1 (funext fun a => Fin.ext (by match a with | ⟨0, _⟩ => rfl | ⟨1, _⟩ => rfl | ⟨2, _⟩ => rfl | ⟨3, _⟩ => exact (Nat.zero_add _).trans (Nat.one_mul _)))

end Rows

/-! ## The norms -/

/-- A token's vector in a block. -/
abbrev tokRow (x : S1x768x1024.Idx → EReal) (r : Fin 768) : Fin 1024 → EReal := fun d => x (ix3 0 r d)
/-- A token's vector in the accumulator. -/
abbrev accRow (a : S768x1024.Idx → EReal) (r : Fin 768) : Fin 1024 → EReal := fun d => a (ix2 r d)

/-- The normalised input. -/
theorem pay2_eq (x : S1x768x1024.Idx → EReal) (r : Fin 768) (d : Fin 1024) : (k0_pay2 (F := Ideal) x : S768x1024.Idx → EReal) (ix2 r d) = x (ix3 0 r d) * invRms (tokRow x r) := by
  unfold k0_pay2; pointwise; rfl
/-- The normalised down product. -/
theorem pay8_eq (a : S768x1024.Idx → EReal) (r : Fin 768) (d : Fin 1024) : (k0_pay8 (F := Ideal) a : S768x1024.Idx → EReal) (ix2 r d) = a (ix2 r d) * invRms (accRow a r) := by
  unfold k0_pay8; pointwise; rfl

section Body
variable (i : grid0.Coords) (a : S768x1024.Idx → EReal) (x0 : S1x768x1024.Idx → EReal) (x1 : S1x2x8x1024.Idx → EReal) (x2 x3 : S1x1024.Idx → EReal)
  (r : Fin 768) (d : Fin 1024)

/-- The modulated input. -/
theorem hKept_eq : (hKept (F := Ideal) i x0 x1 x2 : S768x1024.Idx → EReal) (ix2 r d)
    = x0 (ix3 0 r d) * invRms (tokRow x0 r) * x2 (ix2 0 d) * (1 + (if r.val < 256 then (if (i 1).val = 0 then x1 (ix4 0 0 4 d) else x1 (ix4 0 1 4 d)) else x1 (ix4 0 1 4 d)))
      + (if r.val < 256 then (if (i 1).val = 0 then x1 (ix4 0 0 3 d) else x1 (ix4 0 1 3 d)) else x1 (ix4 0 1 3 d)) := by
  unfold hKept k0_pay13 k0_pay5 k0_pay6 k0_pay4 k0_pay3
  dsimp only
  simp only [shapeCast_self]
  by_cases hz : (i 1).val = 0 <;> by_cases hr : r.val < 256
  · simp only [select_pos i hz, if_pos hz]; pointwise; rw [dif_pos hr, if_pos hr, if_pos hr, ctxScale_eq, ctxShift_eq, pay2_eq]
  · simp only [select_pos i hz, if_pos hz]; pointwise; rw [dif_neg hr, if_neg hr, if_neg hr, latScale_eq, latShift_eq, back r hr, pay2_eq]
  · simp only [select_neg i hz, if_neg hz]; pointwise; rw [dif_pos hr, if_pos hr, if_pos hr, latScale_eq, latShift_eq, pay2_eq]
  · simp only [select_neg i hz, if_neg hz]; pointwise; rw [dif_neg hr, if_neg hr, if_neg hr, latScale_eq, latShift_eq, back r hr, pay2_eq]

/-- The block's output. -/
theorem x2Out_eq : (x2Out (F := Ideal) i a x0 x1 x3 : S1x768x1024.Idx → EReal) (ix3 0 r d)
    = x0 (ix3 0 r d) + (if r.val < 256 then (if (i 1).val = 0 then x1 (ix4 0 0 5 d) else x1 (ix4 0 1 5 d)) else x1 (ix4 0 1 5 d)) * (a (ix2 r d) * invRms (accRow a r) * x3 (ix2 0 d)) := by
  unfold x2Out k0_pay1 k0_pay11 k0_pay12 k0_pay10 k0_pay9
  dsimp only
  by_cases hz : (i 1).val = 0 <;> by_cases hr : r.val < 256
  · simp only [select_pos i hz, if_pos hz]; pointwise; rw [dif_pos hr, if_pos hr, ctxGate_eq, pay8_eq]; exact congrArg (fun z : EReal => x0 (ix3 0 r d) + z * (a (ix2 r d) * invRms (accRow a r) * x3 (ix2 0 d))) (select_pos i hz _ _)
  · simp only [select_pos i hz, if_pos hz]; pointwise; rw [dif_neg hr, if_neg hr, latGate_eq, back r hr, pay8_eq]
  · simp only [select_neg i hz, if_neg hz]; pointwise; rw [dif_pos hr, if_pos hr, latGate_eq, pay8_eq]; exact congrArg (fun z : EReal => x0 (ix3 0 r d) + z * (a (ix2 r d) * invRms (accRow a r) * x3 (ix2 0 d))) (select_neg i hz _ _)
  · simp only [select_neg i hz, if_neg hz]; pointwise; rw [dif_neg hr, if_neg hr, latGate_eq, back r hr, pay8_eq]

end Body

/-! ## The products -/

section Products
variable (h : S768x1024.Idx → EReal) (x4 x5 x6 : S256x1024.Idx → EReal) (a : S768x1024.Idx → EReal) (r : Fin 768) (q : Fin 256) (d : Fin 1024)

/-- The gate's product, -/
theorem pay15_eq : (k0_pay15 (F := Ideal) h x4 : S768x256.Idx → EReal) (ix2 r q) = ∑ d, h (ix2 r d) * x4 (ix2 q d) := by
  unfold k0_pay15; simp only [shapeCast_self]; pointwise
/-- the up product, -/
theorem pay16_eq : (k0_pay16 (F := Ideal) h x5 : S768x256.Idx → EReal) (ix2 r q) = ∑ d, h (ix2 r d) * x5 (ix2 q d) := by
  unfold k0_pay16; simp only [shapeCast_self]; pointwise
/-- both as stored, -/
theorem pay17_eq : (k0_pay17 (F := Ideal) h x4 : S1x768x256.Idx → EReal) (ix3 0 r q) = ∑ d, h (ix2 r d) * x4 (ix2 q d) := by
  unfold k0_pay17; pointwise; exact pay15_eq h x4 r q
theorem pay18_eq : (k0_pay18 (F := Ideal) h x5 : S1x768x256.Idx → EReal) (ix3 0 r q) = ∑ d, h (ix2 r d) * x5 (ix2 q d) := by
  unfold k0_pay18; pointwise; exact pay16_eq h x5 r q
/-- and the accumulator with the chunk's down product added. -/
theorem pay19_eq : (k0_pay19 (F := Ideal) h x4 x5 a x6 : S768x1024.Idx → EReal) (ix2 r d)
    = a (ix2 r d) + ∑ q, (k0_pay15 (F := Ideal) h x4 : S768x256.Idx → EReal) (ix2 r q) * Ideal.logistic ((k0_pay15 (F := Ideal) h x4 : S768x256.Idx → EReal) (ix2 r q))
        * (k0_pay16 (F := Ideal) h x5 : S768x256.Idx → EReal) (ix2 r q) * x6 (ix2 q d) := by
  unfold k0_pay19; simp only [shapeCast_self]; pointwise
/-- It starts at zero. -/
theorem pay14_eq : (k0_pay14 (F := Ideal) : S768x1024.Idx → EReal) (ix2 r d) = 0 := by
  unfold k0_pay14; simp only [shapeCast_self]; pointwise
/-- The down product as stored. -/
theorem pay7_eq : (k0_pay7 (F := Ideal) a : S1x768x1024.Idx → EReal) (ix3 0 r d) = a (ix2 r d) := by
  unfold k0_pay7; pointwise

end Products

end Cert.FfnForward

end
-- ==== Proof.FwdPoint.lean ====
/- What each grid point leaves, entry by entry, in terms of the arguments. -/
module

public import proofs.«01_k».proof.Proof.FwdPay
public import proofs.«01_k».proof.Proof.SumBlocks

@[expose] public section

set_option maxRecDepth 16384

noncomputable section

namespace Cert.FfnForward

open Idealize.ShloMosaic Idealize.ShloMosaic.TcCoe Idealize.SL.Sem Cert.Kernel3Ideal Cert.Kernel3Ideal.Gen
open Cert.FfnGrad (Args invRms meanSq)

variable (m : (ℓ : Loc nD τ sig) → Buf (Elt Ideal) ℓ) (c : Dev nD)

/-! ## From point to point -/

/-- The modulated input that is kept after a point, -/
abbrev hAt (n : ℕ) (h : n < cfg0.N) : S768x1024.Idx → EReal := (outsAt0 m c n h).2.2.2.2.1
/-- and the accumulator after it. -/
abbrev accAt (n : ℕ) (h : n < cfg0.N) : S768x1024.Idx → EReal := (outsAt0 m c n h).2.2.2.2.2

/-- The point before lies in the grid. -/
theorem pred_lt (t : Fin cfg0.N) : t.val - 1 < cfg0.N := Nat.lt_of_le_of_lt (Nat.sub_le _ _) t.isLt

/-- A tile's first point is not its last. -/
theorem last_not_first (t : Fin cfg0.N) (h : t.val % 11 = 0) : ¬ t.val % 11 = 10 := by omega

/-- A tile's first point computes the modulated input, -/
theorem h_first (t : Fin cfg0.N) (h : t.val % 11 = 0) : hAt m c t.val t.isLt = hKept (F := Ideal) (grid0.coords t) (iblk m c 0 t) (iblk m c 1 t) (iblk m c 2 t) := by
  unfold hAt
  rw [outsAt0_A m c t h (last_not_first t h)]
  dsimp only
  apply h_A
/-- and its other points keep it. -/
theorem h_next (t : Fin cfg0.N) (h : ¬ t.val % 11 = 0) : hAt m c t.val t.isLt = hAt m c (t.val - 1) (pred_lt t) := by
  unfold hAt
  by_cases h1 : t.val % 11 = 10
  · rw [outsAt0_C m c t h h1]
    dsimp only
    unfold sout0_C_0
    rfl
  · rw [outsAt0_B m c t h h1]
    dsimp only
    unfold sout0_B_0
    rfl

/-- The accumulator after a tile's first point, -/
theorem acc_first (t : Fin cfg0.N) (h : t.val % 11 = 0) :
    accAt m c t.val t.isLt = k0_pay19 (F := Ideal) (hAt m c t.val t.isLt) (iblk m c 4 t) (iblk m c 5 t) (k0_pay14 (F := Ideal)) (iblk m c 6 t) := by
  rw [h_first m c t h]
  unfold accAt
  rw [outsAt0_A m c t h (last_not_first t h)]
  dsimp only
  apply acc_A
/-- and after its other points. -/
theorem acc_next (t : Fin cfg0.N) (h : ¬ t.val % 11 = 0) :
    accAt m c t.val t.isLt = k0_pay19 (F := Ideal) (hAt m c t.val t.isLt) (iblk m c 4 t) (iblk m c 5 t) (accAt m c (t.val - 1) (pred_lt t)) (iblk m c 6 t) := by
  rw [h_next m c t h]
  unfold accAt hAt
  by_cases h1 : t.val % 11 = 10
  · rw [outsAt0_C m c t h h1]
    dsimp only
    apply acc_C
  · rw [outsAt0_B m c t h h1]
    dsimp only
    apply acc_B

/-- The gate's block that a point stores, -/
theorem gate_point (t : Fin cfg0.N) : (outsAt0 m c t.val t.isLt).2.2.1 = k0_pay17 (F := Ideal) (hAt m c t.val t.isLt) (iblk m c 4 t) := by
  by_cases h : t.val % 11 = 0
  · rw [h_first m c t h]
    rw [outsAt0_A m c t h (last_not_first t h)]
    dsimp only
    apply gate_A
  · rw [h_next m c t h]
    unfold hAt
    by_cases h1 : t.val % 11 = 10
    · rw [outsAt0_C m c t h h1]
      dsimp only
      apply gate_C
    · rw [outsAt0_B m c t h h1]
      dsimp only
      apply gate_B
/-- the up product's, -/
theorem up_point (t : Fin cfg0.N) : (outsAt0 m c t.val t.isLt).2.2.2.1 = k0_pay18 (F := Ideal) (hAt m c t.val t.isLt) (iblk m c 5 t) := by
  by_cases h : t.val % 11 = 0
  · rw [h_first m c t h]
    rw [outsAt0_A m c t h (last_not_first t h)]
    dsimp only
    apply up_A
  · rw [h_next m c t h]
    unfold hAt
    by_cases h1 : t.val % 11 = 10
    · rw [outsAt0_C m c t h h1]
      dsimp only
      apply up_C
    · rw [outsAt0_B m c t h h1]
      dsimp only
      apply up_B
/-- at a tile's last point the output's block, -/
theorem x2_point (t : Fin cfg0.N) (h : ¬ t.val % 11 = 0) (h1 : t.val % 11 = 10) :
    (outsAt0 m c t.val t.isLt).1 = x2Out (F := Ideal) (grid0.coords t) (accAt m c t.val t.isLt) (iblk m c 0 t) (iblk m c 1 t) (iblk m c 3 t) := by
  rw [acc_next m c t h, h_next m c t h]
  unfold accAt hAt
  rw [outsAt0_C m c t h h1]
  dsimp only
  apply x2_C
/-- and the down product's. -/
theorem f_point (t : Fin cfg0.N) (h : ¬ t.val % 11 = 0) (h1 : t.val % 11 = 10) : (outsAt0 m c t.val t.isLt).2.1 = k0_pay7 (F := Ideal) (accAt m c t.val t.isLt) := by
  rw [acc_next m c t h, h_next m c t h]
  unfold accAt hAt
  rw [outsAt0_C m c t h h1]
  dsimp only
  apply f_C

/-! ## Entry by entry -/

theorem coord_tile : ∀ t : Fin cfg0.N, (grid0.coords t 1).val = t.val / 11 % 3 :=
  (by decide +kernel : ∀ t : Fin grid0.N, _)

/-- Inside a tile the point before works on the same batch entry, -/
theorem pb_prev (t : Fin cfg0.N) (h : ¬ t.val % 11 = 0) : pb ⟨t.val - 1, pred_lt t⟩ = pb t :=
  Fin.ext (by show (t.val - 1) / 33 = t.val / 33; omega)
/-- and the same tile. -/
theorem pj_prev (t : Fin cfg0.N) (h : ¬ t.val % 11 = 0) : pj ⟨t.val - 1, pred_lt t⟩ = pj t :=
  Fin.ext (by show (t.val - 1) / 11 % 3 = t.val / 11 % 3; omega)

section Entries
variable (t : Fin cfg0.N) (r : Fin 768) (d : Fin 1024) (q : Fin 256)

/-- The modulation row that a point's token takes. -/
theorem row_blk (p : Fin 8) : (if r.val < 256 then (if (grid0.coords t 1).val = 0 then (iblk m c 1 t : Vec Ideal S1x2x8x1024 .f32) (ix4 0 0 p d) else (iblk m c 1 t : Vec Ideal S1x2x8x1024 .f32) (ix4 0 1 p d))
      else (iblk m c 1 t : Vec Ideal S1x2x8x1024 .f32) (ix4 0 1 p d) : EReal) = (args m c).row p (pb t) (tk t r) d := by
  rw [row_tok, blk1, blk1, coord_tile]
  rfl

theorem tokRow_x : tokRow (iblk m c 0 t) r = (args m c).x (pb t) (tk t r) := funext fun d => blk0 m c t r d

/-- A point's modulated input. -/
theorem hKept_at : (hKept (F := Ideal) (grid0.coords t) (iblk m c 0 t) (iblk m c 1 t) (iblk m c 2 t) : S768x1024.Idx → EReal) (ix2 r d) = (args m c).h (pb t) (tk t r) d := by
  rw [hKept_eq, row_blk, row_blk, tokRow_x, blk0, blk2]
  rfl

end Entries

/-- After every point the kept input is the modulated input of the point's tokens. -/
theorem h_at (r : Fin 768) (d : Fin 1024) : ∀ (n : ℕ) (h : n < cfg0.N), hAt m c n h (ix2 r d) = (args m c).h (pb ⟨n, h⟩) (tk ⟨n, h⟩ r) d := by
  intro n
  induction n with
  | zero => exact fun h => (congrFun (h_first m c ⟨0, h⟩ rfl) _).trans (hKept_at m c ⟨0, h⟩ r d)
  | succ n ih =>
    intro h
    by_cases h0 : (n + 1) % 11 = 0
    · exact (congrFun (h_first m c ⟨n + 1, h⟩ h0) _).trans (hKept_at m c ⟨n + 1, h⟩ r d)
    · refine (congrFun (h_next m c ⟨n + 1, h⟩ h0) _).trans ((ih (Nat.lt_of_succ_lt h)).trans ?_)
      unfold tk
      rw [← pb_prev ⟨n + 1, h⟩ h0, ← pj_prev ⟨n + 1, h⟩ h0]
      rfl

section Entries
variable (t : Fin cfg0.N) (r : Fin 768) (d : Fin 1024) (q : Fin 256)

/-- The gate's product at a point, -/
theorem gate_sum : (∑ d, hAt m c t.val t.isLt (ix2 r d) * (iblk m c 4 t : Vec Ideal S256x1024 .bf16) (ix2 q d) : EReal) = (args m c).gate (pb t) (tk t r) (col t q) :=
  Finset.sum_congr rfl fun d _ => by rw [h_at, blk4]
/-- and the up product. -/
theorem up_sum : (∑ d, hAt m c t.val t.isLt (ix2 r d) * (iblk m c 5 t : Vec Ideal S256x1024 .bf16) (ix2 q d) : EReal) = (args m c).up (pb t) (tk t r) (col t q) :=
  Finset.sum_congr rfl fun d _ => by rw [h_at, blk5]

theorem gate_at : (k0_pay17 (F := Ideal) (hAt m c t.val t.isLt) (iblk m c 4 t) : S1x768x256.Idx → EReal) (ix3 0 r q) = (args m c).gate (pb t) (tk t r) (col t q) :=
  (pay17_eq _ _ r q).trans (gate_sum m c t r q)
theorem up_at : (k0_pay18 (F := Ideal) (hAt m c t.val t.isLt) (iblk m c 5 t) : S1x768x256.Idx → EReal) (ix3 0 r q) = (args m c).up (pb t) (tk t r) (col t q) :=
  (pay18_eq _ _ r q).trans (up_sum m c t r q)

end Entries

/-! ## The accumulated down product -/

/-- The term that a column of the feed-forward width adds, -/
def actTerm (A : Args) (b : Fin 4) (s : Fin 2304) (d : Fin 1024) (n : ℕ) : EReal := if h : n < 2816 then A.act b s ⟨n, h⟩ * A.wd ⟨n, h⟩ d else 0
/-- and what chunk `n` of 256 columns adds. -/
def chunk (A : Args) (b : Fin 4) (s : Fin 2304) (d : Fin 1024) (n : ℕ) : EReal := ∑ q : Fin 256, actTerm A b s d (256 * n + q.val)

/-- The eleven chunks are the whole width. -/
theorem chunks (A : Args) (b : Fin 4) (s : Fin 2304) (d : Fin 1024) : ∑ n ∈ Finset.range 11, chunk A b s d n = A.f b s d := by
  unfold chunk Args.f
  rw [Sums.sum_blocks_fin 2816 256 11 (by norm_num) (actTerm A b s d)]
  exact Finset.sum_congr rfl fun k _ => dif_pos k.isLt

/-- A point adds its chunk to the accumulator that it finds. -/
theorem add_chunk (t : Fin cfg0.N) (a : S768x1024.Idx → EReal) (r : Fin 768) (d : Fin 1024) :
    (k0_pay19 (F := Ideal) (hAt m c t.val t.isLt) (iblk m c 4 t) (iblk m c 5 t) a (iblk m c 6 t) : S768x1024.Idx → EReal) (ix2 r d)
      = a (ix2 r d) + chunk (args m c) (pb t) (tk t r) d (t.val % 11) := by
  rw [pay19_eq]
  congr 1
  refine Finset.sum_congr rfl fun q _ => ?_
  rw [pay15_eq, pay16_eq, gate_sum, up_sum, blk6]
  unfold actTerm
  rw [dif_pos (show 256 * (t.val % 11) + q.val < 2816 from (col t q).isLt)]
  rfl

/-- After a point the accumulator holds the tile's chunks up to the point's. -/
theorem acc_at (r : Fin 768) (d : Fin 1024) : ∀ (n : ℕ) (h : n < cfg0.N),
    accAt m c n h (ix2 r d) = ∑ s ∈ Finset.range (n % 11 + 1), chunk (args m c) (pb ⟨n, h⟩) (tk ⟨n, h⟩ r) d s := by
  have first : ∀ (n : ℕ) (h : n < cfg0.N), n % 11 = 0 →
      accAt m c n h (ix2 r d) = ∑ s ∈ Finset.range (n % 11 + 1), chunk (args m c) (pb ⟨n, h⟩) (tk ⟨n, h⟩ r) d s := by
    intro n h h0
    refine (congrFun (acc_first m c ⟨n, h⟩ h0) _).trans ((add_chunk m c ⟨n, h⟩ _ r d).trans ?_)
    rw [pay14_eq, zero_add, h0, zero_add, Finset.sum_range_one]
  intro n
  induction n with
  | zero => exact fun h => first 0 h rfl
  | succ n ih =>
    intro h
    by_cases h0 : (n + 1) % 11 = 0
    · exact first (n + 1) h h0
    · refine (congrFun (acc_next m c ⟨n + 1, h⟩ h0) _).trans ((add_chunk m c ⟨n + 1, h⟩ _ r d).trans ?_)
      rw [Finset.sum_range_succ]
      congr 1
      refine (ih (Nat.lt_of_succ_lt h)).trans ?_
      unfold tk
      rw [← pb_prev ⟨n + 1, h⟩ h0, ← pj_prev ⟨n + 1, h⟩ h0, show (n + 1) % 11 = n % 11 + 1 by omega]
      rfl

section Last
variable (t : Fin cfg0.N) (h1 : t.val % 11 = 10) (r : Fin 768) (d : Fin 1024)
include h1

/-- At a tile's last point the accumulator is the down product, -/
theorem acc_last : accAt m c t.val t.isLt (ix2 r d) = (args m c).f (pb t) (tk t r) d := by
  rw [acc_at, h1]; exact chunks _ _ _ _

theorem accRow_last : accRow (accAt m c t.val t.isLt) r = (args m c).f (pb t) (tk t r) := funext fun d => acc_last m c t h1 r d

/-- and the stored block the layer's output. -/
theorem x2_at : (x2Out (F := Ideal) (grid0.coords t) (accAt m c t.val t.isLt) (iblk m c 0 t) (iblk m c 1 t) (iblk m c 3 t) : S1x768x1024.Idx → EReal) (ix3 0 r d)
    = (args m c).x (pb t) (tk t r) d + (args m c).row 5 (pb t) (tk t r) d * ((args m c).fn (pb t) (tk t r) d * (args m c).n4 d) := by
  rw [x2Out_eq, row_blk, accRow_last m c t h1, acc_last m c t h1, blk0, blk3]
  rfl

end Last

end Cert.FfnForward

end
-- ==== Proof.FwdArrays.lean ====
/- The result arrays after the run, entry by entry. -/
module

public import proofs.«01_k».proof.Proof.FwdPoint
public import Idealize.ShloMosaic.Lib.Pipeline.ValueKit

@[expose] public section

set_option maxRecDepth 16384

noncomputable section

namespace Cert.FfnForward

open Idealize.ShloMosaic Idealize.ShloMosaic.TcCoe Idealize.SL.Sem Cert.Kernel3Ideal Cert.Kernel3Ideal.Gen
open Cert.FfnGrad (Args invRms)

variable (m : (ℓ : Loc nD τ sig) → Buf (Elt Ideal) ℓ) (c : Dev nD)

/-- The layer's output. -/
def G7 : S4x2304x1024.Idx → EReal := fun i => (args m c).x (i 0) (i 1) (i 2) + (args m c).row 5 (i 0) (i 1) (i 2) * ((args m c).fn (i 0) (i 1) (i 2) * (args m c).n4 (i 2))
/-- The down product. -/
def G8 : S4x2304x1024.Idx → EReal := fun i => (args m c).f (i 0) (i 1) (i 2)
/-- The gate's product. -/
def G9 : S4x2304x2816.Idx → EReal := fun i => (args m c).gate (i 0) (i 1) (i 2)
/-- The up product. -/
def G10 : S4x2304x2816.Idx → EReal := fun i => (args m c).up (i 0) (i 1) (i 2)

theorem ix_7 : ∀ t : Fin cfg0.N, win0_7.index t (0 : Fin 3) = t.val / 33 ∧ win0_7.index t (1 : Fin 3) = t.val / 11 % 3 ∧ win0_7.index t (2 : Fin 3) = 0 :=
  (by decide +kernel : ∀ t : Fin grid0.N, _)

/-- The layer's output after the run. -/
theorem arr7 : (dats m 0 c).arrAt 7 cfg0.N = G7 m c := by
  refine (dats m 0 c).arrAt_eq_of_covers 7 _ (by decide +kernel) fun t hf y => ?_
  rw [after0_7]
  have y0 : (y 0).val = 0 := Nat.lt_one_iff.mp (y 0).isLt
  have ey : (cfg0.win 7).xinj (grid0.coords t) y = ix3 0 (y 1) (y 2) := funext fun a => Fin.ext (by
    match a with
    | ⟨0, _⟩ => exact y0
    | ⟨1, _⟩ => rfl
    | ⟨2, _⟩ => rfl)
  have ez : ((cfg0.win 7).blk t).view.emb y = ix3 (pb t) (tk t (y 1)) (y 2) := funext fun a => Fin.ext (by
    match a with
    | ⟨0, _⟩ => show win0_7.index t 0 * 1 + 1 * (y 0).val = t.val / 33; rw [(ix_7 t).1, y0]; omega
    | ⟨1, _⟩ => show win0_7.index t 1 * 768 + 1 * (y 1).val = 768 * (t.val / 11 % 3) + (y 1).val; rw [(ix_7 t).2.1]; omega
    | ⟨2, _⟩ => show win0_7.index t 2 * 1024 + 1 * (y 2).val = (y 2).val; rw [(ix_7 t).2.2]; omega)
  rw [ey, ez]
  have h1 := (flush0_7 t).mp hf
  exact (congrFun (x2_point m c t (by omega) h1) _).trans (x2_at m c t h1 (y 1) (y 2))

theorem ix_8 : ∀ t : Fin cfg0.N, win0_8.index t (0 : Fin 3) = t.val / 33 ∧ win0_8.index t (1 : Fin 3) = t.val / 11 % 3 ∧ win0_8.index t (2 : Fin 3) = 0 :=
  (by decide +kernel : ∀ t : Fin grid0.N, _)

/-- The down product after the run. -/
theorem arr8 : (dats m 0 c).arrAt 8 cfg0.N = G8 m c := by
  refine (dats m 0 c).arrAt_eq_of_covers 8 _ (by decide +kernel) fun t hf y => ?_
  rw [after0_8]
  have y0 : (y 0).val = 0 := Nat.lt_one_iff.mp (y 0).isLt
  have ey : (cfg0.win 8).xinj (grid0.coords t) y = ix3 0 (y 1) (y 2) := funext fun a => Fin.ext (by
    match a with
    | ⟨0, _⟩ => exact y0
    | ⟨1, _⟩ => rfl
    | ⟨2, _⟩ => rfl)
  have ez : ((cfg0.win 8).blk t).view.emb y = ix3 (pb t) (tk t (y 1)) (y 2) := funext fun a => Fin.ext (by
    match a with
    | ⟨0, _⟩ => show win0_8.index t 0 * 1 + 1 * (y 0).val = t.val / 33; rw [(ix_8 t).1, y0]; omega
    | ⟨1, _⟩ => show win0_8.index t 1 * 768 + 1 * (y 1).val = 768 * (t.val / 11 % 3) + (y 1).val; rw [(ix_8 t).2.1]; omega
    | ⟨2, _⟩ => show win0_8.index t 2 * 1024 + 1 * (y 2).val = (y 2).val; rw [(ix_8 t).2.2]; omega)
  rw [ey, ez]
  have h1 := (flush0_8 t).mp hf
  exact (congrFun (f_point m c t (by omega) h1) _).trans ((pay7_eq _ _ _).trans (acc_last m c t h1 (y 1) (y 2)))

theorem ix_9 : ∀ t : Fin cfg0.N, win0_9.index t (0 : Fin 3) = t.val / 33 ∧ win0_9.index t (1 : Fin 3) = t.val / 11 % 3 ∧ win0_9.index t (2 : Fin 3) = t.val % 11 :=
  (by decide +kernel : ∀ t : Fin grid0.N, _)

/-- The gate's product after the run. -/
theorem arr9 : (dats m 0 c).arrAt 9 cfg0.N = G9 m c := by
  refine (dats m 0 c).arrAt_eq_of_covers 9 _ (by decide +kernel) fun t hf y => ?_
  rw [after0_9]
  have y0 : (y 0).val = 0 := Nat.lt_one_iff.mp (y 0).isLt
  have ey : (cfg0.win 9).xinj (grid0.coords t) y = ix3 0 (y 1) (y 2) := funext fun a => Fin.ext (by
    match a with
    | ⟨0, _⟩ => exact y0
    | ⟨1, _⟩ => rfl
    | ⟨2, _⟩ => rfl)
  have ez : ((cfg0.win 9).blk t).view.emb y = ix3 (pb t) (tk t (y 1)) (col t (y 2)) := funext fun a => Fin.ext (by
    match a with
    | ⟨0, _⟩ => show win0_9.index t 0 * 1 + 1 * (y 0).val = t.val / 33; rw [(ix_9 t).1, y0]; omega
    | ⟨1, _⟩ => show win0_9.index t 1 * 768 + 1 * (y 1).val = 768 * (t.val / 11 % 3) + (y 1).val; rw [(ix_9 t).2.1]; omega
    | ⟨2, _⟩ => show win0_9.index t 2 * 256 + 1 * (y 2).val = 256 * (t.val % 11) + (y 2).val; rw [(ix_9 t).2.2]; omega)
  rw [ey, ez]
  exact (congrFun (gate_point m c t) _).trans (gate_at m c t (y 1) (y 2))

theorem ix_10 : ∀ t : Fin cfg0.N, win0_10.index t (0 : Fin 3) = t.val / 33 ∧ win0_10.index t (1 : Fin 3) = t.val / 11 % 3 ∧ win0_10.index t (2 : Fin 3) = t.val % 11 :=
  (by decide +kernel : ∀ t : Fin grid0.N, _)

/-- The up product after the run. -/
theorem arr10 : (dats m 0 c).arrAt 10 cfg0.N = G10 m c := by
  refine (dats m 0 c).arrAt_eq_of_covers 10 _ (by decide +kernel) fun t hf y => ?_
  rw [after0_10]
  have y0 : (y 0).val = 0 := Nat.lt_one_iff.mp (y 0).isLt
  have ey : (cfg0.win 10).xinj (grid0.coords t) y = ix3 0 (y 1) (y 2) := funext fun a => Fin.ext (by
    match a with
    | ⟨0, _⟩ => exact y0
    | ⟨1, _⟩ => rfl
    | ⟨2, _⟩ => rfl)
  have ez : ((cfg0.win 10).blk t).view.emb y = ix3 (pb t) (tk t (y 1)) (col t (y 2)) := funext fun a => Fin.ext (by
    match a with
    | ⟨0, _⟩ => show win0_10.index t 0 * 1 + 1 * (y 0).val = t.val / 33; rw [(ix_10 t).1, y0]; omega
    | ⟨1, _⟩ => show win0_10.index t 1 * 768 + 1 * (y 1).val = 768 * (t.val / 11 % 3) + (y 1).val; rw [(ix_10 t).2.1]; omega
    | ⟨2, _⟩ => show win0_10.index t 2 * 256 + 1 * (y 2).val = 256 * (t.val % 11) + (y 2).val; rw [(ix_10 t).2.2]; omega)
  rw [ey, ez]
  exact (congrFun (up_point m c t) _).trans (up_at m c t (y 1) (y 2))

end Cert.FfnForward

end
-- ==== Proof.FwdRef.lean ====
/- The reference's values, entry by entry. -/
module

public import proofs.«01_k».proof.Proof.Gen.Reference3Ideal.Run
public import proofs.«01_k».proof.Proof.FfnMath
public import Idealize.ShloMosaic.Lib.Pointwise
public import Idealize.ShloMosaic.Lib.Pipeline.Value
public import Idealize.ShloMosaic.Lib.Tactic
public import Idealize.ShloMosaic.Lib.WordCmp

@[expose] public section

noncomputable section

namespace Cert.FfnForward.Plain

open Idealize.ShloMosaic Idealize.SL.Sem Cert.Reference3Ideal Cert.Reference3Ideal.Gen Cert.Reference3Ideal.Value
open Cert.FfnGrad (Args invRms meanSq)

abbrev Tokens := FVec Ideal S4x2304x1024 .f32
abbrev Wide := FVec Ideal S4x2304x2816 .f32

/-! ## The pieces -/

/-- Every token's guarded mean square, -/
def meanSqs (a : Tokens) : FVec Ideal S4x2304x1 .f32 :=
  addf (Host.divf (broadcastInDim S4x2304x1 ![0, 1] bcast_S4x2304_S4x2304x1_0_1 (Host.reduceAdd (mulf a a) (constant S_ .f32 0x00000000#32) reducesTo_S4x2304x1024_S4x2304_d2 h_S_))
    (broadcastInDim S4x2304x1 ![] bcast_S_S4x2304x1 (constant S_ .f32 0x44800000#32))) (broadcastInDim S4x2304x1 ![] bcast_S_S4x2304x1 (constant S_ .f32 0x358637BD#32))
/-- the normalised tokens, -/
def normed (a : Tokens) : Tokens := mulf a (broadcastInDim S4x2304x1024 ![0, 1, 2] bcast_S4x2304x1_S4x2304x1024_0_1_2 (Host.rsqrt (meanSqs a)))
/-- a gain at every token, -/
def gains (n : FVec Ideal S1x1024 .f32) : Tokens :=
  broadcastInDim S4x2304x1024 ![0, 1, 2] bcast_S1x1x1024_S4x2304x1024_0_1_2 (broadcastInDim S1x1x1024 ![1, 2] bcast_S1x1024_S1x1x1024_1_2 n)
/-- the shift rows, -/
def shifts (md : FVec Ideal S4x2x8x1024 .f32) : Tokens :=
  concatenate S4x2304x1024 1 [⟨S4x256x1024, (broadcastInDim S4x256x1024 ![0, 1, 2] bcast_S4x1x1024_S4x256x1024_0_1_2 (shapeCast _ (extractStridedSlice S4x1x1x1024 ![0, 0, 3, 0] md slices_S4x2x8x1024_S4x1x1x1024_0_0_3_0) shapeCasts_S4x1x1x1024_S4x1x1024))⟩,
    ⟨S4x2048x1024, (broadcastInDim S4x2048x1024 ![0, 1, 2] bcast_S4x1x1024_S4x2048x1024_0_1_2 (shapeCast _ (extractStridedSlice S4x1x1x1024 ![0, 1, 3, 0] md slices_S4x2x8x1024_S4x1x1x1024_0_1_3_0) shapeCasts_S4x1x1x1024_S4x1x1024))⟩] concatenates_S4x256x1024_S4x2048x1024_S4x2304x1024_d1
/-- the scale rows, -/
def scales (md : FVec Ideal S4x2x8x1024 .f32) : Tokens :=
  concatenate S4x2304x1024 1 [⟨S4x256x1024, (broadcastInDim S4x256x1024 ![0, 1, 2] bcast_S4x1x1024_S4x256x1024_0_1_2 (shapeCast _ (extractStridedSlice S4x1x1x1024 ![0, 0, 4, 0] md slices_S4x2x8x1024_S4x1x1x1024_0_0_4_0) shapeCasts_S4x1x1x1024_S4x1x1024))⟩,
    ⟨S4x2048x1024, (broadcastInDim S4x2048x1024 ![0, 1, 2] bcast_S4x1x1024_S4x2048x1024_0_1_2 (shapeCast _ (extractStridedSlice S4x1x1x1024 ![0, 1, 4, 0] md slices_S4x2x8x1024_S4x1x1x1024_0_1_4_0) shapeCasts_S4x1x1x1024_S4x1x1024))⟩] concatenates_S4x256x1024_S4x2048x1024_S4x2304x1024_d1
/-- the output gate rows, -/
def gates (md : FVec Ideal S4x2x8x1024 .f32) : Tokens :=
  concatenate S4x2304x1024 1 [⟨S4x256x1024, (broadcastInDim S4x256x1024 ![0, 1, 2] bcast_S4x1x1024_S4x256x1024_0_1_2 (shapeCast _ (extractStridedSlice S4x1x1x1024 ![0, 0, 5, 0] md slices_S4x2x8x1024_S4x1x1x1024_0_0_5_0) shapeCasts_S4x1x1x1024_S4x1x1024))⟩,
    ⟨S4x2048x1024, (broadcastInDim S4x2048x1024 ![0, 1, 2] bcast_S4x1x1024_S4x2048x1024_0_1_2 (shapeCast _ (extractStridedSlice S4x1x1x1024 ![0, 1, 5, 0] md slices_S4x2x8x1024_S4x1x1x1024_0_1_5_0) shapeCasts_S4x1x1x1024_S4x1x1024))⟩] concatenates_S4x256x1024_S4x2048x1024_S4x2304x1024_d1
/-- the modulated input, -/
def hidden (x : Tokens) (md : FVec Ideal S4x2x8x1024 .f32) (n : FVec Ideal S1x1024 .f32) : Tokens :=
  addf (mulf (mulf (normed x) (gains n)) (addf (broadcastInDim S4x2304x1024 ![] bcast_S_S4x2304x1024 (constant S_ .f32 0x3F800000#32)) (scales md))) (shifts md)
/-- a product with a weight, -/
def product (h : Tokens) (w : FVec Ideal S1024x2816 .f32) : Wide := Host.dotGeneral dot_S4x2304x1024_S1024x2816_S4x2304x2816_2_0_01_1_n_n none h w
/-- the logistic function, -/
def logistics (g : Wide) : Wide :=
  Host.divf (broadcastInDim S4x2304x2816 ![] bcast_S_S4x2304x2816 (constant S_ .f32 0x3F800000#32))
    (addf (broadcastInDim S4x2304x2816 ![] bcast_S_S4x2304x2816 (constant S_ .f32 0x3F800000#32)) (Host.exp (Host.negf g)))
/-- the down product, -/
def down (g u : Wide) (w : FVec Ideal S2816x1024 .f32) : Tokens :=
  Host.dotGeneral dot_S4x2304x2816_S2816x1024_S4x2304x1024_2_0_01_1_n_n none (mulf (mulf g (logistics g)) u) w
/-- and the output. -/
def output (x : Tokens) (md : FVec Ideal S4x2x8x1024 .f32) (f : Tokens) (n : FVec Ideal S1x1024 .f32) : Tokens := addf x (mulf (gates md) (mulf (normed f) (gains n)))

section Pieces
variable (x : S4x2304x1024.Idx → EReal) (md : S4x2x8x1024.Idx → EReal) (n : S1x1024.Idx → EReal) (b : Fin 4) (s : Fin 2304) (d : Fin 1024) (k : Fin 2816)
  (w : S1024x2816.Idx → EReal) (g u : S4x2304x2816.Idx → EReal) (wd : S2816x1024.Idx → EReal)

/-- A token's vector. -/
abbrev token (x : S4x2304x1024.Idx → EReal) (b : Fin 4) (s : Fin 2304) : Fin 1024 → EReal := fun d => x (ix3 b s d)

theorem meanSqs_eq : (meanSqs x : S4x2304x1.Idx → EReal) (ix3 b s 0) = meanSq (token x b s) := by
  unfold meanSqs; pointwise; rfl
theorem normed_eq : (normed x : S4x2304x1024.Idx → EReal) (ix3 b s d) = x (ix3 b s d) * invRms (token x b s) := by
  unfold normed; pointwise; exact congrArg (fun z => x (ix3 b s d) * Ideal.rsqrt z) (meanSqs_eq x b s)
theorem gains_eq : (gains n : S4x2304x1024.Idx → EReal) (ix3 b s d) = n (ix2 0 d) := by
  unfold gains; pointwise
theorem shifts_eq : (shifts md : S4x2304x1024.Idx → EReal) (ix3 b s d) = if s.val < 256 then md (ix4 b 0 3 d) else md (ix4 b 1 3 d) := by
  unfold shifts; pointwise; rfl
theorem scales_eq : (scales md : S4x2304x1024.Idx → EReal) (ix3 b s d) = if s.val < 256 then md (ix4 b 0 4 d) else md (ix4 b 1 4 d) := by
  unfold scales; pointwise; rfl
theorem gates_eq : (gates md : S4x2304x1024.Idx → EReal) (ix3 b s d) = if s.val < 256 then md (ix4 b 0 5 d) else md (ix4 b 1 5 d) := by
  unfold gates; pointwise; rfl
theorem hidden_eq : (hidden x md n : S4x2304x1024.Idx → EReal) (ix3 b s d) = x (ix3 b s d) * invRms (token x b s) * n (ix2 0 d)
    * (1 + if s.val < 256 then md (ix4 b 0 4 d) else md (ix4 b 1 4 d)) + if s.val < 256 then md (ix4 b 0 3 d) else md (ix4 b 1 3 d) := by
  unfold hidden; pointwise
  exact congrArg₂ (· + ·) (congrArg₂ (· * ·) (congrArg₂ (· * ·) (normed_eq x b s d) (gains_eq n b s d)) (congrArg (1 + ·) (scales_eq md b s d))) (shifts_eq md b s d)
theorem product_eq : (product x w : S4x2304x2816.Idx → EReal) (ix3 b s k) = ∑ d, x (ix3 b s d) * w (ix2 d k) := by
  unfold product; pointwise
theorem logistics_eq : (logistics g : S4x2304x2816.Idx → EReal) (ix3 b s k) = Ideal.logistic (g (ix3 b s k)) := by
  unfold logistics; pointwise; rfl
theorem down_eq : (down g u wd : S4x2304x1024.Idx → EReal) (ix3 b s d) = ∑ k, g (ix3 b s k) * Ideal.logistic (g (ix3 b s k)) * u (ix3 b s k) * wd (ix2 k d) := by
  unfold down; pointwise
  exact Finset.sum_congr rfl fun k _ => congrArg (fun z => g (ix3 b s k) * z * u (ix3 b s k) * wd (ix2 k d)) (logistics_eq b s k g)
theorem output_eq (f : S4x2304x1024.Idx → EReal) : (output x md f n : S4x2304x1024.Idx → EReal) (ix3 b s d) = x (ix3 b s d)
    + (if s.val < 256 then md (ix4 b 0 5 d) else md (ix4 b 1 5 d)) * (f (ix3 b s d) * invRms (token f b s) * n (ix2 0 d)) := by
  unfold output; pointwise
  exact congrArg (x (ix3 b s d) + ·) (congrArg₂ (· * ·) (gates_eq md b s d) (congrArg₂ (· * ·) (normed_eq f b s d) (gains_eq n b s d)))

end Pieces

/-! ## The results -/

section Results
variable (m : (ℓ : Loc nD τ sig) → Buf (Elt Ideal) ℓ) (c : Dev nD)

abbrev a0 : S4x2304x1024.Idx → EReal := m ((c.tc : Thread nD τ).loc main_arg0)
abbrev a1 : S4x2x8x1024.Idx → EReal := m ((c.tc : Thread nD τ).loc main_arg1)
abbrev a2 : S1x1024.Idx → EReal := m ((c.tc : Thread nD τ).loc main_arg2)
abbrev a3 : S1x1024.Idx → EReal := m ((c.tc : Thread nD τ).loc main_arg3)
abbrev a4 : S1024x2816.Idx → EReal := m ((c.tc : Thread nD τ).loc main_arg4)
abbrev a5 : S1024x2816.Idx → EReal := m ((c.tc : Thread nD τ).loc main_arg5)
abbrev a6 : S2816x1024.Idx → EReal := m ((c.tc : Thread nD τ).loc main_arg6)

/-- The arguments' entries. The forward pass has no gradient among them. -/
def args : Args where
  dx _ _ _ := 0
  x b s d := a0 m c (ix3 b s d)
  mod b k j d := a1 m c (ix4 b k j d)
  n3 d := a2 m c (ix2 0 d)
  n4 d := a3 m c (ix2 0 d)
  wg d k := a4 m c (ix2 d k)
  wu d k := a5 m c (ix2 d k)
  wd k d := a6 m c (ix2 k d)

/-- The modulated input, -/
def outH : Tokens := hidden (a0 m c) (a1 m c) (a2 m c)
/-- the gate's product, -/
def outGate : Wide := product (outH m c) (a4 m c)
/-- the up product, -/
def outUp : Wide := product (outH m c) (a5 m c)
/-- the down product -/
def outF : Tokens := down (outGate m c) (outUp m c) (a6 m c)
/-- and the output. -/
def outX : Tokens := output (a0 m c) (a1 m c) (outF m c) (a3 m c)

section Entries
variable (b : Fin 4) (s : Fin 2304) (d : Fin 1024) (k : Fin 2816)

theorem outH_eq : (outH m c : S4x2304x1024.Idx → EReal) (ix3 b s d) = (args m c).h b s d := hidden_eq _ _ _ b s d
theorem outGate_eq : (outGate m c : S4x2304x2816.Idx → EReal) (ix3 b s k) = (args m c).gate b s k :=
  (product_eq _ b s k _).trans (Finset.sum_congr rfl fun d _ => congrArg (· * _) (outH_eq m c b s d))
theorem outUp_eq : (outUp m c : S4x2304x2816.Idx → EReal) (ix3 b s k) = (args m c).up b s k :=
  (product_eq _ b s k _).trans (Finset.sum_congr rfl fun d _ => congrArg (· * _) (outH_eq m c b s d))
theorem outF_eq : (outF m c : S4x2304x1024.Idx → EReal) (ix3 b s d) = (args m c).f b s d := by
  refine (down_eq b s d _ _ _).trans (Finset.sum_congr rfl fun k _ => ?_)
  rw [outGate_eq, outUp_eq]
  rfl
theorem outX_eq : (outX m c : S4x2304x1024.Idx → EReal) (ix3 b s d)
    = (args m c).x b s d + (args m c).row 5 b s d * ((args m c).fn b s d * (args m c).n4 d) := by
  refine (output_eq _ _ _ b s d _).trans ?_
  rw [outF_eq, show token (outF m c) b s = (args m c).f b s from funext fun d => outF_eq m c b s d]
  rfl

end Entries

/-- The run's results are these. -/
theorem run_out (ρ : Dev nD → PrngReg) :
    θ_run defs (onTc (τ := τ) (main (F := Ideal))) ⟨m, fun _ => 0, ρ⟩ (fun r => ∀ c : Dev nD,
      r.2.mem ((c.tc : Thread nD τ).loc main_v57) = outX m c
      ∧ r.2.mem ((c.tc : Thread nD τ).loc main_v35) = outF m c
      ∧ r.2.mem ((c.tc : Thread nD τ).loc main_v58) = truncf (F := Ideal) .bf16 (outGate m c) bitsLt_bf16_f32
      ∧ r.2.mem ((c.tc : Thread nD τ).loc main_v59) = truncf (F := Ideal) .bf16 (outUp m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => h c) (Cert.Reference3Ideal.Value.run (F := Ideal) m ρ)

end Results

end Cert.FfnForward.Plain

end
-- ==== Proof.FwdAlgebraic.lean ====
/- The feed-forward layer's forward pass: kernel and reference end with the same four arrays. -/
module

public import proofs.«01_k».proof.Defs
public import proofs.«01_k».proof.Proof.FwdArrays
public import proofs.«01_k».proof.Proof.FwdRef
public import Idealize.ShloMosaic.Lib.Claim
public import Idealize.ShloMosaic.Lib.Quiescent

@[expose] public section

set_option maxRecDepth 16384

noncomputable section

namespace Cert.FfnForward

open Idealize.ShloMosaic Idealize.ShloMosaic.TcCoe Idealize.SL.Sem
open Cert.FfnGrad (Args)

section Kernel
open Cert.Kernel3Ideal Cert.Kernel3Ideal.Gen

/-- A run that ends with the arrays at what some proof data say ends with the four results there. -/
theorem results_of (m : (ℓ : Loc nD τ sig) → Buf (Elt Ideal) ℓ) (ρ : Dev nD → PrngReg)
    (dats : (p : Fin 1) → (c : Dev nD) → Pipeline.Dat τ (Elt Ideal) Unit ℕ (UR sig nD τ) ℕ (cfgs p) c)
    (h : θ_run defs (onTc (τ := τ) (main (F := Ideal))) (s₀ m ρ) (Pipeline.FramePost cfgs dats 0 (V m))) :
    θ_run defs (onTc (τ := τ) (main (F := Ideal))) ⟨m, fun _ => 0, ρ⟩ (fun r => ∀ c : Dev nD,
      r.2.mem ((c.tc : Thread nD τ).loc main_v5_0) = (dats 0 c).arrAt 7 cfg0.N
      ∧ r.2.mem ((c.tc : Thread nD τ).loc main_v5_1) = (dats 0 c).arrAt 8 cfg0.N
      ∧ r.2.mem ((c.tc : Thread nD τ).loc main_v5_2) = (dats 0 c).arrAt 9 cfg0.N
      ∧ r.2.mem ((c.tc : Thread nD τ).loc main_v5_3) = (dats 0 c).arrAt 10 cfg0.N) :=
  (θ_run defs _ _).mono (fun _ h c => ⟨(h c).1 7, (h c).1 8, (h c).1 9, (h c).1 10⟩) h

/-- The kernel ends with the four arrays of the mathematics. -/
theorem kernel_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v5_0) = G7 m c
      ∧ r.2.mem ((c.tc : Thread nD τ).loc main_v5_1) = G8 m c
      ∧ r.2.mem ((c.tc : Thread nD τ).loc main_v5_2) = G9 m c
      ∧ r.2.mem ((c.tc : Thread nD τ).loc main_v5_3) = G10 m c) := by
  refine (θ_run defs _ _).mono (fun r h c => ?_) (results_of m ρ (dats m) (run_main m ρ))
  have hc := h c
  rw [arr7 m c, arr8 m c, arr9 m c, arr10 m c] at hc
  exact hc

end Kernel

/-- The reference's frame. -/
theorem frame_reference : quiescent_Reference3Ideal := fun m ρ _ =>
  (θ_run Cert.Reference3Ideal.defs _ _).mono
    (fun r h => ⟨fun c => (h c).2.2.2.2, Idealize.ShloMosaic.sem_eq_zero_of_no_sems (by decide) r.2⟩)
    (Plain.run_out m ρ)

section Entries
open Cert.Reference3Ideal Cert.Reference3Ideal.Gen
variable (m : (ℓ : Loc Cert.Kernel3Ideal.nD Cert.Kernel3Ideal.τ Cert.Kernel3Ideal.sig) → Buf (Elt Ideal) ℓ)
  (m' : (ℓ : Loc nD τ sig) → Buf (Elt Ideal) ℓ) (c : Dev nD) (hA : Plain.args m' c = Cert.FfnForward.args m c)
include hA

/-- The layer's output, -/
theorem same_x : Plain.outX m' c = G7 m c := by
  funext i; idx_vars i
  exact (Plain.outX_eq m' c i0 i1 i2).trans (congrArg (fun A : Args => A.x i0 i1 i2 + A.row 5 i0 i1 i2 * (A.fn i0 i1 i2 * A.n4 i2)) hA)

/-- the down product, -/
theorem same_f : Plain.outF m' c = G8 m c := by
  funext i; idx_vars i
  exact (Plain.outF_eq m' c i0 i1 i2).trans (congrArg (fun A : Args => A.f i0 i1 i2) hA)

/-- the gate's product, -/
theorem same_gate : truncf (F := Ideal) .bf16 (Plain.outGate m' c) bitsLt_bf16_f32 = G9 m c := by
  funext i; idx_vars i
  exact (Plain.outGate_eq m' c i0 i1 i2).trans (congrArg (fun A : Args => A.gate i0 i1 i2) hA)

/-- and the up product are the kernel's. -/
theorem same_up : truncf (F := Ideal) .bf16 (Plain.outUp m' c) bitsLt_bf16_f32 = G10 m c := by
  funext i; idx_vars i
  exact (Plain.outUp_eq m' c i0 i1 i2).trans (congrArg (fun A : Args => A.up i0 i1 i2) hA)

end Entries

/-- Equal argument buffers give equal argument entries. -/
theorem args_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : Plain.a0 m' c = m0 m c) (h1 : Plain.a1 m' c = m1 m c) (h2 : Plain.a2 m' c = m2 m c) (h3 : Plain.a3 m' c = m3 m c)
    (h4 : Plain.a4 m' c = m4 m c) (h5 : Plain.a5 m' c = m5 m c) (h6 : Plain.a6 m' c = m6 m c) : Plain.args m' c = args m c := by
  unfold Plain.args args
  rw [h0, h1, h2, h3, h4, h5, h6]

/-- Kernel and reference end with the same four arrays. -/
theorem algebraic : algebraic_Kernel3Ideal_Reference3Ideal := by
  intro m g m' g' _ hagree
  refine ⟨fun c => G7 m c, fun c => G8 m c, fun c => G9 m c, fun c => G10 m c, ?_, ?_⟩
  · refine (θ_run _ _ _).mono (fun r h c => ?_) (θ_run_and (kernel_arrays m g) (Cert.Kernel3Ideal.Gen.frame (F := Ideal) m g))
    obtain ⟨k0, k1, k2, k3⟩ := h.1 c
    exact ⟨k0, k1, k2, k3, h.2.1 c⟩
  · refine (θ_run _ _ _).mono (fun r h c => ?_) (Plain.run_out m' g')
    obtain ⟨a0, a1, a2, a3, a4, a5, a6⟩ := hagree c
    have hA := args_agree m m' c a0 a1 a2 a3 a4 a5 a6
    obtain ⟨k0, k1, k2, k3, hk⟩ := h c
    exact ⟨k0.trans (same_x m m' c hA), k1.trans (same_f m m' c hA), k2.trans (same_gate m m' c hA), k3.trans (same_up m m' c hA), hk⟩

end Cert.FfnForward

end
-- ==== Proof.MixCases.lean ====
/- What the input projection's body leaves in its three results. -/
module

public import proofs.«01_k».proof.Proof.Gen.Kernel7Ideal.Value
public import Idealize.ShloMosaic.Lib.Pointwise
public import Idealize.ShloMosaic.Lib.Tactic

@[expose] public section

set_option maxRecDepth 16384

noncomputable section

namespace Cert.MixInput

open Idealize.ShloMosaic Idealize.ShloMosaic.TcCoe Idealize.SL.Sem Cert.Kernel7Ideal Cert.Kernel7Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable {F : FTy → Type} [FloatOps F]

/-- The four slabs of 128 columns side by side, as the scratch holds them. -/
def slabs (z : S256x512.Idx → F .f32) : S4x256x128.Idx → F .f32 :=
  fun y => z (ix2 (show Fin 256 from y 1) ⟨128 * (show Fin 4 from y 0).val + (show Fin 128 from y 2).val, by
    have h0 := (show Fin 4 from y 0).isLt; have h2 := (show Fin 128 from y 2).isLt; omega⟩)

/-- Eight consecutive rows side by side, slab by slab. -/
def eights (z : S256x512.Idx → F .f32) : S1x32x4096.Idx → F .f32 :=
  fun y => z (ix2 ⟨8 * (show Fin 32 from y 1).val + (show Fin 4096 from y 2).val / 128 % 8, by
      have h1 := (show Fin 32 from y 1).isLt; omega⟩
    ⟨128 * ((show Fin 4096 from y 2).val / 1024) + (show Fin 4096 from y 2).val % 128, by
      have h2 := (show Fin 4096 from y 2).isLt; omega⟩)

/-- One store into the scratch is its slab. -/
theorem slab_eq (z : FVec F S256x512 .f32) (k n : Nat) (hs : S256x512.Slices ![0, n] S256x128)
    (i : ∀ a, (![k, 0, 0] : Fin 3 → Nat) a + S1x256x128.size a ≤ S4x256x128.size a) (hn : n = 128 * k) (x : S1x256x128.Idx) :
    shapeCast S1x256x128 (extractStridedSlice S256x128 ![0, n] z hs) shapeCasts_S256x128_S1x256x128 x
      = slabs z ((Rect.unit (s := S4x256x128) ![k, 0, 0] S1x256x128.size i).emb x) := by
  subst hn
  have e : Shape.reshapeEquiv shapeCasts_S256x128_S1x256x128 x = ix2 (show Fin 256 from x 1) (show Fin 128 from x 2) :=
    Shape.reshapeEquiv_eq_of_rowMajor _ (by
      rw [Shape.rowMajor_val_three, Shape.rowMajor_val_two]
      have h0 : (x 0).val < 1 := (x 0).isLt
      show (x 1).val * 128 + (x 2).val = ((x 0).val * 256 + (x 1).val) * 128 + (x 2).val
      omega)
  show z (fun a => ⟨_, _⟩) = z _
  refine congrArg z (funext fun a => Fin.ext ?_)
  have h0 : (x 0).val < 1 := (x 0).isLt
  match a with
  | ⟨0, _⟩ =>
    show 0 + ((Shape.reshapeEquiv shapeCasts_S256x128_S1x256x128 x) 0).val = 0 + 1 * (x 1).val
    rw [e]; show 0 + (x 1).val = 0 + 1 * (x 1).val; omega
  | ⟨1, _⟩ =>
    show 128 * k + ((Shape.reshapeEquiv shapeCasts_S256x128_S1x256x128 x) 1).val = 128 * (k + 1 * (x 0).val) + (0 + 1 * (x 2).val)
    rw [e]; show 128 * k + (x 2).val = 128 * (k + 1 * (x 0).val) + (0 + 1 * (x 2).val); omega

/-- The scratch after its four stores. -/
theorem canon_slabs (z : FVec F S256x512 .f32) :
    (View.canon [⟨Rect.unit ![3, 0, 0] ![1, 256, 128] inb_S4x256x128_S1x256x128_3_0_0, k0_pay11 z⟩,
      ⟨Rect.unit ![2, 0, 0] ![1, 256, 128] inb_S4x256x128_S1x256x128_2_0_0, k0_pay10 z⟩,
      ⟨Rect.unit ![1, 0, 0] ![1, 256, 128] inb_S4x256x128_S1x256x128_1_0_0, k0_pay9 z⟩,
      ⟨Rect.unit ![0, 0, 0] ![1, 256, 128] inb_S4x256x128_S1x256x128_0_0_0, k0_pay8 z⟩] : S4x256x128.Idx → Elt F .f32) = slabs z := by
  funext y
  refine View.canon_apply_of_pieces (Val := Elt F) (e := .f32) (slabs z) _ ?_ y ?_
  · intro p hp
    simp only [List.mem_cons, List.not_mem_nil, or_false] at hp
    rcases hp with rfl | rfl | rfl | rfl <;> intro x
    · refine Eq.trans ?_ (slab_eq z 3 384 slices_S256x512_o0_384_S256x128 inb_S4x256x128_S1x256x128_3_0_0 rfl x)
      rfl
    · refine Eq.trans ?_ (slab_eq z 2 256 slices_S256x512_o0_256_S256x128 inb_S4x256x128_S1x256x128_2_0_0 rfl x)
      rfl
    · refine Eq.trans ?_ (slab_eq z 1 128 slices_S256x512_o0_128_S256x128 inb_S4x256x128_S1x256x128_1_0_0 rfl x)
      rfl
    · refine Eq.trans ?_ (slab_eq z 0 0 slices_S256x512_o0_0_S256x128 inb_S4x256x128_S1x256x128_0_0_0 rfl x)
      rfl
  · have h0 := (show Fin 4 from y 0).isLt
    have h1 := (show Fin 256 from y 1).isLt
    have h2 := (show Fin 128 from y 2).isLt
    have key : ∀ k : Nat, (y 0).val = k → ∀ i, y ∈ (Rect.unit (s := S4x256x128) ![k, 0, 0] ![1, 256, 128] i).set := by
      intro k hk i
      rw [Rect.mem_set_unit]
      intro a
      match a with
      | ⟨0, _⟩ => exact ⟨hk.ge, by show (y 0).val < k + 1; omega⟩
      | ⟨1, _⟩ => exact ⟨Nat.zero_le _, by show (y 1).val < 0 + 256; exact (Nat.zero_add 256).symm ▸ h1⟩
      | ⟨2, _⟩ => exact ⟨Nat.zero_le _, by show (y 2).val < 0 + 128; exact (Nat.zero_add 128).symm ▸ h2⟩
    have hc : (y 0).val = 3 ∨ (y 0).val = 2 ∨ (y 0).val = 1 ∨ (y 0).val = 0 := by
      have h0' : (y 0).val < 4 := h0
      omega
    rcases hc with hk | hk | hk | hk
    · exact ⟨_, List.mem_cons_self .., key 3 hk inb_S4x256x128_S1x256x128_3_0_0⟩
    · exact ⟨_, List.mem_cons_of_mem _ (List.mem_cons_self ..), key 2 hk inb_S4x256x128_S1x256x128_2_0_0⟩
    · exact ⟨_, List.mem_cons_of_mem _ (List.mem_cons_of_mem _ (List.mem_cons_self ..)), key 1 hk inb_S4x256x128_S1x256x128_1_0_0⟩
    · exact ⟨_, List.mem_cons_of_mem _ (List.mem_cons_of_mem _ (List.mem_cons_of_mem _ (List.mem_cons_self ..))), key 0 hk inb_S4x256x128_S1x256x128_0_0_0⟩

/-- A store of every eighth row of one slab leaves its part of the rows side by side. -/
theorem store_eights (z : S256x512.Idx → F .f32) (cb s n : Nat) (hcb : cb < 4) (hs : s < 8) (hn : n = 1024 * cb + 128 * s)
    (i1 : ∀ a, (![cb, 0, 0] : Fin 3 → Nat) a + S1x256x128.size a ≤ S4x256x128.size a)
    (i2 : ∀ a, S32x128.size a = 0 ∨ (![s, 0] : Fin 2 → Nat) a + (![8, 1] : Fin 2 → Nat) a * (S32x128.size a - 1) < S256x128.size a)
    (i3 : ∀ a, (![0, 0, n] : Fin 3 → Nat) a + S1x32x128.size a ≤ S1x32x4096.size a)
    (p q w) (h) (x : S1x32x128.Idx) :
    shapeCast S1x32x128 (LoadRect.valAlong (lr := (⟨![s, 0], S32x128.size, ![8, 1], i2⟩ : LoadRect S256x128)) h fun j => slabs z
      (((Rect.unit (s := S4x256x128) ![cb, 0, 0] S1x256x128.size i1).withinL
        ((⟨![s, 0], S32x128.size, ![8, 1], i2⟩ : LoadRect S256x128).consLift S1x256x128.size p q) w).idx j)) shapeCasts_S32x128_S1x32x128 x
      = eights z ((Rect.unit (s := S1x32x4096) ![0, 0, n] S1x32x128.size i3).emb x) := by
  subst hn
  have e : ∀ hh : (⟨3, S1x32x128.size⟩ : Shape).numel = S1x32x128.numel, Shape.reshapeEquiv hh x = x := fun hh => Shape.reshapeEquiv_self hh x
  show slabs z (LoadRect.idx _ (Shape.reshapeEquiv h (Shape.reshapeEquiv shapeCasts_S32x128_S1x32x128 x))) = _
  have e2 : Shape.reshapeEquiv h (Shape.reshapeEquiv shapeCasts_S32x128_S1x32x128 x) = x :=
    (Shape.reshapeEquiv_reshapeEquiv _ _ x).trans (Shape.reshapeEquiv_eq_of_rowMajor _ rfl)
  rw [e2]
  have h0 : (x 0).val < 1 := (x 0).isLt
  have h1 : (x 1).val < 32 := (x 1).isLt
  have h2 : (x 2).val < 128 := (x 2).isLt
  refine congrArg z (funext fun a => Fin.ext ?_)
  match a with
  | ⟨0, _⟩ =>
    show 0 + s + 8 * (x 1).val = 8 * (0 + 1 * (x 1).val) + (1024 * cb + 128 * s + 1 * (x 2).val) / 128 % 8
    omega
  | ⟨1, _⟩ =>
    show 128 * (cb + 0 + 1 * (x 0).val) + (0 + 0 + 1 * (x 2).val) = 128 * ((1024 * cb + 128 * s + 1 * (x 2).val) / 1024) + (1024 * cb + 128 * s + 1 * (x 2).val) % 128
    omega

/-- The tile's shift row. -/
abbrev shiftRow (x1 : Vec F S1x1x8x1024 .f32) : Vec F S1x1x1x1024 .f32 :=
  View.ld x1 (Rect.unit (s := S1x1x8x1024) ![0, 0, 0, 0] S1x1x1x1024.size inb_S1x1x8x1024_S1x1x1x1024_0_0_0_0)

/-- The tile's scale row. -/
abbrev scaleRow (x1 : Vec F S1x1x8x1024 .f32) : Vec F S1x1x1x1024 .f32 :=
  View.ld x1 (Rect.unit (s := S1x1x8x1024) ![0, 0, 1, 0] S1x1x1x1024.size inb_S1x1x8x1024_S1x1x1x1024_0_0_1_0)

variable (c : Dev nD) (i : grid0.Coords) (arg2 : Memref sig .tc .vmem S1x256x1024 .f32) (harg2 : arg2.IsWhole) (arg3 : Memref sig .tc .vmem S1x1x8x1024 .f32) (harg3 : arg3.IsWhole) (arg4 : Memref sig .tc .vmem S1x1024 .f32) (harg4 : arg4.IsWhole) (arg5 : Memref sig .tc .vmem S1280x1024 .bf16) (harg5 : arg5.IsWhole) (arg6 : Memref sig .tc .vmem S1x256x512 .f32) (harg6 : arg6.IsWhole) (arg7 : Memref sig .tc .vmem S1x32x4096 .f32) (harg7 : arg7.IsWhole) (arg8 : Memref sig .tc .vmem S1x256x256 .f32) (harg8 : arg8.IsWhole) (arg9 : Memref sig .tc .vmem S4x256x128 .f32) (harg9 : arg9.IsWhole)
  (x0 : Vec F S1x256x1024 .f32) (x1 : Vec F S1x1x8x1024 .f32) (x2 : Vec F S1x1024 .f32) (x3 : Vec F S1280x1024 .bf16)

/-- The first part of the projection. -/
theorem out_first : out0_A_4 c i arg2 harg2 arg3 harg3 arg4 harg4 arg5 harg5 arg6 harg6 arg7 harg7 arg8 harg8 arg9 harg9 x0 x1 x2 x3
    = k0_pay6 x0 x2 (scaleRow x1) (shiftRow x1) x3 := by
  unfold out0_A_4
  rw [View.read_writes_eq_canon _ _ _ (cover0_A_4 c i arg2 harg2 arg3 harg3 arg4 harg4 arg5 harg5 arg6 harg6 arg7 harg7 arg8 harg8 arg9 harg9 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x256x1024) hz3, View.ld_unit_zero (S := S1x1024) hz2, View.ld_unit_zero (S := S1280x1024) hz2]

/-- The last part. -/
theorem out_last : out0_A_6 c i arg2 harg2 arg3 harg3 arg4 harg4 arg5 harg5 arg6 harg6 arg7 harg7 arg8 harg8 arg9 harg9 x0 x1 x2 x3
    = k0_pay4 (k0_pay5 x0 x2 (scaleRow x1) (shiftRow x1) x3) := by
  unfold out0_A_6
  rw [View.read_writes_eq_canon _ _ _ (cover0_A_6 c i arg2 harg2 arg3 harg3 arg4 harg4 arg5 harg5 arg6 harg6 arg7 harg7 arg8 harg8 arg9 harg9 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x256x1024) hz3, View.ld_unit_zero (S := S1x1024) hz2, View.ld_unit_zero (S := S1280x1024) hz2]

/-- The middle part, eight rows side by side. -/
theorem out_mid : out0_A_5 c i arg2 harg2 arg3 harg3 arg4 harg4 arg5 harg5 arg6 harg6 arg7 harg7 arg8 harg8 arg9 harg9 x0 x1 x2 x3
    = eights (k0_pay7 x0 x2 (scaleRow x1) (shiftRow x1) x3) := by
  unfold out0_A_5
  rw [View.read_writes_eq_canon _ _ _ (cover0_A_5 c i arg2 harg2 arg3 harg3 arg4 harg4 arg5 harg5 arg6 harg6 arg7 harg7 arg8 harg8 arg9 harg9 x0 x1 x2 x3)]
  funext y
  refine View.canon_apply_of_pieces (Val := Elt F) (e := .f32) (eights (k0_pay7 x0 x2 (scaleRow x1) (shiftRow x1) x3)) _ ?_ y
    (cover0_A_5 c i arg2 harg2 arg3 harg3 arg4 harg4 arg5 harg5 arg6 harg6 arg7 harg7 arg8 harg8 arg9 harg9 x0 x1 x2 x3 y)
  unfold kernelRun0_A
  dsimp only
  sl_unfold_words
  simp only [View.readAt_eq_ld, harg2.read_unread, harg3.read_unread, harg4.read_unread, harg5.read_unread,
    View.ld_unit_zero (S := S1x256x1024) hz3, View.ld_unit_zero (S := S1x1024) hz2, View.ld_unit_zero (S := S1280x1024) hz2, View.readCov_eq_canon', canon_slabs]
  refine List.forall_mem_cons.2 ⟨fun x => Eq.trans ?_ (store_eights (F := F) (k0_pay7 x0 x2 (scaleRow x1) (shiftRow x1) x3) 3 7 3968 (by decide) (by decide) rfl inb_S4x256x128_S1x256x128_3_0_0 inb_S256x128_S32x128_7_0_s_8_1 inb_S1x32x4096_S1x32x128_0_0_3968 rfl (by decide) (by decide) rfl x), ?_⟩
  · rfl
  refine List.forall_mem_cons.2 ⟨fun x => Eq.trans ?_ (store_eights (F := F) (k0_pay7 x0 x2 (scaleRow x1) (shiftRow x1) x3) 2 7 2944 (by decide) (by decide) rfl inb_S4x256x128_S1x256x128_2_0_0 inb_S256x128_S32x128_7_0_s_8_1 inb_S1x32x4096_S1x32x128_0_0_2944 rfl (by decide) (by decide) rfl x), ?_⟩
  · rfl
  refine List.forall_mem_cons.2 ⟨fun x => Eq.trans ?_ (store_eights (F := F) (k0_pay7 x0 x2 (scaleRow x1) (shiftRow x1) x3) 1 7 1920 (by decide) (by decide) rfl inb_S4x256x128_S1x256x128_1_0_0 inb_S256x128_S32x128_7_0_s_8_1 inb_S1x32x4096_S1x32x128_0_0_1920 rfl (by decide) (by decide) rfl x), ?_⟩
  · rfl
  refine List.forall_mem_cons.2 ⟨fun x => Eq.trans ?_ (store_eights (F := F) (k0_pay7 x0 x2 (scaleRow x1) (shiftRow x1) x3) 0 7 896 (by decide) (by decide) rfl inb_S4x256x128_S1x256x128_0_0_0 inb_S256x128_S32x128_7_0_s_8_1 inb_S1x32x4096_S1x32x128_0_0_896 rfl (by decide) (by decide) rfl x), ?_⟩
  · rfl
  refine List.forall_mem_cons.2 ⟨fun x => Eq.trans ?_ (store_eights (F := F) (k0_pay7 x0 x2 (scaleRow x1) (shiftRow x1) x3) 3 6 3840 (by decide) (by decide) rfl inb_S4x256x128_S1x256x128_3_0_0 inb_S256x128_S32x128_6_0_s_8_1 inb_S1x32x4096_S1x32x128_0_0_3840 rfl (by decide) (by decide) rfl x), ?_⟩
  · rfl
  refine List.forall_mem_cons.2 ⟨fun x => Eq.trans ?_ (store_eights (F := F) (k0_pay7 x0 x2 (scaleRow x1) (shiftRow x1) x3) 2 6 2816 (by decide) (by decide) rfl inb_S4x256x128_S1x256x128_2_0_0 inb_S256x128_S32x128_6_0_s_8_1 inb_S1x32x4096_S1x32x128_0_0_2816 rfl (by decide) (by decide) rfl x), ?_⟩
  · rfl
  refine List.forall_mem_cons.2 ⟨fun x => Eq.trans ?_ (store_eights (F := F) (k0_pay7 x0 x2 (scaleRow x1) (shiftRow x1) x3) 1 6 1792 (by decide) (by decide) rfl inb_S4x256x128_S1x256x128_1_0_0 inb_S256x128_S32x128_6_0_s_8_1 inb_S1x32x4096_S1x32x128_0_0_1792 rfl (by decide) (by decide) rfl x), ?_⟩
  · rfl
  refine List.forall_mem_cons.2 ⟨fun x => Eq.trans ?_ (store_eights (F := F) (k0_pay7 x0 x2 (scaleRow x1) (shiftRow x1) x3) 0 6 768 (by decide) (by decide) rfl inb_S4x256x128_S1x256x128_0_0_0 inb_S256x128_S32x128_6_0_s_8_1 inb_S1x32x4096_S1x32x128_0_0_768 rfl (by decide) (by decide) rfl x), ?_⟩
  · rfl
  refine List.forall_mem_cons.2 ⟨fun x => Eq.trans ?_ (store_eights (F := F) (k0_pay7 x0 x2 (scaleRow x1) (shiftRow x1) x3) 3 5 3712 (by decide) (by decide) rfl inb_S4x256x128_S1x256x128_3_0_0 inb_S256x128_S32x128_5_0_s_8_1 inb_S1x32x4096_S1x32x128_0_0_3712 rfl (by decide) (by decide) rfl x), ?_⟩
  · rfl
  refine List.forall_mem_cons.2 ⟨fun x => Eq.trans ?_ (store_eights (F := F) (k0_pay7 x0 x2 (scaleRow x1) (shiftRow x1) x3) 2 5 2688 (by decide) (by decide) rfl inb_S4x256x128_S1x256x128_2_0_0 inb_S256x128_S32x128_5_0_s_8_1 inb_S1x32x4096_S1x32x128_0_0_2688 rfl (by decide) (by decide) rfl x), ?_⟩
  · rfl
  refine List.forall_mem_cons.2 ⟨fun x => Eq.trans ?_ (store_eights (F := F) (k0_pay7 x0 x2 (scaleRow x1) (shiftRow x1) x3) 1 5 1664 (by decide) (by decide) rfl inb_S4x256x128_S1x256x128_1_0_0 inb_S256x128_S32x128_5_0_s_8_1 inb_S1x32x4096_S1x32x128_0_0_1664 rfl (by decide) (by decide) rfl x), ?_⟩
  · rfl
  refine List.forall_mem_cons.2 ⟨fun x => Eq.trans ?_ (store_eights (F := F) (k0_pay7 x0 x2 (scaleRow x1) (shiftRow x1) x3) 0 5 640 (by decide) (by decide) rfl inb_S4x256x128_S1x256x128_0_0_0 inb_S256x128_S32x128_5_0_s_8_1 inb_S1x32x4096_S1x32x128_0_0_640 rfl (by decide) (by decide) rfl x), ?_⟩
  · rfl
  refine List.forall_mem_cons.2 ⟨fun x => Eq.trans ?_ (store_eights (F := F) (k0_pay7 x0 x2 (scaleRow x1) (shiftRow x1) x3) 3 4 3584 (by decide) (by decide) rfl inb_S4x256x128_S1x256x128_3_0_0 inb_S256x128_S32x128_4_0_s_8_1 inb_S1x32x4096_S1x32x128_0_0_3584 rfl (by decide) (by decide) rfl x), ?_⟩
  · rfl
  refine List.forall_mem_cons.2 ⟨fun x => Eq.trans ?_ (store_eights (F := F) (k0_pay7 x0 x2 (scaleRow x1) (shiftRow x1) x3) 2 4 2560 (by decide) (by decide) rfl inb_S4x256x128_S1x256x128_2_0_0 inb_S256x128_S32x128_4_0_s_8_1 inb_S1x32x4096_S1x32x128_0_0_2560 rfl (by decide) (by decide) rfl x), ?_⟩
  · rfl
  refine List.forall_mem_cons.2 ⟨fun x => Eq.trans ?_ (store_eights (F := F) (k0_pay7 x0 x2 (scaleRow x1) (shiftRow x1) x3) 1 4 1536 (by decide) (by decide) rfl inb_S4x256x128_S1x256x128_1_0_0 inb_S256x128_S32x128_4_0_s_8_1 inb_S1x32x4096_S1x32x128_0_0_1536 rfl (by decide) (by decide) rfl x), ?_⟩
  · rfl
  refine List.forall_mem_cons.2 ⟨fun x => Eq.trans ?_ (store_eights (F := F) (k0_pay7 x0 x2 (scaleRow x1) (shiftRow x1) x3) 0 4 512 (by decide) (by decide) rfl inb_S4x256x128_S1x256x128_0_0_0 inb_S256x128_S32x128_4_0_s_8_1 inb_S1x32x4096_S1x32x128_0_0_512 rfl (by decide) (by decide) rfl x), ?_⟩
  · rfl
  refine List.forall_mem_cons.2 ⟨fun x => Eq.trans ?_ (store_eights (F := F) (k0_pay7 x0 x2 (scaleRow x1) (shiftRow x1) x3) 3 3 3456 (by decide) (by decide) rfl inb_S4x256x128_S1x256x128_3_0_0 inb_S256x128_S32x128_3_0_s_8_1 inb_S1x32x4096_S1x32x128_0_0_3456 rfl (by decide) (by decide) rfl x), ?_⟩
  · rfl
  refine List.forall_mem_cons.2 ⟨fun x => Eq.trans ?_ (store_eights (F := F) (k0_pay7 x0 x2 (scaleRow x1) (shiftRow x1) x3) 2 3 2432 (by decide) (by decide) rfl inb_S4x256x128_S1x256x128_2_0_0 inb_S256x128_S32x128_3_0_s_8_1 inb_S1x32x4096_S1x32x128_0_0_2432 rfl (by decide) (by decide) rfl x), ?_⟩
  · rfl
  refine List.forall_mem_cons.2 ⟨fun x => Eq.trans ?_ (store_eights (F := F) (k0_pay7 x0 x2 (scaleRow x1) (shiftRow x1) x3) 1 3 1408 (by decide) (by decide) rfl inb_S4x256x128_S1x256x128_1_0_0 inb_S256x128_S32x128_3_0_s_8_1 inb_S1x32x4096_S1x32x128_0_0_1408 rfl (by decide) (by decide) rfl x), ?_⟩
  · rfl
  refine List.forall_mem_cons.2 ⟨fun x => Eq.trans ?_ (store_eights (F := F) (k0_pay7 x0 x2 (scaleRow x1) (shiftRow x1) x3) 0 3 384 (by decide) (by decide) rfl inb_S4x256x128_S1x256x128_0_0_0 inb_S256x128_S32x128_3_0_s_8_1 inb_S1x32x4096_S1x32x128_0_0_384 rfl (by decide) (by decide) rfl x), ?_⟩
  · rfl
  refine List.forall_mem_cons.2 ⟨fun x => Eq.trans ?_ (store_eights (F := F) (k0_pay7 x0 x2 (scaleRow x1) (shiftRow x1) x3) 3 2 3328 (by decide) (by decide) rfl inb_S4x256x128_S1x256x128_3_0_0 inb_S256x128_S32x128_2_0_s_8_1 inb_S1x32x4096_S1x32x128_0_0_3328 rfl (by decide) (by decide) rfl x), ?_⟩
  · rfl
  refine List.forall_mem_cons.2 ⟨fun x => Eq.trans ?_ (store_eights (F := F) (k0_pay7 x0 x2 (scaleRow x1) (shiftRow x1) x3) 2 2 2304 (by decide) (by decide) rfl inb_S4x256x128_S1x256x128_2_0_0 inb_S256x128_S32x128_2_0_s_8_1 inb_S1x32x4096_S1x32x128_0_0_2304 rfl (by decide) (by decide) rfl x), ?_⟩
  · rfl
  refine List.forall_mem_cons.2 ⟨fun x => Eq.trans ?_ (store_eights (F := F) (k0_pay7 x0 x2 (scaleRow x1) (shiftRow x1) x3) 1 2 1280 (by decide) (by decide) rfl inb_S4x256x128_S1x256x128_1_0_0 inb_S256x128_S32x128_2_0_s_8_1 inb_S1x32x4096_S1x32x128_0_0_1280 rfl (by decide) (by decide) rfl x), ?_⟩
  · rfl
  refine List.forall_mem_cons.2 ⟨fun x => Eq.trans ?_ (store_eights (F := F) (k0_pay7 x0 x2 (scaleRow x1) (shiftRow x1) x3) 0 2 256 (by decide) (by decide) rfl inb_S4x256x128_S1x256x128_0_0_0 inb_S256x128_S32x128_2_0_s_8_1 inb_S1x32x4096_S1x32x128_0_0_256 rfl (by decide) (by decide) rfl x), ?_⟩
  · rfl
  refine List.forall_mem_cons.2 ⟨fun x => Eq.trans ?_ (store_eights (F := F) (k0_pay7 x0 x2 (scaleRow x1) (shiftRow x1) x3) 3 1 3200 (by decide) (by decide) rfl inb_S4x256x128_S1x256x128_3_0_0 inb_S256x128_S32x128_1_0_s_8_1 inb_S1x32x4096_S1x32x128_0_0_3200 rfl (by decide) (by decide) rfl x), ?_⟩
  · rfl
  refine List.forall_mem_cons.2 ⟨fun x => Eq.trans ?_ (store_eights (F := F) (k0_pay7 x0 x2 (scaleRow x1) (shiftRow x1) x3) 2 1 2176 (by decide) (by decide) rfl inb_S4x256x128_S1x256x128_2_0_0 inb_S256x128_S32x128_1_0_s_8_1 inb_S1x32x4096_S1x32x128_0_0_2176 rfl (by decide) (by decide) rfl x), ?_⟩
  · rfl
  refine List.forall_mem_cons.2 ⟨fun x => Eq.trans ?_ (store_eights (F := F) (k0_pay7 x0 x2 (scaleRow x1) (shiftRow x1) x3) 1 1 1152 (by decide) (by decide) rfl inb_S4x256x128_S1x256x128_1_0_0 inb_S256x128_S32x128_1_0_s_8_1 inb_S1x32x4096_S1x32x128_0_0_1152 rfl (by decide) (by decide) rfl x), ?_⟩
  · rfl
  refine List.forall_mem_cons.2 ⟨fun x => Eq.trans ?_ (store_eights (F := F) (k0_pay7 x0 x2 (scaleRow x1) (shiftRow x1) x3) 0 1 128 (by decide) (by decide) rfl inb_S4x256x128_S1x256x128_0_0_0 inb_S256x128_S32x128_1_0_s_8_1 inb_S1x32x4096_S1x32x128_0_0_128 rfl (by decide) (by decide) rfl x), ?_⟩
  · rfl
  refine List.forall_mem_cons.2 ⟨fun x => Eq.trans ?_ (store_eights (F := F) (k0_pay7 x0 x2 (scaleRow x1) (shiftRow x1) x3) 3 0 3072 (by decide) (by decide) rfl inb_S4x256x128_S1x256x128_3_0_0 inb_S256x128_S32x128_0_0_s_8_1 inb_S1x32x4096_S1x32x128_0_0_3072 rfl (by decide) (by decide) rfl x), ?_⟩
  · rfl
  refine List.forall_mem_cons.2 ⟨fun x => Eq.trans ?_ (store_eights (F := F) (k0_pay7 x0 x2 (scaleRow x1) (shiftRow x1) x3) 2 0 2048 (by decide) (by decide) rfl inb_S4x256x128_S1x256x128_2_0_0 inb_S256x128_S32x128_0_0_s_8_1 inb_S1x32x4096_S1x32x128_0_0_2048 rfl (by decide) (by decide) rfl x), ?_⟩
  · rfl
  refine List.forall_mem_cons.2 ⟨fun x => Eq.trans ?_ (store_eights (F := F) (k0_pay7 x0 x2 (scaleRow x1) (shiftRow x1) x3) 1 0 1024 (by decide) (by decide) rfl inb_S4x256x128_S1x256x128_1_0_0 inb_S256x128_S32x128_0_0_s_8_1 inb_S1x32x4096_S1x32x128_0_0_1024 rfl (by decide) (by decide) rfl x), ?_⟩
  · rfl
  refine List.forall_mem_cons.2 ⟨fun x => Eq.trans ?_ (store_eights (F := F) (k0_pay7 x0 x2 (scaleRow x1) (shiftRow x1) x3) 0 0 0 (by decide) (by decide) rfl inb_S4x256x128_S1x256x128_0_0_0 inb_S256x128_S32x128_0_0_s_8_1 inb_S1x32x4096_S1x32x128_0_0_0 rfl (by decide) (by decide) rfl x), ?_⟩
  · rfl
  exact fun p hp => absurd hp List.not_mem_nil

end Cases

end Cert.MixInput

end
-- ==== Proof.MixMath.lean ====
/- The mixing sublayer's projected input, entry by entry. -/
module

public import proofs.«01_k».proof.Proof.FfnMath

@[expose] public section

set_option maxRecDepth 16384

noncomputable section

namespace Cert.MixInput

open Idealize.ShloMosaic
open Cert.FfnGrad (invRms)

/-- The arguments: the tokens, the modulation, the norm's gain and the weight. -/
structure Inputs where
  x : Fin 4 → Fin 2304 → Fin 1024 → EReal
  mod : Fin 4 → Fin 2 → Fin 8 → Fin 1024 → EReal
  n : Fin 1024 → EReal
  w : Fin 1024 → Fin 1280 → EReal

namespace Inputs
variable (A : Inputs)

/-- Modulation row `p` at a token: the context's in the first 256 tokens, the latents' after them. -/
def row (p : Fin 8) (b : Fin 4) (s : Fin 2304) (d : Fin 1024) : EReal := if s.val < 256 then A.mod b 0 p d else A.mod b 1 p d

/-- The modulated normalised input. -/
def h (b : Fin 4) (s : Fin 2304) (d : Fin 1024) : EReal :=
  A.x b s d * invRms (A.x b s) * A.n d * (1 + A.row 1 b s d) + A.row 0 b s d

/-- Its product with the weight. -/
def z (b : Fin 4) (s : Fin 2304) (k : Fin 1280) : EReal := ∑ d, A.h b s d * A.w d k

/-- The first 512 columns, -/
def first (b : Fin 4) (s : Fin 2304) (k : Fin 512) : EReal := A.z b s ⟨k.val, by omega⟩

/-- the next 512, four slabs of 128 columns, each with eight consecutive tokens side by side, -/
def mid (b : Fin 4) (u : Fin 288) (q : Fin 4096) : EReal :=
  A.z b ⟨8 * u.val + q.val / 128 % 8, by omega⟩ ⟨512 + (128 * (q.val / 1024) + q.val % 128), by omega⟩

/-- and the last 256. -/
def last (b : Fin 4) (s : Fin 2304) (k : Fin 256) : EReal := A.z b s ⟨1024 + k.val, by omega⟩

end Inputs

end Cert.MixInput

end
-- ==== Proof.MixBlock.lean ====
/- The blocks that a grid point of the input projection reads, and the product that it computes of them. -/
module

public import proofs.«01_k».proof.Proof.MixCases
public import proofs.«01_k».proof.Proof.MixMath
public import Idealize.ShloMosaic.Lib.StableHlo.ReadAt

@[expose] public section

set_option maxRecDepth 16384

noncomputable section

namespace Cert.MixInput

open Idealize.ShloMosaic Idealize.ShloMosaic.TcCoe Idealize.SL.Sem Idealize.ShloMosaic.StableHlo Cert.Kernel7Ideal Cert.Kernel7Ideal.Gen
open Cert.FfnGrad (invRms meanSq)

variable (m : (ℓ : Loc nD τ sig) → Buf (Elt Ideal) ℓ)

abbrev m0 (c : Dev nD) : S4x2304x1024.Idx → EReal := m (c.tc.loc main_arg0)
abbrev m1 (c : Dev nD) : S4x2x8x1024.Idx → EReal := m (c.tc.loc main_arg1)
abbrev m2 (c : Dev nD) : S1x1024.Idx → EReal := m (c.tc.loc main_arg2)
abbrev m3 (c : Dev nD) : S1024x1280.Idx → EReal := m (c.tc.loc main_arg3)

/-- The arguments' entries, as the kernel finds them. -/
def args (c : Dev nD) : Inputs where
  x b s d := m0 m c (ix3 b s d)
  mod b k j d := m1 m c (ix4 b k j d)
  n d := m2 m c (ix2 0 d)
  w d k := m3 m c (ix2 d k)

/-! ## Before the region -/

theorem V_arg0 (c : Dev nD) : V m c main_arg0 = m0 m c := by
  unfold V
  simp only [hostOps0]
  after_results_simp

theorem V_arg1 (c : Dev nD) : V m c main_arg1 = m1 m c := by
  unfold V
  simp only [hostOps0]
  after_results_simp

theorem V_arg2 (c : Dev nD) : V m c main_arg2 = m2 m c := by
  unfold V
  simp only [hostOps0]
  after_results_simp

/-- The weight as the region finds it: transposed. -/
abbrev hostW (c : Dev nD) : S1280x1024.Idx → EReal := V m c main_v1

theorem hostW_eq (c : Dev nD) (k : Fin 1280) (d : Fin 1024) : hostW m c (ix2 k d) = (args m c).w d k := by
  unfold hostW V
  simp only [hostOps0]
  after_results_simp
  pointwise
  rfl

/-! ## A point's blocks -/

/-- A point's batch entry, -/
def pb (t : Fin cfg0.N) : Fin 4 := ⟨t.val / 9, by have := lt_of_lt_of_eq t.isLt N_0; omega⟩
/-- the kind of its tokens, context in the first tile and latent in the others, -/
def pk (t : Fin cfg0.N) : Fin 2 := if t.val % 9 = 0 then 0 else 1
/-- and a token of its tile. -/
def tk (t : Fin cfg0.N) (r : Fin 256) : Fin 2304 := ⟨256 * (t.val % 9) + r.val, by omega⟩

/-- Where each array's block lies at a point. -/
theorem ix_0 : ∀ t : Fin cfg0.N, win0_0.index t (0 : Fin 3) = t.val / 9 ∧ win0_0.index t (1 : Fin 3) = t.val % 9 ∧ win0_0.index t (2 : Fin 3) = 0 :=
  (by decide +kernel : ∀ t : Fin grid0.N, _)
theorem ix_1 : ∀ t : Fin cfg0.N, win0_1.index t (0 : Fin 4) = t.val / 9 ∧ win0_1.index t (1 : Fin 4) = (pk t).val ∧ win0_1.index t (2 : Fin 4) = 0 ∧ win0_1.index t (3 : Fin 4) = 0 :=
  (by unfold pk; decide +kernel : ∀ t : Fin grid0.N, _)

section Blocks
variable (c : Dev nD) (t : Fin cfg0.N) (r : Fin 256) (d : Fin 1024) (k : Fin 1280)

/-- The tokens' block, -/
theorem blk0 : (iblk m c 0 t : Vec Ideal S1x256x1024 .f32) (ix3 0 r d) = (args m c).x (pb t) (tk t r) d := by
  unfold iblk
  rw [View.read_apply]
  show V m c main_arg0 _ = m0 m c _
  rw [V_arg0]
  congr 1
  funext x
  apply Fin.ext
  match x with
  | ⟨0, _⟩ => show win0_0.index t 0 * 1 + 1 * (0 : ℕ) = t.val / 9; rw [(ix_0 t).1]; omega
  | ⟨1, _⟩ => show win0_0.index t 1 * 256 + 1 * r.val = 256 * (t.val % 9) + r.val; rw [(ix_0 t).2.1]; omega
  | ⟨2, _⟩ => show win0_0.index t 2 * 1024 + 1 * d.val = d.val; rw [(ix_0 t).2.2]; omega

/-- the modulation's, -/
theorem blk1 (j : Fin 8) : (iblk m c 1 t : Vec Ideal S1x1x8x1024 .f32) (ix4 0 0 j d) = (args m c).mod (pb t) (pk t) j d := by
  unfold iblk
  rw [View.read_apply]
  show V m c main_arg1 _ = m1 m c _
  rw [V_arg1]
  congr 1
  funext x
  apply Fin.ext
  match x with
  | ⟨0, _⟩ => show win0_1.index t 0 * 1 + 1 * (0 : ℕ) = t.val / 9; rw [(ix_1 t).1]; omega
  | ⟨1, _⟩ => show win0_1.index t 1 * 1 + 1 * (0 : ℕ) = (pk t).val; rw [(ix_1 t).2.1]; omega
  | ⟨2, _⟩ => show win0_1.index t 2 * 8 + 1 * j.val = j.val; rw [(ix_1 t).2.2.1]; omega
  | ⟨3, _⟩ => show win0_1.index t 3 * 1024 + 1 * d.val = d.val; rw [(ix_1 t).2.2.2]; omega

/-- the gain's -/
theorem blk2 : (iblk m c 2 t : Vec Ideal S1x1024 .f32) (ix2 0 d) = (args m c).n d := by
  unfold iblk
  rw [View.read_apply]
  show V m c main_arg2 _ = m2 m c _
  rw [V_arg2]
  congr 1
  funext x
  apply Fin.ext
  match x with
  | ⟨0, _⟩ => rfl
  | ⟨1, _⟩ => show 0 * 1024 + 1 * d.val = d.val; omega

/-- and the weight's. -/
theorem blk3 : (iblk m c 3 t : Vec Ideal S1280x1024 .bf16) (ix2 k d) = (args m c).w d k := by
  rw [← hostW_eq]
  unfold iblk
  rw [View.read_apply]
  show V m c main_v1 _ = hostW m c _
  unfold hostW
  congr 1
  funext x
  apply Fin.ext
  match x with
  | ⟨0, _⟩ => show 0 * 1280 + 1 * k.val = k.val; omega
  | ⟨1, _⟩ => show 0 * 1024 + 1 * d.val = d.val; omega

end Blocks

/-! ## The body's product -/

section Body
variable (x0 : S1x256x1024.Idx → EReal) (x1 : S1x1x8x1024.Idx → EReal) (x2 : S1x1024.Idx → EReal) (x3 : S1280x1024.Idx → EReal)
  (r : Fin 256) (d : Fin 1024) (k : Fin 1280)

theorem shiftRow_eq : (shiftRow (F := Ideal) x1 : S1x1x1x1024.Idx → EReal) (ix4 0 0 0 d) = x1 (ix4 0 0 0 d) :=
  congrArg x1 (funext fun a => Fin.ext (by match a with | ⟨0, _⟩ => rfl | ⟨1, _⟩ => rfl | ⟨2, _⟩ => rfl | ⟨3, _⟩ => exact (Nat.zero_add _).trans (Nat.one_mul _)))
theorem scaleRow_eq : (scaleRow (F := Ideal) x1 : S1x1x1x1024.Idx → EReal) (ix4 0 0 0 d) = x1 (ix4 0 0 1 d) :=
  congrArg x1 (funext fun a => Fin.ext (by match a with | ⟨0, _⟩ => rfl | ⟨1, _⟩ => rfl | ⟨2, _⟩ => rfl | ⟨3, _⟩ => exact (Nat.zero_add _).trans (Nat.one_mul _)))

/-- The whole product of a tile. -/
def prod : S256x1280.Idx → EReal := k0_pay5 (F := Ideal) x0 x2 (scaleRow x1) (shiftRow x1) x3

theorem prod_eq : prod x0 x1 x2 x3 (ix2 r k)
    = ∑ d, (x0 (ix3 0 r d) * invRms (fun d => x0 (ix3 0 r d)) * x2 (ix2 0 d) * (1 + x1 (ix4 0 0 1 d)) + x1 (ix4 0 0 0 d)) * x3 (ix2 k d) := by
  unfold prod k0_pay5
  simp only [shapeCast_self]
  pointwise
  refine Finset.sum_congr rfl fun d _ => ?_
  rw [shiftRow_eq, scaleRow_eq]
  rfl

/-- Its first columns, -/
theorem pay6_eq (k : Fin 512) : (k0_pay6 (F := Ideal) x0 x2 (scaleRow x1) (shiftRow x1) x3 : S1x256x512.Idx → EReal) (ix3 0 r k) = prod x0 x1 x2 x3 (ix2 r ⟨k.val, by omega⟩) := by
  unfold k0_pay6; pointwise; rfl
/-- the next -/
theorem pay7_eq (k : Fin 512) : (k0_pay7 (F := Ideal) x0 x2 (scaleRow x1) (shiftRow x1) x3 : S256x512.Idx → EReal) (ix2 r k) = prod x0 x1 x2 x3 (ix2 r ⟨512 + k.val, by omega⟩) := by
  unfold k0_pay7; pointwise; rfl
/-- and the last. -/
theorem pay4_eq (k : Fin 256) : (k0_pay4 (F := Ideal) (k0_pay5 (F := Ideal) x0 x2 (scaleRow x1) (shiftRow x1) x3) : S1x256x256.Idx → EReal) (ix3 0 r k) = prod x0 x1 x2 x3 (ix2 r ⟨1024 + k.val, by omega⟩) := by
  unfold k0_pay4; pointwise; rfl

end Body

/-- A tile's modulation row is its kind's. -/
theorem row_tk (A : Inputs) (p : Fin 8) (t : Fin cfg0.N) (r : Fin 256) (d : Fin 1024) : A.row p (pb t) (tk t r) d = A.mod (pb t) (pk t) p d := by
  unfold Inputs.row pk
  show (if 256 * (t.val % 9) + r.val < 256 then _ else _) = _
  by_cases h : t.val % 9 = 0
  · rw [if_pos (by omega), if_pos h]
  · rw [if_neg (by omega), if_neg h]

/-- A point computes its tokens' product. -/
theorem prod_at (c : Dev nD) (t : Fin cfg0.N) (r : Fin 256) (k : Fin 1280) :
    prod (iblk m c 0 t) (iblk m c 1 t) (iblk m c 2 t) (iblk m c 3 t) (ix2 r k) = (args m c).z (pb t) (tk t r) k := by
  refine (prod_eq _ _ _ _ r k).trans ?_
  unfold Inputs.z Inputs.h
  have hx : (fun d => (iblk m c 0 t : Vec Ideal S1x256x1024 .f32) (ix3 0 r d)) = (args m c).x (pb t) (tk t r) := funext fun d => blk0 m c t r d
  refine Finset.sum_congr rfl fun d _ => ?_
  rw [hx, blk0, blk1, blk1, blk2, blk3, row_tk, row_tk]

end Cert.MixInput

end
-- ==== Proof.MixArrays.lean ====
/- The result arrays after the run, entry by entry. -/
module

public import proofs.«01_k».proof.Proof.MixBlock
public import Idealize.ShloMosaic.Lib.Pipeline.ValueKit

@[expose] public section

set_option maxRecDepth 16384

noncomputable section

namespace Cert.MixInput

open Idealize.ShloMosaic Idealize.ShloMosaic.TcCoe Idealize.SL.Sem Cert.Kernel7Ideal Cert.Kernel7Ideal.Gen

variable (m : (ℓ : Loc nD τ sig) → Buf (Elt Ideal) ℓ) (c : Dev nD)

/-- The first columns. -/
def G4 : S4x2304x512.Idx → EReal := fun i => (args m c).first (i 0) (i 1) (i 2)
/-- The middle columns, eight tokens side by side. -/
def G5 : S4x288x4096.Idx → EReal := fun i => (args m c).mid (i 0) (i 1) (i 2)
/-- The last columns. -/
def G6 : S4x2304x256.Idx → EReal := fun i => (args m c).last (i 0) (i 1) (i 2)

/-- What a point leaves in the first result, -/
theorem first_point (t : Fin cfg0.N) : (outsAt0 m c t).1 = k0_pay6 (F := Ideal) (iblk m c 0 t) (iblk m c 2 t) (scaleRow (F := Ideal) (iblk m c 1 t)) (shiftRow (F := Ideal) (iblk m c 1 t)) (iblk m c 3 t) := by
  unfold outsAt0
  dsimp only
  apply out_first
/-- in the second -/
theorem mid_point (t : Fin cfg0.N) : (outsAt0 m c t).2.1 = eights (F := Ideal) (k0_pay7 (F := Ideal) (iblk m c 0 t) (iblk m c 2 t) (scaleRow (F := Ideal) (iblk m c 1 t)) (shiftRow (F := Ideal) (iblk m c 1 t)) (iblk m c 3 t)) := by
  unfold outsAt0
  dsimp only
  apply out_mid
/-- and in the third. -/
theorem last_point (t : Fin cfg0.N) : (outsAt0 m c t).2.2 = k0_pay4 (F := Ideal) (k0_pay5 (F := Ideal) (iblk m c 0 t) (iblk m c 2 t) (scaleRow (F := Ideal) (iblk m c 1 t)) (shiftRow (F := Ideal) (iblk m c 1 t)) (iblk m c 3 t)) := by
  unfold outsAt0
  dsimp only
  apply out_last

theorem ix_4 : ∀ t : Fin cfg0.N, win0_4.index t (0 : Fin 3) = t.val / 9 ∧ win0_4.index t (1 : Fin 3) = t.val % 9 ∧ win0_4.index t (2 : Fin 3) = 0 :=
  (by decide +kernel : ∀ t : Fin grid0.N, _)
theorem ix_5 : ∀ t : Fin cfg0.N, win0_5.index t (0 : Fin 3) = t.val / 9 ∧ win0_5.index t (1 : Fin 3) = t.val % 9 ∧ win0_5.index t (2 : Fin 3) = 0 :=
  (by decide +kernel : ∀ t : Fin grid0.N, _)
theorem ix_6 : ∀ t : Fin cfg0.N, win0_6.index t (0 : Fin 3) = t.val / 9 ∧ win0_6.index t (1 : Fin 3) = t.val % 9 ∧ win0_6.index t (2 : Fin 3) = 0 :=
  (by decide +kernel : ∀ t : Fin grid0.N, _)

/-- The first columns after the run. -/
theorem arr4 : (dats m 0 c).arrAt 4 cfg0.N = G4 m c := by
  refine (dats m 0 c).arrAt_eq_of_covers 4 _ (by decide +kernel) fun t hf y => ?_
  rw [after0_4]
  have y0 : (y 0).val = 0 := Nat.lt_one_iff.mp (y 0).isLt
  have ey : (cfg0.win 4).xinj (grid0.coords t) y = ix3 0 (y 1) (y 2) := funext fun a => Fin.ext (by
    match a with
    | ⟨0, _⟩ => exact y0
    | ⟨1, _⟩ => rfl
    | ⟨2, _⟩ => rfl)
  have ez : ((cfg0.win 4).blk t).view.emb y = ix3 (pb t) (tk t (y 1)) (y 2) := funext fun a => Fin.ext (by
    match a with
    | ⟨0, _⟩ => show win0_4.index t 0 * 1 + 1 * (y 0).val = t.val / 9; rw [(ix_4 t).1, y0]; omega
    | ⟨1, _⟩ => show win0_4.index t 1 * 256 + 1 * (y 1).val = 256 * (t.val % 9) + (y 1).val; rw [(ix_4 t).2.1]; omega
    | ⟨2, _⟩ => show win0_4.index t 2 * 512 + 1 * (y 2).val = (y 2).val; rw [(ix_4 t).2.2]; omega)
  rw [ey, ez]
  exact (congrFun (first_point m c t) _).trans ((pay6_eq _ _ _ _ (y 1) (y 2)).trans (prod_at m c t (y 1) _))

/-- The middle columns after the run. -/
theorem arr5 : (dats m 0 c).arrAt 5 cfg0.N = G5 m c := by
  refine (dats m 0 c).arrAt_eq_of_covers 5 _ (by decide +kernel) fun t hf y => ?_
  rw [after0_5]
  have y0 : (y 0).val = 0 := Nat.lt_one_iff.mp (y 0).isLt
  have y1 : (y 1).val < 32 := (y 1).isLt
  have y2 : (y 2).val < 4096 := (y 2).isLt
  have ey : (cfg0.win 5).xinj (grid0.coords t) y = ix3 0 (y 1) (y 2) := funext fun a => Fin.ext (by
    match a with
    | ⟨0, _⟩ => exact y0
    | ⟨1, _⟩ => rfl
    | ⟨2, _⟩ => rfl)
  have ez : ((cfg0.win 5).blk t).view.emb y = ix3 (pb t) (⟨32 * (t.val % 9) + (y 1).val, by omega⟩ : Fin 288) (y 2) := funext fun a => Fin.ext (by
    match a with
    | ⟨0, _⟩ => show win0_5.index t 0 * 1 + 1 * (y 0).val = t.val / 9; rw [(ix_5 t).1, y0]; omega
    | ⟨1, _⟩ => show win0_5.index t 1 * 32 + 1 * (y 1).val = 32 * (t.val % 9) + (y 1).val; rw [(ix_5 t).2.1]; omega
    | ⟨2, _⟩ => show win0_5.index t 2 * 4096 + 1 * (y 2).val = (y 2).val; rw [(ix_5 t).2.2]; omega)
  rw [ey, ez]
  refine (congrFun (mid_point m c t) _).trans ((pay7_eq _ _ _ _ _ _).trans ((prod_at m c t _ _).trans ?_))
  show (args m c).z (pb t) _ _ = (args m c).z (pb t) _ _
  congr 1
  apply Fin.ext
  show 256 * (t.val % 9) + (8 * (y 1).val + (y 2).val / 128 % 8) = 8 * (32 * (t.val % 9) + (y 1).val) + (y 2).val / 128 % 8
  omega

/-- The last columns after the run. -/
theorem arr6 : (dats m 0 c).arrAt 6 cfg0.N = G6 m c := by
  refine (dats m 0 c).arrAt_eq_of_covers 6 _ (by decide +kernel) fun t hf y => ?_
  rw [after0_6]
  have y0 : (y 0).val = 0 := Nat.lt_one_iff.mp (y 0).isLt
  have ey : (cfg0.win 6).xinj (grid0.coords t) y = ix3 0 (y 1) (y 2) := funext fun a => Fin.ext (by
    match a with
    | ⟨0, _⟩ => exact y0
    | ⟨1, _⟩ => rfl
    | ⟨2, _⟩ => rfl)
  have ez : ((cfg0.win 6).blk t).view.emb y = ix3 (pb t) (tk t (y 1)) (y 2) := funext fun a => Fin.ext (by
    match a with
    | ⟨0, _⟩ => show win0_6.index t 0 * 1 + 1 * (y 0).val = t.val / 9; rw [(ix_6 t).1, y0]; omega
    | ⟨1, _⟩ => show win0_6.index t 1 * 256 + 1 * (y 1).val = 256 * (t.val % 9) + (y 1).val; rw [(ix_6 t).2.1]; omega
    | ⟨2, _⟩ => show win0_6.index t 2 * 256 + 1 * (y 2).val = (y 2).val; rw [(ix_6 t).2.2]; omega)
  rw [ey, ez]
  exact (congrFun (last_point m c t) _).trans ((pay4_eq _ _ _ _ (y 1) (y 2)).trans (prod_at m c t (y 1) _))

end Cert.MixInput

end
-- ==== Proof.MixRef.lean ====
/- The reference of the input projection, entry by entry. -/
module

public import proofs.«01_k».proof.Proof.Gen.Reference7Ideal.Run
public import proofs.«01_k».proof.Proof.MixMath
public import Idealize.ShloMosaic.Lib.Pointwise
public import Idealize.ShloMosaic.Lib.Pipeline.Value
public import Idealize.ShloMosaic.Lib.Tactic
public import Idealize.ShloMosaic.Lib.WordCmp

@[expose] public section

set_option maxRecDepth 16384

noncomputable section

namespace Cert.MixInput.Plain

open Idealize.ShloMosaic Idealize.SL.Sem Cert.Reference7Ideal Cert.Reference7Ideal.Gen Cert.Reference7Ideal.Value
open Cert.FfnGrad (invRms meanSq)

abbrev Tokens := FVec Ideal S4x2304x1024 .f32
abbrev Wide := FVec Ideal S4x2304x1280 .f32

/-! ## The pieces -/

/-- Every token's guarded mean square, -/
def meanSqs (a : Tokens) : FVec Ideal S4x2304x1 .f32 :=
  addf (Host.divf (broadcastInDim S4x2304x1 ![0, 1] bcast_S4x2304_S4x2304x1_0_1 (Host.reduceAdd (mulf a a) (constant S_ .f32 0x00000000#32) reducesTo_S4x2304x1024_S4x2304_d2 h_S_))
    (broadcastInDim S4x2304x1 ![] bcast_S_S4x2304x1 (constant S_ .f32 0x44800000#32))) (broadcastInDim S4x2304x1 ![] bcast_S_S4x2304x1 (constant S_ .f32 0x358637BD#32))
/-- the normalised tokens, -/
def normed (a : Tokens) : Tokens := mulf a (broadcastInDim S4x2304x1024 ![0, 1, 2] bcast_S4x2304x1_S4x2304x1024_0_1_2 (Host.rsqrt (meanSqs a)))
/-- the gain at every token, -/
def gains (n : FVec Ideal S1x1024 .f32) : Tokens :=
  broadcastInDim S4x2304x1024 ![0, 1, 2] bcast_S1x1x1024_S4x2304x1024_0_1_2 (broadcastInDim S1x1x1024 ![1, 2] bcast_S1x1024_S1x1x1024_1_2 n)
/-- the shift rows, -/
def shifts (md : FVec Ideal S4x2x8x1024 .f32) : Tokens :=
  concatenate S4x2304x1024 1 [⟨S4x256x1024, (broadcastInDim S4x256x1024 ![0, 1, 2] bcast_S4x1x1024_S4x256x1024_0_1_2 (shapeCast _ (extractStridedSlice S4x1x1x1024 ![0, 0, 0, 0] md slices_S4x2x8x1024_S4x1x1x1024_0_0_0_0) shapeCasts_S4x1x1x1024_S4x1x1024))⟩,
    ⟨S4x2048x1024, (broadcastInDim S4x2048x1024 ![0, 1, 2] bcast_S4x1x1024_S4x2048x1024_0_1_2 (shapeCast _ (extractStridedSlice S4x1x1x1024 ![0, 1, 0, 0] md slices_S4x2x8x1024_S4x1x1x1024_0_1_0_0) shapeCasts_S4x1x1x1024_S4x1x1024))⟩] concatenates_S4x256x1024_S4x2048x1024_S4x2304x1024_d1
/-- the scale rows, -/
def scales (md : FVec Ideal S4x2x8x1024 .f32) : Tokens :=
  concatenate S4x2304x1024 1 [⟨S4x256x1024, (broadcastInDim S4x256x1024 ![0, 1, 2] bcast_S4x1x1024_S4x256x1024_0_1_2 (shapeCast _ (extractStridedSlice S4x1x1x1024 ![0, 0, 1, 0] md slices_S4x2x8x1024_S4x1x1x1024_0_0_1_0) shapeCasts_S4x1x1x1024_S4x1x1024))⟩,
    ⟨S4x2048x1024, (broadcastInDim S4x2048x1024 ![0, 1, 2] bcast_S4x1x1024_S4x2048x1024_0_1_2 (shapeCast _ (extractStridedSlice S4x1x1x1024 ![0, 1, 1, 0] md slices_S4x2x8x1024_S4x1x1x1024_0_1_1_0) shapeCasts_S4x1x1x1024_S4x1x1024))⟩] concatenates_S4x256x1024_S4x2048x1024_S4x2304x1024_d1
/-- the modulated input, -/
def hidden (x : Tokens) (md : FVec Ideal S4x2x8x1024 .f32) (n : FVec Ideal S1x1024 .f32) : Tokens :=
  addf (mulf (mulf (normed x) (gains n)) (addf (broadcastInDim S4x2304x1024 ![] bcast_S_S4x2304x1024 (constant S_ .f32 0x3F800000#32)) (scales md))) (shifts md)
/-- its product with the weight, -/
def product (h : Tokens) (w : FVec Ideal S1024x1280 .f32) : Wide := Host.dotGeneral dot_S4x2304x1024_S1024x1280_S4x2304x1280_2_0_01_1_n_n none h w
/-- and eight tokens side by side. -/
def sideBySide (z : FVec Ideal S4x2304x512 .f32) : FVec Ideal S4x288x4096 .f32 :=
  shapeCast _ (transpose S4x288x4x8x128 [0, 1, 3, 2, 4] (shapeCast _ z shapeCasts_S4x2304x512_S4x288x8x4x128) transposes_S4x288x8x4x128_S4x288x4x8x128_0_1_3_2_4) shapeCasts_S4x288x4x8x128_S4x288x4096

section Pieces
variable (x : S4x2304x1024.Idx → EReal) (md : S4x2x8x1024.Idx → EReal) (n : S1x1024.Idx → EReal) (b : Fin 4) (s : Fin 2304) (d : Fin 1024) (k : Fin 1280)
  (w : S1024x1280.Idx → EReal)

/-- A token's vector. -/
abbrev token (x : S4x2304x1024.Idx → EReal) (b : Fin 4) (s : Fin 2304) : Fin 1024 → EReal := fun d => x (ix3 b s d)

theorem meanSqs_eq : (meanSqs x : S4x2304x1.Idx → EReal) (ix3 b s 0) = meanSq (token x b s) := by
  unfold meanSqs; pointwise; rfl
theorem normed_eq : (normed x : S4x2304x1024.Idx → EReal) (ix3 b s d) = x (ix3 b s d) * invRms (token x b s) := by
  unfold normed; pointwise; exact congrArg (fun z => x (ix3 b s d) * Ideal.rsqrt z) (meanSqs_eq x b s)
theorem gains_eq : (gains n : S4x2304x1024.Idx → EReal) (ix3 b s d) = n (ix2 0 d) := by
  unfold gains; pointwise
theorem shifts_eq : (shifts md : S4x2304x1024.Idx → EReal) (ix3 b s d) = if s.val < 256 then md (ix4 b 0 0 d) else md (ix4 b 1 0 d) := by
  unfold shifts; pointwise; rfl
theorem scales_eq : (scales md : S4x2304x1024.Idx → EReal) (ix3 b s d) = if s.val < 256 then md (ix4 b 0 1 d) else md (ix4 b 1 1 d) := by
  unfold scales; pointwise; rfl
theorem hidden_eq : (hidden x md n : S4x2304x1024.Idx → EReal) (ix3 b s d) = x (ix3 b s d) * invRms (token x b s) * n (ix2 0 d)
    * (1 + if s.val < 256 then md (ix4 b 0 1 d) else md (ix4 b 1 1 d)) + if s.val < 256 then md (ix4 b 0 0 d) else md (ix4 b 1 0 d) := by
  unfold hidden; pointwise
  exact congrArg₂ (· + ·) (congrArg₂ (· * ·) (congrArg₂ (· * ·) (normed_eq x b s d) (gains_eq n b s d)) (congrArg (1 + ·) (scales_eq md b s d))) (shifts_eq md b s d)
theorem product_eq : (product x w : S4x2304x1280.Idx → EReal) (ix3 b s k) = ∑ d, x (ix3 b s d) * w (ix2 d k) := by
  unfold product; pointwise

/-- The token and the column of an entry of the rows of eight tokens. -/
theorem sideBySide_eq (z : S4x2304x512.Idx → EReal) (u : Fin 288) (q : Fin 4096) : (sideBySide z : S4x288x4096.Idx → EReal) (ix3 b u q)
    = z (ix3 b ⟨8 * u.val + q.val / 128 % 8, by omega⟩ ⟨128 * (q.val / 1024) + q.val % 128, by omega⟩) := by
  unfold sideBySide
  have e1 : Shape.reshapeEquiv shapeCasts_S4x288x4x8x128_S4x288x4096 (ix3 b u q)
      = ix5 b u (⟨q.val / 1024, by omega⟩ : Fin 4) (⟨q.val / 128 % 8, by omega⟩ : Fin 8) (⟨q.val % 128, by omega⟩ : Fin 128) :=
    Shape.reshapeEquiv_eq_of_rowMajor _ (by
      rw [Shape.rowMajor_val_three, Shape.rowMajor_val_five]
      show (((b.val * 288 + u.val) * 4 + q.val / 1024) * 8 + q.val / 128 % 8) * 128 + q.val % 128 = (b.val * 288 + u.val) * 4096 + q.val
      omega)
  unfold shapeCast
  rw [e1]
  pointwise
  exact congrArg₂ (fun s k => z (ix3 b s k)) (Fin.ext (congrArg (· + q.val / 128 % 8) (Nat.mul_comm u.val 8))) (Fin.ext (congrArg (· + q.val % 128) (Nat.mul_comm (q.val / 1024) 128)))

end Pieces

/-! ## The results -/

section Results
variable (m : (ℓ : Loc nD τ sig) → Buf (Elt Ideal) ℓ) (c : Dev nD)

abbrev a0 : S4x2304x1024.Idx → EReal := m ((c.tc : Thread nD τ).loc main_arg0)
abbrev a1 : S4x2x8x1024.Idx → EReal := m ((c.tc : Thread nD τ).loc main_arg1)
abbrev a2 : S1x1024.Idx → EReal := m ((c.tc : Thread nD τ).loc main_arg2)
abbrev a3 : S1024x1280.Idx → EReal := m ((c.tc : Thread nD τ).loc main_arg3)

/-- The arguments' entries. -/
def args : Inputs where
  x b s d := a0 m c (ix3 b s d)
  mod b k j d := a1 m c (ix4 b k j d)
  n d := a2 m c (ix2 0 d)
  w d k := a3 m c (ix2 d k)

/-- The whole product, -/
def outZ : Wide := product (hidden (a0 m c) (a1 m c) (a2 m c)) (a3 m c)
/-- its first columns, -/
def outFirst : FVec Ideal S4x2304x512 .f32 := extractStridedSlice S4x2304x512 ![0, 0, 0] (outZ m c) slices_S4x2304x1280_S4x2304x512_0_0_0
/-- the middle ones with eight tokens side by side -/
def outMid : FVec Ideal S4x288x4096 .f32 := sideBySide (extractStridedSlice S4x2304x512 ![0, 0, 512] (outZ m c) slices_S4x2304x1280_S4x2304x512_0_0_512)
/-- and the last. -/
def outLast : FVec Ideal S4x2304x256 .f32 := extractStridedSlice S4x2304x256 ![0, 0, 1024] (outZ m c) slices_S4x2304x1280_S4x2304x256_0_0_1024

section Entries
variable (b : Fin 4) (s : Fin 2304) (k : Fin 1280)

theorem outZ_eq : (outZ m c : S4x2304x1280.Idx → EReal) (ix3 b s k) = (args m c).z b s k :=
  (product_eq _ b s k _).trans (Finset.sum_congr rfl fun d _ => congrArg (· * _) (hidden_eq _ _ _ b s d))
theorem outFirst_eq (k : Fin 512) : (outFirst m c : S4x2304x512.Idx → EReal) (ix3 b s k) = (args m c).first b s k := by
  unfold outFirst; pointwise; exact outZ_eq m c b s _
theorem outMid_eq (u : Fin 288) (q : Fin 4096) : (outMid m c : S4x288x4096.Idx → EReal) (ix3 b u q) = (args m c).mid b u q := by
  unfold outMid; refine (sideBySide_eq b _ u q).trans ?_; pointwise; exact outZ_eq m c b _ _
theorem outLast_eq (k : Fin 256) : (outLast m c : S4x2304x256.Idx → EReal) (ix3 b s k) = (args m c).last b s k := by
  unfold outLast; pointwise; exact outZ_eq m c b s _

end Entries

/-- The run's results are these. -/
theorem run_out (ρ : Dev nD → PrngReg) :
    θ_run defs (onTc (τ := τ) (main (F := Ideal))) ⟨m, fun _ => 0, ρ⟩ (fun r => ∀ c : Dev nD,
      r.2.mem ((c.tc : Thread nD τ).loc main_v36) = outFirst m c
      ∧ r.2.mem ((c.tc : Thread nD τ).loc main_v35) = outMid m c
      ∧ r.2.mem ((c.tc : Thread nD τ).loc main_v37) = outLast m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => h c) (Cert.Reference7Ideal.Value.run (F := Ideal) m ρ)

end Results

end Cert.MixInput.Plain

end
-- ==== Proof.MixAlgebraic.lean ====
/- The mixing sublayer's input projection: kernel and reference end with the same three arrays. -/
module

public import proofs.«01_k».proof.Defs
public import proofs.«01_k».proof.Proof.MixArrays
public import proofs.«01_k».proof.Proof.MixRef
public import Idealize.ShloMosaic.Lib.Claim
public import Idealize.ShloMosaic.Lib.Quiescent

@[expose] public section

set_option maxRecDepth 16384

noncomputable section

namespace Cert.MixInput

open Idealize.ShloMosaic Idealize.ShloMosaic.TcCoe Idealize.SL.Sem

section Kernel
open Cert.Kernel7Ideal Cert.Kernel7Ideal.Gen

/-- A run that ends with the arrays at what some proof data say ends with the three results there. -/
theorem results_of (m : (ℓ : Loc nD τ sig) → Buf (Elt Ideal) ℓ) (ρ : Dev nD → PrngReg)
    (dats : (p : Fin 1) → (c : Dev nD) → Pipeline.Dat τ (Elt Ideal) Unit ℕ (UR sig nD τ) ℕ (cfgs p) c)
    (h : θ_run defs (onTc (τ := τ) (main (F := Ideal))) (s₀ m ρ) (Pipeline.FramePost cfgs dats 0 (V m))) :
    θ_run defs (onTc (τ := τ) (main (F := Ideal))) ⟨m, fun _ => 0, ρ⟩ (fun r => ∀ c : Dev nD,
      r.2.mem ((c.tc : Thread nD τ).loc main_v2_0) = (dats 0 c).arrAt 4 cfg0.N
      ∧ r.2.mem ((c.tc : Thread nD τ).loc main_v2_1) = (dats 0 c).arrAt 5 cfg0.N
      ∧ r.2.mem ((c.tc : Thread nD τ).loc main_v2_2) = (dats 0 c).arrAt 6 cfg0.N) :=
  (θ_run defs _ _).mono (fun _ h c => ⟨(h c).1 4, (h c).1 5, (h c).1 6⟩) h

/-- The kernel ends with the three arrays of the mathematics. -/
theorem kernel_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = G4 m c
      ∧ r.2.mem ((c.tc : Thread nD τ).loc main_v2_1) = G5 m c
      ∧ r.2.mem ((c.tc : Thread nD τ).loc main_v2_2) = G6 m c) := by
  refine (θ_run defs _ _).mono (fun r h c => ?_) (results_of m ρ (dats m) (run_main m ρ))
  have hc := h c
  rw [arr4 m c, arr5 m c, arr6 m c] at hc
  exact hc

end Kernel

/-- The reference's frame. -/
theorem frame_reference : quiescent_Reference7Ideal := fun m ρ _ =>
  (θ_run Cert.Reference7Ideal.defs _ _).mono
    (fun r h => ⟨fun c => (h c).2.2.2, Idealize.ShloMosaic.sem_eq_zero_of_no_sems (by decide) r.2⟩)
    (Plain.run_out m ρ)

section Entries
open Cert.Reference7Ideal Cert.Reference7Ideal.Gen
variable (m : (ℓ : Loc Cert.Kernel7Ideal.nD Cert.Kernel7Ideal.τ Cert.Kernel7Ideal.sig) → Buf (Elt Ideal) ℓ)
  (m' : (ℓ : Loc nD τ sig) → Buf (Elt Ideal) ℓ) (c : Dev nD) (hA : Plain.args m' c = Cert.MixInput.args m c)
include hA

/-- The first columns, -/
theorem same_first : Plain.outFirst m' c = G4 m c := by
  funext i; idx_vars i
  exact (Plain.outFirst_eq m' c i0 i1 i2).trans (congrArg (fun A : Inputs => A.first i0 i1 i2) hA)

/-- the middle ones -/
theorem same_mid : Plain.outMid m' c = G5 m c := by
  funext i; idx_vars i
  exact (Plain.outMid_eq m' c i0 i1 i2).trans (congrArg (fun A : Inputs => A.mid i0 i1 i2) hA)

/-- and the last are the kernel's. -/
theorem same_last : Plain.outLast m' c = G6 m c := by
  funext i; idx_vars i
  exact (Plain.outLast_eq m' c i0 i1 i2).trans (congrArg (fun A : Inputs => A.last i0 i1 i2) hA)

end Entries

/-- Equal argument buffers give equal argument entries. -/
theorem args_agree (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev Cert.Kernel7Ideal.nD)
    (h0 : Plain.a0 m' c = m0 m c) (h1 : Plain.a1 m' c = m1 m c) (h2 : Plain.a2 m' c = m2 m c) (h3 : Plain.a3 m' c = m3 m c) :
    Plain.args m' c = args m c := by
  unfold Plain.args args
  rw [h0, h1, h2, h3]

/-- Kernel and reference end with the same three arrays. -/
theorem algebraic : algebraic_Kernel7Ideal_Reference7Ideal := by
  intro m g m' g' _ hagree
  refine ⟨fun c => G4 m c, fun c => G5 m c, fun c => G6 m c, ?_, ?_⟩
  · refine (θ_run _ _ _).mono (fun r h c => ?_) (θ_run_and (kernel_arrays m g) (Cert.Kernel7Ideal.Gen.frame (F := Ideal) m g))
    obtain ⟨k0, k1, k2⟩ := h.1 c
    exact ⟨k0, k1, k2, h.2.1 c⟩
  · refine (θ_run _ _ _).mono (fun r h c => ?_) (Plain.run_out m' g')
    obtain ⟨a0, a1, a2, a3⟩ := hagree c
    have hA := args_agree m m' c a0 a1 a2 a3
    obtain ⟨k0, k1, k2, hk⟩ := h c
    exact ⟨k0.trans (same_first m m' c hA), k1.trans (same_mid m m' c hA), k2.trans (same_last m m' c hA), hk⟩

end Cert.MixInput

end
-- ==== Proof.ModForward.lean ====
/- The modulation columns: a point's product with its layer's weight, and the bias, are the reference's. -/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Tactic
public import Idealize.ShloMosaic.Lib.Pipeline.ValueKit
public import Idealize.ShloMosaic.Lib.Quiescent
public import Idealize.ShloMosaic.Lib.StableHlo.ReadAt

@[expose] public section

set_option maxRecDepth 16384

noncomputable section

namespace Cert.ModForward

open Idealize.ShloMosaic Idealize.ShloMosaic.TcCoe Idealize.SL.Sem Idealize.ShloMosaic.StableHlo
open Cert.Kernel8Ideal Cert.Kernel8Ideal.Gen Cert.Kernel8Ideal.Value

theorem hz2 : (![0, 0] : Fin 2 → Nat) = fun _ => 0 := funext fun a => by fin_cases a <;> rfl
theorem hz3 : (![0, 0, 0] : Fin 3 → Nat) = fun _ => 0 := funext fun a => by fin_cases a <;> rfl

/-- Row `r` of the activations times layer `l`'s column `k`, and the bias. -/
def modulation (a : S48x1024.Idx → EReal) (w : S2x1024x768.Idx → EReal) (b : S2x768.Idx → EReal) (l : Fin 2) (r : Fin 48) (k : Fin 768) : EReal :=
  (∑ d : Fin 1024, a (ix2 r d) * w (ix3 l d k)) + b (ix2 l k)

variable (m : (ℓ : Loc nD τ sig) → Buf (Elt Ideal) ℓ) (c : Dev nD)

abbrev m0 : S48x1024.Idx → EReal := m ((c : Thread nD τ).loc main_arg0)
abbrev m1 : S2x1024x768.Idx → EReal := m ((c : Thread nD τ).loc main_arg1)
abbrev m2 : S2x768.Idx → EReal := m ((c : Thread nD τ).loc main_arg2)

/-- The bias as the region finds it. -/
abbrev hostB : S2x1x768.Idx → EReal := V m c main_v0

theorem hostB_eq (l : Fin 2) (k : Fin 768) : hostB m c (ix3 l 0 k) = m2 m c (ix2 l k) := by
  unfold hostB V
  simp only [hostOps0]
  after_results_simp
  pointwise

/-- The result. -/
def G : S2x48x768.Idx → EReal := fun i => modulation (m0 m c) (m1 m c) (m2 m c) (i 0) (i 1) (i 2)

theorem ix_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem ix_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem ix_3 : ∀ t : Fin cfg0.N, win0_3.index t (0 : Fin 3) = t.val ∧ win0_3.index t (1 : Fin 3) = 0 ∧ win0_3.index t (2 : Fin 3) = 0 :=
  (by decide +kernel : ∀ t : Fin grid0.N, _)

/-- A point's layer. -/
def pl (t : Fin cfg0.N) : Fin 2 := ⟨t.val, lt_of_lt_of_eq t.isLt N_0⟩

section Blocks
variable (t : Fin cfg0.N) (r : Fin 48) (d : Fin 1024) (k : Fin 768)

/-- The activations' block, -/
theorem blk0 : (iblk m c 0 t : Vec Ideal S48x1024 .f32) (ix2 r d) = m0 m c (ix2 r d) := by
  unfold iblk
  rw [View.read_apply]
  show V m c main_arg0 _ = m0 m c _
  rw [V_main_arg0]
  congr 1
  funext x
  apply Fin.ext
  match x with
  | ⟨0, _⟩ => show 0 * 48 + 1 * r.val = r.val; omega
  | ⟨1, _⟩ => show 0 * 1024 + 1 * d.val = d.val; omega

/-- the weight's -/
theorem blk1 : (iblk m c 1 t : Vec Ideal S1x1024x768 .f32) (ix3 0 d k) = m1 m c (ix3 (pl t) d k) := by
  unfold iblk
  rw [View.read_apply]
  show V m c main_arg1 _ = m1 m c _
  rw [V_main_arg1]
  congr 1
  funext x
  apply Fin.ext
  match x with
  | ⟨0, _⟩ => show win0_1.index t 0 * 1 + 1 * (0 : ℕ) = t.val; rw [(ix_1 t).1]; omega
  | ⟨1, _⟩ => show win0_1.index t 1 * 1024 + 1 * d.val = d.val; rw [(ix_1 t).2.1]; omega
  | ⟨2, _⟩ => show win0_1.index t 2 * 768 + 1 * k.val = k.val; rw [(ix_1 t).2.2]; omega

/-- and the bias's. -/
theorem blk2 : (iblk m c 2 t : Vec Ideal S1x1x768 .f32) (ix3 0 0 k) = m2 m c (ix2 (pl t) k) := by
  rw [← hostB_eq]
  unfold iblk
  rw [View.read_apply]
  show V m c main_v0 _ = hostB m c _
  unfold hostB
  congr 1
  funext x
  apply Fin.ext
  match x with
  | ⟨0, _⟩ => show win0_2.index t 0 * 1 + 1 * (0 : ℕ) = t.val; rw [(ix_2 t).1]; omega
  | ⟨1, _⟩ => show win0_2.index t 1 * 1 + 1 * (0 : ℕ) = 0; rw [(ix_2 t).2.1]
  | ⟨2, _⟩ => show win0_2.index t 2 * 768 + 1 * k.val = k.val; rw [(ix_2 t).2.2]; omega

end Blocks

/-- The body's result. -/
theorem out_eq (x0 : S48x1024.Idx → EReal) (x1 : S1x1024x768.Idx → EReal) (x2 : S1x1x768.Idx → EReal) (r : Fin 48) (k : Fin 768) :
    (out0_3 (F := Ideal) x0 x1 x2 : S1x48x768.Idx → EReal) (ix3 0 r k) = (∑ d : Fin 1024, x0 (ix2 r d) * x1 (ix3 0 d k)) + x2 (ix3 0 0 k) := by
  unfold out0_3
  unfold r0_0 r0_1 r0_2 r0_3
  rw [View.canon_unit_zero hz3, View.ld_unit_zero (S := S48x1024) hz2, View.ld_unit_zero (S := S1x1024x768) hz3, View.ld_unit_zero (S := S1x1x768) hz3]
  unfold k0_pay1
  pointwise

/-- What a point writes is its part of the result. -/
theorem point_eq (t : Fin cfg0.N) (r : Fin 48) (k : Fin 768) :
    (out0_3 (F := Ideal) (iblk m c 0 t) (iblk m c 1 t) (iblk m c 2 t) : S1x48x768.Idx → EReal) (ix3 0 r k) = G m c (ix3 (pl t) r k) := by
  refine (out_eq _ _ _ r k).trans ?_
  show _ = modulation (m0 m c) (m1 m c) (m2 m c) (pl t) r k
  unfold modulation
  exact congrArg₂ (· + ·) (Finset.sum_congr rfl fun d _ => congrArg₂ (· * ·) (blk0 m c t r d) (blk1 m c t d k)) (blk2 m c t k)

/-- The array after the run. -/
theorem arr3 : (dats m 0 c).arrAt 3 cfg0.N = G m c := by
  refine (dats m 0 c).arrAt_eq_of_covers 3 _ (by decide +kernel) fun t hf y => ?_
  rw [after0_3]
  have y0 : (y 0).val = 0 := Nat.lt_one_iff.mp (y 0).isLt
  have ey : (cfg0.win 3).xinj (grid0.coords t) y = ix3 0 (y 1) (y 2) := funext fun a => Fin.ext (by
    match a with
    | ⟨0, _⟩ => exact y0
    | ⟨1, _⟩ => rfl
    | ⟨2, _⟩ => rfl)
  have ez : ((cfg0.win 3).blk t).view.emb y = ix3 (pl t) (y 1) (y 2) := funext fun a => Fin.ext (by
    match a with
    | ⟨0, _⟩ => show win0_3.index t 0 * 1 + 1 * (y 0).val = t.val; rw [(ix_3 t).1, y0]; omega
    | ⟨1, _⟩ => show win0_3.index t 1 * 48 + 1 * (y 1).val = (y 1).val; rw [(ix_3 t).2.1]; omega
    | ⟨2, _⟩ => show win0_3.index t 2 * 768 + 1 * (y 2).val = (y 2).val; rw [(ix_3 t).2.2]; omega)
  rw [ey, ez]
  exact (cast_eq _ _).trans (point_eq m c t (y 1) (y 2))

end Cert.ModForward

namespace Cert.ModForward

open Idealize.ShloMosaic Idealize.ShloMosaic.TcCoe Idealize.SL.Sem Idealize.ShloMosaic.StableHlo
open Cert.Reference8Ideal Cert.Reference8Ideal.Gen

/-- One layer of the reference. -/
def layer (l : ℕ) (a : FVec Ideal S48x1024 .f32) (w : FVec Ideal S2x1024x768 .f32) (b : FVec Ideal S2x768 .f32) (hw : S2x1024x768.Slices ![l, 0, 0] S1x1024x768)
    (hb : S2x768.Slices ![l, 0] S1x768) : FVec Ideal S48x768 .f32 :=
  addf (Host.dotGeneral dot_S48x1024_S1024x768_S48x768_1_0_0_1_n_n none a (shapeCast _ (extractStridedSlice S1x1024x768 ![l, 0, 0] w hw) shapeCasts_S1x1024x768_S1024x768))
    (broadcastInDim S48x768 ![0, 1] bcast_S1x768_S48x768_0_1 (broadcastInDim S1x768 ![1] bcast_S768_S1x768_1 (shapeCast _ (extractStridedSlice S1x768 ![l, 0] b hb) shapeCasts_S1x768_S768)))

theorem layer0_eq (a : S48x1024.Idx → EReal) (w : S2x1024x768.Idx → EReal) (b : S2x768.Idx → EReal) (r : Fin 48) (k : Fin 768) :
    (layer 0 a w b slices_S2x1024x768_S1x1024x768_0_0_0 slices_S2x768_S1x768_0_0 : S48x768.Idx → EReal) (ix2 r k) = modulation a w b 0 r k := by
  unfold layer modulation; pointwise
theorem layer1_eq (a : S48x1024.Idx → EReal) (w : S2x1024x768.Idx → EReal) (b : S2x768.Idx → EReal) (r : Fin 48) (k : Fin 768) :
    (layer 1 a w b slices_S2x1024x768_S1x1024x768_1_0_0 slices_S2x768_S1x768_1_0 : S48x768.Idx → EReal) (ix2 r k) = modulation a w b 1 r k := by
  unfold layer modulation; pointwise

/-- The two layers. -/
def both (a : FVec Ideal S48x1024 .f32) (w : FVec Ideal S2x1024x768 .f32) (b : FVec Ideal S2x768 .f32) : FVec Ideal S2x48x768 .f32 :=
  concatenate S2x48x768 0 [⟨S1x48x768, (broadcastInDim S1x48x768 ![1, 2] bcast_S48x768_S1x48x768_1_2 (layer 0 a w b slices_S2x1024x768_S1x1024x768_0_0_0 slices_S2x768_S1x768_0_0))⟩,
    ⟨S1x48x768, (broadcastInDim S1x48x768 ![1, 2] bcast_S48x768_S1x48x768_1_2 (layer 1 a w b slices_S2x1024x768_S1x1024x768_1_0_0 slices_S2x768_S1x768_1_0))⟩] concatenates_S1x48x768_S1x48x768_S2x48x768_d0

theorem both_eq (a : S48x1024.Idx → EReal) (w : S2x1024x768.Idx → EReal) (b : S2x768.Idx → EReal) (l : Fin 2) (r : Fin 48) (k : Fin 768) :
    (both a w b : S2x48x768.Idx → EReal) (ix3 l r k) = modulation a w b l r k := by
  unfold both
  pointwise
  fin_cases l
  · exact layer0_eq a w b r k
  · exact layer1_eq a w b r k

end Cert.ModForward

namespace Cert.ModForward

open Idealize.ShloMosaic Idealize.ShloMosaic.TcCoe Idealize.SL.Sem Idealize.ShloMosaic.StableHlo

/-- The reference's frame. -/
theorem frame_reference : quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- Both programs end with the same array. -/
theorem algebraic : algebraic_Kernel8Ideal_Reference8Ideal := by
  intro m g m' g' _ hagree
  refine ⟨fun c => G m c, ?_, ?_⟩
  · exact (θ_run _ _ _).mono (fun r h c => ⟨(h c).1.trans (arr3 m c), (h c).2⟩) (Cert.Kernel8Ideal.Value.run_blocks m g)
  · refine (θ_run _ _ _).mono (fun r h c => ⟨(h c).1.trans ?_, (h c).2⟩) (Cert.Reference8Ideal.Value.run m' g')
    rw [(hagree c).1, (hagree c).2.1, (hagree c).2.2]
    funext i
    idx_vars i
    exact both_eq (m0 m c) (m1 m c) (m2 m c) i0 i1 i2

end Cert.ModForward

end
-- ==== Proof.ModGrad.lean ====
/- The modulation's gradients: a point's products are the reference's, layer by layer. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Tactic
public import Idealize.ShloMosaic.Lib.Pipeline.ValueKit
public import Idealize.ShloMosaic.Lib.Quiescent
public import Idealize.ShloMosaic.Lib.StableHlo.ReadAt

@[expose] public section

set_option maxRecDepth 16384

noncomputable section

namespace Cert.ModGrad

open Idealize.ShloMosaic Idealize.ShloMosaic.TcCoe Idealize.SL.Sem Idealize.ShloMosaic.StableHlo
open Cert.Kernel9Ideal Cert.Kernel9Ideal.Gen Cert.Kernel9Ideal.Value

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The weight's gradient: the activations' column `d` against the cotangents' column `k`. -/
def dweight (a : S48x1024.Idx → EReal) (e : S2x48x768.Idx → EReal) (l : Fin 2) (d : Fin 1024) (k : Fin 768) : EReal :=
  ∑ r : Fin 48, a (ix2 r d) * e (ix3 l r k)
/-- The context rows' gradient. -/
def dcontext (e : S2x8x768.Idx → EReal) (w : S2x1024x768.Idx → EReal) (l : Fin 2) (r : Fin 8) (d : Fin 1024) : EReal :=
  ∑ k : Fin 768, e (ix3 l r k) * w (ix3 l d k)

variable (m : (ℓ : Loc nD τ sig) → Buf (Elt Ideal) ℓ) (c : Dev nD)

abbrev m0 : S48x1024.Idx → EReal := m ((c : Thread nD τ).loc main_arg0)
abbrev m1 : S2x48x768.Idx → EReal := m ((c : Thread nD τ).loc main_arg1)
abbrev m2 : S2x8x768.Idx → EReal := m ((c : Thread nD τ).loc main_arg2)
abbrev m3 : S2x1024x768.Idx → EReal := m ((c : Thread nD τ).loc main_arg3)

/-- The two results. -/
def G4 : S2x1024x768.Idx → EReal := fun i => dweight (m0 m c) (m1 m c) (i 0) (i 1) (i 2)
def G5 : S2x8x1024.Idx → EReal := fun i => dcontext (m2 m c) (m3 m c) (i 0) (i 1) (i 2)

theorem ix_0 : ∀ t : Fin cfg0.N, win0_0.index t (0 : Fin 2) = 0 ∧ win0_0.index t (1 : Fin 2) = 0 :=
  (by decide +kernel : ∀ t : Fin grid0.N, _)
theorem ix_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem ix_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem ix_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem ix_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem ix_5 : ∀ t : Fin cfg0.N, win0_5.index t (0 : Fin 3) = t.val ∧ win0_5.index t (1 : Fin 3) = 0 ∧ win0_5.index t (2 : Fin 3) = 0 :=
  (by decide +kernel : ∀ t : Fin grid0.N, _)

/-- A point's layer. -/
def pl (t : Fin cfg0.N) : Fin 2 := ⟨t.val, lt_of_lt_of_eq t.isLt N_0⟩

section Blocks
variable (t : Fin cfg0.N) (r : Fin 48) (q : Fin 8) (d : Fin 1024) (k : Fin 768)

/-- The activations' block, -/
theorem blk0 : (iblk m c 0 t : Vec Ideal S48x1024 .f32) (ix2 r d) = m0 m c (ix2 r d) := by
  unfold iblk
  rw [View.read_apply]
  show V m c main_arg0 _ = m0 m c _
  rw [V_main_arg0]
  congr 1
  funext x
  apply Fin.ext
  match x with
  | ⟨0, _⟩ => show win0_0.index t 0 * 48 + 1 * r.val = r.val; rw [(ix_0 t).1]; omega
  | ⟨1, _⟩ => show win0_0.index t 1 * 1024 + 1 * d.val = d.val; rw [(ix_0 t).2]; omega
/-- the cotangents' -/
theorem blk1 : (iblk m c 1 t : Vec Ideal S1x48x768 .f32) (ix3 0 r k) = m1 m c (ix3 (pl t) r k) := by
  unfold iblk
  rw [View.read_apply]
  show V m c main_arg1 _ = m1 m c _
  rw [V_main_arg1]
  congr 1
  funext x
  apply Fin.ext
  match x with
  | ⟨0, _⟩ => show win0_1.index t 0 * 1 + 1 * (0 : ℕ) = t.val; rw [(ix_1 t).1]; omega
  | ⟨1, _⟩ => show win0_1.index t 1 * 48 + 1 * r.val = r.val; rw [(ix_1 t).2.1]; omega
  | ⟨2, _⟩ => show win0_1.index t 2 * 768 + 1 * k.val = k.val; rw [(ix_1 t).2.2]; omega
/-- and the context rows' -/
theorem blk2 : (iblk m c 2 t : Vec Ideal S1x8x768 .f32) (ix3 0 q k) = m2 m c (ix3 (pl t) q k) := by
  unfold iblk
  rw [View.read_apply]
  show V m c main_arg2 _ = m2 m c _
  rw [V_main_arg2]
  congr 1
  funext x
  apply Fin.ext
  match x with
  | ⟨0, _⟩ => show win0_2.index t 0 * 1 + 1 * (0 : ℕ) = t.val; rw [(ix_2 t).1]; omega
  | ⟨1, _⟩ => show win0_2.index t 1 * 8 + 1 * q.val = q.val; rw [(ix_2 t).2.1]; omega
  | ⟨2, _⟩ => show win0_2.index t 2 * 768 + 1 * k.val = k.val; rw [(ix_2 t).2.2]; omega
/-- and the weight's. -/
theorem blk3 : (iblk m c 3 t : Vec Ideal S1x1024x768 .f32) (ix3 0 d k) = m3 m c (ix3 (pl t) d k) := by
  unfold iblk
  rw [View.read_apply]
  show V m c main_arg3 _ = m3 m c _
  rw [V_main_arg3]
  congr 1
  funext x
  apply Fin.ext
  match x with
  | ⟨0, _⟩ => show win0_3.index t 0 * 1 + 1 * (0 : ℕ) = t.val; rw [(ix_3 t).1]; omega
  | ⟨1, _⟩ => show win0_3.index t 1 * 1024 + 1 * d.val = d.val; rw [(ix_3 t).2.1]; omega
  | ⟨2, _⟩ => show win0_3.index t 2 * 768 + 1 * k.val = k.val; rw [(ix_3 t).2.2]; omega

end Blocks

/-- The body's results. -/
theorem out4_eq (x0 : S48x1024.Idx → EReal) (x1 : S1x48x768.Idx → EReal) (x2 : S1x8x768.Idx → EReal) (x3 : S1x1024x768.Idx → EReal) (d : Fin 1024) (k : Fin 768) :
    (out0_4 (F := Ideal) x0 x1 x2 x3 : S1x1024x768.Idx → EReal) (ix3 0 d k) = ∑ r : Fin 48, x0 (ix2 r d) * x1 (ix3 0 r k) := by
  unfold out0_4
  unfold r0_0 r0_1 r0_2
  rw [View.canon_unit_zero hz3, View.ld_unit_zero (S := S48x1024) hz2, View.ld_unit_zero (S := S1x48x768) hz3]
  unfold k0_pay1
  pointwise
theorem out5_eq (x0 : S48x1024.Idx → EReal) (x1 : S1x48x768.Idx → EReal) (x2 : S1x8x768.Idx → EReal) (x3 : S1x1024x768.Idx → EReal) (q : Fin 8) (d : Fin 1024) :
    (out0_5 (F := Ideal) x0 x1 x2 x3 : S1x8x1024.Idx → EReal) (ix3 0 q d) = ∑ k : Fin 768, x2 (ix3 0 q k) * x3 (ix3 0 d k) := by
  unfold out0_5
  unfold r0_2 r0_3 r0_4
  rw [View.canon_unit_zero hz3, View.ld_unit_zero (S := S1x8x768) hz3, View.ld_unit_zero (S := S1x1024x768) hz3]
  unfold k0_pay2
  pointwise

theorem point4_eq (t : Fin cfg0.N) (d : Fin 1024) (k : Fin 768) :
    (out0_4 (F := Ideal) (iblk m c 0 t) (iblk m c 1 t) (iblk m c 2 t) (iblk m c 3 t) : S1x1024x768.Idx → EReal) (ix3 0 d k) = G4 m c (ix3 (pl t) d k) := by
  refine (out4_eq _ _ _ _ d k).trans ?_
  show _ = dweight (m0 m c) (m1 m c) (pl t) d k
  unfold dweight
  exact Finset.sum_congr rfl fun r _ => congrArg₂ (· * ·) (blk0 m c t r d) (blk1 m c t r k)
theorem point5_eq (t : Fin cfg0.N) (q : Fin 8) (d : Fin 1024) :
    (out0_5 (F := Ideal) (iblk m c 0 t) (iblk m c 1 t) (iblk m c 2 t) (iblk m c 3 t) : S1x8x1024.Idx → EReal) (ix3 0 q d) = G5 m c (ix3 (pl t) q d) := by
  refine (out5_eq _ _ _ _ q d).trans ?_
  show _ = dcontext (m2 m c) (m3 m c) (pl t) q d
  unfold dcontext
  exact Finset.sum_congr rfl fun k _ => congrArg₂ (· * ·) (blk2 m c t q k) (blk3 m c t d k)

/-- The first array after the run, -/
theorem arr4 : (dats m 0 c).arrAt 4 cfg0.N = G4 m c := by
  refine (dats m 0 c).arrAt_eq_of_covers 4 _ (by decide +kernel) fun t hf y => ?_
  rw [after0_4]
  have y0 : (y 0).val = 0 := Nat.lt_one_iff.mp (y 0).isLt
  have ey : (cfg0.win 4).xinj (grid0.coords t) y = ix3 0 (y 1) (y 2) := funext fun a => Fin.ext (by
    match a with
    | ⟨0, _⟩ => exact y0
    | ⟨1, _⟩ => rfl
    | ⟨2, _⟩ => rfl)
  have ez : ((cfg0.win 4).blk t).view.emb y = ix3 (pl t) (y 1) (y 2) := funext fun a => Fin.ext (by
    match a with
    | ⟨0, _⟩ => show win0_4.index t 0 * 1 + 1 * (y 0).val = t.val; rw [(ix_4 t).1, y0]; omega
    | ⟨1, _⟩ => show win0_4.index t 1 * 1024 + 1 * (y 1).val = (y 1).val; rw [(ix_4 t).2.1]; omega
    | ⟨2, _⟩ => show win0_4.index t 2 * 768 + 1 * (y 2).val = (y 2).val; rw [(ix_4 t).2.2]; omega)
  rw [ey, ez]
  exact (cast_eq _ _).trans (point4_eq m c t (y 1) (y 2))

/-- and the second. -/
theorem arr5 : (dats m 0 c).arrAt 5 cfg0.N = G5 m c := by
  refine (dats m 0 c).arrAt_eq_of_covers 5 _ (by decide +kernel) fun t hf y => ?_
  rw [after0_5]
  have y0 : (y 0).val = 0 := Nat.lt_one_iff.mp (y 0).isLt
  have ey : (cfg0.win 5).xinj (grid0.coords t) y = ix3 0 (y 1) (y 2) := funext fun a => Fin.ext (by
    match a with
    | ⟨0, _⟩ => exact y0
    | ⟨1, _⟩ => rfl
    | ⟨2, _⟩ => rfl)
  have ez : ((cfg0.win 5).blk t).view.emb y = ix3 (pl t) (y 1) (y 2) := funext fun a => Fin.ext (by
    match a with
    | ⟨0, _⟩ => show win0_5.index t 0 * 1 + 1 * (y 0).val = t.val; rw [(ix_5 t).1, y0]; omega
    | ⟨1, _⟩ => show win0_5.index t 1 * 8 + 1 * (y 1).val = (y 1).val; rw [(ix_5 t).2.1]; omega
    | ⟨2, _⟩ => show win0_5.index t 2 * 1024 + 1 * (y 2).val = (y 2).val; rw [(ix_5 t).2.2]; omega)
  rw [ey, ez]
  exact (cast_eq _ _).trans (point5_eq m c t (y 1) (y 2))

end Cert.ModGrad

namespace Cert.ModGrad

open Idealize.ShloMosaic Idealize.ShloMosaic.TcCoe Idealize.SL.Sem Idealize.ShloMosaic.StableHlo
open Cert.Reference9Ideal Cert.Reference9Ideal.Gen

/-- The reference's weight gradient of the two layers. -/
def dw0 (a : FVec Ideal S48x1024 .f32) (e : FVec Ideal S2x48x768 .f32) : FVec Ideal S1024x768 .f32 :=
  (transpose S1024x768 [1, 0] (Host.dotGeneral dot_S48x768_S48x1024_S768x1024_0_0_1_1_n_n none (shapeCast _ (extractStridedSlice S1x48x768 ![0, 0, 0] e slices_S2x48x768_S1x48x768_0_0_0) shapeCasts_S1x48x768_S48x768) a) transposes_S768x1024_S1024x768_1_0)
def dw1 (a : FVec Ideal S48x1024 .f32) (e : FVec Ideal S2x48x768 .f32) : FVec Ideal S1024x768 .f32 :=
  (transpose S1024x768 [1, 0] (Host.dotGeneral dot_S48x768_S48x1024_S768x1024_0_0_1_1_n_n none (shapeCast _ (extractStridedSlice S1x48x768 ![1, 0, 0] e slices_S2x48x768_S1x48x768_1_0_0) shapeCasts_S1x48x768_S48x768) a) transposes_S768x1024_S1024x768_1_0)
/-- The reference's context gradient of the two layers. -/
def dc0 (e : FVec Ideal S2x8x768 .f32) (w : FVec Ideal S2x1024x768 .f32) : FVec Ideal S8x1024 .f32 :=
  (Host.dotGeneral dot_S8x768_S1024x768_S8x1024_1_1_0_0_n_n none (shapeCast _ (extractStridedSlice S1x8x768 ![0, 0, 0] e slices_S2x8x768_S1x8x768_0_0_0) shapeCasts_S1x8x768_S8x768) (shapeCast _ (extractStridedSlice S1x1024x768 ![0, 0, 0] w slices_S2x1024x768_S1x1024x768_0_0_0) shapeCasts_S1x1024x768_S1024x768))
def dc1 (e : FVec Ideal S2x8x768 .f32) (w : FVec Ideal S2x1024x768 .f32) : FVec Ideal S8x1024 .f32 :=
  (Host.dotGeneral dot_S8x768_S1024x768_S8x1024_1_1_0_0_n_n none (shapeCast _ (extractStridedSlice S1x8x768 ![1, 0, 0] e slices_S2x8x768_S1x8x768_1_0_0) shapeCasts_S1x8x768_S8x768) (shapeCast _ (extractStridedSlice S1x1024x768 ![1, 0, 0] w slices_S2x1024x768_S1x1024x768_1_0_0) shapeCasts_S1x1024x768_S1024x768))

theorem dw0_eq (a : S48x1024.Idx → EReal) (e : S2x48x768.Idx → EReal) (d : Fin 1024) (k : Fin 768) :
    (dw0 a e : S1024x768.Idx → EReal) (ix2 d k) = dweight a e 0 d k := by
  unfold dw0 dweight
  pointwise
  exact Finset.sum_congr rfl fun r _ => mul_comm _ _
theorem dc0_eq (e : S2x8x768.Idx → EReal) (w : S2x1024x768.Idx → EReal) (q : Fin 8) (d : Fin 1024) :
    (dc0 e w : S8x1024.Idx → EReal) (ix2 q d) = dcontext e w 0 q d := by
  unfold dc0 dcontext
  pointwise
theorem dw1_eq (a : S48x1024.Idx → EReal) (e : S2x48x768.Idx → EReal) (d : Fin 1024) (k : Fin 768) :
    (dw1 a e : S1024x768.Idx → EReal) (ix2 d k) = dweight a e 1 d k := by
  unfold dw1 dweight
  pointwise
  exact Finset.sum_congr rfl fun r _ => mul_comm _ _
theorem dc1_eq (e : S2x8x768.Idx → EReal) (w : S2x1024x768.Idx → EReal) (q : Fin 8) (d : Fin 1024) :
    (dc1 e w : S8x1024.Idx → EReal) (ix2 q d) = dcontext e w 1 q d := by
  unfold dc1 dcontext
  pointwise

/-- The layers together. -/
def dws (a : FVec Ideal S48x1024 .f32) (e : FVec Ideal S2x48x768 .f32) : FVec Ideal S2x1024x768 .f32 :=
  concatenate S2x1024x768 0 [⟨S1x1024x768, (broadcastInDim S1x1024x768 ![1, 2] bcast_S1024x768_S1x1024x768_1_2 (dw0 a e))⟩, ⟨S1x1024x768, (broadcastInDim S1x1024x768 ![1, 2] bcast_S1024x768_S1x1024x768_1_2 (dw1 a e))⟩] concatenates_S1x1024x768_S1x1024x768_S2x1024x768_d0
def dcs (e : FVec Ideal S2x8x768 .f32) (w : FVec Ideal S2x1024x768 .f32) : FVec Ideal S2x8x1024 .f32 :=
  concatenate S2x8x1024 0 [⟨S1x8x1024, (broadcastInDim S1x8x1024 ![1, 2] bcast_S8x1024_S1x8x1024_1_2 (dc0 e w))⟩, ⟨S1x8x1024, (broadcastInDim S1x8x1024 ![1, 2] bcast_S8x1024_S1x8x1024_1_2 (dc1 e w))⟩] concatenates_S1x8x1024_S1x8x1024_S2x8x1024_d0

theorem dws_eq (a : S48x1024.Idx → EReal) (e : S2x48x768.Idx → EReal) (l : Fin 2) (d : Fin 1024) (k : Fin 768) :
    (dws a e : S2x1024x768.Idx → EReal) (ix3 l d k) = dweight a e l d k := by
  unfold dws
  pointwise
  fin_cases l
  · exact dw0_eq a e d k
  · exact dw1_eq a e d k
theorem dcs_eq (e : S2x8x768.Idx → EReal) (w : S2x1024x768.Idx → EReal) (l : Fin 2) (q : Fin 8) (d : Fin 1024) :
    (dcs e w : S2x8x1024.Idx → EReal) (ix3 l q d) = dcontext e w l q d := by
  unfold dcs
  pointwise
  fin_cases l
  · exact dc0_eq e w q d
  · exact dc1_eq e w q d

end Cert.ModGrad

namespace Cert.ModGrad

open Idealize.ShloMosaic Idealize.ShloMosaic.TcCoe Idealize.SL.Sem Idealize.ShloMosaic.StableHlo

/-- The reference's frame. -/
theorem frame_reference : quiescent_Reference9Ideal := fun m ρ _ =>
  (θ_run Cert.Reference9Ideal.defs _ _).mono (fun r h => ⟨fun c => (h c).2.2, Idealize.ShloMosaic.sem_eq_zero_of_no_sems (by decide) r.2⟩)
    (Cert.Reference9Ideal.Value.run (F := Ideal) m ρ)

/-- Both programs end with the same arrays. -/
theorem algebraic : algebraic_Kernel9Ideal_Reference9Ideal := by
  intro m g m' g' _ hagree
  refine ⟨fun c => G4 m c, fun c => G5 m c, ?_, ?_⟩
  · exact (θ_run _ _ _).mono (fun r h c => ⟨(h c).1.trans (arr4 m c), (h c).2.1.trans (arr5 m c), (h c).2.2⟩) (Cert.Kernel9Ideal.Value.run_blocks m g)
  · refine (θ_run _ _ _).mono (fun r h c => ⟨(h c).1.trans ?_, (h c).2.1.trans ?_, (h c).2.2⟩) (Cert.Reference9Ideal.Value.run m' g')
    · rw [(hagree c).1, (hagree c).2.1]
      funext i
      idx_vars i
      exact dws_eq (m0 m c) (m1 m c) i0 i1 i2
    · rw [(hagree c).2.2.1, (hagree c).2.2.2]
      funext i
      idx_vars i
      exact dcs_eq (m2 m c) (m3 m c) i0 i1 i2

end Cert.ModGrad

end
-- ==== Proof.ModStep.lean ====
/- The optimiser on the modulation's weight: a point's blocks are the reference's entries. -/
module

public import proofs.«01_k».proof.Defs
public import proofs.«01_k».proof.Proof.Gen.Kernel10Ideal.Value
public import proofs.«01_k».proof.Proof.Gen.Reference10Ideal.Run
public import Idealize.ShloMosaic.Lib.Pointwise
public import Idealize.ShloMosaic.Lib.Tactic
public import Idealize.ShloMosaic.Lib.Pipeline.ValueKit
public import Idealize.ShloMosaic.Lib.Quiescent
public import Idealize.ShloMosaic.Lib.StableHlo.ReadAt

@[expose] public section

set_option maxRecDepth 16384

noncomputable section

namespace Cert.ModStep

open Idealize.ShloMosaic Idealize.ShloMosaic.TcCoe Idealize.SL.Sem Idealize.ShloMosaic.StableHlo
open Cert.Kernel10Ideal Cert.Kernel10Ideal.Gen Cert.Kernel10Ideal.Value

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A printed constant. -/
abbrev lit (b : BitVec 32) : EReal := Scalar.ofBits (F := Ideal) .f32 b
/-- The new first moment, -/
def first (g u : EReal) : EReal := lit 0x3F666666#32 * u + lit 0x3DCCCCCD#32 * g
/-- the new second moment -/
def second (g v : EReal) : EReal := lit 0x3F7FBE77#32 * v + lit 0x3A83126F#32 * (g * g)
/-- and the change of the weight. -/
def change (w g u v : EReal) : EReal :=
  lit 0xBA83126F#32 * (Ideal.div (Ideal.div (first g u) (lit 0x3F26BD02#32)) (Ideal.sqrt (Ideal.div (second g v) (lit 0x3C231ACC#32)) + lit 0x322BCC77#32) + lit 0x3C23D70A#32 * w)

variable (m : (ℓ : Loc nD τ sig) → Buf (Elt Ideal) ℓ) (c : Dev nD)

abbrev m0 : S2x1024x768.Idx → EReal := m ((c : Thread nD τ).loc main_arg0)
abbrev m1 : S2x1024x768.Idx → EReal := m ((c : Thread nD τ).loc main_arg1)
abbrev m2 : S2x1024x768.Idx → EReal := m ((c : Thread nD τ).loc main_arg2)
abbrev m3 : S2x1024x768.Idx → EReal := m ((c : Thread nD τ).loc main_arg3)

/-- The gradient as the region finds it. -/
abbrev hostG : S1x2x1024x768.Idx → EReal := V m c main_v0

theorem hostG_eq (l : Fin 2) (d : Fin 1024) (k : Fin 768) : hostG m c (ix4 0 l d k) = m1 m c (ix3 l d k) := by
  unfold hostG V
  simp only [hostOps0]
  after_results_simp
  pointwise

/-- The four results. -/
def G4 : S2x1024x768.Idx → EReal := fun i => m1 m c i
def G5 : S2x1024x768.Idx → EReal := fun i => change (m0 m c i) (m1 m c i) (m2 m c i) (m3 m c i)
def G6 : S2x1024x768.Idx → EReal := fun i => first (m1 m c i) (m2 m c i)
def G7 : S2x1024x768.Idx → EReal := fun i => second (m1 m c i) (m3 m c i)

theorem ix_0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem ix_2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)
theorem ix_3 : ∀ t : Fin cfg0.N, win0_3.index t (0 : Fin 3) = t.val / 2 ∧ win0_3.index t (1 : Fin 3) = t.val % 2 ∧ win0_3.index t (2 : Fin 3) = 0 :=
  (by decide +kernel : ∀ t : Fin grid0.N, _)
theorem ix_4 : ∀ t : Fin cfg0.N, win0_4.index t (0 : Fin 3) = t.val / 2 ∧ win0_4.index t (1 : Fin 3) = t.val % 2 ∧ win0_4.index t (2 : Fin 3) = 0 :=
  (by decide +kernel : ∀ t : Fin grid0.N, _)
theorem ix_5 : ∀ t : Fin cfg0.N, win0_5.index t (0 : Fin 3) = t.val / 2 ∧ win0_5.index t (1 : Fin 3) = t.val % 2 ∧ win0_5.index t (2 : Fin 3) = 0 :=
  (by decide +kernel : ∀ t : Fin grid0.N, _)
theorem ix_6 : ∀ t : Fin cfg0.N, win0_6.index t (0 : Fin 3) = t.val / 2 ∧ win0_6.index t (1 : Fin 3) = t.val % 2 ∧ win0_6.index t (2 : Fin 3) = 0 :=
  (by decide +kernel : ∀ t : Fin grid0.N, _)
theorem ix_7 : ∀ t : Fin cfg0.N, win0_7.index t (0 : Fin 3) = t.val / 2 ∧ win0_7.index t (1 : Fin 3) = t.val % 2 ∧ win0_7.index t (2 : Fin 3) = 0 :=
  (by decide +kernel : ∀ t : Fin grid0.N, _)
theorem ix_1 : ∀ t : Fin cfg0.N, win0_1.index t (0 : Fin 4) = 0 ∧ win0_1.index t (1 : Fin 4) = t.val / 2 ∧ win0_1.index t (2 : Fin 4) = t.val % 2 ∧ win0_1.index t (3 : Fin 4) = 0 :=
  (by decide +kernel : ∀ t : Fin grid0.N, _)

/-- A point's layer, -/
def pl (t : Fin cfg0.N) : Fin 2 := ⟨t.val / 2, by have h := lt_of_lt_of_eq t.isLt N_0; omega⟩
/-- and the row of its block's row `r`. -/
def pr (t : Fin cfg0.N) (r : Fin 512) : Fin 1024 := ⟨512 * (t.val % 2) + r.val, by omega⟩

section Blocks
variable (t : Fin cfg0.N) (r : Fin 512) (k : Fin 768)

/-- The weight's block, -/
theorem blk0 : (iblk m c 0 t : Vec Ideal S1x512x768 .f32) (ix3 0 r k) = m0 m c (ix3 (pl t) (pr t r) k) := by
  unfold iblk
  rw [View.read_apply]
  show V m c main_arg0 _ = m0 m c _
  rw [V_main_arg0]
  congr 1
  funext x
  apply Fin.ext
  match x with
  | ⟨0, _⟩ => show win0_0.index t 0 * 1 + 1 * (0 : ℕ) = t.val / 2; rw [(ix_0 t).1]; omega
  | ⟨1, _⟩ => show win0_0.index t 1 * 512 + 1 * r.val = 512 * (t.val % 2) + r.val; rw [(ix_0 t).2.1]; omega
  | ⟨2, _⟩ => show win0_0.index t 2 * 768 + 1 * k.val = k.val; rw [(ix_0 t).2.2]; omega
/-- the gradient's -/
theorem blk1 : (iblk m c 1 t : Vec Ideal S1x1x512x768 .f32) (ix4 0 0 r k) = m1 m c (ix3 (pl t) (pr t r) k) := by
  rw [← hostG_eq]
  unfold iblk
  rw [View.read_apply]
  show V m c main_v0 _ = hostG m c _
  unfold hostG
  congr 1
  funext x
  apply Fin.ext
  match x with
  | ⟨0, _⟩ => show win0_1.index t 0 * 1 + 1 * (0 : ℕ) = 0; rw [(ix_1 t).1]
  | ⟨1, _⟩ => show win0_1.index t 1 * 1 + 1 * (0 : ℕ) = t.val / 2; rw [(ix_1 t).2.1]; omega
  | ⟨2, _⟩ => show win0_1.index t 2 * 512 + 1 * r.val = 512 * (t.val % 2) + r.val; rw [(ix_1 t).2.2.1]; omega
  | ⟨3, _⟩ => show win0_1.index t 3 * 768 + 1 * k.val = k.val; rw [(ix_1 t).2.2.2]; omega
/-- and the moments'. -/
theorem blk2 : (iblk m c 2 t : Vec Ideal S1x512x768 .f32) (ix3 0 r k) = m2 m c (ix3 (pl t) (pr t r) k) := by
  unfold iblk
  rw [View.read_apply]
  show V m c main_arg2 _ = m2 m c _
  rw [V_main_arg2]
  congr 1
  funext x
  apply Fin.ext
  match x with
  | ⟨0, _⟩ => show win0_2.index t 0 * 1 + 1 * (0 : ℕ) = t.val / 2; rw [(ix_2 t).1]; omega
  | ⟨1, _⟩ => show win0_2.index t 1 * 512 + 1 * r.val = 512 * (t.val % 2) + r.val; rw [(ix_2 t).2.1]; omega
  | ⟨2, _⟩ => show win0_2.index t 2 * 768 + 1 * k.val = k.val; rw [(ix_2 t).2.2]; omega
/-- The second moment's. -/
theorem blk3 : (iblk m c 3 t : Vec Ideal S1x512x768 .f32) (ix3 0 r k) = m3 m c (ix3 (pl t) (pr t r) k) := by
  unfold iblk
  rw [View.read_apply]
  show V m c main_arg3 _ = m3 m c _
  rw [V_main_arg3]
  congr 1
  funext x
  apply Fin.ext
  match x with
  | ⟨0, _⟩ => show win0_3.index t 0 * 1 + 1 * (0 : ℕ) = t.val / 2; rw [(ix_3 t).1]; omega
  | ⟨1, _⟩ => show win0_3.index t 1 * 512 + 1 * r.val = 512 * (t.val % 2) + r.val; rw [(ix_3 t).2.1]; omega
  | ⟨2, _⟩ => show win0_3.index t 2 * 768 + 1 * k.val = k.val; rw [(ix_3 t).2.2]; omega

end Blocks

theorem out4_eq (x0 : S1x512x768.Idx → EReal) (x1 : S1x1x512x768.Idx → EReal) (x2 x3 : S1x512x768.Idx → EReal) (r : Fin 512) (k : Fin 768) :
    (out0_4 (F := Ideal) x0 x1 x2 x3 : S1x512x768.Idx → EReal) (ix3 0 r k) = x1 (ix4 0 0 r k) := by
  unfold out0_4
  unfold r0_0 r0_1
  rw [View.canon_unit_zero hz3]
  simp only [View.ld_unit_zero (S := S1x1x512x768) hz4, View.ld_unit_zero (S := S1x512x768) hz3]
  unfold k0_pay7 k0_pay4
  pointwise
theorem out5_eq (x0 : S1x512x768.Idx → EReal) (x1 : S1x1x512x768.Idx → EReal) (x2 x3 : S1x512x768.Idx → EReal) (r : Fin 512) (k : Fin 768) :
    (out0_5 (F := Ideal) x0 x1 x2 x3 : S1x512x768.Idx → EReal) (ix3 0 r k) = change (x0 (ix3 0 r k)) (x1 (ix4 0 0 r k)) (x2 (ix3 0 r k)) (x3 (ix3 0 r k)) := by
  unfold out0_5
  unfold r0_0 r0_1
  rw [View.canon_unit_zero hz3]
  simp only [View.ld_unit_zero (S := S1x1x512x768) hz4, View.ld_unit_zero (S := S1x512x768) hz3]
  unfold k0_pay1 k0_pay8 k0_pay5 k0_pay6 k0_pay4 change first second
  pointwise
theorem out6_eq (x0 : S1x512x768.Idx → EReal) (x1 : S1x1x512x768.Idx → EReal) (x2 x3 : S1x512x768.Idx → EReal) (r : Fin 512) (k : Fin 768) :
    (out0_6 (F := Ideal) x0 x1 x2 x3 : S1x512x768.Idx → EReal) (ix3 0 r k) = first (x1 (ix4 0 0 r k)) (x2 (ix3 0 r k)) := by
  unfold out0_6
  unfold r0_0 r0_1
  rw [View.canon_unit_zero hz3]
  simp only [View.ld_unit_zero (S := S1x1x512x768) hz4, View.ld_unit_zero (S := S1x512x768) hz3]
  unfold k0_pay2 k0_pay5 k0_pay4 first
  pointwise
theorem out7_eq (x0 : S1x512x768.Idx → EReal) (x1 : S1x1x512x768.Idx → EReal) (x2 x3 : S1x512x768.Idx → EReal) (r : Fin 512) (k : Fin 768) :
    (out0_7 (F := Ideal) x0 x1 x2 x3 : S1x512x768.Idx → EReal) (ix3 0 r k) = second (x1 (ix4 0 0 r k)) (x3 (ix3 0 r k)) := by
  unfold out0_7
  unfold r0_0 r0_1
  rw [View.canon_unit_zero hz3]
  simp only [View.ld_unit_zero (S := S1x1x512x768) hz4, View.ld_unit_zero (S := S1x512x768) hz3]
  unfold k0_pay3 k0_pay6 k0_pay4 second
  pointwise
theorem point4_eq (t : Fin cfg0.N) (r : Fin 512) (k : Fin 768) :
    (out0_4 (F := Ideal) (iblk m c 0 t) (iblk m c 1 t) (iblk m c 2 t) (iblk m c 3 t) : S1x512x768.Idx → EReal) (ix3 0 r k) = G4 m c (ix3 (pl t) (pr t r) k) := by
  refine (out4_eq _ _ _ _ r k).trans ?_
  show _ = m1 m c (ix3 (pl t) (pr t r) k)
  rw [blk1]
theorem point5_eq (t : Fin cfg0.N) (r : Fin 512) (k : Fin 768) :
    (out0_5 (F := Ideal) (iblk m c 0 t) (iblk m c 1 t) (iblk m c 2 t) (iblk m c 3 t) : S1x512x768.Idx → EReal) (ix3 0 r k) = G5 m c (ix3 (pl t) (pr t r) k) := by
  refine (out5_eq _ _ _ _ r k).trans ?_
  show _ = change (m0 m c (ix3 (pl t) (pr t r) k)) (m1 m c (ix3 (pl t) (pr t r) k)) (m2 m c (ix3 (pl t) (pr t r) k)) (m3 m c (ix3 (pl t) (pr t r) k))
  rw [blk0, blk1, blk2, blk3]
theorem point6_eq (t : Fin cfg0.N) (r : Fin 512) (k : Fin 768) :
    (out0_6 (F := Ideal) (iblk m c 0 t) (iblk m c 1 t) (iblk m c 2 t) (iblk m c 3 t) : S1x512x768.Idx → EReal) (ix3 0 r k) = G6 m c (ix3 (pl t) (pr t r) k) := by
  refine (out6_eq _ _ _ _ r k).trans ?_
  show _ = first (m1 m c (ix3 (pl t) (pr t r) k)) (m2 m c (ix3 (pl t) (pr t r) k))
  rw [blk1, blk2]
theorem point7_eq (t : Fin cfg0.N) (r : Fin 512) (k : Fin 768) :
    (out0_7 (F := Ideal) (iblk m c 0 t) (iblk m c 1 t) (iblk m c 2 t) (iblk m c 3 t) : S1x512x768.Idx → EReal) (ix3 0 r k) = G7 m c (ix3 (pl t) (pr t r) k) := by
  refine (out7_eq _ _ _ _ r k).trans ?_
  show _ = second (m1 m c (ix3 (pl t) (pr t r) k)) (m3 m c (ix3 (pl t) (pr t r) k))
  rw [blk1, blk3]

/-- The gradient after the run, -/
theorem arr4 : (dats m 0 c).arrAt 4 cfg0.N = G4 m c := by
  refine (dats m 0 c).arrAt_eq_of_covers 4 _ (by decide +kernel) fun t hf y => ?_
  rw [after0_4]
  have y0 : (y 0).val = 0 := Nat.lt_one_iff.mp (y 0).isLt
  have ey : (cfg0.win 4).xinj (grid0.coords t) y = ix3 0 (y 1) (y 2) := funext fun a => Fin.ext (by
    match a with
    | ⟨0, _⟩ => exact y0
    | ⟨1, _⟩ => rfl
    | ⟨2, _⟩ => rfl)
  have ez : ((cfg0.win 4).blk t).view.emb y = ix3 (pl t) (pr t (y 1)) (y 2) := funext fun a => Fin.ext (by
    match a with
    | ⟨0, _⟩ => show win0_4.index t 0 * 1 + 1 * (y 0).val = t.val / 2; rw [(ix_4 t).1, y0]; omega
    | ⟨1, _⟩ => show win0_4.index t 1 * 512 + 1 * (y 1).val = 512 * (t.val % 2) + (y 1).val; rw [(ix_4 t).2.1]; omega
    | ⟨2, _⟩ => show win0_4.index t 2 * 768 + 1 * (y 2).val = (y 2).val; rw [(ix_4 t).2.2]; omega)
  rw [ey, ez]
  exact (cast_eq _ _).trans (point4_eq m c t (y 1) (y 2))

/-- the change of the weight, -/
theorem arr5 : (dats m 0 c).arrAt 5 cfg0.N = G5 m c := by
  refine (dats m 0 c).arrAt_eq_of_covers 5 _ (by decide +kernel) fun t hf y => ?_
  rw [after0_5]
  have y0 : (y 0).val = 0 := Nat.lt_one_iff.mp (y 0).isLt
  have ey : (cfg0.win 5).xinj (grid0.coords t) y = ix3 0 (y 1) (y 2) := funext fun a => Fin.ext (by
    match a with
    | ⟨0, _⟩ => exact y0
    | ⟨1, _⟩ => rfl
    | ⟨2, _⟩ => rfl)
  have ez : ((cfg0.win 5).blk t).view.emb y = ix3 (pl t) (pr t (y 1)) (y 2) := funext fun a => Fin.ext (by
    match a with
    | ⟨0, _⟩ => show win0_5.index t 0 * 1 + 1 * (y 0).val = t.val / 2; rw [(ix_5 t).1, y0]; omega
    | ⟨1, _⟩ => show win0_5.index t 1 * 512 + 1 * (y 1).val = 512 * (t.val % 2) + (y 1).val; rw [(ix_5 t).2.1]; omega
    | ⟨2, _⟩ => show win0_5.index t 2 * 768 + 1 * (y 2).val = (y 2).val; rw [(ix_5 t).2.2]; omega)
  rw [ey, ez]
  exact (cast_eq _ _).trans (point5_eq m c t (y 1) (y 2))

/-- the first moment -/
theorem arr6 : (dats m 0 c).arrAt 6 cfg0.N = G6 m c := by
  refine (dats m 0 c).arrAt_eq_of_covers 6 _ (by decide +kernel) fun t hf y => ?_
  rw [after0_6]
  have y0 : (y 0).val = 0 := Nat.lt_one_iff.mp (y 0).isLt
  have ey : (cfg0.win 6).xinj (grid0.coords t) y = ix3 0 (y 1) (y 2) := funext fun a => Fin.ext (by
    match a with
    | ⟨0, _⟩ => exact y0
    | ⟨1, _⟩ => rfl
    | ⟨2, _⟩ => rfl)
  have ez : ((cfg0.win 6).blk t).view.emb y = ix3 (pl t) (pr t (y 1)) (y 2) := funext fun a => Fin.ext (by
    match a with
    | ⟨0, _⟩ => show win0_6.index t 0 * 1 + 1 * (y 0).val = t.val / 2; rw [(ix_6 t).1, y0]; omega
    | ⟨1, _⟩ => show win0_6.index t 1 * 512 + 1 * (y 1).val = 512 * (t.val % 2) + (y 1).val; rw [(ix_6 t).2.1]; omega
    | ⟨2, _⟩ => show win0_6.index t 2 * 768 + 1 * (y 2).val = (y 2).val; rw [(ix_6 t).2.2]; omega)
  rw [ey, ez]
  exact (cast_eq _ _).trans (point6_eq m c t (y 1) (y 2))

/-- and the second. -/
theorem arr7 : (dats m 0 c).arrAt 7 cfg0.N = G7 m c := by
  refine (dats m 0 c).arrAt_eq_of_covers 7 _ (by decide +kernel) fun t hf y => ?_
  rw [after0_7]
  have y0 : (y 0).val = 0 := Nat.lt_one_iff.mp (y 0).isLt
  have ey : (cfg0.win 7).xinj (grid0.coords t) y = ix3 0 (y 1) (y 2) := funext fun a => Fin.ext (by
    match a with
    | ⟨0, _⟩ => exact y0
    | ⟨1, _⟩ => rfl
    | ⟨2, _⟩ => rfl)
  have ez : ((cfg0.win 7).blk t).view.emb y = ix3 (pl t) (pr t (y 1)) (y 2) := funext fun a => Fin.ext (by
    match a with
    | ⟨0, _⟩ => show win0_7.index t 0 * 1 + 1 * (y 0).val = t.val / 2; rw [(ix_7 t).1, y0]; omega
    | ⟨1, _⟩ => show win0_7.index t 1 * 512 + 1 * (y 1).val = 512 * (t.val % 2) + (y 1).val; rw [(ix_7 t).2.1]; omega
    | ⟨2, _⟩ => show win0_7.index t 2 * 768 + 1 * (y 2).val = (y 2).val; rw [(ix_7 t).2.2]; omega)
  rw [ey, ez]
  exact (cast_eq _ _).trans (point7_eq m c t (y 1) (y 2))

/-- The reference's frame. -/
theorem frame_reference : quiescent_Reference10Ideal := fun m ρ _ =>
  (θ_run Cert.Reference10Ideal.defs _ _).mono (fun r h => ⟨fun c => (h c).2.2.2.2, Idealize.ShloMosaic.sem_eq_zero_of_no_sems (by decide) r.2⟩)
    (Cert.Reference10Ideal.Value.run (F := Ideal) m ρ)

/-- Both programs end with the same arrays. -/
theorem algebraic : algebraic_Kernel10Ideal_Reference10Ideal := by
  intro m g m' g' _ hagree
  refine ⟨fun c => G4 m c, fun c => G5 m c, fun c => G6 m c, fun c => G7 m c, ?_, ?_⟩
  · exact (θ_run _ _ _).mono (fun r h c => ⟨(h c).1.trans (arr4 m c), (h c).2.1.trans (arr5 m c), (h c).2.2.1.trans (arr6 m c), (h c).2.2.2.1.trans (arr7 m c), (h c).2.2.2.2⟩)
      (Cert.Kernel10Ideal.Value.run_blocks m g)
  · refine (θ_run _ _ _).mono (fun r h c => ⟨(h c).1.trans ?_, (h c).2.1.trans ?_, (h c).2.2.1.trans ?_, (h c).2.2.2.1.trans ?_, (h c).2.2.2.2⟩) (Cert.Reference10Ideal.Value.run m' g')
    · rw [(hagree c).2.1]
      rfl
    · rw [(hagree c).1, (hagree c).2.1, (hagree c).2.2.1, (hagree c).2.2.2]
      funext i
      unfold G5 change first second
      pointwise
    · rw [(hagree c).2.1, (hagree c).2.2.1]
      funext i
      unfold G6 first
      pointwise
    · rw [(hagree c).2.1, (hagree c).2.2.2]
      funext i
      unfold G7 second
      pointwise

end Cert.ModStep

end
-- ==== Proof.FfnStep.lean ====
/- The optimiser on a feed-forward weight: a point adds its layer's eight parts and steps as the reference does. -/
module

public import proofs.«01_k».proof.Defs
public import proofs.«01_k».proof.Proof.ModStep
public import proofs.«01_k».proof.Proof.Gen.Kernel11Ideal.Value
public import proofs.«01_k».proof.Proof.Gen.Reference11Ideal.Run
public import Idealize.ShloMosaic.Lib.Pointwise
public import Idealize.ShloMosaic.Lib.Tactic
public import Idealize.ShloMosaic.Lib.Pipeline.ValueKit
public import Idealize.ShloMosaic.Lib.Quiescent
public import Idealize.ShloMosaic.Lib.StableHlo.ReadAt

@[expose] public section

set_option maxRecDepth 16384

noncomputable section

namespace Cert.FfnStep

open Idealize.ShloMosaic Idealize.ShloMosaic.TcCoe Idealize.SL.Sem Idealize.ShloMosaic.StableHlo
open Cert.Kernel11Ideal Cert.Kernel11Ideal.Gen Cert.Kernel11Ideal.Value
open Cert.ModStep (lit first second change)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The gradient: the sum of the layer's eight parts. -/
def total (a b : S8x1x352x1024.Idx → EReal) (l : Fin 2) (r : Fin 352) (k : Fin 1024) : EReal :=
  if l = 1 then ∑ s : Fin 8, b (ix4 s 0 r k) else ∑ s : Fin 8, a (ix4 s 0 r k)

variable (m : (ℓ : Loc nD τ sig) → Buf (Elt Ideal) ℓ) (c : Dev nD)

abbrev m0 : S2x352x1024.Idx → EReal := m ((c : Thread nD τ).loc main_arg0)
abbrev m1 : S8x1x352x1024.Idx → EReal := m ((c : Thread nD τ).loc main_arg1)
abbrev m2 : S8x1x352x1024.Idx → EReal := m ((c : Thread nD τ).loc main_arg2)
abbrev m3 : S2x352x1024.Idx → EReal := m ((c : Thread nD τ).loc main_arg3)
abbrev m4 : S2x352x1024.Idx → EReal := m ((c : Thread nD τ).loc main_arg4)

/-- The four results. -/
def G5 : S2x352x1024.Idx → EReal := fun i => total (m1 m c) (m2 m c) (i 0) (i 1) (i 2)
def G6 : S2x352x1024.Idx → EReal := fun i => change (m0 m c i) (G5 m c i) (m3 m c i) (m4 m c i)
def G7 : S2x352x1024.Idx → EReal := fun i => first (G5 m c i) (m3 m c i)
def G8 : S2x352x1024.Idx → EReal := fun i => second (G5 m c i) (m4 m c i)

theorem ix_0 : ∀ t : Fin cfg0.N, win0_0.index t (0 : Fin 3) = t.val / 11 ∧ win0_0.index t (1 : Fin 3) = t.val % 11 ∧ win0_0.index t (2 : Fin 3) = 0 :=
  (by decide +kernel : ∀ t : Fin grid0.N, _)
theorem ix_3 : ∀ t : Fin cfg0.N, win0_3.index t (0 : Fin 3) = t.val / 11 ∧ win0_3.index t (1 : Fin 3) = t.val % 11 ∧ win0_3.index t (2 : Fin 3) = 0 :=
  (by decide +kernel : ∀ t : Fin grid0.N, _)
theorem ix_4 : ∀ t : Fin cfg0.N, win0_4.index t (0 : Fin 3) = t.val / 11 ∧ win0_4.index t (1 : Fin 3) = t.val % 11 ∧ win0_4.index t (2 : Fin 3) = 0 :=
  (by decide +kernel : ∀ t : Fin grid0.N, _)
theorem ix_5 : ∀ t : Fin cfg0.N, win0_5.index t (0 : Fin 3) = t.val / 11 ∧ win0_5.index t (1 : Fin 3) = t.val % 11 ∧ win0_5.index t (2 : Fin 3) = 0 :=
  (by decide +kernel : ∀ t : Fin grid0.N, _)
theorem ix_6 : ∀ t : Fin cfg0.N, win0_6.index t (0 : Fin 3) = t.val / 11 ∧ win0_6.index t (1 : Fin 3) = t.val % 11 ∧ win0_6.index t (2 : Fin 3) = 0 :=
  (by decide +kernel : ∀ t : Fin grid0.N, _)
theorem ix_7 : ∀ t : Fin cfg0.N, win0_7.index t (0 : Fin 3) = t.val / 11 ∧ win0_7.index t (1 : Fin 3) = t.val % 11 ∧ win0_7.index t (2 : Fin 3) = 0 :=
  (by decide +kernel : ∀ t : Fin grid0.N, _)
theorem ix_8 : ∀ t : Fin cfg0.N, win0_8.index t (0 : Fin 3) = t.val / 11 ∧ win0_8.index t (1 : Fin 3) = t.val % 11 ∧ win0_8.index t (2 : Fin 3) = 0 :=
  (by decide +kernel : ∀ t : Fin grid0.N, _)
theorem ix_1 : ∀ t : Fin cfg0.N, win0_1.index t (0 : Fin 4) = 0 ∧ win0_1.index t (1 : Fin 4) = 0 ∧ win0_1.index t (2 : Fin 4) = t.val % 11 ∧ win0_1.index t (3 : Fin 4) = 0 :=
  (by decide +kernel : ∀ t : Fin grid0.N, _)
theorem ix_2 : ∀ t : Fin cfg0.N, win0_2.index t (0 : Fin 4) = 0 ∧ win0_2.index t (1 : Fin 4) = 0 ∧ win0_2.index t (2 : Fin 4) = t.val % 11 ∧ win0_2.index t (3 : Fin 4) = 0 :=
  (by decide +kernel : ∀ t : Fin grid0.N, _)
/-- Which layer's parts a point takes. -/
theorem sel : ∀ t : Fin cfg0.N, Scalar.cmpi .eq (BitVec.ofNat 32 ((grid0.coords t) 0).val) 1#32 = if t.val / 11 = 1 then 1#1 else 0#1 :=
  (by decide +kernel : ∀ t : Fin grid0.N, _)

/-- A point's layer, -/
def pl (t : Fin cfg0.N) : Fin 2 := ⟨t.val / 11, by have h := lt_of_lt_of_eq t.isLt N_0; omega⟩
/-- and the row of its block's row `r`. -/
def pr (t : Fin cfg0.N) (r : Fin 32) : Fin 352 := ⟨32 * (t.val % 11) + r.val, by omega⟩

section Blocks
variable (t : Fin cfg0.N) (r : Fin 32) (k : Fin 1024) (s : Fin 8)

/-- The weight's block, -/
theorem blk0 : (iblk m c 0 t : Vec Ideal S1x32x1024 .f32) (ix3 0 r k) = m0 m c (ix3 (pl t) (pr t r) k) := by
  unfold iblk
  rw [View.read_apply]
  show V m c main_arg0 _ = m0 m c _
  rw [V_main_arg0]
  congr 1
  funext x
  apply Fin.ext
  match x with
  | ⟨0, _⟩ => show win0_0.index t 0 * 1 + 1 * (0 : ℕ) = t.val / 11; rw [(ix_0 t).1]; omega
  | ⟨1, _⟩ => show win0_0.index t 1 * 32 + 1 * r.val = 32 * (t.val % 11) + r.val; rw [(ix_0 t).2.1]; omega
  | ⟨2, _⟩ => show win0_0.index t 2 * 1024 + 1 * k.val = k.val; rw [(ix_0 t).2.2]; omega
/-- the first layer's parts' -/
theorem blk1 : (iblk m c 1 t : Vec Ideal S8x1x32x1024 .bf16) (ix4 s 0 r k) = m1 m c (ix4 s 0 (pr t r) k) := by
  unfold iblk
  rw [View.read_apply]
  show V m c main_arg1 _ = m1 m c _
  rw [V_main_arg1]
  congr 1
  funext x
  apply Fin.ext
  match x with
  | ⟨0, _⟩ => show win0_1.index t 0 * 8 + 1 * s.val = s.val; rw [(ix_1 t).1]; omega
  | ⟨1, _⟩ => show win0_1.index t 1 * 1 + 1 * (0 : ℕ) = 0; rw [(ix_1 t).2.1]
  | ⟨2, _⟩ => show win0_1.index t 2 * 32 + 1 * r.val = 32 * (t.val % 11) + r.val; rw [(ix_1 t).2.2.1]; omega
  | ⟨3, _⟩ => show win0_1.index t 3 * 1024 + 1 * k.val = k.val; rw [(ix_1 t).2.2.2]; omega
/-- and the second layer's, -/
theorem blk2 : (iblk m c 2 t : Vec Ideal S8x1x32x1024 .bf16) (ix4 s 0 r k) = m2 m c (ix4 s 0 (pr t r) k) := by
  unfold iblk
  rw [View.read_apply]
  show V m c main_arg2 _ = m2 m c _
  rw [V_main_arg2]
  congr 1
  funext x
  apply Fin.ext
  match x with
  | ⟨0, _⟩ => show win0_2.index t 0 * 8 + 1 * s.val = s.val; rw [(ix_2 t).1]; omega
  | ⟨1, _⟩ => show win0_2.index t 1 * 1 + 1 * (0 : ℕ) = 0; rw [(ix_2 t).2.1]
  | ⟨2, _⟩ => show win0_2.index t 2 * 32 + 1 * r.val = 32 * (t.val % 11) + r.val; rw [(ix_2 t).2.2.1]; omega
  | ⟨3, _⟩ => show win0_2.index t 3 * 1024 + 1 * k.val = k.val; rw [(ix_2 t).2.2.2]; omega
/-- the first moment's -/
theorem blk3 : (iblk m c 3 t : Vec Ideal S1x32x1024 .f32) (ix3 0 r k) = m3 m c (ix3 (pl t) (pr t r) k) := by
  unfold iblk
  rw [View.read_apply]
  show V m c main_arg3 _ = m3 m c _
  rw [V_main_arg3]
  congr 1
  funext x
  apply Fin.ext
  match x with
  | ⟨0, _⟩ => show win0_3.index t 0 * 1 + 1 * (0 : ℕ) = t.val / 11; rw [(ix_3 t).1]; omega
  | ⟨1, _⟩ => show win0_3.index t 1 * 32 + 1 * r.val = 32 * (t.val % 11) + r.val; rw [(ix_3 t).2.1]; omega
  | ⟨2, _⟩ => show win0_3.index t 2 * 1024 + 1 * k.val = k.val; rw [(ix_3 t).2.2]; omega
/-- and the second's. -/
theorem blk4 : (iblk m c 4 t : Vec Ideal S1x32x1024 .f32) (ix3 0 r k) = m4 m c (ix3 (pl t) (pr t r) k) := by
  unfold iblk
  rw [View.read_apply]
  show V m c main_arg4 _ = m4 m c _
  rw [V_main_arg4]
  congr 1
  funext x
  apply Fin.ext
  match x with
  | ⟨0, _⟩ => show win0_4.index t 0 * 1 + 1 * (0 : ℕ) = t.val / 11; rw [(ix_4 t).1]; omega
  | ⟨1, _⟩ => show win0_4.index t 1 * 32 + 1 * r.val = 32 * (t.val % 11) + r.val; rw [(ix_4 t).2.1]; omega
  | ⟨2, _⟩ => show win0_4.index t 2 * 1024 + 1 * k.val = k.val; rw [(ix_4 t).2.2]; omega

end Blocks

/-! The parts of a block. -/

theorem part0 (x : S8x1x32x1024.Idx → EReal) (r : Fin 32) (k : Fin 1024) : (View.ld (Val := Elt Ideal) (e' := .bf16) x r0_0 : S1x1x32x1024.Idx → EReal) (ix4 0 0 r k) = x (ix4 0 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part1 (x : S8x1x32x1024.Idx → EReal) (r : Fin 32) (k : Fin 1024) : (View.ld (Val := Elt Ideal) (e' := .bf16) x r0_1 : S1x1x32x1024.Idx → EReal) (ix4 0 0 r k) = x (ix4 1 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part2 (x : S8x1x32x1024.Idx → EReal) (r : Fin 32) (k : Fin 1024) : (View.ld (Val := Elt Ideal) (e' := .bf16) x r0_2 : S1x1x32x1024.Idx → EReal) (ix4 0 0 r k) = x (ix4 2 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part3 (x : S8x1x32x1024.Idx → EReal) (r : Fin 32) (k : Fin 1024) : (View.ld (Val := Elt Ideal) (e' := .bf16) x r0_3 : S1x1x32x1024.Idx → EReal) (ix4 0 0 r k) = x (ix4 3 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part4 (x : S8x1x32x1024.Idx → EReal) (r : Fin 32) (k : Fin 1024) : (View.ld (Val := Elt Ideal) (e' := .bf16) x r0_4 : S1x1x32x1024.Idx → EReal) (ix4 0 0 r k) = x (ix4 4 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part5 (x : S8x1x32x1024.Idx → EReal) (r : Fin 32) (k : Fin 1024) : (View.ld (Val := Elt Ideal) (e' := .bf16) x r0_5 : S1x1x32x1024.Idx → EReal) (ix4 0 0 r k) = x (ix4 5 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part6 (x : S8x1x32x1024.Idx → EReal) (r : Fin 32) (k : Fin 1024) : (View.ld (Val := Elt Ideal) (e' := .bf16) x r0_6 : S1x1x32x1024.Idx → EReal) (ix4 0 0 r k) = x (ix4 6 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega
theorem part7 (x : S8x1x32x1024.Idx → EReal) (r : Fin 32) (k : Fin 1024) : (View.ld (Val := Elt Ideal) (e' := .bf16) x r0_7 : S1x1x32x1024.Idx → EReal) (ix4 0 0 r k) = x (ix4 7 0 r k) := by
  show x _ = x _
  congr 1
  funext a
  apply Fin.ext
  match a with
  | ⟨0, _⟩ => rfl
  | ⟨1, _⟩ => rfl
  | ⟨2, _⟩ => show 0 + 1 * r.val = r.val; omega
  | ⟨3, _⟩ => show 0 + 1 * k.val = k.val; omega

/-- The sum of the parts the point takes. -/
def taken (b : BitVec 1) (x1 x2 : S8x1x32x1024.Idx → EReal) (r : Fin 32) (k : Fin 1024) : EReal :=
  if b = 1#1 then ∑ s : Fin 8, x2 (ix4 s 0 r k) else ∑ s : Fin 8, x1 (ix4 s 0 r k)

theorem sum_parts (p0 p1 p2 p3 p4 p5 p6 p7 q0 q1 q2 q3 q4 q5 q6 q7 : S1x1x32x1024.Idx → EReal) (b : BitVec 1) (r : Fin 32) (k : Fin 1024) :
    (k0_pay8 (F := Ideal) (k0_pay5 (k0_pay4 p0 p1 p2 p3 p4 p5 p6) p7) b (k0_pay6 q0 q1 q2 q3 q4 q5) (k0_pay7 q6) q7 : S32x1024.Idx → EReal) (ix2 r k)
      = if b = 1#1 then q0 (ix4 0 0 r k) + q1 (ix4 0 0 r k) + q2 (ix4 0 0 r k) + q3 (ix4 0 0 r k) + q4 (ix4 0 0 r k) + q5 (ix4 0 0 r k) + q6 (ix4 0 0 r k) + q7 (ix4 0 0 r k) else p0 (ix4 0 0 r k) + p1 (ix4 0 0 r k) + p2 (ix4 0 0 r k) + p3 (ix4 0 0 r k) + p4 (ix4 0 0 r k) + p5 (ix4 0 0 r k) + p6 (ix4 0 0 r k) + p7 (ix4 0 0 r k) := by
  unfold k0_pay8 k0_pay5 k0_pay4 k0_pay6 k0_pay7
  rcases BitVec.eq_zero_or_eq_one b with h | h <;> subst h
  · rw [if_neg (by decide)]
    simp only [ValueIdx.select_zero]
    pointwise
  · rw [if_pos rfl]
    simp only [ValueIdx.select_one]
    pointwise

theorem taken_eq (i : grid0.Coords) (b : BitVec 1) (x0 : S1x32x1024.Idx → EReal) (x1 x2 : S8x1x32x1024.Idx → EReal) (x3 x4 : S1x32x1024.Idx → EReal) (r : Fin 32) (k : Fin 1024) :
    (k0_pay8 (F := Ideal) (k0_pay14 (F := Ideal) i x0 x1 x2 x3 x4) b (k0_pay15 (F := Ideal) i x0 x1 x2 x3 x4) (k0_pay16 (F := Ideal) i x0 x1 x2 x3 x4) (View.ld (Val := Elt Ideal) (e' := .bf16) x2 r0_7) : S32x1024.Idx → EReal) (ix2 r k) = taken b x1 x2 r k := by
  unfold k0_pay14 k0_pay15 k0_pay16 taken
  refine (sum_parts _ _ _ _ _ _ _ _ _ _ _ _ _ _ _ _ b r k).trans ?_
  rw [Fin.sum_univ_eight, Fin.sum_univ_eight]
  rw [part0 x1, part1 x1, part2 x1, part3 x1, part4 x1, part5 x1, part6 x1, part7 x1, part0 x2, part1 x2, part2 x2, part3 x2, part4 x2, part5 x2, part6 x2, part7 x2]

/-! The body's results. -/

theorem out5_eq (i : grid0.Coords) (x0 : S1x32x1024.Idx → EReal) (x1 x2 : S8x1x32x1024.Idx → EReal) (x3 x4 : S1x32x1024.Idx → EReal) (r : Fin 32) (k : Fin 1024) :
    (out0_5 (F := Ideal) i x0 x1 x2 x3 x4 : S1x32x1024.Idx → EReal) (ix3 0 r k) = taken (Scalar.cmpi .eq (BitVec.ofNat 32 (i 0).val) 1#32) x1 x2 r k := by
  rw [← taken_eq i _ x0 x1 x2 x3 x4 r k]
  unfold out0_5
  unfold r0_8
  rw [View.canon_unit_zero hz3]
  generalize k0_pay14 (F := Ideal) i x0 x1 x2 x3 x4 = z0
  generalize k0_pay15 (F := Ideal) i x0 x1 x2 x3 x4 = z1
  generalize k0_pay16 (F := Ideal) i x0 x1 x2 x3 x4 = z2
  generalize View.ld (Val := Elt Ideal) (e' := .bf16) x2 r0_7 = z3
  generalize Scalar.cmpi .eq (BitVec.ofNat 32 (i 0).val) 1#32 = b
  unfold k0_pay11
  pointwise
theorem out6_eq (i : grid0.Coords) (x0 : S1x32x1024.Idx → EReal) (x1 x2 : S8x1x32x1024.Idx → EReal) (x3 x4 : S1x32x1024.Idx → EReal) (r : Fin 32) (k : Fin 1024) :
    (out0_6 (F := Ideal) i x0 x1 x2 x3 x4 : S1x32x1024.Idx → EReal) (ix3 0 r k) = change (x0 (ix3 0 r k)) (taken (Scalar.cmpi .eq (BitVec.ofNat 32 (i 0).val) 1#32) x1 x2 r k) (x3 (ix3 0 r k)) (x4 (ix3 0 r k)) := by
  rw [← taken_eq i _ x0 x1 x2 x3 x4 r k]
  unfold out0_6
  unfold r0_8
  rw [View.canon_unit_zero hz3]
  generalize k0_pay14 (F := Ideal) i x0 x1 x2 x3 x4 = z0
  generalize k0_pay15 (F := Ideal) i x0 x1 x2 x3 x4 = z1
  generalize k0_pay16 (F := Ideal) i x0 x1 x2 x3 x4 = z2
  generalize View.ld (Val := Elt Ideal) (e' := .bf16) x2 r0_7 = z3
  generalize Scalar.cmpi .eq (BitVec.ofNat 32 (i 0).val) 1#32 = b
  simp only [View.ld_unit_zero (S := S1x32x1024) hz3]
  unfold k0_pay1 k0_pay12 k0_pay13 k0_pay9 k0_pay10 change first second
  pointwise
theorem out7_eq (i : grid0.Coords) (x0 : S1x32x1024.Idx → EReal) (x1 x2 : S8x1x32x1024.Idx → EReal) (x3 x4 : S1x32x1024.Idx → EReal) (r : Fin 32) (k : Fin 1024) :
    (out0_7 (F := Ideal) i x0 x1 x2 x3 x4 : S1x32x1024.Idx → EReal) (ix3 0 r k) = first (taken (Scalar.cmpi .eq (BitVec.ofNat 32 (i 0).val) 1#32) x1 x2 r k) (x3 (ix3 0 r k)) := by
  rw [← taken_eq i _ x0 x1 x2 x3 x4 r k]
  unfold out0_7
  unfold r0_8
  rw [View.canon_unit_zero hz3]
  generalize k0_pay14 (F := Ideal) i x0 x1 x2 x3 x4 = z0
  generalize k0_pay15 (F := Ideal) i x0 x1 x2 x3 x4 = z1
  generalize k0_pay16 (F := Ideal) i x0 x1 x2 x3 x4 = z2
  generalize View.ld (Val := Elt Ideal) (e' := .bf16) x2 r0_7 = z3
  generalize Scalar.cmpi .eq (BitVec.ofNat 32 (i 0).val) 1#32 = b
  simp only [View.ld_unit_zero (S := S1x32x1024) hz3]
  unfold k0_pay2 k0_pay9 first
  pointwise
theorem out8_eq (i : grid0.Coords) (x0 : S1x32x1024.Idx → EReal) (x1 x2 : S8x1x32x1024.Idx → EReal) (x3 x4 : S1x32x1024.Idx → EReal) (r : Fin 32) (k : Fin 1024) :
    (out0_8 (F := Ideal) i x0 x1 x2 x3 x4 : S1x32x1024.Idx → EReal) (ix3 0 r k) = second (taken (Scalar.cmpi .eq (BitVec.ofNat 32 (i 0).val) 1#32) x1 x2 r k) (x4 (ix3 0 r k)) := by
  rw [← taken_eq i _ x0 x1 x2 x3 x4 r k]
  unfold out0_8
  unfold r0_8
  rw [View.canon_unit_zero hz3]
  generalize k0_pay14 (F := Ideal) i x0 x1 x2 x3 x4 = z0
  generalize k0_pay15 (F := Ideal) i x0 x1 x2 x3 x4 = z1
  generalize k0_pay16 (F := Ideal) i x0 x1 x2 x3 x4 = z2
  generalize View.ld (Val := Elt Ideal) (e' := .bf16) x2 r0_7 = z3
  generalize Scalar.cmpi .eq (BitVec.ofNat 32 (i 0).val) 1#32 = b
  simp only [View.ld_unit_zero (S := S1x32x1024) hz3]
  unfold k0_pay3 k0_pay10 second
  pointwise

/-- The parts a point takes are its layer's. -/
theorem taken_at (t : Fin cfg0.N) (r : Fin 32) (k : Fin 1024) :
    taken (Scalar.cmpi .eq (BitVec.ofNat 32 ((grid0.coords t) 0).val) 1#32) (iblk m c 1 t) (iblk m c 2 t) r k = G5 m c (ix3 (pl t) (pr t r) k) := by
  show _ = total (m1 m c) (m2 m c) (pl t) (pr t r) k
  unfold taken total
  rw [sel t]
  have hp : (pl t = 1) = (t.val / 11 = 1) := propext (Fin.ext_iff)
  by_cases h : t.val / 11 = 1
  · rw [if_pos h, if_pos rfl, if_pos (hp ▸ h)]
    exact Finset.sum_congr rfl fun s _ => blk2 m c t r k s
  · rw [if_neg h, if_neg (by decide), if_neg (hp ▸ h)]
    exact Finset.sum_congr rfl fun s _ => blk1 m c t r k s

theorem point5_eq (t : Fin cfg0.N) (r : Fin 32) (k : Fin 1024) :
    (out0_5 (F := Ideal) (grid0.coords t) (iblk m c 0 t) (iblk m c 1 t) (iblk m c 2 t) (iblk m c 3 t) (iblk m c 4 t) : S1x32x1024.Idx → EReal) (ix3 0 r k) = G5 m c (ix3 (pl t) (pr t r) k) := by
  refine (out5_eq _ _ _ _ _ _ r k).trans ?_
  exact taken_at m c t r k
theorem point6_eq (t : Fin cfg0.N) (r : Fin 32) (k : Fin 1024) :
    (out0_6 (F := Ideal) (grid0.coords t) (iblk m c 0 t) (iblk m c 1 t) (iblk m c 2 t) (iblk m c 3 t) (iblk m c 4 t) : S1x32x1024.Idx → EReal) (ix3 0 r k) = G6 m c (ix3 (pl t) (pr t r) k) := by
  refine (out6_eq _ _ _ _ _ _ r k).trans ?_
  show _ = change (m0 m c (ix3 (pl t) (pr t r) k)) (G5 m c (ix3 (pl t) (pr t r) k)) (m3 m c (ix3 (pl t) (pr t r) k)) (m4 m c (ix3 (pl t) (pr t r) k))
  rw [taken_at, blk0, blk3, blk4]
theorem point7_eq (t : Fin cfg0.N) (r : Fin 32) (k : Fin 1024) :
    (out0_7 (F := Ideal) (grid0.coords t) (iblk m c 0 t) (iblk m c 1 t) (iblk m c 2 t) (iblk m c 3 t) (iblk m c 4 t) : S1x32x1024.Idx → EReal) (ix3 0 r k) = G7 m c (ix3 (pl t) (pr t r) k) := by
  refine (out7_eq _ _ _ _ _ _ r k).trans ?_
  show _ = first (G5 m c (ix3 (pl t) (pr t r) k)) (m3 m c (ix3 (pl t) (pr t r) k))
  rw [taken_at, blk3]
theorem point8_eq (t : Fin cfg0.N) (r : Fin 32) (k : Fin 1024) :
    (out0_8 (F := Ideal) (grid0.coords t) (iblk m c 0 t) (iblk m c 1 t) (iblk m c 2 t) (iblk m c 3 t) (iblk m c 4 t) : S1x32x1024.Idx → EReal) (ix3 0 r k) = G8 m c (ix3 (pl t) (pr t r) k) := by
  refine (out8_eq _ _ _ _ _ _ r k).trans ?_
  show _ = second (G5 m c (ix3 (pl t) (pr t r) k)) (m4 m c (ix3 (pl t) (pr t r) k))
  rw [taken_at, blk4]

/-- The gradient after the run, -/
theorem arr5 : (dats m 0 c).arrAt 5 cfg0.N = G5 m c := by
  refine (dats m 0 c).arrAt_eq_of_covers 5 _ (by decide +kernel) fun t hf y => ?_
  rw [after0_5]
  have y0 : (y 0).val = 0 := Nat.lt_one_iff.mp (y 0).isLt
  have ey : (cfg0.win 5).xinj (grid0.coords t) y = ix3 0 (y 1) (y 2) := funext fun a => Fin.ext (by
    match a with
    | ⟨0, _⟩ => exact y0
    | ⟨1, _⟩ => rfl
    | ⟨2, _⟩ => rfl)
  have ez : ((cfg0.win 5).blk t).view.emb y = ix3 (pl t) (pr t (y 1)) (y 2) := funext fun a => Fin.ext (by
    match a with
    | ⟨0, _⟩ => show win0_5.index t 0 * 1 + 1 * (y 0).val = t.val / 11; rw [(ix_5 t).1, y0]; omega
    | ⟨1, _⟩ => show win0_5.index t 1 * 32 + 1 * (y 1).val = 32 * (t.val % 11) + (y 1).val; rw [(ix_5 t).2.1]; omega
    | ⟨2, _⟩ => show win0_5.index t 2 * 1024 + 1 * (y 2).val = (y 2).val; rw [(ix_5 t).2.2]; omega)
  rw [ey, ez]
  exact (cast_eq _ _).trans (point5_eq m c t (y 1) (y 2))

/-- the change of the weight, -/
theorem arr6 : (dats m 0 c).arrAt 6 cfg0.N = G6 m c := by
  refine (dats m 0 c).arrAt_eq_of_covers 6 _ (by decide +kernel) fun t hf y => ?_
  rw [after0_6]
  have y0 : (y 0).val = 0 := Nat.lt_one_iff.mp (y 0).isLt
  have ey : (cfg0.win 6).xinj (grid0.coords t) y = ix3 0 (y 1) (y 2) := funext fun a => Fin.ext (by
    match a with
    | ⟨0, _⟩ => exact y0
    | ⟨1, _⟩ => rfl
    | ⟨2, _⟩ => rfl)
  have ez : ((cfg0.win 6).blk t).view.emb y = ix3 (pl t) (pr t (y 1)) (y 2) := funext fun a => Fin.ext (by
    match a with
    | ⟨0, _⟩ => show win0_6.index t 0 * 1 + 1 * (y 0).val = t.val / 11; rw [(ix_6 t).1, y0]; omega
    | ⟨1, _⟩ => show win0_6.index t 1 * 32 + 1 * (y 1).val = 32 * (t.val % 11) + (y 1).val; rw [(ix_6 t).2.1]; omega
    | ⟨2, _⟩ => show win0_6.index t 2 * 1024 + 1 * (y 2).val = (y 2).val; rw [(ix_6 t).2.2]; omega)
  rw [ey, ez]
  exact (cast_eq _ _).trans (point6_eq m c t (y 1) (y 2))

/-- the first moment -/
theorem arr7 : (dats m 0 c).arrAt 7 cfg0.N = G7 m c := by
  refine (dats m 0 c).arrAt_eq_of_covers 7 _ (by decide +kernel) fun t hf y => ?_
  rw [after0_7]
  have y0 : (y 0).val = 0 := Nat.lt_one_iff.mp (y 0).isLt
  have ey : (cfg0.win 7).xinj (grid0.coords t) y = ix3 0 (y 1) (y 2) := funext fun a => Fin.ext (by
    match a with
    | ⟨0, _⟩ => exact y0
    | ⟨1, _⟩ => rfl
    | ⟨2, _⟩ => rfl)
  have ez : ((cfg0.win 7).blk t).view.emb y = ix3 (pl t) (pr t (y 1)) (y 2) := funext fun a => Fin.ext (by
    match a with
    | ⟨0, _⟩ => show win0_7.index t 0 * 1 + 1 * (y 0).val = t.val / 11; rw [(ix_7 t).1, y0]; omega
    | ⟨1, _⟩ => show win0_7.index t 1 * 32 + 1 * (y 1).val = 32 * (t.val % 11) + (y 1).val; rw [(ix_7 t).2.1]; omega
    | ⟨2, _⟩ => show win0_7.index t 2 * 1024 + 1 * (y 2).val = (y 2).val; rw [(ix_7 t).2.2]; omega)
  rw [ey, ez]
  exact (cast_eq _ _).trans (point7_eq m c t (y 1) (y 2))

/-- and the second. -/
theorem arr8 : (dats m 0 c).arrAt 8 cfg0.N = G8 m c := by
  refine (dats m 0 c).arrAt_eq_of_covers 8 _ (by decide +kernel) fun t hf y => ?_
  rw [after0_8]
  have y0 : (y 0).val = 0 := Nat.lt_one_iff.mp (y 0).isLt
  have ey : (cfg0.win 8).xinj (grid0.coords t) y = ix3 0 (y 1) (y 2) := funext fun a => Fin.ext (by
    match a with
    | ⟨0, _⟩ => exact y0
    | ⟨1, _⟩ => rfl
    | ⟨2, _⟩ => rfl)
  have ez : ((cfg0.win 8).blk t).view.emb y = ix3 (pl t) (pr t (y 1)) (y 2) := funext fun a => Fin.ext (by
    match a with
    | ⟨0, _⟩ => show win0_8.index t 0 * 1 + 1 * (y 0).val = t.val / 11; rw [(ix_8 t).1, y0]; omega
    | ⟨1, _⟩ => show win0_8.index t 1 * 32 + 1 * (y 1).val = 32 * (t.val % 11) + (y 1).val; rw [(ix_8 t).2.1]; omega
    | ⟨2, _⟩ => show win0_8.index t 2 * 1024 + 1 * (y 2).val = (y 2).val; rw [(ix_8 t).2.2]; omega)
  rw [ey, ez]
  exact (cast_eq _ _).trans (point8_eq m c t (y 1) (y 2))

end Cert.FfnStep

namespace Cert.FfnStep

open Idealize.ShloMosaic Idealize.ShloMosaic.TcCoe Idealize.SL.Sem Idealize.ShloMosaic.StableHlo
open Cert.Reference11Ideal Cert.Reference11Ideal.Gen
open Cert.ModStep (lit first second change)

/-- The reference's sum of one layer's parts, -/
def layerSum (a : FVec Ideal S8x1x352x1024 .bf16) : FVec Ideal S352x1024 .f32 := (Host.reduceAdd (extf .f32 (shapeCast _ a shapeCasts_S8x1x352x1024_S8x352x1024) bitsLt_bf16_f32) (constant S_ .f32 0x00000000#32) reducesTo_S8x352x1024_S352x1024_d0 h_S_)
/-- of both, -/
def sums (a b : FVec Ideal S8x1x352x1024 .bf16) : FVec Ideal S2x352x1024 .f32 :=
  concatenate S2x352x1024 0 [⟨S1x352x1024, (broadcastInDim S1x352x1024 ![1, 2] bcast_S352x1024_S1x352x1024_1_2 (layerSum a))⟩, ⟨S1x352x1024, (broadcastInDim S1x352x1024 ![1, 2] bcast_S352x1024_S1x352x1024_1_2 (layerSum b))⟩] concatenates_S1x352x1024_S1x352x1024_S2x352x1024_d0
/-- its moments -/
def refFirst (g u : FVec Ideal S2x352x1024 .f32) : FVec Ideal S2x352x1024 .f32 := addf (mulf (broadcastInDim S2x352x1024 ![] bcast_S_S2x352x1024 (constant S_ .f32 0x3F666666#32)) u) (mulf (broadcastInDim S2x352x1024 ![] bcast_S_S2x352x1024 (constant S_ .f32 0x3DCCCCCD#32)) g)
def refSecond (g v : FVec Ideal S2x352x1024 .f32) : FVec Ideal S2x352x1024 .f32 := addf (mulf (broadcastInDim S2x352x1024 ![] bcast_S_S2x352x1024 (constant S_ .f32 0x3F7FBE77#32)) v) (mulf (broadcastInDim S2x352x1024 ![] bcast_S_S2x352x1024 (constant S_ .f32 0x3A83126F#32)) (mulf g g))
/-- and its change of the weight. -/
def refChange (w g u v : FVec Ideal S2x352x1024 .f32) : FVec Ideal S2x352x1024 .f32 :=
  mulf (broadcastInDim S2x352x1024 ![] bcast_S_S2x352x1024 (constant S_ .f32 0xBA83126F#32)) (addf (Host.divf (Host.divf (refFirst g u) (broadcastInDim S2x352x1024 ![] bcast_S_S2x352x1024 (constant S_ .f32 0x3F26BD02#32))) (addf (Host.sqrt (Host.divf (refSecond g v) (broadcastInDim S2x352x1024 ![] bcast_S_S2x352x1024 (constant S_ .f32 0x3C231ACC#32)))) (broadcastInDim S2x352x1024 ![] bcast_S_S2x352x1024 (constant S_ .f32 0x322BCC77#32)))) (mulf (broadcastInDim S2x352x1024 ![] bcast_S_S2x352x1024 (constant S_ .f32 0x3C23D70A#32)) w))

theorem layerSum_eq (a : S8x1x352x1024.Idx → EReal) (r : Fin 352) (k : Fin 1024) : (layerSum a : S352x1024.Idx → EReal) (ix2 r k) = ∑ s : Fin 8, a (ix4 s 0 r k) := by
  unfold layerSum
  pointwise
theorem sums_eq (a b : S8x1x352x1024.Idx → EReal) (l : Fin 2) (r : Fin 352) (k : Fin 1024) : (sums a b : S2x352x1024.Idx → EReal) (ix3 l r k) = total a b l r k := by
  unfold sums total
  pointwise
  fin_cases l
  · exact layerSum_eq a r k
  · exact layerSum_eq b r k
theorem refFirst_eq (g u : S2x352x1024.Idx → EReal) (i : S2x352x1024.Idx) : (refFirst g u : S2x352x1024.Idx → EReal) i = first (g i) (u i) := by
  unfold refFirst first
  pointwise
theorem refSecond_eq (g v : S2x352x1024.Idx → EReal) (i : S2x352x1024.Idx) : (refSecond g v : S2x352x1024.Idx → EReal) i = second (g i) (v i) := by
  unfold refSecond second
  pointwise
theorem refChange_eq (w g u v : S2x352x1024.Idx → EReal) (i : S2x352x1024.Idx) : (refChange w g u v : S2x352x1024.Idx → EReal) i = change (w i) (g i) (u i) (v i) := by
  unfold refChange refFirst refSecond change first second
  pointwise

end Cert.FfnStep

namespace Cert.FfnStep

open Idealize.ShloMosaic Idealize.ShloMosaic.TcCoe Idealize.SL.Sem Idealize.ShloMosaic.StableHlo
open Cert.ModStep (lit first second change)

/-- The reference's frame. -/
theorem frame_reference : quiescent_Reference11Ideal := fun m ρ _ =>
  (θ_run Cert.Reference11Ideal.defs _ _).mono (fun r h => ⟨fun c => (h c).2.2.2.2, Idealize.ShloMosaic.sem_eq_zero_of_no_sems (by decide) r.2⟩)
    (Cert.Reference11Ideal.Value.run (F := Ideal) m ρ)

theorem sums_at (m : (ℓ : Loc Cert.Kernel11Ideal.nD Cert.Kernel11Ideal.τ Cert.Kernel11Ideal.sig) → Buf (Elt Ideal) ℓ) (c : Dev Cert.Kernel11Ideal.nD) : sums (m1 m c) (m2 m c) = G5 m c := by
  funext i
  idx_vars i
  exact sums_eq (m1 m c) (m2 m c) i0 i1 i2

/-- Both programs end with the same arrays. -/
theorem algebraic : algebraic_Kernel11Ideal_Reference11Ideal := by
  intro m g m' g' _ hagree
  refine ⟨fun c => G5 m c, fun c => G6 m c, fun c => G7 m c, fun c => G8 m c, ?_, ?_⟩
  · exact (θ_run _ _ _).mono (fun r h c => ⟨(h c).1.trans (arr5 m c), (h c).2.1.trans (arr6 m c), (h c).2.2.1.trans (arr7 m c), (h c).2.2.2.1.trans (arr8 m c), (h c).2.2.2.2⟩)
      (Cert.Kernel11Ideal.Value.run_blocks m g)
  · refine (θ_run _ _ _).mono (fun r h c => ⟨(h c).1.trans ?_, (h c).2.1.trans ?_, (h c).2.2.1.trans ?_, (h c).2.2.2.1.trans ?_, (h c).2.2.2.2⟩) (Cert.Reference11Ideal.Value.run m' g')
    · rw [(hagree c).2.1, (hagree c).2.2.1]
      exact sums_at m c
    · rw [(hagree c).1, (hagree c).2.1, (hagree c).2.2.1, (hagree c).2.2.2.1, (hagree c).2.2.2.2]
      funext i
      refine (refChange_eq (m0 m c) (sums (m1 m c) (m2 m c)) (m3 m c) (m4 m c) i).trans ?_
      rw [sums_at]
      rfl
    · rw [(hagree c).2.1, (hagree c).2.2.1, (hagree c).2.2.2.1]
      funext i
      refine (refFirst_eq (sums (m1 m c) (m2 m c)) (m3 m c) i).trans ?_
      rw [sums_at]
      rfl
    · rw [(hagree c).2.1, (hagree c).2.2.1, (hagree c).2.2.2.2]
      funext i
      refine (refSecond_eq (sums (m1 m c) (m2 m c)) (m4 m c) i).trans ?_
      rw [sums_at]
      rfl

end Cert.FfnStep

end
-- ==== Proof.LossHead.lean ====
/- The loss's call: a point's blocks are the reference's entries. -/
module

public import proofs.«01_k».proof.Defs
public import proofs.«01_k».proof.Proof.Gen.Kernel12Ideal.Value
public import proofs.«01_k».proof.Proof.Gen.Reference12Ideal.Run
public import proofs.«01_k».proof.Proof.FfnMath
public import Idealize.ShloMosaic.Lib.Pointwise
public import Idealize.ShloMosaic.Lib.Tactic
public import Idealize.ShloMosaic.Lib.Pipeline.ValueKit
public import Idealize.ShloMosaic.Lib.Quiescent
public import Idealize.ShloMosaic.Lib.StableHlo.ReadAt

@[expose] public section

set_option maxRecDepth 16384

noncomputable section

namespace Cert.LossHead

open Idealize.ShloMosaic Idealize.ShloMosaic.TcCoe Idealize.ShloMosaic.Tactic Idealize.SL.Sem Idealize.ShloMosaic.StableHlo
open Cert.Kernel12Ideal Cert.Kernel12Ideal.Gen Cert.Kernel12Ideal.Value

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A printed constant. -/
abbrev lit (b : BitVec 32) : EReal := Scalar.ofBits (F := Ideal) .f32 b
/-- Half the sum of the mean squares of a tile of errors. -/
def tileLoss (e : Fin 256 → Fin 1024 → EReal) : EReal := lit 0x3F000000#32 * ∑ r, Ideal.div (∑ d, e r d * e r d) (lit 0x44800000#32)

variable (m : (ℓ : Loc nD τ sig) → Buf (Elt Ideal) ℓ) (c : Dev nD)

abbrev m0 : S4x2304x1024.Idx → EReal := m ((c : Thread nD τ).loc main_arg0)
abbrev m1 : S4x2048x1024.Idx → EReal := m ((c : Thread nD τ).loc main_arg1)

/-- The target's row of a token, -/
def tr (s : Fin 2304) : Fin 2048 := ⟨s.val - 256, by omega⟩
/-- a token's error, -/
def err (b : Fin 4) (s : Fin 2304) (d : Fin 1024) : EReal := m0 m c (ix3 b s d) - m1 m c (ix3 b (tr s) d)
/-- the token of a tile's row, -/
def tok (j : Fin 9) (r : Fin 256) : Fin 2304 := ⟨256 * j.val + r.val, by omega⟩
/-- the gradient -/
def grad (b : Fin 4) (s : Fin 2304) (d : Fin 1024) : EReal := if s.val < 256 then 0 else err m c b s d * lit 0x3A800000#32
/-- and a tile's loss. -/
def loss (b : Fin 4) (j : Fin 9) : EReal := if j.val = 0 then 0 else tileLoss fun r d => err m c b (tok j r) d
/-- The two results. -/
def G2 : S4x2304x1024.Idx → EReal := fun i => grad m c (i 0) (i 1) (i 2)
def G3 : S4x9x8x128.Idx → EReal := fun i => loss m c (i 0) (i 1)

/-! ## What a point stores -/

/-- A point of the context's tile stores zeros; -/
theorem out_A_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x128 .f32) (harg5 : arg5.IsWhole) (hc0 : cond0_0 i) (hc1 : ¬cond0_1 i)
    (x0 : Vec Ideal S1x256x1024 .f32) (x1 : Vec Ideal S1x256x1024 .f32) :
    out0_A_2 (F := Ideal) c i arg2 harg2 arg3 harg3 arg4 harg4 arg5 harg5 hc0 hc1 x0 x1 = k0_pay1 (F := Ideal) := by
  unfold out0_A_2
  rw [View.read_writes_eq_canon _ _ _ (cover0_A_2 c i arg2 harg2 arg3 harg3 arg4 harg4 arg5 harg5 hc0 hc1 x0 x1)]
  unfold kernelRun0_A
  dsimp only
  sl_unfold_words
  rw [View.canon_unit_zero hz3]
  try simp only [View.readAt_eq_ld, harg2.read_unread, harg3.read_unread, View.ld_unit_zero (S := S1x256x1024) hz3]
  try rfl

/-- so for the loss. -/
theorem out_A_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x128 .f32) (harg5 : arg5.IsWhole) (hc0 : cond0_0 i) (hc1 : ¬cond0_1 i)
    (x0 : Vec Ideal S1x256x1024 .f32) (x1 : Vec Ideal S1x256x1024 .f32) :
    out0_A_3 (F := Ideal) c i arg2 harg2 arg3 harg3 arg4 harg4 arg5 harg5 hc0 hc1 x0 x1 = k0_pay2 (F := Ideal) := by
  unfold out0_A_3
  rw [View.read_writes_eq_canon _ _ _ (cover0_A_3 c i arg2 harg2 arg3 harg3 arg4 harg4 arg5 harg5 hc0 hc1 x0 x1)]
  unfold kernelRun0_A
  dsimp only
  sl_unfold_words
  rw [View.canon_unit_zero hz4]
  try simp only [View.readAt_eq_ld, harg2.read_unread, harg3.read_unread, View.ld_unit_zero (S := S1x256x1024) hz3]
  try rfl

/-- Another stores the scaled errors -/
theorem out_B_2 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x128 .f32) (harg5 : arg5.IsWhole) (hc0 : ¬cond0_0 i) (hc1 : cond0_1 i)
    (x0 : Vec Ideal S1x256x1024 .f32) (x1 : Vec Ideal S1x256x1024 .f32) :
    out0_B_2 (F := Ideal) c i arg2 harg2 arg3 harg3 arg4 harg4 arg5 harg5 hc0 hc1 x0 x1 = k0_pay4 x0 x1 := by
  unfold out0_B_2
  rw [View.read_writes_eq_canon _ _ _ (cover0_B_2 c i arg2 harg2 arg3 harg3 arg4 harg4 arg5 harg5 hc0 hc1 x0 x1)]
  unfold kernelRun0_B
  dsimp only
  sl_unfold_words
  rw [View.canon_unit_zero hz3]
  try simp only [View.readAt_eq_ld, harg2.read_unread, harg3.read_unread, View.ld_unit_zero (S := S1x256x1024) hz3]
  try rfl

/-- and its loss. -/
theorem out_B_3 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x8x128 .f32) (harg5 : arg5.IsWhole) (hc0 : ¬cond0_0 i) (hc1 : cond0_1 i)
    (x0 : Vec Ideal S1x256x1024 .f32) (x1 : Vec Ideal S1x256x1024 .f32) :
    out0_B_3 (F := Ideal) c i arg2 harg2 arg3 harg3 arg4 harg4 arg5 harg5 hc0 hc1 x0 x1 = k0_pay5 x0 x1 := by
  unfold out0_B_3
  rw [View.read_writes_eq_canon _ _ _ (cover0_B_3 c i arg2 harg2 arg3 harg3 arg4 harg4 arg5 harg5 hc0 hc1 x0 x1)]
  unfold kernelRun0_B
  dsimp only
  sl_unfold_words
  rw [View.canon_unit_zero hz4]
  try simp only [View.readAt_eq_ld, harg2.read_unread, harg3.read_unread, View.ld_unit_zero (S := S1x256x1024) hz3]
  try rfl

section Pays
variable (x0 x1 : S1x256x1024.Idx → EReal) (r : Fin 256) (d : Fin 1024) (u : Fin 8) (v : Fin 128)

theorem pay1_eq : (k0_pay1 (F := Ideal) : S1x256x1024.Idx → EReal) (ix3 0 r d) = 0 := by
  unfold k0_pay1; pointwise
theorem pay2_eq : (k0_pay2 (F := Ideal) : S1x1x8x128.Idx → EReal) (ix4 0 0 u v) = 0 := by
  unfold k0_pay2; pointwise
theorem pay4_eq : (k0_pay4 (F := Ideal) x0 x1 : S1x256x1024.Idx → EReal) (ix3 0 r d) = (x0 (ix3 0 r d) - x1 (ix3 0 r d)) * lit 0x3A800000#32 := by
  unfold k0_pay4 k0_pay3; pointwise
theorem pay5_eq : (k0_pay5 (F := Ideal) x0 x1 : S1x1x8x128.Idx → EReal) (ix4 0 0 u v) = tileLoss fun r d => x0 (ix3 0 r d) - x1 (ix3 0 r d) := by
  unfold k0_pay5 k0_pay3 tileLoss; pointwise

end Pays

/-! ## The blocks of a point -/

theorem ix_0 : ∀ t : Fin cfg0.N, win0_0.index t (0 : Fin 3) = t.val / 9 ∧ win0_0.index t (1 : Fin 3) = t.val % 9 ∧ win0_0.index t (2 : Fin 3) = 0 :=
  (by decide +kernel : ∀ t : Fin grid0.N, _)
theorem ix_2 : ∀ t : Fin cfg0.N, win0_2.index t (0 : Fin 3) = t.val / 9 ∧ win0_2.index t (1 : Fin 3) = t.val % 9 ∧ win0_2.index t (2 : Fin 3) = 0 :=
  (by decide +kernel : ∀ t : Fin grid0.N, _)
theorem ix_1 : ∀ t : Fin cfg0.N, win0_1.index t (0 : Fin 3) = t.val / 9 ∧ win0_1.index t (1 : Fin 3) = t.val % 9 - 1 ∧ win0_1.index t (2 : Fin 3) = 0 :=
  (by decide +kernel : ∀ t : Fin grid0.N, _)
theorem ix_3 : ∀ t : Fin cfg0.N, win0_3.index t (0 : Fin 4) = t.val / 9 ∧ win0_3.index t (1 : Fin 4) = t.val % 9 ∧ win0_3.index t (2 : Fin 4) = 0 ∧ win0_3.index t (3 : Fin 4) = 0 :=
  (by decide +kernel : ∀ t : Fin grid0.N, _)

/-- A point's sequence, -/
def pb (t : Fin cfg0.N) : Fin 4 := ⟨t.val / 9, by have h := lt_of_lt_of_eq t.isLt N_0; omega⟩
/-- and its tile. -/
def pj (t : Fin cfg0.N) : Fin 9 := ⟨t.val % 9, by omega⟩

section Blocks
variable (t : Fin cfg0.N) (r : Fin 256) (d : Fin 1024) (u : Fin 8) (v : Fin 128)

/-- The tokens' block, -/
theorem blk0 : (iblk m c 0 t : Vec Ideal S1x256x1024 .f32) (ix3 0 r d) = m0 m c (ix3 (pb t) (tok (pj t) r) d) := by
  unfold iblk
  rw [View.read_apply]
  show V m c main_arg0 _ = m0 m c _
  rw [V_main_arg0]
  congr 1
  funext x
  apply Fin.ext
  match x with
  | ⟨0, _⟩ => show win0_0.index t 0 * 1 + 1 * (0 : ℕ) = t.val / 9; rw [(ix_0 t).1]; omega
  | ⟨1, _⟩ => show win0_0.index t 1 * 256 + 1 * r.val = 256 * (t.val % 9) + r.val; rw [(ix_0 t).2.1]; omega
  | ⟨2, _⟩ => show win0_0.index t 2 * 1024 + 1 * d.val = d.val; rw [(ix_0 t).2.2]; omega
/-- the targets' -/
theorem blk1 (h : 1 ≤ t.val % 9) : (iblk m c 1 t : Vec Ideal S1x256x1024 .f32) (ix3 0 r d) = m1 m c (ix3 (pb t) (tr (tok (pj t) r)) d) := by
  unfold iblk
  rw [View.read_apply]
  show V m c main_arg1 _ = m1 m c _
  rw [V_main_arg1]
  congr 1
  funext x
  apply Fin.ext
  match x with
  | ⟨0, _⟩ => show win0_1.index t 0 * 1 + 1 * (0 : ℕ) = t.val / 9; rw [(ix_1 t).1]; omega
  | ⟨1, _⟩ => show win0_1.index t 1 * 256 + 1 * r.val = 256 * (t.val % 9) + r.val - 256; rw [(ix_1 t).2.1]; omega
  | ⟨2, _⟩ => show win0_1.index t 2 * 1024 + 1 * d.val = d.val; rw [(ix_1 t).2.2]; omega
/-- and the errors'. -/
theorem blkE (h : 1 ≤ t.val % 9) : HSub.hSub (α := EReal) ((iblk m c 0 t : Vec Ideal S1x256x1024 .f32) (ix3 0 r d)) ((iblk m c 1 t : Vec Ideal S1x256x1024 .f32) (ix3 0 r d)) = err m c (pb t) (tok (pj t) r) d :=
  congrArg₂ (fun a b : EReal => a - b) (blk0 m c t r d) (blk1 m c t r d h)

/-- What a point leaves of the gradient -/
theorem point2_eq : ((outsAt0 m c t.val t.isLt).1 : S1x256x1024.Idx → EReal) (ix3 0 r d) = grad m c (pb t) (tok (pj t) r) d := by
  unfold grad
  by_cases h : t.val % 9 = 0
  · have h1 : ¬1 ≤ t.val % 9 := by omega
    rw [outsAt0_A m c t h h1, if_pos (show (tok (pj t) r).val < 256 by show 256 * (t.val % 9) + r.val < 256; have := r.isLt; omega)]
    dsimp only
    rw [out_A_2]
    exact pay1_eq r d
  · have h1 : 1 ≤ t.val % 9 := by omega
    rw [outsAt0_B m c t h h1, if_neg (show ¬(tok (pj t) r).val < 256 by show ¬256 * (t.val % 9) + r.val < 256; omega)]
    dsimp only
    rw [out_B_2]
    exact (pay4_eq _ _ r d).trans (congrArg (· * _) (blkE m c t r d h1))
/-- and of the loss. -/
theorem point3_eq : ((outsAt0 m c t.val t.isLt).2 : S1x1x8x128.Idx → EReal) (ix4 0 0 u v) = loss m c (pb t) (pj t) := by
  unfold loss
  by_cases h : t.val % 9 = 0
  · have h1 : ¬1 ≤ t.val % 9 := by omega
    rw [outsAt0_A m c t h h1, if_pos (show (pj t).val = 0 from h)]
    dsimp only
    rw [out_A_3]
    exact pay2_eq u v
  · have h1 : 1 ≤ t.val % 9 := by omega
    rw [outsAt0_B m c t h h1, if_neg (show ¬(pj t).val = 0 from h)]
    dsimp only
    rw [out_B_3]
    exact (pay5_eq _ _ u v).trans (congrArg tileLoss (funext fun r => funext fun d => blkE m c t r d h1))

end Blocks

/-- The gradient after the run, -/
theorem arr2 : (dats m 0 c).arrAt 2 cfg0.N = G2 m c := by
  refine (dats m 0 c).arrAt_eq_of_covers 2 _ (by decide +kernel) fun t hf y => ?_
  rw [after0_2]
  have y0 : (y 0).val = 0 := Nat.lt_one_iff.mp (y 0).isLt
  have ey : (cfg0.win 2).xinj (grid0.coords t) y = ix3 0 (y 1) (y 2) := funext fun a => Fin.ext (by
    match a with
    | ⟨0, _⟩ => exact y0
    | ⟨1, _⟩ => rfl
    | ⟨2, _⟩ => rfl)
  have ez : ((cfg0.win 2).blk t).view.emb y = ix3 (pb t) (tok (pj t) (y 1)) (y 2) := funext fun a => Fin.ext (by
    match a with
    | ⟨0, _⟩ => show win0_2.index t 0 * 1 + 1 * (y 0).val = t.val / 9; rw [(ix_2 t).1, y0]; omega
    | ⟨1, _⟩ => show win0_2.index t 1 * 256 + 1 * (y 1).val = 256 * (t.val % 9) + (y 1).val; rw [(ix_2 t).2.1]; omega
    | ⟨2, _⟩ => show win0_2.index t 2 * 1024 + 1 * (y 2).val = (y 2).val; rw [(ix_2 t).2.2]; omega)
  rw [ey, ez]
  exact (cast_eq _ _).trans (point2_eq m c t (y 1) (y 2))

/-- and the tiles' losses. -/
theorem arr3 : (dats m 0 c).arrAt 3 cfg0.N = G3 m c := by
  refine (dats m 0 c).arrAt_eq_of_covers 3 _ (by decide +kernel) fun t hf y => ?_
  rw [after0_3]
  have y0 : (y 0).val = 0 := Nat.lt_one_iff.mp (y 0).isLt
  have y1 : (y 1).val = 0 := Nat.lt_one_iff.mp (y 1).isLt
  have ey : (cfg0.win 3).xinj (grid0.coords t) y = ix4 0 0 (y 2) (y 3) := funext fun a => Fin.ext (by
    match a with
    | ⟨0, _⟩ => exact y0
    | ⟨1, _⟩ => exact y1
    | ⟨2, _⟩ => rfl
    | ⟨3, _⟩ => rfl)
  have ez : ((cfg0.win 3).blk t).view.emb y = ix4 (pb t) (pj t) (y 2) (y 3) := funext fun a => Fin.ext (by
    match a with
    | ⟨0, _⟩ => show win0_3.index t 0 * 1 + 1 * (y 0).val = t.val / 9; rw [(ix_3 t).1, y0]; omega
    | ⟨1, _⟩ => show win0_3.index t 1 * 1 + 1 * (y 1).val = t.val % 9; rw [(ix_3 t).2.1, y1]; omega
    | ⟨2, _⟩ => show win0_3.index t 2 * 8 + 1 * (y 2).val = (y 2).val; rw [(ix_3 t).2.2.1]; omega
    | ⟨3, _⟩ => show win0_3.index t 3 * 128 + 1 * (y 3).val = (y 3).val; rw [(ix_3 t).2.2.2]; omega)
  rw [ey, ez]
  exact (cast_eq _ _).trans (point3_eq m c t (y 2) (y 3))

end Cert.LossHead

namespace Cert.LossHead

open Idealize.ShloMosaic Idealize.ShloMosaic.TcCoe Idealize.SL.Sem Idealize.ShloMosaic.StableHlo
open Cert.Reference12Ideal Cert.Reference12Ideal.Gen

/-! ## The reference's results -/

theorem half_eq : lit 0x3F000000#32 = ((1 / 2 : ℝ) : EReal) := by
  show Ideal.ofBits .f32 1056964608#32 = _
  unfold Ideal.ofBits Ideal.ieee
  norm_num [show BitVec.extractLsb' 31 1 1056964608#32 = 0#1 by decide, Nat.shiftRight_eq_div_pow]
theorem two_eq : lit 0x40000000#32 = ((2 : ℝ) : EReal) := by
  show Ideal.ofBits .f32 1073741824#32 = _
  unfold Ideal.ofBits Ideal.ieee
  norm_num [show BitVec.extractLsb' 31 1 1073741824#32 = 0#1 by decide, Nat.shiftRight_eq_div_pow]
theorem one_eq : lit 0x3F800000#32 = ((1 : ℝ) : EReal) := by
  show Ideal.ofBits .f32 1065353216#32 = _
  unfold Ideal.ofBits Ideal.ieee
  norm_num [show BitVec.extractLsb' 31 1 1065353216#32 = 0#1 by decide, Nat.shiftRight_eq_div_pow]
theorem width_eq : lit 0x44800000#32 = ((1024 : ℝ) : EReal) := by
  show Ideal.ofBits .f32 1149239296#32 = _
  unfold Ideal.ofBits Ideal.ieee
  norm_num [show BitVec.extractLsb' 31 1 1149239296#32 = 0#1 by decide, Nat.shiftRight_eq_div_pow]
theorem inv_eq : lit 0x3A800000#32 = ((1 / 1024 : ℝ) : EReal) := by
  show Ideal.ofBits .f32 981467136#32 = _
  unfold Ideal.ofBits Ideal.ieee
  norm_num [show BitVec.extractLsb' 31 1 981467136#32 = 0#1 by decide, Nat.shiftRight_eq_div_pow]
theorem zero_eq : FloatOps.sitofp (F := Ideal) FTy.f32 (0#32) = (0 : EReal) := by
  show (((0#32 : BitVec 32).toInt : ℝ) : EReal) = 0
  norm_num
/-- Twice the share of a token's feature in the loss is the reciprocal of the width. -/
theorem share_eq (e : EReal) : Ideal.div (lit 0x3F000000#32 * lit 0x3F800000#32) (lit 0x44800000#32) * (lit 0x40000000#32 * e) = e * lit 0x3A800000#32 := by
  rw [half_eq, two_eq, one_eq, width_eq, inv_eq, ← EReal.coe_mul, Cert.FfnGrad.div_coe _ _ (by norm_num), ← mul_assoc, ← EReal.coe_mul, mul_comm]
  congr 2
  norm_num

section Reference
variable (x : FVec Ideal S4x2304x1024 .f32) (y : FVec Ideal S4x2048x1024 .f32)

/-- The errors of the tokens that have a target, -/
def errors : FVec Ideal S4x2048x1024 .f32 := subf (extractStridedSlice S4x2048x1024 ![0, 256, 0] x slices_S4x2304x1024_S4x2048x1024_0_256_0) y
/-- the share of each in the gradient, -/
def shares : FVec Ideal S4x2048x1024 .f32 :=
  broadcastInDim S4x2048x1024 ![0, 1] bcast_S4x2048_S4x2048x1024_0_1 (Host.divf (shapeCast _ (broadcastInDim S4x8x256 ![0, 1] bcast_S4x8_S4x8x256_0_1 (mulf (broadcastInDim S4x8 ![] bcast_S_S4x8 (constant S_ .f32 0x3F000000#32)) (broadcastInDim S4x8 ![] bcast_S_S4x8 (constant S_ .f32 0x3F800000#32)))) shapeCasts_S4x8x256_S4x2048) (broadcastInDim S4x2048 ![] bcast_S_S4x2048 (constant S_ .f32 0x44800000#32)))
/-- the gradient, -/
def gradRef : FVec Ideal S4x2304x1024 .f32 :=
  pad S4x2304x1024 ![0, 256, 0] ![0, 0, 0] ![0, 0, 0] (mulf (shares) (mulf (broadcastInDim S4x2048x1024 ![] bcast_S_S4x2048x1024 (constant S_ .f32 0x40000000#32)) (errors x y))) (constant S_ .f32 0x00000000#32) pads_S4x2048x1024_S4x2304x1024_000_25600_000 h_S_
/-- the tokens' mean squares, -/
def squares : FVec Ideal S4x2048 .f32 :=
  Host.divf (Host.reduceAdd (mulf (errors x y) (errors x y)) (constant S_ .f32 0x00000000#32) reducesTo_S4x2048x1024_S4x2048_d2 h_S_) (broadcastInDim S4x2048 ![] bcast_S_S4x2048 (constant S_ .f32 0x44800000#32))
/-- the losses of the tiles -/
def lossRef : FVec Ideal S4x8 .f32 :=
  mulf (broadcastInDim S4x8 ![] bcast_S_S4x8 (constant S_ .f32 0x3F000000#32)) (Host.reduceAdd (shapeCast _ (squares x y) shapeCasts_S4x2048_S4x8x256) (constant S_ .f32 0x00000000#32) reducesTo_S4x8x256_S4x8_d2 h_S_)
/-- and the same in the call's layout. -/
def tilesRef : FVec Ideal S4x9x8x128 .f32 :=
  broadcastInDim S4x9x8x128 ![0, 1, 2, 3] bcast_S4x9x1x1_S4x9x8x128_0_1_2_3 (broadcastInDim S4x9x1x1 ![0, 1] bcast_S4x9_S4x9x1x1_0_1 (pad S4x9 ![0, 1] ![0, 0] ![0, 0] (lossRef x y) (sitofp .f32 (constantI S_ 32 0#32)) pads_S4x8_S4x9_000_100 h_S_))

variable (b : Fin 4) (s : Fin 2048) (d : Fin 1024) (t : Fin 2304) (j : Fin 8) (k : Fin 9) (u : Fin 8) (v : Fin 128)

/-- A token of the whole sequence. -/
def late (s : Fin 2048) : Fin 2304 := ⟨256 + s.val, by omega⟩

theorem errors_eq : (errors x y : S4x2048x1024.Idx → EReal) (ix3 b s d) = x (ix3 b (late s) d) - y (ix3 b s d) := by
  unfold errors late; pointwise
theorem shares_eq : (shares : S4x2048x1024.Idx → EReal) (ix3 b s d) = Ideal.div (lit 0x3F000000#32 * lit 0x3F800000#32) (lit 0x44800000#32) := by
  unfold shares; pointwise
theorem gradRef_eq : (gradRef x y : S4x2304x1024.Idx → EReal) (ix3 b t d)
    = if t.val < 256 then 0 else (shares : S4x2048x1024.Idx → EReal) (ix3 b (tr t) d) * (lit 0x40000000#32 * (errors x y : S4x2048x1024.Idx → EReal) (ix3 b (tr t) d)) := by
  unfold gradRef
  pointwise
  by_cases h : t.val < 256
  · rw [if_pos h, dif_neg (by omega)]
  · rw [if_neg h, dif_pos (by have := t.isLt; omega)]
    unfold tr
    generalize errors x y = E
    generalize (shares) = S
    exact rfl
theorem squares_eq : (squares x y : S4x2048.Idx → EReal) (ix2 b s) = Ideal.div (∑ d, (errors x y : S4x2048x1024.Idx → EReal) (ix3 b s d) * (errors x y : S4x2048x1024.Idx → EReal) (ix3 b s d)) (lit 0x44800000#32) := by
  unfold squares; pointwise
theorem lossRef_eq : (lossRef x y : S4x8.Idx → EReal) (ix2 b j) = lit 0x3F000000#32 * ∑ r : Fin 256, (squares x y : S4x2048.Idx → EReal) (ix2 b ⟨j.val * 256 + r.val, by omega⟩) := by
  unfold lossRef; pointwise
theorem tilesRef_eq : (tilesRef x y : S4x9x8x128.Idx → EReal) (ix4 b k u v)
    = if h : k.val = 0 then 0 else (lossRef x y : S4x8.Idx → EReal) (ix2 b ⟨k.val - 1, by omega⟩) := by
  unfold tilesRef
  pointwise
  by_cases h : k.val = 0
  · rw [dif_pos h, dif_neg (by omega)]
    exact zero_eq
  · rw [dif_neg h, dif_pos (by have := k.isLt; omega)]

/-- The reference's gradient, token by token, -/
theorem gradRef_grad : (gradRef x y : S4x2304x1024.Idx → EReal) (ix3 b t d)
    = if t.val < 256 then 0 else (x (ix3 b t d) - y (ix3 b (tr t) d)) * lit 0x3A800000#32 := by
  rw [gradRef_eq]
  by_cases h : t.val < 256
  · rw [if_pos h, if_pos h]
  · rw [if_neg h, if_neg h, shares_eq, errors_eq, share_eq,
      show late (tr t) = t from Fin.ext (show 256 + (t.val - 256) = t.val by omega)]

/-- and its losses, tile by tile. -/
theorem tilesRef_loss : (tilesRef x y : S4x9x8x128.Idx → EReal) (ix4 b k u v)
    = if k.val = 0 then 0 else tileLoss fun r d => x (ix3 b (tok k r) d) - y (ix3 b (tr (tok k r)) d) := by
  rw [tilesRef_eq]
  by_cases h : k.val = 0
  · rw [dif_pos h, if_pos h]
  · rw [dif_neg h, if_neg h, lossRef_eq]
    unfold tileLoss
    refine congrArg (lit 0x3F000000#32 * ·) (Finset.sum_congr rfl fun r _ => ?_)
    rw [squares_eq]
    refine congrArg (Ideal.div · _) (Finset.sum_congr rfl fun d _ => ?_)
    have hr : (⟨(k.val - 1) * 256 + r.val, by have := k.isLt; omega⟩ : Fin 2048) = tr (tok k r) :=
      Fin.ext (show (k.val - 1) * 256 + r.val = 256 * k.val + r.val - 256 by omega)
    have hl : late (tr (tok k r)) = tok k r := Fin.ext (show 256 + (256 * k.val + r.val - 256) = 256 * k.val + r.val by omega)
    have he : (errors x y : S4x2048x1024.Idx → EReal) (ix3 b ⟨(k.val - 1) * 256 + r.val, by have := k.isLt; omega⟩ d)
        = x (ix3 b (tok k r) d) - y (ix3 b (tr (tok k r)) d) := by rw [hr, errors_eq, hl]
    exact congrArg₂ (fun p q : EReal => p * q) he he

end Reference

end Cert.LossHead

namespace Cert.LossHead

open Idealize.ShloMosaic Idealize.ShloMosaic.TcCoe Idealize.SL.Sem Idealize.ShloMosaic.StableHlo

/-- The reference's frame. -/
theorem frame_reference : quiescent_Reference12Ideal := fun m ρ _ =>
  (θ_run Cert.Reference12Ideal.defs _ _).mono (fun r h => ⟨fun c => (h c).2.2, Idealize.ShloMosaic.sem_eq_zero_of_no_sems (by decide) r.2⟩)
    (Cert.Reference12Ideal.Value.run (F := Ideal) m ρ)

/-- Both programs end with the same arrays. -/
theorem algebraic : algebraic_Kernel12Ideal_Reference12Ideal := by
  intro m g m' g' _ hagree
  refine ⟨fun c => G2 m c, fun c => G3 m c, ?_, ?_⟩
  · exact (θ_run _ _ _).mono (fun r h c => ⟨(h c).1.trans (arr2 m c), (h c).2.1.trans (arr3 m c), (h c).2.2⟩)
      (Cert.Kernel12Ideal.Value.run_blocks m g)
  · refine (θ_run _ _ _).mono (fun r h c => ⟨(h c).1.trans ?_, (h c).2.1.trans ?_, (h c).2.2⟩) (Cert.Reference12Ideal.Value.run m' g')
    · rw [(hagree c).1, (hagree c).2]
      change gradRef (m0 m c) (m1 m c) = G2 m c
      funext i
      obtain ⟨b, t, d, rfl⟩ : ∃ b t d, i = ix3 b t d := ⟨i 0, i 1, i 2, funext fun a => by fin_cases a <;> rfl⟩
      exact gradRef_grad _ _ b d t
    · rw [(hagree c).1, (hagree c).2]
      change tilesRef (m0 m c) (m1 m c) = G3 m c
      funext i
      obtain ⟨b, k, u, v, rfl⟩ : ∃ b k u v, i = ix4 b k u v := ⟨i 0, i 1, i 2, i 3, funext fun a => by fin_cases a <;> rfl⟩
      exact tilesRef_loss _ _ b k u v

end Cert.LossHead

end
-- ==== Proof.lean ====
/- The certificate: the feed-forward gradient (`Kernel`), the weight-gradient product at its four shapes (`Kernel2`, `Kernel4`,
   `Kernel5`, `Kernel6`), the feed-forward layer's forward pass (`Kernel3`), the mixing sublayer's input projection
   (`Kernel7`), the modulation (`Kernel8`) and its gradients (`Kernel9`), the optimiser on the modulation's weight
   (`Kernel10`) and on a feed-forward weight (`Kernel11`), and the loss with its gradient (`Kernel12`). -/
module

public import proofs.«01_k».proof.Defs
public import proofs.«01_k».proof.Proof.FfnAlgebraic
public import proofs.«01_k».proof.Proof.FfnBitsLaunch
public import proofs.«01_k».proof.Proof.WeightGrad
public import proofs.«01_k».proof.Proof.InGrad
public import proofs.«01_k».proof.Proof.OutGrad
public import proofs.«01_k».proof.Proof.GluGrad
public import proofs.«01_k».proof.Proof.Gen.Kernel2.Frame
public import proofs.«01_k».proof.Proof.Gen.Kernel3.Frame
public import proofs.«01_k».proof.Proof.FwdAlgebraic
public import proofs.«01_k».proof.Proof.Gen.Kernel2Ideal.Frame
public import proofs.«01_k».proof.Proof.Gen.Kernel7.Frame
public import proofs.«01_k».proof.Proof.MixAlgebraic
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel8.Frame
public import proofs.«01_k».proof.Proof.Gen.Kernel8Ideal.Frame
public import proofs.«01_k».proof.Proof.ModForward
public import proofs.«01_k».proof.Proof.Gen.Kernel9.Frame
public import proofs.«01_k».proof.Proof.Gen.Kernel9Ideal.Frame
public import proofs.«01_k».proof.Proof.ModGrad
public import proofs.«01_k».proof.Proof.Gen.Kernel10.Frame
public import proofs.«01_k».proof.Proof.Gen.Kernel10Ideal.Frame
public import proofs.«01_k».proof.Proof.ModStep
public import proofs.«01_k».proof.Proof.Gen.Kernel11.Frame
public import proofs.«01_k».proof.Proof.Gen.Kernel11Ideal.Frame
public import proofs.«01_k».proof.Proof.FfnStep
public import proofs.«01_k».proof.Proof.Gen.Kernel12.Frame
public import proofs.«01_k».proof.Proof.Gen.Kernel12Ideal.Frame
public import proofs.«01_k».proof.Proof.LossHead
public import Idealize.ShloMosaic.Lib.Quiescent

@[expose] public section

noncomputable section

namespace Cert.Proof

open Idealize.ShloMosaic Idealize.ShloMosaic.TcCoe Idealize.SL.Sem

/-- The weight-gradient reference ends, with its arguments unchanged and every semaphore at zero. -/
theorem frame_reference2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The input projection's weight-gradient reference ends, with its arguments unchanged and every semaphore at zero. -/
theorem frame_reference4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The output projection's weight-gradient reference ends, with its arguments unchanged and every semaphore at zero. -/
theorem frame_reference5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The output gate's weight-gradient reference ends, with its arguments unchanged and every semaphore at zero. -/
theorem frame_reference6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.FfnGrad.preFacts,
    fun m ρ _ => Cert.FfnGradBits.frame_held m ρ, fun m ρ _ => Cert.FfnGrad.frame_held m ρ,
    fun m ρ _ => Cert.FfnGrad.frame_held m ρ, Cert.FfnGrad.frame_reference, fun m ρ _ => Cert.FfnGrad.frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, Cert.FfnForward.frame_reference,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, Cert.MixInput.frame_reference,
    fun m ρ _ => Cert.Kernel8.Gen.frame m ρ, fun m ρ _ => Cert.Kernel8Ideal.Gen.frame m ρ, Cert.ModForward.frame_reference,
    fun m ρ _ => Cert.Kernel9.Gen.frame m ρ, fun m ρ _ => Cert.Kernel9Ideal.Gen.frame m ρ, Cert.ModGrad.frame_reference,
    fun m ρ _ => Cert.Kernel10.Gen.frame m ρ, fun m ρ _ => Cert.Kernel10Ideal.Gen.frame m ρ, Cert.ModStep.frame_reference,
    fun m ρ _ => Cert.Kernel11.Gen.frame m ρ, fun m ρ _ => Cert.Kernel11Ideal.Gen.frame m ρ, Cert.FfnStep.frame_reference,
    fun m ρ _ => Cert.Kernel12.Gen.frame m ρ, fun m ρ _ => Cert.Kernel12Ideal.Gen.frame m ρ, Cert.LossHead.frame_reference,
    trivial, Cert.FfnGrad.algebraic, trivial, Cert.WeightGrad.algebraic, trivial, Cert.FfnForward.algebraic,
    trivial, Cert.InGrad.algebraic, trivial, Cert.OutGrad.algebraic, trivial, Cert.GluGrad.algebraic,
    trivial, Cert.MixInput.algebraic, trivial, Cert.ModForward.algebraic, trivial, Cert.ModGrad.algebraic,
    trivial, Cert.ModStep.algebraic, trivial, Cert.FfnStep.algebraic, trivial, Cert.LossHead.algebraic⟩

end Cert.Proof

end
